-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_SqRelu (m : (ℓ : Loc Cert.SqRelu.nD Cert.SqRelu.τ Cert.SqRelu.sig) → Buf (Elt Bits) ℓ) : Prop :=
  True

def Pre_SqReluIdeal (m : (ℓ : Loc Cert.SqReluIdeal.nD Cert.SqReluIdeal.τ Cert.SqReluIdeal.sig) → Buf (Elt Ideal) ℓ) : Prop :=
  True

def Pre_SqReluRefIdeal (m : (ℓ : Loc Cert.SqReluRefIdeal.nD Cert.SqReluRefIdeal.τ Cert.SqReluRefIdeal.sig) → Buf (Elt Ideal) ℓ) : Prop :=
  True

def Pre_BlockDiag (m : (ℓ : Loc Cert.BlockDiag.nD Cert.BlockDiag.τ Cert.BlockDiag.sig) → Buf (Elt Bits) ℓ) : Prop :=
  True

def Pre_BlockDiagIdeal (m : (ℓ : Loc Cert.BlockDiagIdeal.nD Cert.BlockDiagIdeal.τ Cert.BlockDiagIdeal.sig) → Buf (Elt Ideal) ℓ) : Prop :=
  True

def Pre_BlockDiagRefIdeal (m : (ℓ : Loc Cert.BlockDiagRefIdeal.nD Cert.BlockDiagRefIdeal.τ Cert.BlockDiagRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gla [hPre_finite_gla : Cert.Pre_finite_gla.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).1 = (fun _ => 1#1)
    ∧ (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.1 = (fun _ => 1#1)
    ∧ (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.2.1 = (fun _ => 1#1)
    ∧ (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.2.2.1 = (fun _ => 1#1)
    ∧ (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.2.2.2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Zoh (m : (ℓ : Loc Cert.Zoh.nD Cert.Zoh.τ Cert.Zoh.sig) → Buf (Elt Bits) ℓ) : Prop :=
  True

def Pre_ZohIdeal (m : (ℓ : Loc Cert.ZohIdeal.nD Cert.ZohIdeal.τ Cert.ZohIdeal.sig) → Buf (Elt Ideal) ℓ) : Prop :=
  True

def Pre_ZohRefIdeal (m : (ℓ : Loc Cert.ZohRefIdeal.nD Cert.ZohRefIdeal.τ Cert.ZohRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_SqReluFwd (m : (ℓ : Loc Cert.SqReluFwd.nD Cert.SqReluFwd.τ Cert.SqReluFwd.sig) → Buf (Elt Bits) ℓ) : Prop :=
  True

def Pre_SqReluFwdIdeal (m : (ℓ : Loc Cert.SqReluFwdIdeal.nD Cert.SqReluFwdIdeal.τ Cert.SqReluFwdIdeal.sig) → Buf (Elt Ideal) ℓ) : Prop :=
  True

def Pre_SqReluFwdRefIdeal (m : (ℓ : Loc Cert.SqReluFwdRefIdeal.nD Cert.SqReluFwdRefIdeal.τ Cert.SqReluFwdRefIdeal.sig) → Buf (Elt Ideal) ℓ) : Prop :=
  True

def Pre_ZohFwd (m : (ℓ : Loc Cert.ZohFwd.nD Cert.ZohFwd.τ Cert.ZohFwd.sig) → Buf (Elt Bits) ℓ) : Prop :=
  True

def Pre_ZohFwdIdeal (m : (ℓ : Loc Cert.ZohFwdIdeal.nD Cert.ZohFwdIdeal.τ Cert.ZohFwdIdeal.sig) → Buf (Elt Ideal) ℓ) : Prop :=
  True

def Pre_ZohFwdIdeal_finite_zohfwd [hPre_finite_zohfwd : Cert.Pre_finite_zohfwd.Facts] (m : (ℓ : Loc Cert.ZohFwdIdeal.nD Cert.ZohFwdIdeal.τ Cert.ZohFwdIdeal.sig) → Buf (Elt Ideal) ℓ) : Prop :=
  ∀ c : Dev Cert.ZohFwdIdeal.nD,
    (Cert.Pre_finite_zohfwd.fn (F := Ideal) (m ((c.tc : Thread Cert.ZohFwdIdeal.nD Cert.ZohFwdIdeal.τ).loc Cert.ZohFwdIdeal.main_arg0)) (m ((c.tc : Thread Cert.ZohFwdIdeal.nD Cert.ZohFwdIdeal.τ).loc Cert.ZohFwdIdeal.main_arg1)) (m ((c.tc : Thread Cert.ZohFwdIdeal.nD Cert.ZohFwdIdeal.τ).loc Cert.ZohFwdIdeal.main_arg2)) (m ((c.tc : Thread Cert.ZohFwdIdeal.nD Cert.ZohFwdIdeal.τ).loc Cert.ZohFwdIdeal.main_arg3)) (m ((c.tc : Thread Cert.ZohFwdIdeal.nD Cert.ZohFwdIdeal.τ).loc Cert.ZohFwdIdeal.main_arg4))) = (fun _ => 1#1)

def Pre_ZohFwdRefIdeal (m : (ℓ : Loc Cert.ZohFwdRefIdeal.nD Cert.ZohFwdRefIdeal.τ Cert.ZohFwdRefIdeal.sig) → Buf (Elt Ideal) ℓ) : Prop :=
  True

def Pre_ZohFwdRefIdeal_finite_zohfwd [hPre_finite_zohfwd : Cert.Pre_finite_zohfwd.Facts] (m : (ℓ : Loc Cert.ZohFwdRefIdeal.nD Cert.ZohFwdRefIdeal.τ Cert.ZohFwdRefIdeal.sig) → Buf (Elt Ideal) ℓ) : Prop :=
  ∀ c : Dev Cert.ZohFwdRefIdeal.nD,
    (Cert.Pre_finite_zohfwd.fn (F := Ideal) (m ((c.tc : Thread Cert.ZohFwdRefIdeal.nD Cert.ZohFwdRefIdeal.τ).loc Cert.ZohFwdRefIdeal.main_arg0)) (m ((c.tc : Thread Cert.ZohFwdRefIdeal.nD Cert.ZohFwdRefIdeal.τ).loc Cert.ZohFwdRefIdeal.main_arg1)) (m ((c.tc : Thread Cert.ZohFwdRefIdeal.nD Cert.ZohFwdRefIdeal.τ).loc Cert.ZohFwdRefIdeal.main_arg2)) (m ((c.tc : Thread Cert.ZohFwdRefIdeal.nD Cert.ZohFwdRefIdeal.τ).loc Cert.ZohFwdRefIdeal.main_arg3)) (m ((c.tc : Thread Cert.ZohFwdRefIdeal.nD Cert.ZohFwdRefIdeal.τ).loc Cert.ZohFwdRefIdeal.main_arg4))) = (fun _ => 1#1)

def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_MmNtCb (m : (ℓ : Loc Cert.MmNtCb.nD Cert.MmNtCb.τ Cert.MmNtCb.sig) → Buf (Elt Bits) ℓ) : Prop :=
  True

def Pre_MmNtCbIdeal (m : (ℓ : Loc Cert.MmNtCbIdeal.nD Cert.MmNtCbIdeal.τ Cert.MmNtCbIdeal.sig) → Buf (Elt Ideal) ℓ) : Prop :=
  True

def Pre_MmNtCbRefIdeal (m : (ℓ : Loc Cert.MmNtCbRefIdeal.nD Cert.MmNtCbRefIdeal.τ Cert.MmNtCbRefIdeal.sig) → Buf (Elt Ideal) ℓ) : Prop :=
  True

def Pre_MmTnCb (m : (ℓ : Loc Cert.MmTnCb.nD Cert.MmTnCb.τ Cert.MmTnCb.sig) → Buf (Elt Bits) ℓ) : Prop :=
  True

def Pre_MmTnCbIdeal (m : (ℓ : Loc Cert.MmTnCbIdeal.nD Cert.MmTnCbIdeal.τ Cert.MmTnCbIdeal.sig) → Buf (Elt Ideal) ℓ) : Prop :=
  True

def Pre_MmTnCbRefIdeal (m : (ℓ : Loc Cert.MmTnCbRefIdeal.nD Cert.MmTnCbRefIdeal.τ Cert.MmTnCbRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_BdAll (m : (ℓ : Loc Cert.BdAll.nD Cert.BdAll.τ Cert.BdAll.sig) → Buf (Elt Bits) ℓ) : Prop :=
  True

def Pre_BdAllIdeal (m : (ℓ : Loc Cert.BdAllIdeal.nD Cert.BdAllIdeal.τ Cert.BdAllIdeal.sig) → Buf (Elt Ideal) ℓ) : Prop :=
  True

def Pre_BdAllRefIdeal (m : (ℓ : Loc Cert.BdAllRefIdeal.nD Cert.BdAllRefIdeal.τ Cert.BdAllRefIdeal.sig) → Buf (Elt Ideal) ℓ) : Prop :=
  True

def Pre_ToSlot (m : (ℓ : Loc Cert.ToSlot.nD Cert.ToSlot.τ Cert.ToSlot.sig) → Buf (Elt Bits) ℓ) : Prop :=
  True

def Pre_ToSlotIdeal (m : (ℓ : Loc Cert.ToSlotIdeal.nD Cert.ToSlotIdeal.τ Cert.ToSlotIdeal.sig) → Buf (Elt Ideal) ℓ) : Prop :=
  True

def Pre_ToSlotRefIdeal (m : (ℓ : Loc Cert.ToSlotRefIdeal.nD Cert.ToSlotRefIdeal.τ Cert.ToSlotRefIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_SqRelu [hSqRelu : Cert.SqRelu.Facts] : Prop :=
  ∀ (m : (ℓ : Loc Cert.SqRelu.nD Cert.SqRelu.τ Cert.SqRelu.sig) → Buf (Elt Bits) ℓ) (g : Dev Cert.SqRelu.nD → PrngReg), Pre_SqRelu m →
    θ_run (Cert.SqRelu.defs (F := Bits)) (onTc (τ := Cert.SqRelu.τ) (Cert.SqRelu.main (F := Bits))) ⟨m, fun _ => 0, g⟩ (fun r => (∀ c : Dev Cert.SqRelu.nD,
      r.2.mem ((c.tc : Thread Cert.SqRelu.nD Cert.SqRelu.τ).loc Cert.SqRelu.main_arg0) = m ((c.tc : Thread Cert.SqRelu.nD Cert.SqRelu.τ).loc Cert.SqRelu.main_arg0)
      ∧ r.2.mem ((c.tc : Thread Cert.SqRelu.nD Cert.SqRelu.τ).loc Cert.SqRelu.main_arg1) = m ((c.tc : Thread Cert.SqRelu.nD Cert.SqRelu.τ).loc Cert.SqRelu.main_arg1)
      ∧ r.2.mem ((c.tc : Thread Cert.SqRelu.nD Cert.SqRelu.τ).loc Cert.SqRelu.main_arg2) = m ((c.tc : Thread Cert.SqRelu.nD Cert.SqRelu.τ).loc Cert.SqRelu.main_arg2))
      ∧ r.2.sem = fun _ => 0)

def quiescent_SqReluIdeal [hSqReluIdeal : Cert.SqReluIdeal.Facts] : Prop :=
  ∀ (m : (ℓ : Loc Cert.SqReluIdeal.nD Cert.SqReluIdeal.τ Cert.SqReluIdeal.sig) → Buf (Elt Ideal) ℓ) (g : Dev Cert.SqReluIdeal.nD → PrngReg), Pre_SqReluIdeal m →
    θ_run (Cert.SqReluIdeal.defs (F := Ideal)) (onTc (τ := Cert.SqReluIdeal.τ) (Cert.SqReluIdeal.main (F := Ideal))) ⟨m, fun _ => 0, g⟩ (fun r => (∀ c : Dev Cert.SqReluIdeal.nD,
      r.2.mem ((c.tc : Thread Cert.SqReluIdeal.nD Cert.SqReluIdeal.τ).loc Cert.SqReluIdeal.main_arg0) = m ((c.tc : Thread Cert.SqReluIdeal.nD Cert.SqReluIdeal.τ).loc Cert.SqReluIdeal.main_arg0)
      ∧ r.2.mem ((c.tc : Thread Cert.SqReluIdeal.nD Cert.SqReluIdeal.τ).loc Cert.SqReluIdeal.main_arg1) = m ((c.tc : Thread Cert.SqReluIdeal.nD Cert.SqReluIdeal.τ).loc Cert.SqReluIdeal.main_arg1)
      ∧ r.2.mem ((c.tc : Thread Cert.SqReluIdeal.nD Cert.SqReluIdeal.τ).loc Cert.SqReluIdeal.main_arg2) = m ((c.tc : Thread Cert.SqReluIdeal.nD Cert.SqReluIdeal.τ).loc Cert.SqReluIdeal.main_arg2))
      ∧ r.2.sem = fun _ => 0)

def quiescent_SqReluRefIdeal [hSqReluRefIdeal : Cert.SqReluRefIdeal.Facts] : Prop :=
  ∀ (m : (ℓ : Loc Cert.SqReluRefIdeal.nD Cert.SqReluRefIdeal.τ Cert.SqReluRefIdeal.sig) → Buf (Elt Ideal) ℓ) (g : Dev Cert.SqReluRefIdeal.nD → PrngReg), Pre_SqReluRefIdeal m →
    θ_run (Cert.SqReluRefIdeal.defs (F := Ideal)) (onTc (τ := Cert.SqReluRefIdeal.τ) (Cert.SqReluRefIdeal.main (F := Ideal))) ⟨m, fun _ => 0, g⟩ (fun r => (∀ c : Dev Cert.SqReluRefIdeal.nD,
      r.2.mem ((c.tc : Thread Cert.SqReluRefIdeal.nD Cert.SqReluRefIdeal.τ).loc Cert.SqReluRefIdeal.main_arg0) = m ((c.tc : Thread Cert.SqReluRefIdeal.nD Cert.SqReluRefIdeal.τ).loc Cert.SqReluRefIdeal.main_arg0)
      ∧ r.2.mem ((c.tc : Thread Cert.SqReluRefIdeal.nD Cert.SqReluRefIdeal.τ).loc Cert.SqReluRefIdeal.main_arg1) = m ((c.tc : Thread Cert.SqReluRefIdeal.nD Cert.SqReluRefIdeal.τ).loc Cert.SqReluRefIdeal.main_arg1)
      ∧ r.2.mem ((c.tc : Thread Cert.SqReluRefIdeal.nD Cert.SqReluRefIdeal.τ).loc Cert.SqReluRefIdeal.main_arg2) = m ((c.tc : Thread Cert.SqReluRefIdeal.nD Cert.SqReluRefIdeal.τ).loc Cert.SqReluRefIdeal.main_arg2))
      ∧ r.2.sem = fun _ => 0)

def quiescent_BlockDiag [hBlockDiag : Cert.BlockDiag.Facts] : Prop :=
  ∀ (m : (ℓ : Loc Cert.BlockDiag.nD Cert.BlockDiag.τ Cert.BlockDiag.sig) → Buf (Elt Bits) ℓ) (g : Dev Cert.BlockDiag.nD → PrngReg), Pre_BlockDiag m →
    θ_run (Cert.BlockDiag.defs (F := Bits)) (onTc (τ := Cert.BlockDiag.τ) (Cert.BlockDiag.main (F := Bits))) ⟨m, fun _ => 0, g⟩ (fun r => (∀ c : Dev Cert.BlockDiag.nD,
      r.2.mem ((c.tc : Thread Cert.BlockDiag.nD Cert.BlockDiag.τ).loc Cert.BlockDiag.main_arg0) = m ((c.tc : Thread Cert.BlockDiag.nD Cert.BlockDiag.τ).loc Cert.BlockDiag.main_arg0)
      ∧ r.2.mem ((c.tc : Thread Cert.BlockDiag.nD Cert.BlockDiag.τ).loc Cert.BlockDiag.main_arg1) = m ((c.tc : Thread Cert.BlockDiag.nD Cert.BlockDiag.τ).loc Cert.BlockDiag.main_arg1))
      ∧ r.2.sem = fun _ => 0)

def quiescent_BlockDiagIdeal [hBlockDiagIdeal : Cert.BlockDiagIdeal.Facts] : Prop :=
  ∀ (m : (ℓ : Loc Cert.BlockDiagIdeal.nD Cert.BlockDiagIdeal.τ Cert.BlockDiagIdeal.sig) → Buf (Elt Ideal) ℓ) (g : Dev Cert.BlockDiagIdeal.nD → PrngReg), Pre_BlockDiagIdeal m →
    θ_run (Cert.BlockDiagIdeal.defs (F := Ideal)) (onTc (τ := Cert.BlockDiagIdeal.τ) (Cert.BlockDiagIdeal.main (F := Ideal))) ⟨m, fun _ => 0, g⟩ (fun r => (∀ c : Dev Cert.BlockDiagIdeal.nD,
      r.2.mem ((c.tc : Thread Cert.BlockDiagIdeal.nD Cert.BlockDiagIdeal.τ).loc Cert.BlockDiagIdeal.main_arg0) = m ((c.tc : Thread Cert.BlockDiagIdeal.nD Cert.BlockDiagIdeal.τ).loc Cert.BlockDiagIdeal.main_arg0)
      ∧ r.2.mem ((c.tc : Thread Cert.BlockDiagIdeal.nD Cert.BlockDiagIdeal.τ).loc Cert.BlockDiagIdeal.main_arg1) = m ((c.tc : Thread Cert.BlockDiagIdeal.nD Cert.BlockDiagIdeal.τ).loc Cert.BlockDiagIdeal.main_arg1))
      ∧ r.2.sem = fun _ => 0)

def quiescent_BlockDiagRefIdeal [hBlockDiagRefIdeal : Cert.BlockDiagRefIdeal.Facts] : Prop :=
  ∀ (m : (ℓ : Loc Cert.BlockDiagRefIdeal.nD Cert.BlockDiagRefIdeal.τ Cert.BlockDiagRefIdeal.sig) → Buf (Elt Ideal) ℓ) (g : Dev Cert.BlockDiagRefIdeal.nD → PrngReg), Pre_BlockDiagRefIdeal m →
    θ_run (Cert.BlockDiagRefIdeal.defs (F := Ideal)) (onTc (τ := Cert.BlockDiagRefIdeal.τ) (Cert.BlockDiagRefIdeal.main (F := Ideal))) ⟨m, fun _ => 0, g⟩ (fun r => (∀ c : Dev Cert.BlockDiagRefIdeal.nD,
      r.2.mem ((c.tc : Thread Cert.BlockDiagRefIdeal.nD Cert.BlockDiagRefIdeal.τ).loc Cert.BlockDiagRefIdeal.main_arg0) = m ((c.tc : Thread Cert.BlockDiagRefIdeal.nD Cert.BlockDiagRefIdeal.τ).loc Cert.BlockDiagRefIdeal.main_arg0)
      ∧ r.2.mem ((c.tc : Thread Cert.BlockDiagRefIdeal.nD Cert.BlockDiagRefIdeal.τ).loc Cert.BlockDiagRefIdeal.main_arg1) = m ((c.tc : Thread Cert.BlockDiagRefIdeal.nD Cert.BlockDiagRefIdeal.τ).loc Cert.BlockDiagRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_finite_gla [hGlaIdeal : Cert.GlaIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Zoh [hZoh : Cert.Zoh.Facts] : Prop :=
  ∀ (m : (ℓ : Loc Cert.Zoh.nD Cert.Zoh.τ Cert.Zoh.sig) → Buf (Elt Bits) ℓ) (g : Dev Cert.Zoh.nD → PrngReg), Pre_Zoh m →
    θ_run (Cert.Zoh.defs (F := Bits)) (onTc (τ := Cert.Zoh.τ) (Cert.Zoh.main (F := Bits))) ⟨m, fun _ => 0, g⟩ (fun r => (∀ c : Dev Cert.Zoh.nD,
      r.2.mem ((c.tc : Thread Cert.Zoh.nD Cert.Zoh.τ).loc Cert.Zoh.main_arg0) = m ((c.tc : Thread Cert.Zoh.nD Cert.Zoh.τ).loc Cert.Zoh.main_arg0)
      ∧ r.2.mem ((c.tc : Thread Cert.Zoh.nD Cert.Zoh.τ).loc Cert.Zoh.main_arg1) = m ((c.tc : Thread Cert.Zoh.nD Cert.Zoh.τ).loc Cert.Zoh.main_arg1)
      ∧ r.2.mem ((c.tc : Thread Cert.Zoh.nD Cert.Zoh.τ).loc Cert.Zoh.main_arg2) = m ((c.tc : Thread Cert.Zoh.nD Cert.Zoh.τ).loc Cert.Zoh.main_arg2)
      ∧ r.2.mem ((c.tc : Thread Cert.Zoh.nD Cert.Zoh.τ).loc Cert.Zoh.main_arg3) = m ((c.tc : Thread Cert.Zoh.nD Cert.Zoh.τ).loc Cert.Zoh.main_arg3)
      ∧ r.2.mem ((c.tc : Thread Cert.Zoh.nD Cert.Zoh.τ).loc Cert.Zoh.main_arg4) = m ((c.tc : Thread Cert.Zoh.nD Cert.Zoh.τ).loc Cert.Zoh.main_arg4)
      ∧ r.2.mem ((c.tc : Thread Cert.Zoh.nD Cert.Zoh.τ).loc Cert.Zoh.main_arg5) = m ((c.tc : Thread Cert.Zoh.nD Cert.Zoh.τ).loc Cert.Zoh.main_arg5)
      ∧ r.2.mem ((c.tc : Thread Cert.Zoh.nD Cert.Zoh.τ).loc Cert.Zoh.main_arg6) = m ((c.tc : Thread Cert.Zoh.nD Cert.Zoh.τ).loc Cert.Zoh.main_arg6)
      ∧ r.2.mem ((c.tc : Thread Cert.Zoh.nD Cert.Zoh.τ).loc Cert.Zoh.main_arg7) = m ((c.tc : Thread Cert.Zoh.nD Cert.Zoh.τ).loc Cert.Zoh.main_arg7)
      ∧ r.2.mem ((c.tc : Thread Cert.Zoh.nD Cert.Zoh.τ).loc Cert.Zoh.main_arg8) = m ((c.tc : Thread Cert.Zoh.nD Cert.Zoh.τ).loc Cert.Zoh.main_arg8))
      ∧ r.2.sem = fun _ => 0)

def quiescent_ZohIdeal [hZohIdeal : Cert.ZohIdeal.Facts] : Prop :=
  ∀ (m : (ℓ : Loc Cert.ZohIdeal.nD Cert.ZohIdeal.τ Cert.ZohIdeal.sig) → Buf (Elt Ideal) ℓ) (g : Dev Cert.ZohIdeal.nD → PrngReg), Pre_ZohIdeal m →
    θ_run (Cert.ZohIdeal.defs (F := Ideal)) (onTc (τ := Cert.ZohIdeal.τ) (Cert.ZohIdeal.main (F := Ideal))) ⟨m, fun _ => 0, g⟩ (fun r => (∀ c : Dev Cert.ZohIdeal.nD,
      r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
      ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
      ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
      ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
      ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
      ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
      ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
      ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
      ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ r.2.sem = fun _ => 0)

def quiescent_ZohRefIdeal [hZohRefIdeal : Cert.ZohRefIdeal.Facts] : Prop :=
  ∀ (m : (ℓ : Loc Cert.ZohRefIdeal.nD Cert.ZohRefIdeal.τ Cert.ZohRefIdeal.sig) → Buf (Elt Ideal) ℓ) (g : Dev Cert.ZohRefIdeal.nD → PrngReg), Pre_ZohRefIdeal m →
    θ_run (Cert.ZohRefIdeal.defs (F := Ideal)) (onTc (τ := Cert.ZohRefIdeal.τ) (Cert.ZohRefIdeal.main (F := Ideal))) ⟨m, fun _ => 0, g⟩ (fun r => (∀ c : Dev Cert.ZohRefIdeal.nD,
      r.2.mem ((c.tc : Thread Cert.ZohRefIdeal.nD Cert.ZohRefIdeal.τ).loc Cert.ZohRefIdeal.main_arg0) = m ((c.tc : Thread Cert.ZohRefIdeal.nD Cert.ZohRefIdeal.τ).loc Cert.ZohRefIdeal.main_arg0)
      ∧ r.2.mem ((c.tc : Thread Cert.ZohRefIdeal.nD Cert.ZohRefIdeal.τ).loc Cert.ZohRefIdeal.main_arg1) = m ((c.tc : Thread Cert.ZohRefIdeal.nD Cert.ZohRefIdeal.τ).loc Cert.ZohRefIdeal.main_arg1)
      ∧ r.2.mem ((c.tc : Thread Cert.ZohRefIdeal.nD Cert.ZohRefIdeal.τ).loc Cert.ZohRefIdeal.main_arg2) = m ((c.tc : Thread Cert.ZohRefIdeal.nD Cert.ZohRefIdeal.τ).loc Cert.ZohRefIdeal.main_arg2)
      ∧ r.2.mem ((c.tc : Thread Cert.ZohRefIdeal.nD Cert.ZohRefIdeal.τ).loc Cert.ZohRefIdeal.main_arg3) = m ((c.tc : Thread Cert.ZohRefIdeal.nD Cert.ZohRefIdeal.τ).loc Cert.ZohRefIdeal.main_arg3)
      ∧ r.2.mem ((c.tc : Thread Cert.ZohRefIdeal.nD Cert.ZohRefIdeal.τ).loc Cert.ZohRefIdeal.main_arg4) = m ((c.tc : Thread Cert.ZohRefIdeal.nD Cert.ZohRefIdeal.τ).loc Cert.ZohRefIdeal.main_arg4)
      ∧ r.2.mem ((c.tc : Thread Cert.ZohRefIdeal.nD Cert.ZohRefIdeal.τ).loc Cert.ZohRefIdeal.main_arg5) = m ((c.tc : Thread Cert.ZohRefIdeal.nD Cert.ZohRefIdeal.τ).loc Cert.ZohRefIdeal.main_arg5)
      ∧ r.2.mem ((c.tc : Thread Cert.ZohRefIdeal.nD Cert.ZohRefIdeal.τ).loc Cert.ZohRefIdeal.main_arg6) = m ((c.tc : Thread Cert.ZohRefIdeal.nD Cert.ZohRefIdeal.τ).loc Cert.ZohRefIdeal.main_arg6)
      ∧ r.2.mem ((c.tc : Thread Cert.ZohRefIdeal.nD Cert.ZohRefIdeal.τ).loc Cert.ZohRefIdeal.main_arg7) = m ((c.tc : Thread Cert.ZohRefIdeal.nD Cert.ZohRefIdeal.τ).loc Cert.ZohRefIdeal.main_arg7)
      ∧ r.2.mem ((c.tc : Thread Cert.ZohRefIdeal.nD Cert.ZohRefIdeal.τ).loc Cert.ZohRefIdeal.main_arg8) = m ((c.tc : Thread Cert.ZohRefIdeal.nD Cert.ZohRefIdeal.τ).loc Cert.ZohRefIdeal.main_arg8))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1)
      ∧ r.2.mem ((c.tc : Thread Cert.ActFwd.nD Cert.ActFwd.τ).loc Cert.ActFwd.main_arg2) = m ((c.tc : Thread Cert.ActFwd.nD Cert.ActFwd.τ).loc Cert.ActFwd.main_arg2))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
      ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1)
      ∧ r.2.mem ((c.tc : Thread Cert.ActFwdRefIdeal.nD Cert.ActFwdRefIdeal.τ).loc Cert.ActFwdRefIdeal.main_arg2) = m ((c.tc : Thread Cert.ActFwdRefIdeal.nD Cert.ActFwdRefIdeal.τ).loc Cert.ActFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1))
      ∧ r.2.sem = fun _ => 0)

def quiescent_SqReluFwd [hSqReluFwd : Cert.SqReluFwd.Facts] : Prop :=
  ∀ (m : (ℓ : Loc Cert.SqReluFwd.nD Cert.SqReluFwd.τ Cert.SqReluFwd.sig) → Buf (Elt Bits) ℓ) (g : Dev Cert.SqReluFwd.nD → PrngReg), Pre_SqReluFwd m →
    θ_run (Cert.SqReluFwd.defs (F := Bits)) (onTc (τ := Cert.SqReluFwd.τ) (Cert.SqReluFwd.main (F := Bits))) ⟨m, fun _ => 0, g⟩ (fun r => (∀ c : Dev Cert.SqReluFwd.nD,
      r.2.mem ((c.tc : Thread Cert.SqReluFwd.nD Cert.SqReluFwd.τ).loc Cert.SqReluFwd.main_arg0) = m ((c.tc : Thread Cert.SqReluFwd.nD Cert.SqReluFwd.τ).loc Cert.SqReluFwd.main_arg0)
      ∧ r.2.mem ((c.tc : Thread Cert.SqReluFwd.nD Cert.SqReluFwd.τ).loc Cert.SqReluFwd.main_arg1) = m ((c.tc : Thread Cert.SqReluFwd.nD Cert.SqReluFwd.τ).loc Cert.SqReluFwd.main_arg1))
      ∧ r.2.sem = fun _ => 0)

def quiescent_SqReluFwdIdeal [hSqReluFwdIdeal : Cert.SqReluFwdIdeal.Facts] : Prop :=
  ∀ (m : (ℓ : Loc Cert.SqReluFwdIdeal.nD Cert.SqReluFwdIdeal.τ Cert.SqReluFwdIdeal.sig) → Buf (Elt Ideal) ℓ) (g : Dev Cert.SqReluFwdIdeal.nD → PrngReg), Pre_SqReluFwdIdeal m →
    θ_run (Cert.SqReluFwdIdeal.defs (F := Ideal)) (onTc (τ := Cert.SqReluFwdIdeal.τ) (Cert.SqReluFwdIdeal.main (F := Ideal))) ⟨m, fun _ => 0, g⟩ (fun r => (∀ c : Dev Cert.SqReluFwdIdeal.nD,
      r.2.mem ((c.tc : Thread Cert.SqReluFwdIdeal.nD Cert.SqReluFwdIdeal.τ).loc Cert.SqReluFwdIdeal.main_arg0) = m ((c.tc : Thread Cert.SqReluFwdIdeal.nD Cert.SqReluFwdIdeal.τ).loc Cert.SqReluFwdIdeal.main_arg0)
      ∧ r.2.mem ((c.tc : Thread Cert.SqReluFwdIdeal.nD Cert.SqReluFwdIdeal.τ).loc Cert.SqReluFwdIdeal.main_arg1) = m ((c.tc : Thread Cert.SqReluFwdIdeal.nD Cert.SqReluFwdIdeal.τ).loc Cert.SqReluFwdIdeal.main_arg1))
      ∧ r.2.sem = fun _ => 0)

def quiescent_SqReluFwdRefIdeal [hSqReluFwdRefIdeal : Cert.SqReluFwdRefIdeal.Facts] : Prop :=
  ∀ (m : (ℓ : Loc Cert.SqReluFwdRefIdeal.nD Cert.SqReluFwdRefIdeal.τ Cert.SqReluFwdRefIdeal.sig) → Buf (Elt Ideal) ℓ) (g : Dev Cert.SqReluFwdRefIdeal.nD → PrngReg), Pre_SqReluFwdRefIdeal m →
    θ_run (Cert.SqReluFwdRefIdeal.defs (F := Ideal)) (onTc (τ := Cert.SqReluFwdRefIdeal.τ) (Cert.SqReluFwdRefIdeal.main (F := Ideal))) ⟨m, fun _ => 0, g⟩ (fun r => (∀ c : Dev Cert.SqReluFwdRefIdeal.nD,
      r.2.mem ((c.tc : Thread Cert.SqReluFwdRefIdeal.nD Cert.SqReluFwdRefIdeal.τ).loc Cert.SqReluFwdRefIdeal.main_arg0) = m ((c.tc : Thread Cert.SqReluFwdRefIdeal.nD Cert.SqReluFwdRefIdeal.τ).loc Cert.SqReluFwdRefIdeal.main_arg0)
      ∧ r.2.mem ((c.tc : Thread Cert.SqReluFwdRefIdeal.nD Cert.SqReluFwdRefIdeal.τ).loc Cert.SqReluFwdRefIdeal.main_arg1) = m ((c.tc : Thread Cert.SqReluFwdRefIdeal.nD Cert.SqReluFwdRefIdeal.τ).loc Cert.SqReluFwdRefIdeal.main_arg1))
      ∧ r.2.sem = fun _ => 0)

def quiescent_ZohFwd [hZohFwd : Cert.ZohFwd.Facts] : Prop :=
  ∀ (m : (ℓ : Loc Cert.ZohFwd.nD Cert.ZohFwd.τ Cert.ZohFwd.sig) → Buf (Elt Bits) ℓ) (g : Dev Cert.ZohFwd.nD → PrngReg), Pre_ZohFwd m →
    θ_run (Cert.ZohFwd.defs (F := Bits)) (onTc (τ := Cert.ZohFwd.τ) (Cert.ZohFwd.main (F := Bits))) ⟨m, fun _ => 0, g⟩ (fun r => (∀ c : Dev Cert.ZohFwd.nD,
      r.2.mem ((c.tc : Thread Cert.ZohFwd.nD Cert.ZohFwd.τ).loc Cert.ZohFwd.main_arg0) = m ((c.tc : Thread Cert.ZohFwd.nD Cert.ZohFwd.τ).loc Cert.ZohFwd.main_arg0)
      ∧ r.2.mem ((c.tc : Thread Cert.ZohFwd.nD Cert.ZohFwd.τ).loc Cert.ZohFwd.main_arg1) = m ((c.tc : Thread Cert.ZohFwd.nD Cert.ZohFwd.τ).loc Cert.ZohFwd.main_arg1)
      ∧ r.2.mem ((c.tc : Thread Cert.ZohFwd.nD Cert.ZohFwd.τ).loc Cert.ZohFwd.main_arg2) = m ((c.tc : Thread Cert.ZohFwd.nD Cert.ZohFwd.τ).loc Cert.ZohFwd.main_arg2)
      ∧ r.2.mem ((c.tc : Thread Cert.ZohFwd.nD Cert.ZohFwd.τ).loc Cert.ZohFwd.main_arg3) = m ((c.tc : Thread Cert.ZohFwd.nD Cert.ZohFwd.τ).loc Cert.ZohFwd.main_arg3)
      ∧ r.2.mem ((c.tc : Thread Cert.ZohFwd.nD Cert.ZohFwd.τ).loc Cert.ZohFwd.main_arg4) = m ((c.tc : Thread Cert.ZohFwd.nD Cert.ZohFwd.τ).loc Cert.ZohFwd.main_arg4))
      ∧ r.2.sem = fun _ => 0)

def quiescent_ZohFwdIdeal [hZohFwdIdeal : Cert.ZohFwdIdeal.Facts] : Prop :=
  ∀ (m : (ℓ : Loc Cert.ZohFwdIdeal.nD Cert.ZohFwdIdeal.τ Cert.ZohFwdIdeal.sig) → Buf (Elt Ideal) ℓ) (g : Dev Cert.ZohFwdIdeal.nD → PrngReg), Pre_ZohFwdIdeal m →
    θ_run (Cert.ZohFwdIdeal.defs (F := Ideal)) (onTc (τ := Cert.ZohFwdIdeal.τ) (Cert.ZohFwdIdeal.main (F := Ideal))) ⟨m, fun _ => 0, g⟩ (fun r => (∀ c : Dev Cert.ZohFwdIdeal.nD,
      r.2.mem ((c.tc : Thread Cert.ZohFwdIdeal.nD Cert.ZohFwdIdeal.τ).loc Cert.ZohFwdIdeal.main_arg0) = m ((c.tc : Thread Cert.ZohFwdIdeal.nD Cert.ZohFwdIdeal.τ).loc Cert.ZohFwdIdeal.main_arg0)
      ∧ r.2.mem ((c.tc : Thread Cert.ZohFwdIdeal.nD Cert.ZohFwdIdeal.τ).loc Cert.ZohFwdIdeal.main_arg1) = m ((c.tc : Thread Cert.ZohFwdIdeal.nD Cert.ZohFwdIdeal.τ).loc Cert.ZohFwdIdeal.main_arg1)
      ∧ r.2.mem ((c.tc : Thread Cert.ZohFwdIdeal.nD Cert.ZohFwdIdeal.τ).loc Cert.ZohFwdIdeal.main_arg2) = m ((c.tc : Thread Cert.ZohFwdIdeal.nD Cert.ZohFwdIdeal.τ).loc Cert.ZohFwdIdeal.main_arg2)
      ∧ r.2.mem ((c.tc : Thread Cert.ZohFwdIdeal.nD Cert.ZohFwdIdeal.τ).loc Cert.ZohFwdIdeal.main_arg3) = m ((c.tc : Thread Cert.ZohFwdIdeal.nD Cert.ZohFwdIdeal.τ).loc Cert.ZohFwdIdeal.main_arg3)
      ∧ r.2.mem ((c.tc : Thread Cert.ZohFwdIdeal.nD Cert.ZohFwdIdeal.τ).loc Cert.ZohFwdIdeal.main_arg4) = m ((c.tc : Thread Cert.ZohFwdIdeal.nD Cert.ZohFwdIdeal.τ).loc Cert.ZohFwdIdeal.main_arg4))
      ∧ r.2.sem = fun _ => 0)

def quiescent_ZohFwdIdeal_pre_finite_zohfwd [hZohFwdIdeal : Cert.ZohFwdIdeal.Facts] [hPre_finite_zohfwd : Cert.Pre_finite_zohfwd.Facts] : Prop :=
  ∀ (m : (ℓ : Loc Cert.ZohFwdIdeal.nD Cert.ZohFwdIdeal.τ Cert.ZohFwdIdeal.sig) → Buf (Elt Ideal) ℓ) (g : Dev Cert.ZohFwdIdeal.nD → PrngReg), Pre_ZohFwdIdeal_finite_zohfwd m →
    θ_run (Cert.ZohFwdIdeal.defs (F := Ideal)) (onTc (τ := Cert.ZohFwdIdeal.τ) (Cert.ZohFwdIdeal.main (F := Ideal))) ⟨m, fun _ => 0, g⟩ (fun r => (∀ c : Dev Cert.ZohFwdIdeal.nD,
      r.2.mem ((c.tc : Thread Cert.ZohFwdIdeal.nD Cert.ZohFwdIdeal.τ).loc Cert.ZohFwdIdeal.main_arg0) = m ((c.tc : Thread Cert.ZohFwdIdeal.nD Cert.ZohFwdIdeal.τ).loc Cert.ZohFwdIdeal.main_arg0)
      ∧ r.2.mem ((c.tc : Thread Cert.ZohFwdIdeal.nD Cert.ZohFwdIdeal.τ).loc Cert.ZohFwdIdeal.main_arg1) = m ((c.tc : Thread Cert.ZohFwdIdeal.nD Cert.ZohFwdIdeal.τ).loc Cert.ZohFwdIdeal.main_arg1)
      ∧ r.2.mem ((c.tc : Thread Cert.ZohFwdIdeal.nD Cert.ZohFwdIdeal.τ).loc Cert.ZohFwdIdeal.main_arg2) = m ((c.tc : Thread Cert.ZohFwdIdeal.nD Cert.ZohFwdIdeal.τ).loc Cert.ZohFwdIdeal.main_arg2)
      ∧ r.2.mem ((c.tc : Thread Cert.ZohFwdIdeal.nD Cert.ZohFwdIdeal.τ).loc Cert.ZohFwdIdeal.main_arg3) = m ((c.tc : Thread Cert.ZohFwdIdeal.nD Cert.ZohFwdIdeal.τ).loc Cert.ZohFwdIdeal.main_arg3)
      ∧ r.2.mem ((c.tc : Thread Cert.ZohFwdIdeal.nD Cert.ZohFwdIdeal.τ).loc Cert.ZohFwdIdeal.main_arg4) = m ((c.tc : Thread Cert.ZohFwdIdeal.nD Cert.ZohFwdIdeal.τ).loc Cert.ZohFwdIdeal.main_arg4))
      ∧ r.2.sem = fun _ => 0)

def quiescent_ZohFwdRefIdeal [hZohFwdRefIdeal : Cert.ZohFwdRefIdeal.Facts] : Prop :=
  ∀ (m : (ℓ : Loc Cert.ZohFwdRefIdeal.nD Cert.ZohFwdRefIdeal.τ Cert.ZohFwdRefIdeal.sig) → Buf (Elt Ideal) ℓ) (g : Dev Cert.ZohFwdRefIdeal.nD → PrngReg), Pre_ZohFwdRefIdeal m →
    θ_run (Cert.ZohFwdRefIdeal.defs (F := Ideal)) (onTc (τ := Cert.ZohFwdRefIdeal.τ) (Cert.ZohFwdRefIdeal.main (F := Ideal))) ⟨m, fun _ => 0, g⟩ (fun r => (∀ c : Dev Cert.ZohFwdRefIdeal.nD,
      r.2.mem ((c.tc : Thread Cert.ZohFwdRefIdeal.nD Cert.ZohFwdRefIdeal.τ).loc Cert.ZohFwdRefIdeal.main_arg0) = m ((c.tc : Thread Cert.ZohFwdRefIdeal.nD Cert.ZohFwdRefIdeal.τ).loc Cert.ZohFwdRefIdeal.main_arg0)
      ∧ r.2.mem ((c.tc : Thread Cert.ZohFwdRefIdeal.nD Cert.ZohFwdRefIdeal.τ).loc Cert.ZohFwdRefIdeal.main_arg1) = m ((c.tc : Thread Cert.ZohFwdRefIdeal.nD Cert.ZohFwdRefIdeal.τ).loc Cert.ZohFwdRefIdeal.main_arg1)
      ∧ r.2.mem ((c.tc : Thread Cert.ZohFwdRefIdeal.nD Cert.ZohFwdRefIdeal.τ).loc Cert.ZohFwdRefIdeal.main_arg2) = m ((c.tc : Thread Cert.ZohFwdRefIdeal.nD Cert.ZohFwdRefIdeal.τ).loc Cert.ZohFwdRefIdeal.main_arg2)
      ∧ r.2.mem ((c.tc : Thread Cert.ZohFwdRefIdeal.nD Cert.ZohFwdRefIdeal.τ).loc Cert.ZohFwdRefIdeal.main_arg3) = m ((c.tc : Thread Cert.ZohFwdRefIdeal.nD Cert.ZohFwdRefIdeal.τ).loc Cert.ZohFwdRefIdeal.main_arg3)
      ∧ r.2.mem ((c.tc : Thread Cert.ZohFwdRefIdeal.nD Cert.ZohFwdRefIdeal.τ).loc Cert.ZohFwdRefIdeal.main_arg4) = m ((c.tc : Thread Cert.ZohFwdRefIdeal.nD Cert.ZohFwdRefIdeal.τ).loc Cert.ZohFwdRefIdeal.main_arg4))
      ∧ r.2.sem = fun _ => 0)

def quiescent_ZohFwdRefIdeal_pre_finite_zohfwd [hZohFwdRefIdeal : Cert.ZohFwdRefIdeal.Facts] [hPre_finite_zohfwd : Cert.Pre_finite_zohfwd.Facts] : Prop :=
  ∀ (m : (ℓ : Loc Cert.ZohFwdRefIdeal.nD Cert.ZohFwdRefIdeal.τ Cert.ZohFwdRefIdeal.sig) → Buf (Elt Ideal) ℓ) (g : Dev Cert.ZohFwdRefIdeal.nD → PrngReg), Pre_ZohFwdRefIdeal_finite_zohfwd m →
    θ_run (Cert.ZohFwdRefIdeal.defs (F := Ideal)) (onTc (τ := Cert.ZohFwdRefIdeal.τ) (Cert.ZohFwdRefIdeal.main (F := Ideal))) ⟨m, fun _ => 0, g⟩ (fun r => (∀ c : Dev Cert.ZohFwdRefIdeal.nD,
      r.2.mem ((c.tc : Thread Cert.ZohFwdRefIdeal.nD Cert.ZohFwdRefIdeal.τ).loc Cert.ZohFwdRefIdeal.main_arg0) = m ((c.tc : Thread Cert.ZohFwdRefIdeal.nD Cert.ZohFwdRefIdeal.τ).loc Cert.ZohFwdRefIdeal.main_arg0)
      ∧ r.2.mem ((c.tc : Thread Cert.ZohFwdRefIdeal.nD Cert.ZohFwdRefIdeal.τ).loc Cert.ZohFwdRefIdeal.main_arg1) = m ((c.tc : Thread Cert.ZohFwdRefIdeal.nD Cert.ZohFwdRefIdeal.τ).loc Cert.ZohFwdRefIdeal.main_arg1)
      ∧ r.2.mem ((c.tc : Thread Cert.ZohFwdRefIdeal.nD Cert.ZohFwdRefIdeal.τ).loc Cert.ZohFwdRefIdeal.main_arg2) = m ((c.tc : Thread Cert.ZohFwdRefIdeal.nD Cert.ZohFwdRefIdeal.τ).loc Cert.ZohFwdRefIdeal.main_arg2)
      ∧ r.2.mem ((c.tc : Thread Cert.ZohFwdRefIdeal.nD Cert.ZohFwdRefIdeal.τ).loc Cert.ZohFwdRefIdeal.main_arg3) = m ((c.tc : Thread Cert.ZohFwdRefIdeal.nD Cert.ZohFwdRefIdeal.τ).loc Cert.ZohFwdRefIdeal.main_arg3)
      ∧ r.2.mem ((c.tc : Thread Cert.ZohFwdRefIdeal.nD Cert.ZohFwdRefIdeal.τ).loc Cert.ZohFwdRefIdeal.main_arg4) = m ((c.tc : Thread Cert.ZohFwdRefIdeal.nD Cert.ZohFwdRefIdeal.τ).loc Cert.ZohFwdRefIdeal.main_arg4))
      ∧ r.2.sem = fun _ => 0)

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2))
      ∧ r.2.sem = fun _ => 0)

def quiescent_MmNtCb [hMmNtCb : Cert.MmNtCb.Facts] : Prop :=
  ∀ (m : (ℓ : Loc Cert.MmNtCb.nD Cert.MmNtCb.τ Cert.MmNtCb.sig) → Buf (Elt Bits) ℓ) (g : Dev Cert.MmNtCb.nD → PrngReg), Pre_MmNtCb m →
    θ_run (Cert.MmNtCb.defs (F := Bits)) (onTc (τ := Cert.MmNtCb.τ) (Cert.MmNtCb.main (F := Bits))) ⟨m, fun _ => 0, g⟩ (fun r => (∀ c : Dev Cert.MmNtCb.nD,
      r.2.mem ((c.tc : Thread Cert.MmNtCb.nD Cert.MmNtCb.τ).loc Cert.MmNtCb.main_arg0) = m ((c.tc : Thread Cert.MmNtCb.nD Cert.MmNtCb.τ).loc Cert.MmNtCb.main_arg0)
      ∧ r.2.mem ((c.tc : Thread Cert.MmNtCb.nD Cert.MmNtCb.τ).loc Cert.MmNtCb.main_arg1) = m ((c.tc : Thread Cert.MmNtCb.nD Cert.MmNtCb.τ).loc Cert.MmNtCb.main_arg1))
      ∧ r.2.sem = fun _ => 0)

def quiescent_MmNtCbIdeal [hMmNtCbIdeal : Cert.MmNtCbIdeal.Facts] : Prop :=
  ∀ (m : (ℓ : Loc Cert.MmNtCbIdeal.nD Cert.MmNtCbIdeal.τ Cert.MmNtCbIdeal.sig) → Buf (Elt Ideal) ℓ) (g : Dev Cert.MmNtCbIdeal.nD → PrngReg), Pre_MmNtCbIdeal m →
    θ_run (Cert.MmNtCbIdeal.defs (F := Ideal)) (onTc (τ := Cert.MmNtCbIdeal.τ) (Cert.MmNtCbIdeal.main (F := Ideal))) ⟨m, fun _ => 0, g⟩ (fun r => (∀ c : Dev Cert.MmNtCbIdeal.nD,
      r.2.mem ((c.tc : Thread Cert.MmNtCbIdeal.nD Cert.MmNtCbIdeal.τ).loc Cert.MmNtCbIdeal.main_arg0) = m ((c.tc : Thread Cert.MmNtCbIdeal.nD Cert.MmNtCbIdeal.τ).loc Cert.MmNtCbIdeal.main_arg0)
      ∧ r.2.mem ((c.tc : Thread Cert.MmNtCbIdeal.nD Cert.MmNtCbIdeal.τ).loc Cert.MmNtCbIdeal.main_arg1) = m ((c.tc : Thread Cert.MmNtCbIdeal.nD Cert.MmNtCbIdeal.τ).loc Cert.MmNtCbIdeal.main_arg1))
      ∧ r.2.sem = fun _ => 0)

def quiescent_MmNtCbRefIdeal [hMmNtCbRefIdeal : Cert.MmNtCbRefIdeal.Facts] : Prop :=
  ∀ (m : (ℓ : Loc Cert.MmNtCbRefIdeal.nD Cert.MmNtCbRefIdeal.τ Cert.MmNtCbRefIdeal.sig) → Buf (Elt Ideal) ℓ) (g : Dev Cert.MmNtCbRefIdeal.nD → PrngReg), Pre_MmNtCbRefIdeal m →
    θ_run (Cert.MmNtCbRefIdeal.defs (F := Ideal)) (onTc (τ := Cert.MmNtCbRefIdeal.τ) (Cert.MmNtCbRefIdeal.main (F := Ideal))) ⟨m, fun _ => 0, g⟩ (fun r => (∀ c : Dev Cert.MmNtCbRefIdeal.nD,
      r.2.mem ((c.tc : Thread Cert.MmNtCbRefIdeal.nD Cert.MmNtCbRefIdeal.τ).loc Cert.MmNtCbRefIdeal.main_arg0) = m ((c.tc : Thread Cert.MmNtCbRefIdeal.nD Cert.MmNtCbRefIdeal.τ).loc Cert.MmNtCbRefIdeal.main_arg0)
      ∧ r.2.mem ((c.tc : Thread Cert.MmNtCbRefIdeal.nD Cert.MmNtCbRefIdeal.τ).loc Cert.MmNtCbRefIdeal.main_arg1) = m ((c.tc : Thread Cert.MmNtCbRefIdeal.nD Cert.MmNtCbRefIdeal.τ).loc Cert.MmNtCbRefIdeal.main_arg1))
      ∧ r.2.sem = fun _ => 0)

def quiescent_MmTnCb [hMmTnCb : Cert.MmTnCb.Facts] : Prop :=
  ∀ (m : (ℓ : Loc Cert.MmTnCb.nD Cert.MmTnCb.τ Cert.MmTnCb.sig) → Buf (Elt Bits) ℓ) (g : Dev Cert.MmTnCb.nD → PrngReg), Pre_MmTnCb m →
    θ_run (Cert.MmTnCb.defs (F := Bits)) (onTc (τ := Cert.MmTnCb.τ) (Cert.MmTnCb.main (F := Bits))) ⟨m, fun _ => 0, g⟩ (fun r => (∀ c : Dev Cert.MmTnCb.nD,
      r.2.mem ((c.tc : Thread Cert.MmTnCb.nD Cert.MmTnCb.τ).loc Cert.MmTnCb.main_arg0) = m ((c.tc : Thread Cert.MmTnCb.nD Cert.MmTnCb.τ).loc Cert.MmTnCb.main_arg0)
      ∧ r.2.mem ((c.tc : Thread Cert.MmTnCb.nD Cert.MmTnCb.τ).loc Cert.MmTnCb.main_arg1) = m ((c.tc : Thread Cert.MmTnCb.nD Cert.MmTnCb.τ).loc Cert.MmTnCb.main_arg1))
      ∧ r.2.sem = fun _ => 0)

def quiescent_MmTnCbIdeal [hMmTnCbIdeal : Cert.MmTnCbIdeal.Facts] : Prop :=
  ∀ (m : (ℓ : Loc Cert.MmTnCbIdeal.nD Cert.MmTnCbIdeal.τ Cert.MmTnCbIdeal.sig) → Buf (Elt Ideal) ℓ) (g : Dev Cert.MmTnCbIdeal.nD → PrngReg), Pre_MmTnCbIdeal m →
    θ_run (Cert.MmTnCbIdeal.defs (F := Ideal)) (onTc (τ := Cert.MmTnCbIdeal.τ) (Cert.MmTnCbIdeal.main (F := Ideal))) ⟨m, fun _ => 0, g⟩ (fun r => (∀ c : Dev Cert.MmTnCbIdeal.nD,
      r.2.mem ((c.tc : Thread Cert.MmTnCbIdeal.nD Cert.MmTnCbIdeal.τ).loc Cert.MmTnCbIdeal.main_arg0) = m ((c.tc : Thread Cert.MmTnCbIdeal.nD Cert.MmTnCbIdeal.τ).loc Cert.MmTnCbIdeal.main_arg0)
      ∧ r.2.mem ((c.tc : Thread Cert.MmTnCbIdeal.nD Cert.MmTnCbIdeal.τ).loc Cert.MmTnCbIdeal.main_arg1) = m ((c.tc : Thread Cert.MmTnCbIdeal.nD Cert.MmTnCbIdeal.τ).loc Cert.MmTnCbIdeal.main_arg1))
      ∧ r.2.sem = fun _ => 0)

def quiescent_MmTnCbRefIdeal [hMmTnCbRefIdeal : Cert.MmTnCbRefIdeal.Facts] : Prop :=
  ∀ (m : (ℓ : Loc Cert.MmTnCbRefIdeal.nD Cert.MmTnCbRefIdeal.τ Cert.MmTnCbRefIdeal.sig) → Buf (Elt Ideal) ℓ) (g : Dev Cert.MmTnCbRefIdeal.nD → PrngReg), Pre_MmTnCbRefIdeal m →
    θ_run (Cert.MmTnCbRefIdeal.defs (F := Ideal)) (onTc (τ := Cert.MmTnCbRefIdeal.τ) (Cert.MmTnCbRefIdeal.main (F := Ideal))) ⟨m, fun _ => 0, g⟩ (fun r => (∀ c : Dev Cert.MmTnCbRefIdeal.nD,
      r.2.mem ((c.tc : Thread Cert.MmTnCbRefIdeal.nD Cert.MmTnCbRefIdeal.τ).loc Cert.MmTnCbRefIdeal.main_arg0) = m ((c.tc : Thread Cert.MmTnCbRefIdeal.nD Cert.MmTnCbRefIdeal.τ).loc Cert.MmTnCbRefIdeal.main_arg0)
      ∧ r.2.mem ((c.tc : Thread Cert.MmTnCbRefIdeal.nD Cert.MmTnCbRefIdeal.τ).loc Cert.MmTnCbRefIdeal.main_arg1) = m ((c.tc : Thread Cert.MmTnCbRefIdeal.nD Cert.MmTnCbRefIdeal.τ).loc Cert.MmTnCbRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0)
      ∧ r.2.mem ((c.tc : Thread Cert.ScanFwd.nD Cert.ScanFwd.τ).loc Cert.ScanFwd.main_arg1) = m ((c.tc : Thread Cert.ScanFwd.nD Cert.ScanFwd.τ).loc Cert.ScanFwd.main_arg1)
      ∧ r.2.mem ((c.tc : Thread Cert.ScanFwd.nD Cert.ScanFwd.τ).loc Cert.ScanFwd.main_arg2) = m ((c.tc : Thread Cert.ScanFwd.nD Cert.ScanFwd.τ).loc Cert.ScanFwd.main_arg2)
      ∧ r.2.mem ((c.tc : Thread Cert.ScanFwd.nD Cert.ScanFwd.τ).loc Cert.ScanFwd.main_arg3) = m ((c.tc : Thread Cert.ScanFwd.nD Cert.ScanFwd.τ).loc Cert.ScanFwd.main_arg3)
      ∧ r.2.mem ((c.tc : Thread Cert.ScanFwd.nD Cert.ScanFwd.τ).loc Cert.ScanFwd.main_arg4) = m ((c.tc : Thread Cert.ScanFwd.nD Cert.ScanFwd.τ).loc Cert.ScanFwd.main_arg4)
      ∧ r.2.mem ((c.tc : Thread Cert.ScanFwd.nD Cert.ScanFwd.τ).loc Cert.ScanFwd.main_arg5) = m ((c.tc : Thread Cert.ScanFwd.nD Cert.ScanFwd.τ).loc Cert.ScanFwd.main_arg5)
      ∧ r.2.mem ((c.tc : Thread Cert.ScanFwd.nD Cert.ScanFwd.τ).loc Cert.ScanFwd.main_arg6) = m ((c.tc : Thread Cert.ScanFwd.nD Cert.ScanFwd.τ).loc Cert.ScanFwd.main_arg6)
      ∧ r.2.mem ((c.tc : Thread Cert.ScanFwd.nD Cert.ScanFwd.τ).loc Cert.ScanFwd.main_arg7) = m ((c.tc : Thread Cert.ScanFwd.nD Cert.ScanFwd.τ).loc Cert.ScanFwd.main_arg7))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
      ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
      ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
      ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
      ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4)
      ∧ r.2.mem ((c.tc : Thread Cert.ScanFwdIdeal.nD Cert.ScanFwdIdeal.τ).loc Cert.ScanFwdIdeal.main_arg5) = m ((c.tc : Thread Cert.ScanFwdIdeal.nD Cert.ScanFwdIdeal.τ).loc Cert.ScanFwdIdeal.main_arg5)
      ∧ r.2.mem ((c.tc : Thread Cert.ScanFwdIdeal.nD Cert.ScanFwdIdeal.τ).loc Cert.ScanFwdIdeal.main_arg6) = m ((c.tc : Thread Cert.ScanFwdIdeal.nD Cert.ScanFwdIdeal.τ).loc Cert.ScanFwdIdeal.main_arg6)
      ∧ r.2.mem ((c.tc : Thread Cert.ScanFwdIdeal.nD Cert.ScanFwdIdeal.τ).loc Cert.ScanFwdIdeal.main_arg7) = m ((c.tc : Thread Cert.ScanFwdIdeal.nD Cert.ScanFwdIdeal.τ).loc Cert.ScanFwdIdeal.main_arg7))
      ∧ r.2.sem = fun _ => 0)

def quiescent_BdAll [hBdAll : Cert.BdAll.Facts] : Prop :=
  ∀ (m : (ℓ : Loc Cert.BdAll.nD Cert.BdAll.τ Cert.BdAll.sig) → Buf (Elt Bits) ℓ) (g : Dev Cert.BdAll.nD → PrngReg), Pre_BdAll m →
    θ_run (Cert.BdAll.defs (F := Bits)) (onTc (τ := Cert.BdAll.τ) (Cert.BdAll.main (F := Bits))) ⟨m, fun _ => 0, g⟩ (fun r => (∀ c : Dev Cert.BdAll.nD,
      r.2.mem ((c.tc : Thread Cert.BdAll.nD Cert.BdAll.τ).loc Cert.BdAll.main_arg0) = m ((c.tc : Thread Cert.BdAll.nD Cert.BdAll.τ).loc Cert.BdAll.main_arg0)
      ∧ r.2.mem ((c.tc : Thread Cert.BdAll.nD Cert.BdAll.τ).loc Cert.BdAll.main_arg1) = m ((c.tc : Thread Cert.BdAll.nD Cert.BdAll.τ).loc Cert.BdAll.main_arg1)
      ∧ r.2.mem ((c.tc : Thread Cert.BdAll.nD Cert.BdAll.τ).loc Cert.BdAll.main_arg2) = m ((c.tc : Thread Cert.BdAll.nD Cert.BdAll.τ).loc Cert.BdAll.main_arg2)
      ∧ r.2.mem ((c.tc : Thread Cert.BdAll.nD Cert.BdAll.τ).loc Cert.BdAll.main_arg3) = m ((c.tc : Thread Cert.BdAll.nD Cert.BdAll.τ).loc Cert.BdAll.main_arg3))
      ∧ r.2.sem = fun _ => 0)

def quiescent_BdAllIdeal [hBdAllIdeal : Cert.BdAllIdeal.Facts] : Prop :=
  ∀ (m : (ℓ : Loc Cert.BdAllIdeal.nD Cert.BdAllIdeal.τ Cert.BdAllIdeal.sig) → Buf (Elt Ideal) ℓ) (g : Dev Cert.BdAllIdeal.nD → PrngReg), Pre_BdAllIdeal m →
    θ_run (Cert.BdAllIdeal.defs (F := Ideal)) (onTc (τ := Cert.BdAllIdeal.τ) (Cert.BdAllIdeal.main (F := Ideal))) ⟨m, fun _ => 0, g⟩ (fun r => (∀ c : Dev Cert.BdAllIdeal.nD,
      r.2.mem ((c.tc : Thread Cert.BdAllIdeal.nD Cert.BdAllIdeal.τ).loc Cert.BdAllIdeal.main_arg0) = m ((c.tc : Thread Cert.BdAllIdeal.nD Cert.BdAllIdeal.τ).loc Cert.BdAllIdeal.main_arg0)
      ∧ r.2.mem ((c.tc : Thread Cert.BdAllIdeal.nD Cert.BdAllIdeal.τ).loc Cert.BdAllIdeal.main_arg1) = m ((c.tc : Thread Cert.BdAllIdeal.nD Cert.BdAllIdeal.τ).loc Cert.BdAllIdeal.main_arg1)
      ∧ r.2.mem ((c.tc : Thread Cert.BdAllIdeal.nD Cert.BdAllIdeal.τ).loc Cert.BdAllIdeal.main_arg2) = m ((c.tc : Thread Cert.BdAllIdeal.nD Cert.BdAllIdeal.τ).loc Cert.BdAllIdeal.main_arg2)
      ∧ r.2.mem ((c.tc : Thread Cert.BdAllIdeal.nD Cert.BdAllIdeal.τ).loc Cert.BdAllIdeal.main_arg3) = m ((c.tc : Thread Cert.BdAllIdeal.nD Cert.BdAllIdeal.τ).loc Cert.BdAllIdeal.main_arg3))
      ∧ r.2.sem = fun _ => 0)

def quiescent_BdAllRefIdeal [hBdAllRefIdeal : Cert.BdAllRefIdeal.Facts] : Prop :=
  ∀ (m : (ℓ : Loc Cert.BdAllRefIdeal.nD Cert.BdAllRefIdeal.τ Cert.BdAllRefIdeal.sig) → Buf (Elt Ideal) ℓ) (g : Dev Cert.BdAllRefIdeal.nD → PrngReg), Pre_BdAllRefIdeal m →
    θ_run (Cert.BdAllRefIdeal.defs (F := Ideal)) (onTc (τ := Cert.BdAllRefIdeal.τ) (Cert.BdAllRefIdeal.main (F := Ideal))) ⟨m, fun _ => 0, g⟩ (fun r => (∀ c : Dev Cert.BdAllRefIdeal.nD,
      r.2.mem ((c.tc : Thread Cert.BdAllRefIdeal.nD Cert.BdAllRefIdeal.τ).loc Cert.BdAllRefIdeal.main_arg0) = m ((c.tc : Thread Cert.BdAllRefIdeal.nD Cert.BdAllRefIdeal.τ).loc Cert.BdAllRefIdeal.main_arg0)
      ∧ r.2.mem ((c.tc : Thread Cert.BdAllRefIdeal.nD Cert.BdAllRefIdeal.τ).loc Cert.BdAllRefIdeal.main_arg1) = m ((c.tc : Thread Cert.BdAllRefIdeal.nD Cert.BdAllRefIdeal.τ).loc Cert.BdAllRefIdeal.main_arg1)
      ∧ r.2.mem ((c.tc : Thread Cert.BdAllRefIdeal.nD Cert.BdAllRefIdeal.τ).loc Cert.BdAllRefIdeal.main_arg2) = m ((c.tc : Thread Cert.BdAllRefIdeal.nD Cert.BdAllRefIdeal.τ).loc Cert.BdAllRefIdeal.main_arg2)
      ∧ r.2.mem ((c.tc : Thread Cert.BdAllRefIdeal.nD Cert.BdAllRefIdeal.τ).loc Cert.BdAllRefIdeal.main_arg3) = m ((c.tc : Thread Cert.BdAllRefIdeal.nD Cert.BdAllRefIdeal.τ).loc Cert.BdAllRefIdeal.main_arg3))
      ∧ r.2.sem = fun _ => 0)

def quiescent_ToSlot [hToSlot : Cert.ToSlot.Facts] : Prop :=
  ∀ (m : (ℓ : Loc Cert.ToSlot.nD Cert.ToSlot.τ Cert.ToSlot.sig) → Buf (Elt Bits) ℓ) (g : Dev Cert.ToSlot.nD → PrngReg), Pre_ToSlot m →
    θ_run (Cert.ToSlot.defs (F := Bits)) (onTc (τ := Cert.ToSlot.τ) (Cert.ToSlot.main (F := Bits))) ⟨m, fun _ => 0, g⟩ (fun r => (∀ c : Dev Cert.ToSlot.nD,
      r.2.mem ((c.tc : Thread Cert.ToSlot.nD Cert.ToSlot.τ).loc Cert.ToSlot.main_arg0) = m ((c.tc : Thread Cert.ToSlot.nD Cert.ToSlot.τ).loc Cert.ToSlot.main_arg0))
      ∧ r.2.sem = fun _ => 0)

def quiescent_ToSlotIdeal [hToSlotIdeal : Cert.ToSlotIdeal.Facts] : Prop :=
  ∀ (m : (ℓ : Loc Cert.ToSlotIdeal.nD Cert.ToSlotIdeal.τ Cert.ToSlotIdeal.sig) → Buf (Elt Ideal) ℓ) (g : Dev Cert.ToSlotIdeal.nD → PrngReg), Pre_ToSlotIdeal m →
    θ_run (Cert.ToSlotIdeal.defs (F := Ideal)) (onTc (τ := Cert.ToSlotIdeal.τ) (Cert.ToSlotIdeal.main (F := Ideal))) ⟨m, fun _ => 0, g⟩ (fun r => (∀ c : Dev Cert.ToSlotIdeal.nD,
      r.2.mem ((c.tc : Thread Cert.ToSlotIdeal.nD Cert.ToSlotIdeal.τ).loc Cert.ToSlotIdeal.main_arg0) = m ((c.tc : Thread Cert.ToSlotIdeal.nD Cert.ToSlotIdeal.τ).loc Cert.ToSlotIdeal.main_arg0))
      ∧ r.2.sem = fun _ => 0)

def quiescent_ToSlotRefIdeal [hToSlotRefIdeal : Cert.ToSlotRefIdeal.Facts] : Prop :=
  ∀ (m : (ℓ : Loc Cert.ToSlotRefIdeal.nD Cert.ToSlotRefIdeal.τ Cert.ToSlotRefIdeal.sig) → Buf (Elt Ideal) ℓ) (g : Dev Cert.ToSlotRefIdeal.nD → PrngReg), Pre_ToSlotRefIdeal m →
    θ_run (Cert.ToSlotRefIdeal.defs (F := Ideal)) (onTc (τ := Cert.ToSlotRefIdeal.τ) (Cert.ToSlotRefIdeal.main (F := Ideal))) ⟨m, fun _ => 0, g⟩ (fun r => (∀ c : Dev Cert.ToSlotRefIdeal.nD,
      r.2.mem ((c.tc : Thread Cert.ToSlotRefIdeal.nD Cert.ToSlotRefIdeal.τ).loc Cert.ToSlotRefIdeal.main_arg0) = m ((c.tc : Thread Cert.ToSlotRefIdeal.nD Cert.ToSlotRefIdeal.τ).loc Cert.ToSlotRefIdeal.main_arg0))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v16) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_SqRelu_SqReluIdeal : Prop :=
  True

def algebraic_SqReluIdeal_SqReluRefIdeal [hSqReluIdeal : Cert.SqReluIdeal.Facts] [hSqReluRefIdeal : Cert.SqReluRefIdeal.Facts] : Prop :=
  ∀ (m : (ℓ : Loc Cert.SqReluIdeal.nD Cert.SqReluIdeal.τ Cert.SqReluIdeal.sig) → Buf (Elt Ideal) ℓ) (g : Dev Cert.SqReluIdeal.nD → PrngReg)
    (m' : (ℓ : Loc Cert.SqReluRefIdeal.nD Cert.SqReluRefIdeal.τ Cert.SqReluRefIdeal.sig) → Buf (Elt Ideal) ℓ) (g' : Dev Cert.SqReluRefIdeal.nD → PrngReg), Pre_SqReluIdeal m →
    (∀ c : Dev Cert.SqReluIdeal.nD,
      m' ((c.tc : Thread Cert.SqReluRefIdeal.nD Cert.SqReluRefIdeal.τ).loc Cert.SqReluRefIdeal.main_arg0) = m ((c.tc : Thread Cert.SqReluIdeal.nD Cert.SqReluIdeal.τ).loc Cert.SqReluIdeal.main_arg0)
      ∧ m' ((c.tc : Thread Cert.SqReluRefIdeal.nD Cert.SqReluRefIdeal.τ).loc Cert.SqReluRefIdeal.main_arg1) = m ((c.tc : Thread Cert.SqReluIdeal.nD Cert.SqReluIdeal.τ).loc Cert.SqReluIdeal.main_arg1)
      ∧ m' ((c.tc : Thread Cert.SqReluRefIdeal.nD Cert.SqReluRefIdeal.τ).loc Cert.SqReluRefIdeal.main_arg2) = m ((c.tc : Thread Cert.SqReluIdeal.nD Cert.SqReluIdeal.τ).loc Cert.SqReluIdeal.main_arg2)) →
    ∃ (v0 : (c : Dev Cert.SqReluIdeal.nD) → Buf (Elt Ideal) ((c.tc : Thread Cert.SqReluIdeal.nD Cert.SqReluIdeal.τ).loc Cert.SqReluIdeal.main_v2)),
      θ_run (Cert.SqReluIdeal.defs (F := Ideal)) (onTc (τ := Cert.SqReluIdeal.τ) (Cert.SqReluIdeal.main (F := Ideal))) ⟨m, fun _ => 0, g⟩ (fun r => ∀ c : Dev Cert.SqReluIdeal.nD,
          r.2.mem ((c.tc : Thread Cert.SqReluIdeal.nD Cert.SqReluIdeal.τ).loc Cert.SqReluIdeal.main_v2) = v0 c
          ∧ r.2.mem ((c.tc : Thread Cert.SqReluIdeal.nD Cert.SqReluIdeal.τ).loc Cert.SqReluIdeal.main_arg0) = m ((c.tc : Thread Cert.SqReluIdeal.nD Cert.SqReluIdeal.τ).loc Cert.SqReluIdeal.main_arg0)
          ∧ r.2.mem ((c.tc : Thread Cert.SqReluIdeal.nD Cert.SqReluIdeal.τ).loc Cert.SqReluIdeal.main_arg1) = m ((c.tc : Thread Cert.SqReluIdeal.nD Cert.SqReluIdeal.τ).loc Cert.SqReluIdeal.main_arg1)
          ∧ r.2.mem ((c.tc : Thread Cert.SqReluIdeal.nD Cert.SqReluIdeal.τ).loc Cert.SqReluIdeal.main_arg2) = m ((c.tc : Thread Cert.SqReluIdeal.nD Cert.SqReluIdeal.τ).loc Cert.SqReluIdeal.main_arg2))
      ∧ θ_run (Cert.SqReluRefIdeal.defs (F := Ideal)) (onTc (τ := Cert.SqReluRefIdeal.τ) (Cert.SqReluRefIdeal.main (F := Ideal))) ⟨m', fun _ => 0, g'⟩ (fun r => ∀ c : Dev Cert.SqReluRefIdeal.nD,
          r.2.mem ((c.tc : Thread Cert.SqReluRefIdeal.nD Cert.SqReluRefIdeal.τ).loc Cert.SqReluRefIdeal.main_v12) = v0 c
          ∧ r.2.mem ((c.tc : Thread Cert.SqReluRefIdeal.nD Cert.SqReluRefIdeal.τ).loc Cert.SqReluRefIdeal.main_arg0) = m' ((c.tc : Thread Cert.SqReluRefIdeal.nD Cert.SqReluRefIdeal.τ).loc Cert.SqReluRefIdeal.main_arg0)
          ∧ r.2.mem ((c.tc : Thread Cert.SqReluRefIdeal.nD Cert.SqReluRefIdeal.τ).loc Cert.SqReluRefIdeal.main_arg1) = m' ((c.tc : Thread Cert.SqReluRefIdeal.nD Cert.SqReluRefIdeal.τ).loc Cert.SqReluRefIdeal.main_arg1)
          ∧ r.2.mem ((c.tc : Thread Cert.SqReluRefIdeal.nD Cert.SqReluRefIdeal.τ).loc Cert.SqReluRefIdeal.main_arg2) = m' ((c.tc : Thread Cert.SqReluRefIdeal.nD Cert.SqReluRefIdeal.τ).loc Cert.SqReluRefIdeal.main_arg2))

def preserves_BlockDiag_BlockDiagIdeal : Prop :=
  True

def algebraic_BlockDiagIdeal_BlockDiagRefIdeal [hBlockDiagIdeal : Cert.BlockDiagIdeal.Facts] [hBlockDiagRefIdeal : Cert.BlockDiagRefIdeal.Facts] : Prop :=
  ∀ (m : (ℓ : Loc Cert.BlockDiagIdeal.nD Cert.BlockDiagIdeal.τ Cert.BlockDiagIdeal.sig) → Buf (Elt Ideal) ℓ) (g : Dev Cert.BlockDiagIdeal.nD → PrngReg)
    (m' : (ℓ : Loc Cert.BlockDiagRefIdeal.nD Cert.BlockDiagRefIdeal.τ Cert.BlockDiagRefIdeal.sig) → Buf (Elt Ideal) ℓ) (g' : Dev Cert.BlockDiagRefIdeal.nD → PrngReg), Pre_BlockDiagIdeal m →
    (∀ c : Dev Cert.BlockDiagIdeal.nD,
      m' ((c.tc : Thread Cert.BlockDiagRefIdeal.nD Cert.BlockDiagRefIdeal.τ).loc Cert.BlockDiagRefIdeal.main_arg0) = m ((c.tc : Thread Cert.BlockDiagIdeal.nD Cert.BlockDiagIdeal.τ).loc Cert.BlockDiagIdeal.main_arg0)
      ∧ m' ((c.tc : Thread Cert.BlockDiagRefIdeal.nD Cert.BlockDiagRefIdeal.τ).loc Cert.BlockDiagRefIdeal.main_arg1) = m ((c.tc : Thread Cert.BlockDiagIdeal.nD Cert.BlockDiagIdeal.τ).loc Cert.BlockDiagIdeal.main_arg1)) →
    ∃ (v0 : (c : Dev Cert.BlockDiagIdeal.nD) → Buf (Elt Ideal) ((c.tc : Thread Cert.BlockDiagIdeal.nD Cert.BlockDiagIdeal.τ).loc Cert.BlockDiagIdeal.main_v0)),
      θ_run (Cert.BlockDiagIdeal.defs (F := Ideal)) (onTc (τ := Cert.BlockDiagIdeal.τ) (Cert.BlockDiagIdeal.main (F := Ideal))) ⟨m, fun _ => 0, g⟩ (fun r => ∀ c : Dev Cert.BlockDiagIdeal.nD,
          r.2.mem ((c.tc : Thread Cert.BlockDiagIdeal.nD Cert.BlockDiagIdeal.τ).loc Cert.BlockDiagIdeal.main_v0) = v0 c
          ∧ r.2.mem ((c.tc : Thread Cert.BlockDiagIdeal.nD Cert.BlockDiagIdeal.τ).loc Cert.BlockDiagIdeal.main_arg0) = m ((c.tc : Thread Cert.BlockDiagIdeal.nD Cert.BlockDiagIdeal.τ).loc Cert.BlockDiagIdeal.main_arg0)
          ∧ r.2.mem ((c.tc : Thread Cert.BlockDiagIdeal.nD Cert.BlockDiagIdeal.τ).loc Cert.BlockDiagIdeal.main_arg1) = m ((c.tc : Thread Cert.BlockDiagIdeal.nD Cert.BlockDiagIdeal.τ).loc Cert.BlockDiagIdeal.main_arg1))
      ∧ θ_run (Cert.BlockDiagRefIdeal.defs (F := Ideal)) (onTc (τ := Cert.BlockDiagRefIdeal.τ) (Cert.BlockDiagRefIdeal.main (F := Ideal))) ⟨m', fun _ => 0, g'⟩ (fun r => ∀ c : Dev Cert.BlockDiagRefIdeal.nD,
          r.2.mem ((c.tc : Thread Cert.BlockDiagRefIdeal.nD Cert.BlockDiagRefIdeal.τ).loc Cert.BlockDiagRefIdeal.main_v8) = v0 c
          ∧ r.2.mem ((c.tc : Thread Cert.BlockDiagRefIdeal.nD Cert.BlockDiagRefIdeal.τ).loc Cert.BlockDiagRefIdeal.main_arg0) = m' ((c.tc : Thread Cert.BlockDiagRefIdeal.nD Cert.BlockDiagRefIdeal.τ).loc Cert.BlockDiagRefIdeal.main_arg0)
          ∧ r.2.mem ((c.tc : Thread Cert.BlockDiagRefIdeal.nD Cert.BlockDiagRefIdeal.τ).loc Cert.BlockDiagRefIdeal.main_arg1) = m' ((c.tc : Thread Cert.BlockDiagRefIdeal.nD Cert.BlockDiagRefIdeal.τ).loc Cert.BlockDiagRefIdeal.main_arg1))

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_v38) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v68) = v1 c
          ∧ r.2.mem ((c.tc : Thread Cert.LossRefIdeal.nD Cert.LossRefIdeal.τ).loc Cert.LossRefIdeal.main_v67) = v2 c
          ∧ r.2.mem ((c.tc : Thread Cert.LossRefIdeal.nD Cert.LossRefIdeal.τ).loc Cert.LossRefIdeal.main_v69) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gla_GlaIdeal : Prop :=
  True

def algebraic_GlaIdeal_GlaRefIdeal_pre_finite_gla [hGlaIdeal : Cert.GlaIdeal.Facts] [hGlaRefIdeal : Cert.GlaRefIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v165_0)) (v1 : (c : Dev Cert.GlaIdeal.nD) → Buf (Elt Ideal) ((c.tc : Thread Cert.GlaIdeal.nD Cert.GlaIdeal.τ).loc Cert.GlaIdeal.main_v165_1)) (v2 : (c : Dev Cert.GlaIdeal.nD) → Buf (Elt Ideal) ((c.tc : Thread Cert.GlaIdeal.nD Cert.GlaIdeal.τ).loc Cert.GlaIdeal.main_v165_2)) (v3 : (c : Dev Cert.GlaIdeal.nD) → Buf (Elt Ideal) ((c.tc : Thread Cert.GlaIdeal.nD Cert.GlaIdeal.τ).loc Cert.GlaIdeal.main_v165_3)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v165_0) = v0 c
          ∧ r.2.mem ((c.tc : Thread Cert.GlaIdeal.nD Cert.GlaIdeal.τ).loc Cert.GlaIdeal.main_v165_1) = v1 c
          ∧ r.2.mem ((c.tc : Thread Cert.GlaIdeal.nD Cert.GlaIdeal.τ).loc Cert.GlaIdeal.main_v165_2) = v2 c
          ∧ r.2.mem ((c.tc : Thread Cert.GlaIdeal.nD Cert.GlaIdeal.τ).loc Cert.GlaIdeal.main_v165_3) = v3 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v386) = v0 c
          ∧ r.2.mem ((c.tc : Thread Cert.GlaRefIdeal.nD Cert.GlaRefIdeal.τ).loc Cert.GlaRefIdeal.main_v387) = v1 c
          ∧ r.2.mem ((c.tc : Thread Cert.GlaRefIdeal.nD Cert.GlaRefIdeal.τ).loc Cert.GlaRefIdeal.main_v388) = v2 c
          ∧ r.2.mem ((c.tc : Thread Cert.GlaRefIdeal.nD Cert.GlaRefIdeal.τ).loc Cert.GlaRefIdeal.main_v389) = v3 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v5_0)) (v1 : (c : Dev Cert.ActIdeal.nD) → Buf (Elt Ideal) ((c.tc : Thread Cert.ActIdeal.nD Cert.ActIdeal.τ).loc Cert.ActIdeal.main_v5_1)) (v2 : (c : Dev Cert.ActIdeal.nD) → Buf (Elt Ideal) ((c.tc : Thread Cert.ActIdeal.nD Cert.ActIdeal.τ).loc Cert.ActIdeal.main_v5_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v5_0) = v0 c
          ∧ r.2.mem ((c.tc : Thread Cert.ActIdeal.nD Cert.ActIdeal.τ).loc Cert.ActIdeal.main_v5_1) = v1 c
          ∧ r.2.mem ((c.tc : Thread Cert.ActIdeal.nD Cert.ActIdeal.τ).loc Cert.ActIdeal.main_v5_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v36) = v0 c
          ∧ r.2.mem ((c.tc : Thread Cert.ActRefIdeal.nD Cert.ActRefIdeal.τ).loc Cert.ActRefIdeal.main_v38) = v1 c
          ∧ r.2.mem ((c.tc : Thread Cert.ActRefIdeal.nD Cert.ActRefIdeal.τ).loc Cert.ActRefIdeal.main_v43) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Zoh_ZohIdeal : Prop :=
  True

def algebraic_ZohIdeal_ZohRefIdeal [hZohIdeal : Cert.ZohIdeal.Facts] [hZohRefIdeal : Cert.ZohRefIdeal.Facts] : Prop :=
  ∀ (m : (ℓ : Loc Cert.ZohIdeal.nD Cert.ZohIdeal.τ Cert.ZohIdeal.sig) → Buf (Elt Ideal) ℓ) (g : Dev Cert.ZohIdeal.nD → PrngReg)
    (m' : (ℓ : Loc Cert.ZohRefIdeal.nD Cert.ZohRefIdeal.τ Cert.ZohRefIdeal.sig) → Buf (Elt Ideal) ℓ) (g' : Dev Cert.ZohRefIdeal.nD → PrngReg), Pre_ZohIdeal m →
    (∀ c : Dev Cert.ZohIdeal.nD,
      m' ((c.tc : Thread Cert.ZohRefIdeal.nD Cert.ZohRefIdeal.τ).loc Cert.ZohRefIdeal.main_arg0) = m ((c.tc : Thread Cert.ZohIdeal.nD Cert.ZohIdeal.τ).loc Cert.ZohIdeal.main_arg0)
      ∧ m' ((c.tc : Thread Cert.ZohRefIdeal.nD Cert.ZohRefIdeal.τ).loc Cert.ZohRefIdeal.main_arg1) = m ((c.tc : Thread Cert.ZohIdeal.nD Cert.ZohIdeal.τ).loc Cert.ZohIdeal.main_arg1)
      ∧ m' ((c.tc : Thread Cert.ZohRefIdeal.nD Cert.ZohRefIdeal.τ).loc Cert.ZohRefIdeal.main_arg2) = m ((c.tc : Thread Cert.ZohIdeal.nD Cert.ZohIdeal.τ).loc Cert.ZohIdeal.main_arg2)
      ∧ m' ((c.tc : Thread Cert.ZohRefIdeal.nD Cert.ZohRefIdeal.τ).loc Cert.ZohRefIdeal.main_arg3) = m ((c.tc : Thread Cert.ZohIdeal.nD Cert.ZohIdeal.τ).loc Cert.ZohIdeal.main_arg3)
      ∧ m' ((c.tc : Thread Cert.ZohRefIdeal.nD Cert.ZohRefIdeal.τ).loc Cert.ZohRefIdeal.main_arg4) = m ((c.tc : Thread Cert.ZohIdeal.nD Cert.ZohIdeal.τ).loc Cert.ZohIdeal.main_arg4)
      ∧ m' ((c.tc : Thread Cert.ZohRefIdeal.nD Cert.ZohRefIdeal.τ).loc Cert.ZohRefIdeal.main_arg5) = m ((c.tc : Thread Cert.ZohIdeal.nD Cert.ZohIdeal.τ).loc Cert.ZohIdeal.main_arg5)
      ∧ m' ((c.tc : Thread Cert.ZohRefIdeal.nD Cert.ZohRefIdeal.τ).loc Cert.ZohRefIdeal.main_arg6) = m ((c.tc : Thread Cert.ZohIdeal.nD Cert.ZohIdeal.τ).loc Cert.ZohIdeal.main_arg6)
      ∧ m' ((c.tc : Thread Cert.ZohRefIdeal.nD Cert.ZohRefIdeal.τ).loc Cert.ZohRefIdeal.main_arg7) = m ((c.tc : Thread Cert.ZohIdeal.nD Cert.ZohIdeal.τ).loc Cert.ZohIdeal.main_arg7)
      ∧ m' ((c.tc : Thread Cert.ZohRefIdeal.nD Cert.ZohRefIdeal.τ).loc Cert.ZohRefIdeal.main_arg8) = m ((c.tc : Thread Cert.ZohIdeal.nD Cert.ZohIdeal.τ).loc Cert.ZohIdeal.main_arg8)) →
    ∃ (v0 : (c : Dev Cert.ZohIdeal.nD) → Buf (Elt Ideal) ((c.tc : Thread Cert.ZohIdeal.nD Cert.ZohIdeal.τ).loc Cert.ZohIdeal.main_v7_0)) (v1 : (c : Dev Cert.ZohIdeal.nD) → Buf (Elt Ideal) ((c.tc : Thread Cert.ZohIdeal.nD Cert.ZohIdeal.τ).loc Cert.ZohIdeal.main_v7_1)) (v2 : (c : Dev Cert.ZohIdeal.nD) → Buf (Elt Ideal) ((c.tc : Thread Cert.ZohIdeal.nD Cert.ZohIdeal.τ).loc Cert.ZohIdeal.main_v7_2)) (v3 : (c : Dev Cert.ZohIdeal.nD) → Buf (Elt Ideal) ((c.tc : Thread Cert.ZohIdeal.nD Cert.ZohIdeal.τ).loc Cert.ZohIdeal.main_v7_3)) (v4 : (c : Dev Cert.ZohIdeal.nD) → Buf (Elt Ideal) ((c.tc : Thread Cert.ZohIdeal.nD Cert.ZohIdeal.τ).loc Cert.ZohIdeal.main_v7_4)),
      θ_run (Cert.ZohIdeal.defs (F := Ideal)) (onTc (τ := Cert.ZohIdeal.τ) (Cert.ZohIdeal.main (F := Ideal))) ⟨m, fun _ => 0, g⟩ (fun r => ∀ c : Dev Cert.ZohIdeal.nD,
          r.2.mem ((c.tc : Thread Cert.ZohIdeal.nD Cert.ZohIdeal.τ).loc Cert.ZohIdeal.main_v7_0) = v0 c
          ∧ r.2.mem ((c.tc : Thread Cert.ZohIdeal.nD Cert.ZohIdeal.τ).loc Cert.ZohIdeal.main_v7_1) = v1 c
          ∧ r.2.mem ((c.tc : Thread Cert.ZohIdeal.nD Cert.ZohIdeal.τ).loc Cert.ZohIdeal.main_v7_2) = v2 c
          ∧ r.2.mem ((c.tc : Thread Cert.ZohIdeal.nD Cert.ZohIdeal.τ).loc Cert.ZohIdeal.main_v7_3) = v3 c
          ∧ r.2.mem ((c.tc : Thread Cert.ZohIdeal.nD Cert.ZohIdeal.τ).loc Cert.ZohIdeal.main_v7_4) = v4 c
          ∧ r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
          ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
          ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
          ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
          ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
          ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
          ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
          ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
          ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ θ_run (Cert.ZohRefIdeal.defs (F := Ideal)) (onTc (τ := Cert.ZohRefIdeal.τ) (Cert.ZohRefIdeal.main (F := Ideal))) ⟨m', fun _ => 0, g'⟩ (fun r => ∀ c : Dev Cert.ZohRefIdeal.nD,
          r.2.mem ((c.tc : Thread Cert.ZohRefIdeal.nD Cert.ZohRefIdeal.τ).loc Cert.ZohRefIdeal.main_v146) = v0 c
          ∧ r.2.mem ((c.tc : Thread Cert.ZohRefIdeal.nD Cert.ZohRefIdeal.τ).loc Cert.ZohRefIdeal.main_v147) = v1 c
          ∧ r.2.mem ((c.tc : Thread Cert.ZohRefIdeal.nD Cert.ZohRefIdeal.τ).loc Cert.ZohRefIdeal.main_v148) = v2 c
          ∧ r.2.mem ((c.tc : Thread Cert.ZohRefIdeal.nD Cert.ZohRefIdeal.τ).loc Cert.ZohRefIdeal.main_v149) = v3 c
          ∧ r.2.mem ((c.tc : Thread Cert.ZohRefIdeal.nD Cert.ZohRefIdeal.τ).loc Cert.ZohRefIdeal.main_v150) = v4 c
          ∧ r.2.mem ((c.tc : Thread Cert.ZohRefIdeal.nD Cert.ZohRefIdeal.τ).loc Cert.ZohRefIdeal.main_arg0) = m' ((c.tc : Thread Cert.ZohRefIdeal.nD Cert.ZohRefIdeal.τ).loc Cert.ZohRefIdeal.main_arg0)
          ∧ r.2.mem ((c.tc : Thread Cert.ZohRefIdeal.nD Cert.ZohRefIdeal.τ).loc Cert.ZohRefIdeal.main_arg1) = m' ((c.tc : Thread Cert.ZohRefIdeal.nD Cert.ZohRefIdeal.τ).loc Cert.ZohRefIdeal.main_arg1)
          ∧ r.2.mem ((c.tc : Thread Cert.ZohRefIdeal.nD Cert.ZohRefIdeal.τ).loc Cert.ZohRefIdeal.main_arg2) = m' ((c.tc : Thread Cert.ZohRefIdeal.nD Cert.ZohRefIdeal.τ).loc Cert.ZohRefIdeal.main_arg2)
          ∧ r.2.mem ((c.tc : Thread Cert.ZohRefIdeal.nD Cert.ZohRefIdeal.τ).loc Cert.ZohRefIdeal.main_arg3) = m' ((c.tc : Thread Cert.ZohRefIdeal.nD Cert.ZohRefIdeal.τ).loc Cert.ZohRefIdeal.main_arg3)
          ∧ r.2.mem ((c.tc : Thread Cert.ZohRefIdeal.nD Cert.ZohRefIdeal.τ).loc Cert.ZohRefIdeal.main_arg4) = m' ((c.tc : Thread Cert.ZohRefIdeal.nD Cert.ZohRefIdeal.τ).loc Cert.ZohRefIdeal.main_arg4)
          ∧ r.2.mem ((c.tc : Thread Cert.ZohRefIdeal.nD Cert.ZohRefIdeal.τ).loc Cert.ZohRefIdeal.main_arg5) = m' ((c.tc : Thread Cert.ZohRefIdeal.nD Cert.ZohRefIdeal.τ).loc Cert.ZohRefIdeal.main_arg5)
          ∧ r.2.mem ((c.tc : Thread Cert.ZohRefIdeal.nD Cert.ZohRefIdeal.τ).loc Cert.ZohRefIdeal.main_arg6) = m' ((c.tc : Thread Cert.ZohRefIdeal.nD Cert.ZohRefIdeal.τ).loc Cert.ZohRefIdeal.main_arg6)
          ∧ r.2.mem ((c.tc : Thread Cert.ZohRefIdeal.nD Cert.ZohRefIdeal.τ).loc Cert.ZohRefIdeal.main_arg7) = m' ((c.tc : Thread Cert.ZohRefIdeal.nD Cert.ZohRefIdeal.τ).loc Cert.ZohRefIdeal.main_arg7)
          ∧ r.2.mem ((c.tc : Thread Cert.ZohRefIdeal.nD Cert.ZohRefIdeal.τ).loc Cert.ZohRefIdeal.main_arg8) = m' ((c.tc : Thread Cert.ZohRefIdeal.nD Cert.ZohRefIdeal.τ).loc Cert.ZohRefIdeal.main_arg8))

def preserves_Scan_ScanIdeal : Prop :=
  True

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)) →
    ∃ (v0 : (c : Dev Cert.GlaFwdIdeal.nD) → Buf (Elt Ideal) ((c.tc : Thread Cert.GlaFwdIdeal.nD Cert.GlaFwdIdeal.τ).loc Cert.GlaFwdIdeal.main_v5_0)) (v1 : (c : Dev Cert.GlaFwdIdeal.nD) → Buf (Elt Ideal) ((c.tc : Thread Cert.GlaFwdIdeal.nD Cert.GlaFwdIdeal.τ).loc Cert.GlaFwdIdeal.main_v5_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v5_0) = v0 c
          ∧ r.2.mem ((c.tc : Thread Cert.GlaFwdIdeal.nD Cert.GlaFwdIdeal.τ).loc Cert.GlaFwdIdeal.main_v5_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v183) = v0 c
          ∧ r.2.mem ((c.tc : Thread Cert.GlaFwdRefIdeal.nD Cert.GlaFwdRefIdeal.τ).loc Cert.GlaFwdRefIdeal.main_v184) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)
      ∧ m' ((c.tc : Thread Cert.ActFwdRefIdeal.nD Cert.ActFwdRefIdeal.τ).loc Cert.ActFwdRefIdeal.main_arg1) = m ((c.tc : Thread Cert.ActFwdIdeal.nD Cert.ActFwdIdeal.τ).loc Cert.ActFwdIdeal.main_arg1)
      ∧ m' ((c.tc : Thread Cert.ActFwdRefIdeal.nD Cert.ActFwdRefIdeal.τ).loc Cert.ActFwdRefIdeal.main_arg2) = m ((c.tc : Thread Cert.ActFwdIdeal.nD Cert.ActFwdIdeal.τ).loc Cert.ActFwdIdeal.main_arg2)) →
    ∃ (v0 : (c : Dev Cert.ActFwdIdeal.nD) → Buf (Elt Ideal) ((c.tc : Thread Cert.ActFwdIdeal.nD Cert.ActFwdIdeal.τ).loc Cert.ActFwdIdeal.main_v1_0)) (v1 : (c : Dev Cert.ActFwdIdeal.nD) → Buf (Elt Ideal) ((c.tc : Thread Cert.ActFwdIdeal.nD Cert.ActFwdIdeal.τ).loc Cert.ActFwdIdeal.main_v1_1)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v1_0) = v0 c
          ∧ r.2.mem ((c.tc : Thread Cert.ActFwdIdeal.nD Cert.ActFwdIdeal.τ).loc Cert.ActFwdIdeal.main_v1_1) = v1 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
          ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v3) = v0 c
          ∧ r.2.mem ((c.tc : Thread Cert.ActFwdRefIdeal.nD Cert.ActFwdRefIdeal.τ).loc Cert.ActFwdRefIdeal.main_v17) = v1 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1)
          ∧ r.2.mem ((c.tc : Thread Cert.ActFwdRefIdeal.nD Cert.ActFwdRefIdeal.τ).loc Cert.ActFwdRefIdeal.main_arg2) = m' ((c.tc : Thread Cert.ActFwdRefIdeal.nD Cert.ActFwdRefIdeal.τ).loc Cert.ActFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v9) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1))

def preserves_SqReluFwd_SqReluFwdIdeal : Prop :=
  True

def algebraic_SqReluFwdIdeal_SqReluFwdRefIdeal [hSqReluFwdIdeal : Cert.SqReluFwdIdeal.Facts] [hSqReluFwdRefIdeal : Cert.SqReluFwdRefIdeal.Facts] : Prop :=
  ∀ (m : (ℓ : Loc Cert.SqReluFwdIdeal.nD Cert.SqReluFwdIdeal.τ Cert.SqReluFwdIdeal.sig) → Buf (Elt Ideal) ℓ) (g : Dev Cert.SqReluFwdIdeal.nD → PrngReg)
    (m' : (ℓ : Loc Cert.SqReluFwdRefIdeal.nD Cert.SqReluFwdRefIdeal.τ Cert.SqReluFwdRefIdeal.sig) → Buf (Elt Ideal) ℓ) (g' : Dev Cert.SqReluFwdRefIdeal.nD → PrngReg), Pre_SqReluFwdIdeal m →
    (∀ c : Dev Cert.SqReluFwdIdeal.nD,
      m' ((c.tc : Thread Cert.SqReluFwdRefIdeal.nD Cert.SqReluFwdRefIdeal.τ).loc Cert.SqReluFwdRefIdeal.main_arg0) = m ((c.tc : Thread Cert.SqReluFwdIdeal.nD Cert.SqReluFwdIdeal.τ).loc Cert.SqReluFwdIdeal.main_arg0)
      ∧ m' ((c.tc : Thread Cert.SqReluFwdRefIdeal.nD Cert.SqReluFwdRefIdeal.τ).loc Cert.SqReluFwdRefIdeal.main_arg1) = m ((c.tc : Thread Cert.SqReluFwdIdeal.nD Cert.SqReluFwdIdeal.τ).loc Cert.SqReluFwdIdeal.main_arg1)) →
    ∃ (v0 : (c : Dev Cert.SqReluFwdIdeal.nD) → Buf (Elt Ideal) ((c.tc : Thread Cert.SqReluFwdIdeal.nD Cert.SqReluFwdIdeal.τ).loc Cert.SqReluFwdIdeal.main_v4_0)) (v1 : (c : Dev Cert.SqReluFwdIdeal.nD) → Buf (Elt Ideal) ((c.tc : Thread Cert.SqReluFwdIdeal.nD Cert.SqReluFwdIdeal.τ).loc Cert.SqReluFwdIdeal.main_v4_1)),
      θ_run (Cert.SqReluFwdIdeal.defs (F := Ideal)) (onTc (τ := Cert.SqReluFwdIdeal.τ) (Cert.SqReluFwdIdeal.main (F := Ideal))) ⟨m, fun _ => 0, g⟩ (fun r => ∀ c : Dev Cert.SqReluFwdIdeal.nD,
          r.2.mem ((c.tc : Thread Cert.SqReluFwdIdeal.nD Cert.SqReluFwdIdeal.τ).loc Cert.SqReluFwdIdeal.main_v4_0) = v0 c
          ∧ r.2.mem ((c.tc : Thread Cert.SqReluFwdIdeal.nD Cert.SqReluFwdIdeal.τ).loc Cert.SqReluFwdIdeal.main_v4_1) = v1 c
          ∧ r.2.mem ((c.tc : Thread Cert.SqReluFwdIdeal.nD Cert.SqReluFwdIdeal.τ).loc Cert.SqReluFwdIdeal.main_arg0) = m ((c.tc : Thread Cert.SqReluFwdIdeal.nD Cert.SqReluFwdIdeal.τ).loc Cert.SqReluFwdIdeal.main_arg0)
          ∧ r.2.mem ((c.tc : Thread Cert.SqReluFwdIdeal.nD Cert.SqReluFwdIdeal.τ).loc Cert.SqReluFwdIdeal.main_arg1) = m ((c.tc : Thread Cert.SqReluFwdIdeal.nD Cert.SqReluFwdIdeal.τ).loc Cert.SqReluFwdIdeal.main_arg1))
      ∧ θ_run (Cert.SqReluFwdRefIdeal.defs (F := Ideal)) (onTc (τ := Cert.SqReluFwdRefIdeal.τ) (Cert.SqReluFwdRefIdeal.main (F := Ideal))) ⟨m', fun _ => 0, g'⟩ (fun r => ∀ c : Dev Cert.SqReluFwdRefIdeal.nD,
          r.2.mem ((c.tc : Thread Cert.SqReluFwdRefIdeal.nD Cert.SqReluFwdRefIdeal.τ).loc Cert.SqReluFwdRefIdeal.main_v0) = v0 c
          ∧ r.2.mem ((c.tc : Thread Cert.SqReluFwdRefIdeal.nD Cert.SqReluFwdRefIdeal.τ).loc Cert.SqReluFwdRefIdeal.main_v3) = v1 c
          ∧ r.2.mem ((c.tc : Thread Cert.SqReluFwdRefIdeal.nD Cert.SqReluFwdRefIdeal.τ).loc Cert.SqReluFwdRefIdeal.main_arg0) = m' ((c.tc : Thread Cert.SqReluFwdRefIdeal.nD Cert.SqReluFwdRefIdeal.τ).loc Cert.SqReluFwdRefIdeal.main_arg0)
          ∧ r.2.mem ((c.tc : Thread Cert.SqReluFwdRefIdeal.nD Cert.SqReluFwdRefIdeal.τ).loc Cert.SqReluFwdRefIdeal.main_arg1) = m' ((c.tc : Thread Cert.SqReluFwdRefIdeal.nD Cert.SqReluFwdRefIdeal.τ).loc Cert.SqReluFwdRefIdeal.main_arg1))

def preserves_ZohFwd_ZohFwdIdeal : Prop :=
  True

def algebraic_ZohFwdIdeal_ZohFwdRefIdeal_pre_finite_zohfwd [hZohFwdIdeal : Cert.ZohFwdIdeal.Facts] [hZohFwdRefIdeal : Cert.ZohFwdRefIdeal.Facts] [hPre_finite_zohfwd : Cert.Pre_finite_zohfwd.Facts] : Prop :=
  ∀ (m : (ℓ : Loc Cert.ZohFwdIdeal.nD Cert.ZohFwdIdeal.τ Cert.ZohFwdIdeal.sig) → Buf (Elt Ideal) ℓ) (g : Dev Cert.ZohFwdIdeal.nD → PrngReg)
    (m' : (ℓ : Loc Cert.ZohFwdRefIdeal.nD Cert.ZohFwdRefIdeal.τ Cert.ZohFwdRefIdeal.sig) → Buf (Elt Ideal) ℓ) (g' : Dev Cert.ZohFwdRefIdeal.nD → PrngReg), Pre_ZohFwdIdeal_finite_zohfwd m →
    (∀ c : Dev Cert.ZohFwdIdeal.nD,
      m' ((c.tc : Thread Cert.ZohFwdRefIdeal.nD Cert.ZohFwdRefIdeal.τ).loc Cert.ZohFwdRefIdeal.main_arg0) = m ((c.tc : Thread Cert.ZohFwdIdeal.nD Cert.ZohFwdIdeal.τ).loc Cert.ZohFwdIdeal.main_arg0)
      ∧ m' ((c.tc : Thread Cert.ZohFwdRefIdeal.nD Cert.ZohFwdRefIdeal.τ).loc Cert.ZohFwdRefIdeal.main_arg1) = m ((c.tc : Thread Cert.ZohFwdIdeal.nD Cert.ZohFwdIdeal.τ).loc Cert.ZohFwdIdeal.main_arg1)
      ∧ m' ((c.tc : Thread Cert.ZohFwdRefIdeal.nD Cert.ZohFwdRefIdeal.τ).loc Cert.ZohFwdRefIdeal.main_arg2) = m ((c.tc : Thread Cert.ZohFwdIdeal.nD Cert.ZohFwdIdeal.τ).loc Cert.ZohFwdIdeal.main_arg2)
      ∧ m' ((c.tc : Thread Cert.ZohFwdRefIdeal.nD Cert.ZohFwdRefIdeal.τ).loc Cert.ZohFwdRefIdeal.main_arg3) = m ((c.tc : Thread Cert.ZohFwdIdeal.nD Cert.ZohFwdIdeal.τ).loc Cert.ZohFwdIdeal.main_arg3)
      ∧ m' ((c.tc : Thread Cert.ZohFwdRefIdeal.nD Cert.ZohFwdRefIdeal.τ).loc Cert.ZohFwdRefIdeal.main_arg4) = m ((c.tc : Thread Cert.ZohFwdIdeal.nD Cert.ZohFwdIdeal.τ).loc Cert.ZohFwdIdeal.main_arg4)) →
    ∃ (v0 : (c : Dev Cert.ZohFwdIdeal.nD) → Buf (Elt Ideal) ((c.tc : Thread Cert.ZohFwdIdeal.nD Cert.ZohFwdIdeal.τ).loc Cert.ZohFwdIdeal.main_v5_0)) (v1 : (c : Dev Cert.ZohFwdIdeal.nD) → Buf (Elt Ideal) ((c.tc : Thread Cert.ZohFwdIdeal.nD Cert.ZohFwdIdeal.τ).loc Cert.ZohFwdIdeal.main_v5_1)) (v2 : (c : Dev Cert.ZohFwdIdeal.nD) → Buf (Elt Ideal) ((c.tc : Thread Cert.ZohFwdIdeal.nD Cert.ZohFwdIdeal.τ).loc Cert.ZohFwdIdeal.main_v5_2)) (v3 : (c : Dev Cert.ZohFwdIdeal.nD) → Buf (Elt Ideal) ((c.tc : Thread Cert.ZohFwdIdeal.nD Cert.ZohFwdIdeal.τ).loc Cert.ZohFwdIdeal.main_v5_3)) (v4 : (c : Dev Cert.ZohFwdIdeal.nD) → Buf (Elt Ideal) ((c.tc : Thread Cert.ZohFwdIdeal.nD Cert.ZohFwdIdeal.τ).loc Cert.ZohFwdIdeal.main_v5_4)) (v5 : (c : Dev Cert.ZohFwdIdeal.nD) → Buf (Elt Ideal) ((c.tc : Thread Cert.ZohFwdIdeal.nD Cert.ZohFwdIdeal.τ).loc Cert.ZohFwdIdeal.main_v5_5)) (v6 : (c : Dev Cert.ZohFwdIdeal.nD) → Buf (Elt Ideal) ((c.tc : Thread Cert.ZohFwdIdeal.nD Cert.ZohFwdIdeal.τ).loc Cert.ZohFwdIdeal.main_v5_6)) (v7 : (c : Dev Cert.ZohFwdIdeal.nD) → Buf (Elt Ideal) ((c.tc : Thread Cert.ZohFwdIdeal.nD Cert.ZohFwdIdeal.τ).loc Cert.ZohFwdIdeal.main_v5_7)) (v8 : (c : Dev Cert.ZohFwdIdeal.nD) → Buf (Elt Ideal) ((c.tc : Thread Cert.ZohFwdIdeal.nD Cert.ZohFwdIdeal.τ).loc Cert.ZohFwdIdeal.main_v5_8)) (v9 : (c : Dev Cert.ZohFwdIdeal.nD) → Buf (Elt Ideal) ((c.tc : Thread Cert.ZohFwdIdeal.nD Cert.ZohFwdIdeal.τ).loc Cert.ZohFwdIdeal.main_v5_9)),
      θ_run (Cert.ZohFwdIdeal.defs (F := Ideal)) (onTc (τ := Cert.ZohFwdIdeal.τ) (Cert.ZohFwdIdeal.main (F := Ideal))) ⟨m, fun _ => 0, g⟩ (fun r => ∀ c : Dev Cert.ZohFwdIdeal.nD,
          r.2.mem ((c.tc : Thread Cert.ZohFwdIdeal.nD Cert.ZohFwdIdeal.τ).loc Cert.ZohFwdIdeal.main_v5_0) = v0 c
          ∧ r.2.mem ((c.tc : Thread Cert.ZohFwdIdeal.nD Cert.ZohFwdIdeal.τ).loc Cert.ZohFwdIdeal.main_v5_1) = v1 c
          ∧ r.2.mem ((c.tc : Thread Cert.ZohFwdIdeal.nD Cert.ZohFwdIdeal.τ).loc Cert.ZohFwdIdeal.main_v5_2) = v2 c
          ∧ r.2.mem ((c.tc : Thread Cert.ZohFwdIdeal.nD Cert.ZohFwdIdeal.τ).loc Cert.ZohFwdIdeal.main_v5_3) = v3 c
          ∧ r.2.mem ((c.tc : Thread Cert.ZohFwdIdeal.nD Cert.ZohFwdIdeal.τ).loc Cert.ZohFwdIdeal.main_v5_4) = v4 c
          ∧ r.2.mem ((c.tc : Thread Cert.ZohFwdIdeal.nD Cert.ZohFwdIdeal.τ).loc Cert.ZohFwdIdeal.main_v5_5) = v5 c
          ∧ r.2.mem ((c.tc : Thread Cert.ZohFwdIdeal.nD Cert.ZohFwdIdeal.τ).loc Cert.ZohFwdIdeal.main_v5_6) = v6 c
          ∧ r.2.mem ((c.tc : Thread Cert.ZohFwdIdeal.nD Cert.ZohFwdIdeal.τ).loc Cert.ZohFwdIdeal.main_v5_7) = v7 c
          ∧ r.2.mem ((c.tc : Thread Cert.ZohFwdIdeal.nD Cert.ZohFwdIdeal.τ).loc Cert.ZohFwdIdeal.main_v5_8) = v8 c
          ∧ r.2.mem ((c.tc : Thread Cert.ZohFwdIdeal.nD Cert.ZohFwdIdeal.τ).loc Cert.ZohFwdIdeal.main_v5_9) = v9 c
          ∧ r.2.mem ((c.tc : Thread Cert.ZohFwdIdeal.nD Cert.ZohFwdIdeal.τ).loc Cert.ZohFwdIdeal.main_arg0) = m ((c.tc : Thread Cert.ZohFwdIdeal.nD Cert.ZohFwdIdeal.τ).loc Cert.ZohFwdIdeal.main_arg0)
          ∧ r.2.mem ((c.tc : Thread Cert.ZohFwdIdeal.nD Cert.ZohFwdIdeal.τ).loc Cert.ZohFwdIdeal.main_arg1) = m ((c.tc : Thread Cert.ZohFwdIdeal.nD Cert.ZohFwdIdeal.τ).loc Cert.ZohFwdIdeal.main_arg1)
          ∧ r.2.mem ((c.tc : Thread Cert.ZohFwdIdeal.nD Cert.ZohFwdIdeal.τ).loc Cert.ZohFwdIdeal.main_arg2) = m ((c.tc : Thread Cert.ZohFwdIdeal.nD Cert.ZohFwdIdeal.τ).loc Cert.ZohFwdIdeal.main_arg2)
          ∧ r.2.mem ((c.tc : Thread Cert.ZohFwdIdeal.nD Cert.ZohFwdIdeal.τ).loc Cert.ZohFwdIdeal.main_arg3) = m ((c.tc : Thread Cert.ZohFwdIdeal.nD Cert.ZohFwdIdeal.τ).loc Cert.ZohFwdIdeal.main_arg3)
          ∧ r.2.mem ((c.tc : Thread Cert.ZohFwdIdeal.nD Cert.ZohFwdIdeal.τ).loc Cert.ZohFwdIdeal.main_arg4) = m ((c.tc : Thread Cert.ZohFwdIdeal.nD Cert.ZohFwdIdeal.τ).loc Cert.ZohFwdIdeal.main_arg4))
      ∧ θ_run (Cert.ZohFwdRefIdeal.defs (F := Ideal)) (onTc (τ := Cert.ZohFwdRefIdeal.τ) (Cert.ZohFwdRefIdeal.main (F := Ideal))) ⟨m', fun _ => 0, g'⟩ (fun r => ∀ c : Dev Cert.ZohFwdRefIdeal.nD,
          r.2.mem ((c.tc : Thread Cert.ZohFwdRefIdeal.nD Cert.ZohFwdRefIdeal.τ).loc Cert.ZohFwdRefIdeal.main_v90) = v0 c
          ∧ r.2.mem ((c.tc : Thread Cert.ZohFwdRefIdeal.nD Cert.ZohFwdRefIdeal.τ).loc Cert.ZohFwdRefIdeal.main_v91) = v1 c
          ∧ r.2.mem ((c.tc : Thread Cert.ZohFwdRefIdeal.nD Cert.ZohFwdRefIdeal.τ).loc Cert.ZohFwdRefIdeal.main_v92) = v2 c
          ∧ r.2.mem ((c.tc : Thread Cert.ZohFwdRefIdeal.nD Cert.ZohFwdRefIdeal.τ).loc Cert.ZohFwdRefIdeal.main_v93) = v3 c
          ∧ r.2.mem ((c.tc : Thread Cert.ZohFwdRefIdeal.nD Cert.ZohFwdRefIdeal.τ).loc Cert.ZohFwdRefIdeal.main_v102) = v4 c
          ∧ r.2.mem ((c.tc : Thread Cert.ZohFwdRefIdeal.nD Cert.ZohFwdRefIdeal.τ).loc Cert.ZohFwdRefIdeal.main_v111) = v5 c
          ∧ r.2.mem ((c.tc : Thread Cert.ZohFwdRefIdeal.nD Cert.ZohFwdRefIdeal.τ).loc Cert.ZohFwdRefIdeal.main_v120) = v6 c
          ∧ r.2.mem ((c.tc : Thread Cert.ZohFwdRefIdeal.nD Cert.ZohFwdRefIdeal.τ).loc Cert.ZohFwdRefIdeal.main_v129) = v7 c
          ∧ r.2.mem ((c.tc : Thread Cert.ZohFwdRefIdeal.nD Cert.ZohFwdRefIdeal.τ).loc Cert.ZohFwdRefIdeal.main_v146) = v8 c
          ∧ r.2.mem ((c.tc : Thread Cert.ZohFwdRefIdeal.nD Cert.ZohFwdRefIdeal.τ).loc Cert.ZohFwdRefIdeal.main_v159) = v9 c
          ∧ r.2.mem ((c.tc : Thread Cert.ZohFwdRefIdeal.nD Cert.ZohFwdRefIdeal.τ).loc Cert.ZohFwdRefIdeal.main_arg0) = m' ((c.tc : Thread Cert.ZohFwdRefIdeal.nD Cert.ZohFwdRefIdeal.τ).loc Cert.ZohFwdRefIdeal.main_arg0)
          ∧ r.2.mem ((c.tc : Thread Cert.ZohFwdRefIdeal.nD Cert.ZohFwdRefIdeal.τ).loc Cert.ZohFwdRefIdeal.main_arg1) = m' ((c.tc : Thread Cert.ZohFwdRefIdeal.nD Cert.ZohFwdRefIdeal.τ).loc Cert.ZohFwdRefIdeal.main_arg1)
          ∧ r.2.mem ((c.tc : Thread Cert.ZohFwdRefIdeal.nD Cert.ZohFwdRefIdeal.τ).loc Cert.ZohFwdRefIdeal.main_arg2) = m' ((c.tc : Thread Cert.ZohFwdRefIdeal.nD Cert.ZohFwdRefIdeal.τ).loc Cert.ZohFwdRefIdeal.main_arg2)
          ∧ r.2.mem ((c.tc : Thread Cert.ZohFwdRefIdeal.nD Cert.ZohFwdRefIdeal.τ).loc Cert.ZohFwdRefIdeal.main_arg3) = m' ((c.tc : Thread Cert.ZohFwdRefIdeal.nD Cert.ZohFwdRefIdeal.τ).loc Cert.ZohFwdRefIdeal.main_arg3)
          ∧ r.2.mem ((c.tc : Thread Cert.ZohFwdRefIdeal.nD Cert.ZohFwdRefIdeal.τ).loc Cert.ZohFwdRefIdeal.main_arg4) = m' ((c.tc : Thread Cert.ZohFwdRefIdeal.nD Cert.ZohFwdRefIdeal.τ).loc Cert.ZohFwdRefIdeal.main_arg4))

def preserves_MmRes_MmResIdeal : Prop :=
  True

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)) →
    ∃ (v0 : (c : Dev Cert.MmResIdeal.nD) → Buf (Elt Ideal) ((c.tc : Thread Cert.MmResIdeal.nD Cert.MmResIdeal.τ).loc Cert.MmResIdeal.main_v2)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v2) = v0 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v1) = v0 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2))

def preserves_MmNtCb_MmNtCbIdeal : Prop :=
  True

def algebraic_MmNtCbIdeal_MmNtCbRefIdeal [hMmNtCbIdeal : Cert.MmNtCbIdeal.Facts] [hMmNtCbRefIdeal : Cert.MmNtCbRefIdeal.Facts] : Prop :=
  ∀ (m : (ℓ : Loc Cert.MmNtCbIdeal.nD Cert.MmNtCbIdeal.τ Cert.MmNtCbIdeal.sig) → Buf (Elt Ideal) ℓ) (g : Dev Cert.MmNtCbIdeal.nD → PrngReg)
    (m' : (ℓ : Loc Cert.MmNtCbRefIdeal.nD Cert.MmNtCbRefIdeal.τ Cert.MmNtCbRefIdeal.sig) → Buf (Elt Ideal) ℓ) (g' : Dev Cert.MmNtCbRefIdeal.nD → PrngReg), Pre_MmNtCbIdeal m →
    (∀ c : Dev Cert.MmNtCbIdeal.nD,
      m' ((c.tc : Thread Cert.MmNtCbRefIdeal.nD Cert.MmNtCbRefIdeal.τ).loc Cert.MmNtCbRefIdeal.main_arg0) = m ((c.tc : Thread Cert.MmNtCbIdeal.nD Cert.MmNtCbIdeal.τ).loc Cert.MmNtCbIdeal.main_arg0)
      ∧ m' ((c.tc : Thread Cert.MmNtCbRefIdeal.nD Cert.MmNtCbRefIdeal.τ).loc Cert.MmNtCbRefIdeal.main_arg1) = m ((c.tc : Thread Cert.MmNtCbIdeal.nD Cert.MmNtCbIdeal.τ).loc Cert.MmNtCbIdeal.main_arg1)) →
    ∃ (v0 : (c : Dev Cert.MmNtCbIdeal.nD) → Buf (Elt Ideal) ((c.tc : Thread Cert.MmNtCbIdeal.nD Cert.MmNtCbIdeal.τ).loc Cert.MmNtCbIdeal.main_v4)),
      θ_run (Cert.MmNtCbIdeal.defs (F := Ideal)) (onTc (τ := Cert.MmNtCbIdeal.τ) (Cert.MmNtCbIdeal.main (F := Ideal))) ⟨m, fun _ => 0, g⟩ (fun r => ∀ c : Dev Cert.MmNtCbIdeal.nD,
          r.2.mem ((c.tc : Thread Cert.MmNtCbIdeal.nD Cert.MmNtCbIdeal.τ).loc Cert.MmNtCbIdeal.main_v4) = v0 c
          ∧ r.2.mem ((c.tc : Thread Cert.MmNtCbIdeal.nD Cert.MmNtCbIdeal.τ).loc Cert.MmNtCbIdeal.main_arg0) = m ((c.tc : Thread Cert.MmNtCbIdeal.nD Cert.MmNtCbIdeal.τ).loc Cert.MmNtCbIdeal.main_arg0)
          ∧ r.2.mem ((c.tc : Thread Cert.MmNtCbIdeal.nD Cert.MmNtCbIdeal.τ).loc Cert.MmNtCbIdeal.main_arg1) = m ((c.tc : Thread Cert.MmNtCbIdeal.nD Cert.MmNtCbIdeal.τ).loc Cert.MmNtCbIdeal.main_arg1))
      ∧ θ_run (Cert.MmNtCbRefIdeal.defs (F := Ideal)) (onTc (τ := Cert.MmNtCbRefIdeal.τ) (Cert.MmNtCbRefIdeal.main (F := Ideal))) ⟨m', fun _ => 0, g'⟩ (fun r => ∀ c : Dev Cert.MmNtCbRefIdeal.nD,
          r.2.mem ((c.tc : Thread Cert.MmNtCbRefIdeal.nD Cert.MmNtCbRefIdeal.τ).loc Cert.MmNtCbRefIdeal.main_v1) = v0 c
          ∧ r.2.mem ((c.tc : Thread Cert.MmNtCbRefIdeal.nD Cert.MmNtCbRefIdeal.τ).loc Cert.MmNtCbRefIdeal.main_arg0) = m' ((c.tc : Thread Cert.MmNtCbRefIdeal.nD Cert.MmNtCbRefIdeal.τ).loc Cert.MmNtCbRefIdeal.main_arg0)
          ∧ r.2.mem ((c.tc : Thread Cert.MmNtCbRefIdeal.nD Cert.MmNtCbRefIdeal.τ).loc Cert.MmNtCbRefIdeal.main_arg1) = m' ((c.tc : Thread Cert.MmNtCbRefIdeal.nD Cert.MmNtCbRefIdeal.τ).loc Cert.MmNtCbRefIdeal.main_arg1))

def preserves_MmTnCb_MmTnCbIdeal : Prop :=
  True

def algebraic_MmTnCbIdeal_MmTnCbRefIdeal [hMmTnCbIdeal : Cert.MmTnCbIdeal.Facts] [hMmTnCbRefIdeal : Cert.MmTnCbRefIdeal.Facts] : Prop :=
  ∀ (m : (ℓ : Loc Cert.MmTnCbIdeal.nD Cert.MmTnCbIdeal.τ Cert.MmTnCbIdeal.sig) → Buf (Elt Ideal) ℓ) (g : Dev Cert.MmTnCbIdeal.nD → PrngReg)
    (m' : (ℓ : Loc Cert.MmTnCbRefIdeal.nD Cert.MmTnCbRefIdeal.τ Cert.MmTnCbRefIdeal.sig) → Buf (Elt Ideal) ℓ) (g' : Dev Cert.MmTnCbRefIdeal.nD → PrngReg), Pre_MmTnCbIdeal m →
    (∀ c : Dev Cert.MmTnCbIdeal.nD,
      m' ((c.tc : Thread Cert.MmTnCbRefIdeal.nD Cert.MmTnCbRefIdeal.τ).loc Cert.MmTnCbRefIdeal.main_arg0) = m ((c.tc : Thread Cert.MmTnCbIdeal.nD Cert.MmTnCbIdeal.τ).loc Cert.MmTnCbIdeal.main_arg0)
      ∧ m' ((c.tc : Thread Cert.MmTnCbRefIdeal.nD Cert.MmTnCbRefIdeal.τ).loc Cert.MmTnCbRefIdeal.main_arg1) = m ((c.tc : Thread Cert.MmTnCbIdeal.nD Cert.MmTnCbIdeal.τ).loc Cert.MmTnCbIdeal.main_arg1)) →
    ∃ (v0 : (c : Dev Cert.MmTnCbIdeal.nD) → Buf (Elt Ideal) ((c.tc : Thread Cert.MmTnCbIdeal.nD Cert.MmTnCbIdeal.τ).loc Cert.MmTnCbIdeal.main_v2)),
      θ_run (Cert.MmTnCbIdeal.defs (F := Ideal)) (onTc (τ := Cert.MmTnCbIdeal.τ) (Cert.MmTnCbIdeal.main (F := Ideal))) ⟨m, fun _ => 0, g⟩ (fun r => ∀ c : Dev Cert.MmTnCbIdeal.nD,
          r.2.mem ((c.tc : Thread Cert.MmTnCbIdeal.nD Cert.MmTnCbIdeal.τ).loc Cert.MmTnCbIdeal.main_v2) = v0 c
          ∧ r.2.mem ((c.tc : Thread Cert.MmTnCbIdeal.nD Cert.MmTnCbIdeal.τ).loc Cert.MmTnCbIdeal.main_arg0) = m ((c.tc : Thread Cert.MmTnCbIdeal.nD Cert.MmTnCbIdeal.τ).loc Cert.MmTnCbIdeal.main_arg0)
          ∧ r.2.mem ((c.tc : Thread Cert.MmTnCbIdeal.nD Cert.MmTnCbIdeal.τ).loc Cert.MmTnCbIdeal.main_arg1) = m ((c.tc : Thread Cert.MmTnCbIdeal.nD Cert.MmTnCbIdeal.τ).loc Cert.MmTnCbIdeal.main_arg1))
      ∧ θ_run (Cert.MmTnCbRefIdeal.defs (F := Ideal)) (onTc (τ := Cert.MmTnCbRefIdeal.τ) (Cert.MmTnCbRefIdeal.main (F := Ideal))) ⟨m', fun _ => 0, g'⟩ (fun r => ∀ c : Dev Cert.MmTnCbRefIdeal.nD,
          r.2.mem ((c.tc : Thread Cert.MmTnCbRefIdeal.nD Cert.MmTnCbRefIdeal.τ).loc Cert.MmTnCbRefIdeal.main_v4) = v0 c
          ∧ r.2.mem ((c.tc : Thread Cert.MmTnCbRefIdeal.nD Cert.MmTnCbRefIdeal.τ).loc Cert.MmTnCbRefIdeal.main_arg0) = m' ((c.tc : Thread Cert.MmTnCbRefIdeal.nD Cert.MmTnCbRefIdeal.τ).loc Cert.MmTnCbRefIdeal.main_arg0)
          ∧ r.2.mem ((c.tc : Thread Cert.MmTnCbRefIdeal.nD Cert.MmTnCbRefIdeal.τ).loc Cert.MmTnCbRefIdeal.main_arg1) = m' ((c.tc : Thread Cert.MmTnCbRefIdeal.nD Cert.MmTnCbRefIdeal.τ).loc Cert.MmTnCbRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_ScanFwd_ScanFwdIdeal : Prop :=
  True

def preserves_BdAll_BdAllIdeal : Prop :=
  True

def algebraic_BdAllIdeal_BdAllRefIdeal [hBdAllIdeal : Cert.BdAllIdeal.Facts] [hBdAllRefIdeal : Cert.BdAllRefIdeal.Facts] : Prop :=
  ∀ (m : (ℓ : Loc Cert.BdAllIdeal.nD Cert.BdAllIdeal.τ Cert.BdAllIdeal.sig) → Buf (Elt Ideal) ℓ) (g : Dev Cert.BdAllIdeal.nD → PrngReg)
    (m' : (ℓ : Loc Cert.BdAllRefIdeal.nD Cert.BdAllRefIdeal.τ Cert.BdAllRefIdeal.sig) → Buf (Elt Ideal) ℓ) (g' : Dev Cert.BdAllRefIdeal.nD → PrngReg), Pre_BdAllIdeal m →
    (∀ c : Dev Cert.BdAllIdeal.nD,
      m' ((c.tc : Thread Cert.BdAllRefIdeal.nD Cert.BdAllRefIdeal.τ).loc Cert.BdAllRefIdeal.main_arg0) = m ((c.tc : Thread Cert.BdAllIdeal.nD Cert.BdAllIdeal.τ).loc Cert.BdAllIdeal.main_arg0)
      ∧ m' ((c.tc : Thread Cert.BdAllRefIdeal.nD Cert.BdAllRefIdeal.τ).loc Cert.BdAllRefIdeal.main_arg1) = m ((c.tc : Thread Cert.BdAllIdeal.nD Cert.BdAllIdeal.τ).loc Cert.BdAllIdeal.main_arg1)
      ∧ m' ((c.tc : Thread Cert.BdAllRefIdeal.nD Cert.BdAllRefIdeal.τ).loc Cert.BdAllRefIdeal.main_arg2) = m ((c.tc : Thread Cert.BdAllIdeal.nD Cert.BdAllIdeal.τ).loc Cert.BdAllIdeal.main_arg2)
      ∧ m' ((c.tc : Thread Cert.BdAllRefIdeal.nD Cert.BdAllRefIdeal.τ).loc Cert.BdAllRefIdeal.main_arg3) = m ((c.tc : Thread Cert.BdAllIdeal.nD Cert.BdAllIdeal.τ).loc Cert.BdAllIdeal.main_arg3)) →
    ∃ (v0 : (c : Dev Cert.BdAllIdeal.nD) → Buf (Elt Ideal) ((c.tc : Thread Cert.BdAllIdeal.nD Cert.BdAllIdeal.τ).loc Cert.BdAllIdeal.main_v0_0)) (v1 : (c : Dev Cert.BdAllIdeal.nD) → Buf (Elt Ideal) ((c.tc : Thread Cert.BdAllIdeal.nD Cert.BdAllIdeal.τ).loc Cert.BdAllIdeal.main_v0_1)) (v2 : (c : Dev Cert.BdAllIdeal.nD) → Buf (Elt Ideal) ((c.tc : Thread Cert.BdAllIdeal.nD Cert.BdAllIdeal.τ).loc Cert.BdAllIdeal.main_v0_2)) (v3 : (c : Dev Cert.BdAllIdeal.nD) → Buf (Elt Ideal) ((c.tc : Thread Cert.BdAllIdeal.nD Cert.BdAllIdeal.τ).loc Cert.BdAllIdeal.main_v0_3)),
      θ_run (Cert.BdAllIdeal.defs (F := Ideal)) (onTc (τ := Cert.BdAllIdeal.τ) (Cert.BdAllIdeal.main (F := Ideal))) ⟨m, fun _ => 0, g⟩ (fun r => ∀ c : Dev Cert.BdAllIdeal.nD,
          r.2.mem ((c.tc : Thread Cert.BdAllIdeal.nD Cert.BdAllIdeal.τ).loc Cert.BdAllIdeal.main_v0_0) = v0 c
          ∧ r.2.mem ((c.tc : Thread Cert.BdAllIdeal.nD Cert.BdAllIdeal.τ).loc Cert.BdAllIdeal.main_v0_1) = v1 c
          ∧ r.2.mem ((c.tc : Thread Cert.BdAllIdeal.nD Cert.BdAllIdeal.τ).loc Cert.BdAllIdeal.main_v0_2) = v2 c
          ∧ r.2.mem ((c.tc : Thread Cert.BdAllIdeal.nD Cert.BdAllIdeal.τ).loc Cert.BdAllIdeal.main_v0_3) = v3 c
          ∧ r.2.mem ((c.tc : Thread Cert.BdAllIdeal.nD Cert.BdAllIdeal.τ).loc Cert.BdAllIdeal.main_arg0) = m ((c.tc : Thread Cert.BdAllIdeal.nD Cert.BdAllIdeal.τ).loc Cert.BdAllIdeal.main_arg0)
          ∧ r.2.mem ((c.tc : Thread Cert.BdAllIdeal.nD Cert.BdAllIdeal.τ).loc Cert.BdAllIdeal.main_arg1) = m ((c.tc : Thread Cert.BdAllIdeal.nD Cert.BdAllIdeal.τ).loc Cert.BdAllIdeal.main_arg1)
          ∧ r.2.mem ((c.tc : Thread Cert.BdAllIdeal.nD Cert.BdAllIdeal.τ).loc Cert.BdAllIdeal.main_arg2) = m ((c.tc : Thread Cert.BdAllIdeal.nD Cert.BdAllIdeal.τ).loc Cert.BdAllIdeal.main_arg2)
          ∧ r.2.mem ((c.tc : Thread Cert.BdAllIdeal.nD Cert.BdAllIdeal.τ).loc Cert.BdAllIdeal.main_arg3) = m ((c.tc : Thread Cert.BdAllIdeal.nD Cert.BdAllIdeal.τ).loc Cert.BdAllIdeal.main_arg3))
      ∧ θ_run (Cert.BdAllRefIdeal.defs (F := Ideal)) (onTc (τ := Cert.BdAllRefIdeal.τ) (Cert.BdAllRefIdeal.main (F := Ideal))) ⟨m', fun _ => 0, g'⟩ (fun r => ∀ c : Dev Cert.BdAllRefIdeal.nD,
          r.2.mem ((c.tc : Thread Cert.BdAllRefIdeal.nD Cert.BdAllRefIdeal.τ).loc Cert.BdAllRefIdeal.main_v9) = v0 c
          ∧ r.2.mem ((c.tc : Thread Cert.BdAllRefIdeal.nD Cert.BdAllRefIdeal.τ).loc Cert.BdAllRefIdeal.main_v19) = v1 c
          ∧ r.2.mem ((c.tc : Thread Cert.BdAllRefIdeal.nD Cert.BdAllRefIdeal.τ).loc Cert.BdAllRefIdeal.main_v29) = v2 c
          ∧ r.2.mem ((c.tc : Thread Cert.BdAllRefIdeal.nD Cert.BdAllRefIdeal.τ).loc Cert.BdAllRefIdeal.main_v39) = v3 c
          ∧ r.2.mem ((c.tc : Thread Cert.BdAllRefIdeal.nD Cert.BdAllRefIdeal.τ).loc Cert.BdAllRefIdeal.main_arg0) = m' ((c.tc : Thread Cert.BdAllRefIdeal.nD Cert.BdAllRefIdeal.τ).loc Cert.BdAllRefIdeal.main_arg0)
          ∧ r.2.mem ((c.tc : Thread Cert.BdAllRefIdeal.nD Cert.BdAllRefIdeal.τ).loc Cert.BdAllRefIdeal.main_arg1) = m' ((c.tc : Thread Cert.BdAllRefIdeal.nD Cert.BdAllRefIdeal.τ).loc Cert.BdAllRefIdeal.main_arg1)
          ∧ r.2.mem ((c.tc : Thread Cert.BdAllRefIdeal.nD Cert.BdAllRefIdeal.τ).loc Cert.BdAllRefIdeal.main_arg2) = m' ((c.tc : Thread Cert.BdAllRefIdeal.nD Cert.BdAllRefIdeal.τ).loc Cert.BdAllRefIdeal.main_arg2)
          ∧ r.2.mem ((c.tc : Thread Cert.BdAllRefIdeal.nD Cert.BdAllRefIdeal.τ).loc Cert.BdAllRefIdeal.main_arg3) = m' ((c.tc : Thread Cert.BdAllRefIdeal.nD Cert.BdAllRefIdeal.τ).loc Cert.BdAllRefIdeal.main_arg3))

def preserves_ToSlot_ToSlotIdeal : Prop :=
  True

def algebraic_ToSlotIdeal_ToSlotRefIdeal [hToSlotIdeal : Cert.ToSlotIdeal.Facts] [hToSlotRefIdeal : Cert.ToSlotRefIdeal.Facts] : Prop :=
  ∀ (m : (ℓ : Loc Cert.ToSlotIdeal.nD Cert.ToSlotIdeal.τ Cert.ToSlotIdeal.sig) → Buf (Elt Ideal) ℓ) (g : Dev Cert.ToSlotIdeal.nD → PrngReg)
    (m' : (ℓ : Loc Cert.ToSlotRefIdeal.nD Cert.ToSlotRefIdeal.τ Cert.ToSlotRefIdeal.sig) → Buf (Elt Ideal) ℓ) (g' : Dev Cert.ToSlotRefIdeal.nD → PrngReg), Pre_ToSlotIdeal m →
    (∀ c : Dev Cert.ToSlotIdeal.nD,
      m' ((c.tc : Thread Cert.ToSlotRefIdeal.nD Cert.ToSlotRefIdeal.τ).loc Cert.ToSlotRefIdeal.main_arg0) = m ((c.tc : Thread Cert.ToSlotIdeal.nD Cert.ToSlotIdeal.τ).loc Cert.ToSlotIdeal.main_arg0)) →
    ∃ (v0 : (c : Dev Cert.ToSlotIdeal.nD) → Buf (Elt Ideal) ((c.tc : Thread Cert.ToSlotIdeal.nD Cert.ToSlotIdeal.τ).loc Cert.ToSlotIdeal.main_v2)),
      θ_run (Cert.ToSlotIdeal.defs (F := Ideal)) (onTc (τ := Cert.ToSlotIdeal.τ) (Cert.ToSlotIdeal.main (F := Ideal))) ⟨m, fun _ => 0, g⟩ (fun r => ∀ c : Dev Cert.ToSlotIdeal.nD,
          r.2.mem ((c.tc : Thread Cert.ToSlotIdeal.nD Cert.ToSlotIdeal.τ).loc Cert.ToSlotIdeal.main_v2) = v0 c
          ∧ r.2.mem ((c.tc : Thread Cert.ToSlotIdeal.nD Cert.ToSlotIdeal.τ).loc Cert.ToSlotIdeal.main_arg0) = m ((c.tc : Thread Cert.ToSlotIdeal.nD Cert.ToSlotIdeal.τ).loc Cert.ToSlotIdeal.main_arg0))
      ∧ θ_run (Cert.ToSlotRefIdeal.defs (F := Ideal)) (onTc (τ := Cert.ToSlotRefIdeal.τ) (Cert.ToSlotRefIdeal.main (F := Ideal))) ⟨m', fun _ => 0, g'⟩ (fun r => ∀ c : Dev Cert.ToSlotRefIdeal.nD,
          r.2.mem ((c.tc : Thread Cert.ToSlotRefIdeal.nD Cert.ToSlotRefIdeal.τ).loc Cert.ToSlotRefIdeal.main_v2) = v0 c
          ∧ r.2.mem ((c.tc : Thread Cert.ToSlotRefIdeal.nD Cert.ToSlotRefIdeal.τ).loc Cert.ToSlotRefIdeal.main_arg0) = m' ((c.tc : Thread Cert.ToSlotRefIdeal.nD Cert.ToSlotRefIdeal.τ).loc Cert.ToSlotRefIdeal.main_arg0))

def Claim : Prop :=
  ∃ (hGlu : Cert.Glu.Facts) (hGluIdeal : Cert.GluIdeal.Facts) (hGluRefIdeal : Cert.GluRefIdeal.Facts) (hSqRelu : Cert.SqRelu.Facts) (hSqReluIdeal : Cert.SqReluIdeal.Facts) (hSqReluRefIdeal : Cert.SqReluRefIdeal.Facts) (hBlockDiag : Cert.BlockDiag.Facts) (hBlockDiagIdeal : Cert.BlockDiagIdeal.Facts) (hBlockDiagRefIdeal : Cert.BlockDiagRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hGla : Cert.Gla.Facts) (hGlaIdeal : Cert.GlaIdeal.Facts) (hGlaRefIdeal : Cert.GlaRefIdeal.Facts) (hAct : Cert.Act.Facts) (hActIdeal : Cert.ActIdeal.Facts) (hActRefIdeal : Cert.ActRefIdeal.Facts) (hZoh : Cert.Zoh.Facts) (hZohIdeal : Cert.ZohIdeal.Facts) (hZohRefIdeal : Cert.ZohRefIdeal.Facts) (hScan : Cert.Scan.Facts) (hScanIdeal : Cert.ScanIdeal.Facts) (hGlaFwd : Cert.GlaFwd.Facts) (hGlaFwdIdeal : Cert.GlaFwdIdeal.Facts) (hGlaFwdRefIdeal : Cert.GlaFwdRefIdeal.Facts) (hRmsFwd : Cert.RmsFwd.Facts) (hRmsFwdIdeal : Cert.RmsFwdIdeal.Facts) (hRmsFwdRefIdeal : Cert.RmsFwdRefIdeal.Facts) (hActFwd : Cert.ActFwd.Facts) (hActFwdIdeal : Cert.ActFwdIdeal.Facts) (hActFwdRefIdeal : Cert.ActFwdRefIdeal.Facts) (hGluFwd : Cert.GluFwd.Facts) (hGluFwdIdeal : Cert.GluFwdIdeal.Facts) (hGluFwdRefIdeal : Cert.GluFwdRefIdeal.Facts) (hSqReluFwd : Cert.SqReluFwd.Facts) (hSqReluFwdIdeal : Cert.SqReluFwdIdeal.Facts) (hSqReluFwdRefIdeal : Cert.SqReluFwdRefIdeal.Facts) (hZohFwd : Cert.ZohFwd.Facts) (hZohFwdIdeal : Cert.ZohFwdIdeal.Facts) (hZohFwdRefIdeal : Cert.ZohFwdRefIdeal.Facts) (hMmRes : Cert.MmRes.Facts) (hMmResIdeal : Cert.MmResIdeal.Facts) (hMmResRefIdeal : Cert.MmResRefIdeal.Facts) (hMmNtCb : Cert.MmNtCb.Facts) (hMmNtCbIdeal : Cert.MmNtCbIdeal.Facts) (hMmNtCbRefIdeal : Cert.MmNtCbRefIdeal.Facts) (hMmTnCb : Cert.MmTnCb.Facts) (hMmTnCbIdeal : Cert.MmTnCbIdeal.Facts) (hMmTnCbRefIdeal : Cert.MmTnCbRefIdeal.Facts) (hAdamw : Cert.Adamw.Facts) (hAdamwIdeal : Cert.AdamwIdeal.Facts) (hAdamwRefIdeal : Cert.AdamwRefIdeal.Facts) (hScanFwd : Cert.ScanFwd.Facts) (hScanFwdIdeal : Cert.ScanFwdIdeal.Facts) (hBdAll : Cert.BdAll.Facts) (hBdAllIdeal : Cert.BdAllIdeal.Facts) (hBdAllRefIdeal : Cert.BdAllRefIdeal.Facts) (hToSlot : Cert.ToSlot.Facts) (hToSlotIdeal : Cert.ToSlotIdeal.Facts) (hToSlotRefIdeal : Cert.ToSlotRefIdeal.Facts) (hPre_finite_rms : Cert.Pre_finite_rms.Facts) (hPre_finite_loss : Cert.Pre_finite_loss.Facts) (hPre_finite_gla : Cert.Pre_finite_gla.Facts) (hPre_finite_zohfwd : Cert.Pre_finite_zohfwd.Facts),
    quiescent_Glu (hGlu := hGlu)
    ∧ quiescent_GluIdeal (hGluIdeal := hGluIdeal)
    ∧ quiescent_GluRefIdeal (hGluRefIdeal := hGluRefIdeal)
    ∧ quiescent_SqRelu (hSqRelu := hSqRelu)
    ∧ quiescent_SqReluIdeal (hSqReluIdeal := hSqReluIdeal)
    ∧ quiescent_SqReluRefIdeal (hSqReluRefIdeal := hSqReluRefIdeal)
    ∧ quiescent_BlockDiag (hBlockDiag := hBlockDiag)
    ∧ quiescent_BlockDiagIdeal (hBlockDiagIdeal := hBlockDiagIdeal)
    ∧ quiescent_BlockDiagRefIdeal (hBlockDiagRefIdeal := hBlockDiagRefIdeal)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Gla (hGla := hGla)
    ∧ quiescent_GlaIdeal (hGlaIdeal := hGlaIdeal)
    ∧ quiescent_GlaIdeal_pre_finite_gla (hGlaIdeal := hGlaIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ quiescent_Act (hAct := hAct)
    ∧ quiescent_ActIdeal (hActIdeal := hActIdeal)
    ∧ quiescent_ActRefIdeal (hActRefIdeal := hActRefIdeal)
    ∧ quiescent_Zoh (hZoh := hZoh)
    ∧ quiescent_ZohIdeal (hZohIdeal := hZohIdeal)
    ∧ quiescent_ZohRefIdeal (hZohRefIdeal := hZohRefIdeal)
    ∧ quiescent_Scan (hScan := hScan)
    ∧ quiescent_ScanIdeal (hScanIdeal := hScanIdeal)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_SqReluFwd (hSqReluFwd := hSqReluFwd)
    ∧ quiescent_SqReluFwdIdeal (hSqReluFwdIdeal := hSqReluFwdIdeal)
    ∧ quiescent_SqReluFwdRefIdeal (hSqReluFwdRefIdeal := hSqReluFwdRefIdeal)
    ∧ quiescent_ZohFwd (hZohFwd := hZohFwd)
    ∧ quiescent_ZohFwdIdeal (hZohFwdIdeal := hZohFwdIdeal)
    ∧ quiescent_ZohFwdIdeal_pre_finite_zohfwd (hZohFwdIdeal := hZohFwdIdeal) (hPre_finite_zohfwd := hPre_finite_zohfwd)
    ∧ quiescent_ZohFwdRefIdeal (hZohFwdRefIdeal := hZohFwdRefIdeal)
    ∧ quiescent_ZohFwdRefIdeal_pre_finite_zohfwd (hZohFwdRefIdeal := hZohFwdRefIdeal) (hPre_finite_zohfwd := hPre_finite_zohfwd)
    ∧ quiescent_MmRes (hMmRes := hMmRes)
    ∧ quiescent_MmResIdeal (hMmResIdeal := hMmResIdeal)
    ∧ quiescent_MmResRefIdeal (hMmResRefIdeal := hMmResRefIdeal)
    ∧ quiescent_MmNtCb (hMmNtCb := hMmNtCb)
    ∧ quiescent_MmNtCbIdeal (hMmNtCbIdeal := hMmNtCbIdeal)
    ∧ quiescent_MmNtCbRefIdeal (hMmNtCbRefIdeal := hMmNtCbRefIdeal)
    ∧ quiescent_MmTnCb (hMmTnCb := hMmTnCb)
    ∧ quiescent_MmTnCbIdeal (hMmTnCbIdeal := hMmTnCbIdeal)
    ∧ quiescent_MmTnCbRefIdeal (hMmTnCbRefIdeal := hMmTnCbRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_ScanFwd (hScanFwd := hScanFwd)
    ∧ quiescent_ScanFwdIdeal (hScanFwdIdeal := hScanFwdIdeal)
    ∧ quiescent_BdAll (hBdAll := hBdAll)
    ∧ quiescent_BdAllIdeal (hBdAllIdeal := hBdAllIdeal)
    ∧ quiescent_BdAllRefIdeal (hBdAllRefIdeal := hBdAllRefIdeal)
    ∧ quiescent_ToSlot (hToSlot := hToSlot)
    ∧ quiescent_ToSlotIdeal (hToSlotIdeal := hToSlotIdeal)
    ∧ quiescent_ToSlotRefIdeal (hToSlotRefIdeal := hToSlotRefIdeal)
    ∧ preserves_Glu_GluIdeal
    ∧ algebraic_GluIdeal_GluRefIdeal (hGluIdeal := hGluIdeal) (hGluRefIdeal := hGluRefIdeal)
    ∧ preserves_SqRelu_SqReluIdeal
    ∧ algebraic_SqReluIdeal_SqReluRefIdeal (hSqReluIdeal := hSqReluIdeal) (hSqReluRefIdeal := hSqReluRefIdeal)
    ∧ preserves_BlockDiag_BlockDiagIdeal
    ∧ algebraic_BlockDiagIdeal_BlockDiagRefIdeal (hBlockDiagIdeal := hBlockDiagIdeal) (hBlockDiagRefIdeal := hBlockDiagRefIdeal)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Gla_GlaIdeal
    ∧ algebraic_GlaIdeal_GlaRefIdeal_pre_finite_gla (hGlaIdeal := hGlaIdeal) (hGlaRefIdeal := hGlaRefIdeal) (hPre_finite_gla := hPre_finite_gla)
    ∧ preserves_Act_ActIdeal
    ∧ algebraic_ActIdeal_ActRefIdeal (hActIdeal := hActIdeal) (hActRefIdeal := hActRefIdeal)
    ∧ preserves_Zoh_ZohIdeal
    ∧ algebraic_ZohIdeal_ZohRefIdeal (hZohIdeal := hZohIdeal) (hZohRefIdeal := hZohRefIdeal)
    ∧ preserves_Scan_ScanIdeal
    ∧ preserves_GlaFwd_GlaFwdIdeal
    ∧ algebraic_GlaFwdIdeal_GlaFwdRefIdeal (hGlaFwdIdeal := hGlaFwdIdeal) (hGlaFwdRefIdeal := hGlaFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_ActFwd_ActFwdIdeal
    ∧ algebraic_ActFwdIdeal_ActFwdRefIdeal (hActFwdIdeal := hActFwdIdeal) (hActFwdRefIdeal := hActFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_SqReluFwd_SqReluFwdIdeal
    ∧ algebraic_SqReluFwdIdeal_SqReluFwdRefIdeal (hSqReluFwdIdeal := hSqReluFwdIdeal) (hSqReluFwdRefIdeal := hSqReluFwdRefIdeal)
    ∧ preserves_ZohFwd_ZohFwdIdeal
    ∧ algebraic_ZohFwdIdeal_ZohFwdRefIdeal_pre_finite_zohfwd (hZohFwdIdeal := hZohFwdIdeal) (hZohFwdRefIdeal := hZohFwdRefIdeal) (hPre_finite_zohfwd := hPre_finite_zohfwd)
    ∧ preserves_MmRes_MmResIdeal
    ∧ algebraic_MmResIdeal_MmResRefIdeal (hMmResIdeal := hMmResIdeal) (hMmResRefIdeal := hMmResRefIdeal)
    ∧ preserves_MmNtCb_MmNtCbIdeal
    ∧ algebraic_MmNtCbIdeal_MmNtCbRefIdeal (hMmNtCbIdeal := hMmNtCbIdeal) (hMmNtCbRefIdeal := hMmNtCbRefIdeal)
    ∧ preserves_MmTnCb_MmTnCbIdeal
    ∧ algebraic_MmTnCbIdeal_MmTnCbRefIdeal (hMmTnCbIdeal := hMmTnCbIdeal) (hMmTnCbRefIdeal := hMmTnCbRefIdeal)
    ∧ preserves_Adamw_AdamwIdeal
    ∧ algebraic_AdamwIdeal_AdamwRefIdeal (hAdamwIdeal := hAdamwIdeal) (hAdamwRefIdeal := hAdamwRefIdeal)
    ∧ preserves_ScanFwd_ScanFwdIdeal
    ∧ preserves_BdAll_BdAllIdeal
    ∧ algebraic_BdAllIdeal_BdAllRefIdeal (hBdAllIdeal := hBdAllIdeal) (hBdAllRefIdeal := hBdAllRefIdeal)
    ∧ preserves_ToSlot_ToSlotIdeal
    ∧ algebraic_ToSlotIdeal_ToSlotRefIdeal (hToSlotIdeal := hToSlotIdeal) (hToSlotRefIdeal := hToSlotRefIdeal)
-- ==== Pre_finite_gla.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x2048 : Shape := ⟨2, ![2048, 2048]⟩
abbrev S_ : Shape := ⟨0, ![]⟩

class Facts : Prop where
  bcast_S_S2048x6160 : S_.BroadcastsInDim S2048x6160 (![] : Fin 0 → Fin S2048x6160.rank)
  bcast_S_S16x1024 : S_.BroadcastsInDim S16x1024 (![] : Fin 0 → Fin S16x1024.rank)
  bcast_S_S1024 : S_.BroadcastsInDim S1024 (![] : Fin 0 → Fin S1024.rank)
  bcast_S_S512 : S_.BroadcastsInDim S512 (![] : Fin 0 → Fin S512.rank)
  bcast_S_S2048x2048 : S_.BroadcastsInDim S2048x2048 (![] : Fin 0 → Fin S2048x2048.rank)

variable [Facts]

def fn {F : FTy → Type} [FloatOps F] (main_arg0 : FVec F S2048x6160 .f32) (main_arg1 : FVec F S16x1024 .f32) (main_arg2 : FVec F S1024 .f32) (main_arg3 : FVec F S512 .f32) (main_arg4 : FVec F S2048x2048 .f32) : IVec S2048x6160 1 × IVec S16x1024 1 × IVec S1024 1 × IVec S512 1 × IVec S2048x2048 1 :=
  let main_v0 : FVec F S2048x6160 .f32 := Host.absf main_arg0
  let main_cst : FVec F S_ .f32 := constant S_ .f32 0x7F800000#32
  let main_v1 : FVec F S2048x6160 .f32 := broadcastInDim S2048x6160 ![] bcast_S_S2048x6160 main_cst
  let main_v2 : IVec S2048x6160 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_finite_loss.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048 .f32) : IVec S2048x2048 1 × IVec S2048x2048 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_finite_rms.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048x2048 .f32) (main_arg3 : FVec F S2048 .f32) : IVec S2048x2048 1 × IVec S2048x2048 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_finite_zohfwd.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)

variable [Facts]

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) : IVec S64x64 1 :=
  let main_v0 : FVec F S64x64 .f32 := Host.absf main_arg1
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  main_v2
-- ==== Glu.lean ====
abbrev S2048x4096 : Shape := ⟨2, ![2048, 4096]⟩
abbrev S2048x2048 : Shape := ⟨2, ![2048, 2048]⟩
abbrev S128x4096 : Shape := ⟨2, ![128, 4096]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .bf16⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x4096, .bf16⟩
  | .local _ .vmem, ⟨5, _⟩ => ⟨S128x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SqRelu.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqReluRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x2048, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== BlockDiag.lean ====
abbrev S2048x1024 : Shape := ⟨2, ![2048, 1024]⟩
abbrev S2048x4096 : Shape := ⟨2, ![2048, 4096]⟩
abbrev S4x256x64 : Shape := ⟨3, ![4, 256, 64]⟩
abbrev S1024x256 : Shape := ⟨2, ![1024, 256]⟩
abbrev S1024x1024 : Shape := ⟨2, ![1024, 1024]⟩
abbrev S1x256x64 : Shape := ⟨3, ![1, 256, 64]⟩
abbrev S256x1024 : Shape := ⟨2, ![256, 1024]⟩
abbrev S1024x64 : Shape := ⟨2, ![1024, 64]⟩
abbrev S256x64 : Shape := ⟨2, ![256, 64]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4x256x64, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S1x256x64, .f32⟩
  | .local _ .vmem, ⟨5, _⟩ => ⟨S1x256x64, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== BlockDiagRefIdeal.lean ====
abbrev S2048x1024 : Shape := ⟨2, ![2048, 1024]⟩
abbrev S2048x4096 : Shape := ⟨2, ![2048, 4096]⟩
abbrev S_ : Shape := ⟨0, ![]⟩
abbrev S64x64x16 : Shape := ⟨3, ![64, 64, 16]⟩
abbrev S1x2048x64x16 : Shape := ⟨4, ![1, 2048, 64, 16]⟩
abbrev S64x1x2048x64 : Shape := ⟨4, ![64, 1, 2048, 64]⟩
abbrev S1x2048x64x64 : Shape := ⟨4, ![1, 2048, 64, 64]⟩
abbrev S64x16x64 : Shape := ⟨3, ![64, 16, 64]⟩
abbrev S4x256x64 : Shape := ⟨3, ![4, 256, 64]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S64x64x16, .f32⟩
  | .hbm, ⟨4, _⟩ => ⟨S1x2048x64x16, .f32⟩
  | .hbm, ⟨5, _⟩ => ⟨S64x1x2048x64, .f32⟩
  | .hbm, ⟨6, _⟩ => ⟨S1x2048x64x64, .f32⟩
  | .hbm, ⟨7, _⟩ => ⟨S1x2048x64x64, .f32⟩
  | .hbm, ⟨8, _⟩ => ⟨S64x1x2048x64, .f32⟩
  | .hbm, ⟨9, _⟩ => ⟨S64x64x16, .f32⟩
  | .hbm, ⟨10, _⟩ => ⟨S64x16x64, .f32⟩
  | .hbm, ⟨11, _⟩ => ⟨S4x256x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Rms.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S1x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S2048x2048, .bf16⟩
  | .hbm, ⟨93, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Gla.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x2048 : Shape := ⟨2, ![2048, 2048]⟩
abbrev S2048x1024 : Shape := ⟨2, ![2048, 1024]⟩
abbrev S2048x16 : Shape := ⟨2, ![2048, 16]⟩
abbrev S1x1024 : Shape := ⟨2, ![1, 1024]⟩
abbrev S_ : Shape := ⟨0, ![]⟩
abbrev S32x64x4x256 : Shape := ⟨4, ![32, 64, 4, 256]⟩
abbrev S32x4x64x256 : Shape := ⟨4, ![32, 4, 64, 256]⟩
abbrev S32x64x4x512 : Shape := ⟨4, ![32, 64, 4, 512]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S32x4x256x512 : Shape := ⟨4, ![32, 4, 256, 512]⟩
abbrev S32x4x256x1 : Shape := ⟨4, ![32, 4, 256, 1]⟩
abbrev S1x4x256x512 : Shape := ⟨4, ![1, 4, 256, 512]⟩
abbrev S16x4x256x512 : Shape := ⟨4, ![16, 4, 256, 512]⟩
abbrev S4x32x512x256 : Shape := ⟨4, ![4, 32, 512, 256]⟩
abbrev S2048x6272 : Shape := ⟨2, ![2048, 6272]⟩
abbrev S128x1024 : Shape := ⟨2, ![128, 1024]⟩
abbrev S1x512 : Shape := ⟨2, ![1, 512]⟩
abbrev S64x1024 : Shape := ⟨2, ![64, 1024]⟩
abbrev S64x2048 : Shape := ⟨2, ![64, 2048]⟩
abbrev S64x128 : Shape := ⟨2, ![64, 128]⟩
abbrev S4x1x512x256 : Shape := ⟨4, ![4, 1, 512, 256]⟩
abbrev S64x6272 : Shape := ⟨2, ![64, 6272]⟩
abbrev S4x512x256 : Shape := ⟨3, ![4, 512, 256]⟩
abbrev S64x64 : Shape := ⟨2, ![64, 64]⟩
abbrev S64x256 : Shape := ⟨2, ![64, 256]⟩
abbrev S1x1x512x256 : Shape := ⟨4, ![1, 1, 512, 256]⟩
abbrev S512x256 : Shape := ⟨2, ![512, 256]⟩
abbrev S64x512 : Shape := ⟨2, ![64, 512]⟩
abbrev S64 : Shape := ⟨1, ![64]⟩
abbrev S64x1 : Shape := ⟨2, ![64, 1]⟩
abbrev S1x512x256 : Shape := ⟨3, ![1, 512, 256]⟩
abbrev S1x256 : Shape := ⟨2, ![1, 256]⟩
abbrev S256 : Shape := ⟨1, ![256]⟩

abbrev nBuf : Space → Nat
  | .hbm => 197
  | .vmem => 26
  | .smem => 0
  | _ => 0

abbrev hbmTy0_0 (i : Nat) : BufTy := match i % 128 with
  | 0 => ⟨S2048x6160, .f32⟩
  | 1 => ⟨S16x1024, .f32⟩
  | 2 => ⟨S1024, .f32⟩
  | 3 => ⟨S512, .f32⟩
  | 4 => ⟨S2048x2048, .f32⟩
  | 5 => ⟨S2048x1024, .f32⟩
  | 6 => ⟨S2048x2048, .f32⟩
  | 7 => ⟨S2048x16, .f32⟩
  | 8 => ⟨S2048x1024, .f32⟩
  | 9 => ⟨S1x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .i1⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S32x64x4x256, .f32⟩
  | 32 => ⟨S32x4x64x256, .f32⟩
  | 33 => ⟨S32x64x4x512, .f32⟩
  | 34 => ⟨S32x4x64x512, .f32⟩
  | 35 => ⟨S32x64x4x256, .f32⟩
  | 36 => ⟨S32x4x64x256, .f32⟩
  | 37 => ⟨S_, .f32⟩
  | 38 => ⟨S_, .f32⟩
  | 39 => ⟨S32x4x64x256, .f32⟩
  | 40 => ⟨S32x4x1x256, .f32⟩
  | 41 => ⟨S32x4x64x256, .f32⟩
  | 42 => ⟨S32x4x64x256, .f32⟩
  | 43 => ⟨S32x4x64x256, .f32⟩
  | 44 => ⟨S32x4x64x256, .f32⟩
  | 45 => ⟨S32x4x256, .f32⟩
  | 46 => ⟨S32x4x256, .f32⟩
  | 47 => ⟨S32x4x256x512, .f32⟩
  | 48 => ⟨S32x4x256x1, .f32⟩
  | 49 => ⟨S32x4x256x512, .f32⟩
  | 50 => ⟨S_, .f32⟩
  | 51 => ⟨S1x4x256x512, .f32⟩
  | 52 => ⟨S1x4x256x512, .f32⟩
  | 53 => ⟨S1x4x256x512, .f32⟩
  | 54 => ⟨S1x4x256x512, .f32⟩
  | 55 => ⟨S1x4x256x512, .f32⟩
  | 56 => ⟨S1x4x256x512, .f32⟩
  | 57 => ⟨S1x4x256x512, .f32⟩
  | 58 => ⟨S1x4x256x512, .f32⟩
  | 59 => ⟨S1x4x256x512, .f32⟩
  | 60 => ⟨S1x4x256x512, .f32⟩
  | 61 => ⟨S1x4x256x512, .f32⟩
  | 62 => ⟨S1x4x256x512, .f32⟩
  | 63 => ⟨S1x4x256x512, .f32⟩
  | 64 => ⟨S1x4x256x512, .f32⟩
  | 65 => ⟨S1x4x256x512, .f32⟩
  | 66 => ⟨S1x4x256x512, .f32⟩
  | 67 => ⟨S1x4x256x512, .f32⟩
  | 68 => ⟨S1x4x256x512, .f32⟩
  | 69 => ⟨S1x4x256x512, .f32⟩
  | 70 => ⟨S1x4x256x512, .f32⟩
  | 71 => ⟨S1x4x256x512, .f32⟩
  | 72 => ⟨S1x4x256x512, .f32⟩
  | 73 => ⟨S1x4x256x512, .f32⟩
  | 74 => ⟨S1x4x256x512, .f32⟩
  | 75 => ⟨S1x4x256x512, .f32⟩
  | 76 => ⟨S1x4x256x512, .f32⟩
  | 77 => ⟨S1x4x256x512, .f32⟩
  | 78 => ⟨S1x4x256x512, .f32⟩
  | 79 => ⟨S1x4x256x512, .f32⟩
  | 80 => ⟨S1x4x256x512, .f32⟩
  | 81 => ⟨S1x4x256x512, .f32⟩
  | 82 => ⟨S1x4x256x512, .f32⟩
  | 83 => ⟨S1x4x256x512, .f32⟩
  | 84 => ⟨S1x4x256x512, .f32⟩
  | 85 => ⟨S1x4x256x512, .f32⟩
  | 86 => ⟨S1x4x256x512, .f32⟩
  | 87 => ⟨S1x4x256x512, .f32⟩
  | 88 => ⟨S1x4x256x512, .f32⟩
  | 89 => ⟨S1x4x256x512, .f32⟩
  | 90 => ⟨S1x4x256x512, .f32⟩
  | 91 => ⟨S1x4x256x512, .f32⟩
  | 92 => ⟨S1x4x256x512, .f32⟩
  | 93 => ⟨S1x4x256x512, .f32⟩
  | 94 => ⟨S1x4x256x512, .f32⟩
  | 95 => ⟨S1x4x256x512, .f32⟩
  | 96 => ⟨S1x4x256x512, .f32⟩
  | 97 => ⟨S1x4x256x512, .f32⟩
  | 98 => ⟨S1x4x256x512, .f32⟩
  | 99 => ⟨S1x4x256x512, .f32⟩
  | 100 => ⟨S1x4x256x512, .f32⟩
  | 101 => ⟨S1x4x256x512, .f32⟩
  | 102 => ⟨S1x4x256x512, .f32⟩
  | 103 => ⟨S1x4x256x512, .f32⟩
  | 104 => ⟨S1x4x256x512, .f32⟩
  | 105 => ⟨S1x4x256x512, .f32⟩
  | 106 => ⟨S1x4x256x512, .f32⟩
  | 107 => ⟨S1x4x256x512, .f32⟩
  | 108 => ⟨S1x4x256x512, .f32⟩
  | 109 => ⟨S1x4x256x512, .f32⟩
  | 110 => ⟨S1x4x256x512, .f32⟩
  | 111 => ⟨S1x4x256x512, .f32⟩
  | 112 => ⟨S1x4x256x512, .f32⟩
  | 113 => ⟨S1x4x256x512, .f32⟩
  | 114 => ⟨S1x4x256x512, .f32⟩
  | 115 => ⟨S1x4x256x512, .f32⟩
  | 116 => ⟨S1x4x256x512, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x4x256x512, .f32⟩
  | 122 => ⟨S1x4x256x512, .f32⟩
  | 123 => ⟨S1x4x256x512, .f32⟩
  | 124 => ⟨S1x4x256x512, .f32⟩
  | 125 => ⟨S1x4x256x512, .f32⟩
  | 126 => ⟨S1x4x256x512, .f32⟩
  | 127 => ⟨S1x4x256x512, .f32⟩
  | _ => ⟨S2048x6160, .f32⟩

abbrev hbmTy0_1 (i : Nat) : BufTy := match i % 128 with
  | 0 => ⟨S1x4x256x512, .f32⟩
  | 1 => ⟨S1x4x256x512, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x4x256x512, .f32⟩
  | 7 => ⟨S1x4x256x512, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x4x256x512, .f32⟩
  | 13 => ⟨S1x4x256x512, .f32⟩
  | 14 => ⟨S1x4x256x512, .f32⟩
  | 15 => ⟨S1x4x256x512, .f32⟩
  | 16 => ⟨S1x4x256x512, .f32⟩
  | 17 => ⟨S1x4x256x512, .f32⟩
  | 18 => ⟨S1x4x256x512, .f32⟩
  | 19 => ⟨S1x4x256x512, .f32⟩
  | 20 => ⟨S1x4x256x512, .f32⟩
  | 21 => ⟨S1x4x256x512, .f32⟩
  | 22 => ⟨S1x4x256x512, .f32⟩
  | 23 => ⟨S1x4x256x512, .f32⟩
  | 24 => ⟨S1x4x256x512, .f32⟩
  | 25 => ⟨S1x4x256x512, .f32⟩
  | 26 => ⟨S1x4x256x512, .f32⟩
  | 27 => ⟨S1x4x256x512, .f32⟩
  | 28 => ⟨S1x4x256x512, .f32⟩
  | 29 => ⟨S1x4x256x512, .f32⟩
  | 30 => ⟨S1x4x256x512, .f32⟩
  | 31 => ⟨S1x4x256x512, .f32⟩
  | 32 => ⟨S1x4x256x512, .f32⟩
  | 33 => ⟨S1x4x256x512, .f32⟩
  | 34 => ⟨S1x4x256x512, .f32⟩
  | 35 => ⟨S1x4x256x512, .f32⟩
  | 36 => ⟨S1x4x256x512, .f32⟩
  | 37 => ⟨S1x4x256x512, .f32⟩
  | 38 => ⟨S1x4x256x512, .f32⟩
  | 39 => ⟨S1x4x256x512, .f32⟩
  | 40 => ⟨S1x4x256x512, .f32⟩
  | 41 => ⟨S1x4x256x512, .f32⟩
  | 42 => ⟨S1x4x256x512, .f32⟩
  | 43 => ⟨S1x4x256x512, .f32⟩
  | 44 => ⟨S1x4x256x512, .f32⟩
  | 45 => ⟨S1x4x256x512, .f32⟩
  | 46 => ⟨S1x4x256x512, .f32⟩
  | 47 => ⟨S1x4x256x512, .f32⟩
  | 48 => ⟨S1x4x256x512, .f32⟩
  | 49 => ⟨S1x4x256x512, .f32⟩
  | 50 => ⟨S1x4x256x512, .f32⟩
  | 51 => ⟨S1x4x256x512, .f32⟩
  | 52 => ⟨S16x4x256x512, .f32⟩
  | 53 => ⟨S16x4x256x512, .f32⟩
  | 54 => ⟨S32x4x256x512, .f32⟩
  | 55 => ⟨S4x32x512x256, .f32⟩
  | 56 => ⟨S_, .i32⟩
  | 57 => ⟨S_, .f32⟩
  | 58 => ⟨S2048x6272, .f32⟩
  | 59 => ⟨S_, .i32⟩
  | 60 => ⟨S_, .f32⟩
  | 61 => ⟨S128x1024, .f32⟩
  | 62 => ⟨S128x1024, .bf16⟩
  | 63 => ⟨S1x1024, .f32⟩
  | 64 => ⟨S1x512, .f32⟩
  | 65 => ⟨S2048x6272, .bf16⟩
  | 66 => ⟨S1x512, .f32⟩
  | 67 => ⟨S1x1024, .f32⟩
  | 68 => ⟨S128x1024, .f32⟩
  | _ => ⟨S2048x6160, .f32⟩

abbrev hbmTy (i : Nat) : BufTy := match i / 128 with
  | 0 => hbmTy0_0 i
  | 1 => hbmTy0_1 i
  | _ => ⟨S2048x6160, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S4x1x512x256, .f32⟩
  | .local _ .vmem, ⟨14, _⟩ => ⟨S4x1x512x256, .f32⟩
  | .local _ .vmem, ⟨15, _⟩ => ⟨S4x1x512x256, .f32⟩
  | .local _ .vmem, ⟨16, _⟩ => ⟨S4x1x512x256, .f32⟩
  | .local _ .vmem, ⟨17, _⟩ => ⟨S64x2048, .f32⟩
  | .local _ .vmem, ⟨18, _⟩ => ⟨S64x2048, .f32⟩
  | .local _ .vmem, ⟨19, _⟩ => ⟨S64x6272, .bf16⟩
  | .local _ .vmem, ⟨20, _⟩ => ⟨S64x6272, .bf16⟩
  | .local _ .vmem, ⟨21, _⟩ => ⟨S1x512, .f32⟩
  | .local _ .vmem, ⟨22, _⟩ => ⟨S1x1024, .f32⟩
  | .local _ .vmem, ⟨23, _⟩ => ⟨S128x1024, .f32⟩
  | .local _ .vmem, ⟨24, _⟩ => ⟨S4x512x256, .f32⟩
  | .local _ .vmem, ⟨25, _⟩ => ⟨S1x1024, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_call0_cst : Ref sig .tc := ⟨.hbm, 37, rfl⟩
abbrev main_call1_call0_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_c : Ref sig .tc := ⟨.hbm, 184, rfl⟩
abbrev main_call2_v0 : Ref sig .tc := ⟨.hbm, 185, rfl⟩
abbrev main_v160 : Ref sig .tc := ⟨.hbm, 186, rfl⟩
abbrev main_c_1 : Ref sig .tc := ⟨.hbm, 187, rfl⟩
abbrev main_call3_v0 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165_0 : Ref sig .tc := ⟨.hbm, 193, rfl⟩
abbrev main_v165_1 : Ref sig .tc := ⟨.hbm, 194, rfl⟩
abbrev main_v165_2 : Ref sig .tc := ⟨.hbm, 195, rfl⟩
abbrev main_v165_3 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c48_i32 : BitVec 32 := 48#32
  let c0_i32 : BitVec 32 := 0#32
  ![v0.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x6272 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GlaRefIdeal.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x2048 : Shape := ⟨2, ![2048, 2048]⟩
abbrev S2048x1024 : Shape := ⟨2, ![2048, 1024]⟩
abbrev S2048x16 : Shape := ⟨2, ![2048, 16]⟩
abbrev S1x1024 : Shape := ⟨2, ![1, 1024]⟩
abbrev S_ : Shape := ⟨0, ![]⟩
abbrev S32x64x4x256 : Shape := ⟨4, ![32, 64, 4, 256]⟩
abbrev S32x4x64x256 : Shape := ⟨4, ![32, 4, 64, 256]⟩
abbrev S32x64x4x512 : Shape := ⟨4, ![32, 64, 4, 512]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S32x4x256x512 : Shape := ⟨4, ![32, 4, 256, 512]⟩
abbrev S32x4x256x1 : Shape := ⟨4, ![32, 4, 256, 1]⟩
abbrev S1x4x256x512 : Shape := ⟨4, ![1, 4, 256, 512]⟩
abbrev S16x4x256x512 : Shape := ⟨4, ![16, 4, 256, 512]⟩
abbrev S32x4x64 : Shape := ⟨3, ![32, 4, 64]⟩
abbrev S32x4x64x1 : Shape := ⟨4, ![32, 4, 64, 1]⟩
abbrev S1x1x1x512 : Shape := ⟨4, ![1, 1, 1, 512]⟩
abbrev S32x4x512x256 : Shape := ⟨4, ![32, 4, 512, 256]⟩
abbrev S32x4x512x64 : Shape := ⟨4, ![32, 4, 512, 64]⟩
abbrev S32x4x256x64 : Shape := ⟨4, ![32, 4, 256, 64]⟩
abbrev S1024x16 : Shape := ⟨2, ![1024, 16]⟩
abbrev S2048x6272 : Shape := ⟨2, ![2048, 6272]⟩
abbrev S1x512 : Shape := ⟨2, ![1, 512]⟩
abbrev S128x1024 : Shape := ⟨2, ![128, 1024]⟩

abbrev nBuf : Space → Nat
  | .hbm => 487
  | .vmem => 0
  | .smem => 0
  | _ => 0

abbrev hbmTy0_0 (i : Nat) : BufTy := match i % 128 with
  | 0 => ⟨S2048x6160, .f32⟩
  | 1 => ⟨S16x1024, .f32⟩
  | 2 => ⟨S1024, .f32⟩
  | 3 => ⟨S512, .f32⟩
  | 4 => ⟨S2048x2048, .f32⟩
  | 5 => ⟨S2048x1024, .f32⟩
  | 6 => ⟨S2048x1024, .f32⟩
  | 7 => ⟨S2048x2048, .f32⟩
  | 8 => ⟨S2048x2048, .f32⟩
  | 9 => ⟨S2048x16, .f32⟩
  | 10 => ⟨S2048x1024, .f32⟩
  | 11 => ⟨S1x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S2048x1024, .f32⟩
  | 20 => ⟨S2048x1024, .i1⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .i1⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .i1⟩
  | 38 => ⟨S_, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x1024, .f32⟩
  | 51 => ⟨S2048x1024, .i1⟩
  | 52 => ⟨S_, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S32x64x4x256, .f32⟩
  | 66 => ⟨S32x4x64x256, .f32⟩
  | 67 => ⟨S_, .f32⟩
  | 68 => ⟨S32x4x64x256, .f32⟩
  | 69 => ⟨S32x4x64x256, .f32⟩
  | 70 => ⟨S32x64x4x256, .f32⟩
  | 71 => ⟨S32x4x64x256, .f32⟩
  | 72 => ⟨S32x64x4x512, .f32⟩
  | 73 => ⟨S32x4x64x512, .f32⟩
  | 74 => ⟨S32x64x4x256, .f32⟩
  | 75 => ⟨S32x4x64x256, .f32⟩
  | 76 => ⟨S_, .f32⟩
  | 77 => ⟨S_, .f32⟩
  | 78 => ⟨S32x4x64x256, .f32⟩
  | 79 => ⟨S32x4x1x256, .f32⟩
  | 80 => ⟨S32x4x64x256, .f32⟩
  | 81 => ⟨S32x4x64x256, .f32⟩
  | 82 => ⟨S32x4x64x256, .f32⟩
  | 83 => ⟨S32x4x64x256, .f32⟩
  | 84 => ⟨S32x4x256, .f32⟩
  | 85 => ⟨S32x4x256, .f32⟩
  | 86 => ⟨S32x4x256x512, .f32⟩
  | 87 => ⟨S32x4x256x1, .f32⟩
  | 88 => ⟨S32x4x256x512, .f32⟩
  | 89 => ⟨S_, .f32⟩
  | 90 => ⟨S1x4x256x512, .f32⟩
  | 91 => ⟨S1x4x256x512, .f32⟩
  | 92 => ⟨S1x4x256x512, .f32⟩
  | 93 => ⟨S1x4x256x512, .f32⟩
  | 94 => ⟨S1x4x256x512, .f32⟩
  | 95 => ⟨S1x4x256x512, .f32⟩
  | 96 => ⟨S1x4x256x512, .f32⟩
  | 97 => ⟨S1x4x256x512, .f32⟩
  | 98 => ⟨S1x4x256x512, .f32⟩
  | 99 => ⟨S1x4x256x512, .f32⟩
  | 100 => ⟨S1x4x256x512, .f32⟩
  | 101 => ⟨S1x4x256x512, .f32⟩
  | 102 => ⟨S1x4x256x512, .f32⟩
  | 103 => ⟨S1x4x256x512, .f32⟩
  | 104 => ⟨S1x4x256x512, .f32⟩
  | 105 => ⟨S1x4x256x512, .f32⟩
  | 106 => ⟨S1x4x256x512, .f32⟩
  | 107 => ⟨S1x4x256x512, .f32⟩
  | 108 => ⟨S1x4x256x512, .f32⟩
  | 109 => ⟨S1x4x256x512, .f32⟩
  | 110 => ⟨S1x4x256x512, .f32⟩
  | 111 => ⟨S1x4x256x512, .f32⟩
  | 112 => ⟨S1x4x256x512, .f32⟩
  | 113 => ⟨S1x4x256x512, .f32⟩
  | 114 => ⟨S1x4x256x512, .f32⟩
  | 115 => ⟨S1x4x256x512, .f32⟩
  | 116 => ⟨S1x4x256x512, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x4x256x512, .f32⟩
  | 122 => ⟨S1x4x256x512, .f32⟩
  | 123 => ⟨S1x4x256x512, .f32⟩
  | 124 => ⟨S1x4x256x512, .f32⟩
  | 125 => ⟨S1x4x256x512, .f32⟩
  | 126 => ⟨S1x4x256x512, .f32⟩
  | 127 => ⟨S1x4x256x512, .f32⟩
  | _ => ⟨S2048x6160, .f32⟩

abbrev hbmTy0_1 (i : Nat) : BufTy := match i % 128 with
  | 0 => ⟨S1x4x256x512, .f32⟩
  | 1 => ⟨S1x4x256x512, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x4x256x512, .f32⟩
  | 7 => ⟨S1x4x256x512, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x4x256x512, .f32⟩
  | 13 => ⟨S1x4x256x512, .f32⟩
  | 14 => ⟨S1x4x256x512, .f32⟩
  | 15 => ⟨S1x4x256x512, .f32⟩
  | 16 => ⟨S1x4x256x512, .f32⟩
  | 17 => ⟨S1x4x256x512, .f32⟩
  | 18 => ⟨S1x4x256x512, .f32⟩
  | 19 => ⟨S1x4x256x512, .f32⟩
  | 20 => ⟨S1x4x256x512, .f32⟩
  | 21 => ⟨S1x4x256x512, .f32⟩
  | 22 => ⟨S1x4x256x512, .f32⟩
  | 23 => ⟨S1x4x256x512, .f32⟩
  | 24 => ⟨S1x4x256x512, .f32⟩
  | 25 => ⟨S1x4x256x512, .f32⟩
  | 26 => ⟨S1x4x256x512, .f32⟩
  | 27 => ⟨S1x4x256x512, .f32⟩
  | 28 => ⟨S1x4x256x512, .f32⟩
  | 29 => ⟨S1x4x256x512, .f32⟩
  | 30 => ⟨S1x4x256x512, .f32⟩
  | 31 => ⟨S1x4x256x512, .f32⟩
  | 32 => ⟨S1x4x256x512, .f32⟩
  | 33 => ⟨S1x4x256x512, .f32⟩
  | 34 => ⟨S1x4x256x512, .f32⟩
  | 35 => ⟨S1x4x256x512, .f32⟩
  | 36 => ⟨S1x4x256x512, .f32⟩
  | 37 => ⟨S1x4x256x512, .f32⟩
  | 38 => ⟨S1x4x256x512, .f32⟩
  | 39 => ⟨S1x4x256x512, .f32⟩
  | 40 => ⟨S1x4x256x512, .f32⟩
  | 41 => ⟨S1x4x256x512, .f32⟩
  | 42 => ⟨S1x4x256x512, .f32⟩
  | 43 => ⟨S1x4x256x512, .f32⟩
  | 44 => ⟨S1x4x256x512, .f32⟩
  | 45 => ⟨S1x4x256x512, .f32⟩
  | 46 => ⟨S1x4x256x512, .f32⟩
  | 47 => ⟨S1x4x256x512, .f32⟩
  | 48 => ⟨S1x4x256x512, .f32⟩
  | 49 => ⟨S1x4x256x512, .f32⟩
  | 50 => ⟨S1x4x256x512, .f32⟩
  | 51 => ⟨S1x4x256x512, .f32⟩
  | 52 => ⟨S1x4x256x512, .f32⟩
  | 53 => ⟨S1x4x256x512, .f32⟩
  | 54 => ⟨S1x4x256x512, .f32⟩
  | 55 => ⟨S1x4x256x512, .f32⟩
  | 56 => ⟨S1x4x256x512, .f32⟩
  | 57 => ⟨S1x4x256x512, .f32⟩
  | 58 => ⟨S1x4x256x512, .f32⟩
  | 59 => ⟨S1x4x256x512, .f32⟩
  | 60 => ⟨S1x4x256x512, .f32⟩
  | 61 => ⟨S1x4x256x512, .f32⟩
  | 62 => ⟨S1x4x256x512, .f32⟩
  | 63 => ⟨S1x4x256x512, .f32⟩
  | 64 => ⟨S1x4x256x512, .f32⟩
  | 65 => ⟨S1x4x256x512, .f32⟩
  | 66 => ⟨S1x4x256x512, .f32⟩
  | 67 => ⟨S1x4x256x512, .f32⟩
  | 68 => ⟨S1x4x256x512, .f32⟩
  | 69 => ⟨S1x4x256x512, .f32⟩
  | 70 => ⟨S1x4x256x512, .f32⟩
  | 71 => ⟨S1x4x256x512, .f32⟩
  | 72 => ⟨S1x4x256x512, .f32⟩
  | 73 => ⟨S1x4x256x512, .f32⟩
  | 74 => ⟨S1x4x256x512, .f32⟩
  | 75 => ⟨S1x4x256x512, .f32⟩
  | 76 => ⟨S1x4x256x512, .f32⟩
  | 77 => ⟨S1x4x256x512, .f32⟩
  | 78 => ⟨S1x4x256x512, .f32⟩
  | 79 => ⟨S1x4x256x512, .f32⟩
  | 80 => ⟨S1x4x256x512, .f32⟩
  | 81 => ⟨S1x4x256x512, .f32⟩
  | 82 => ⟨S1x4x256x512, .f32⟩
  | 83 => ⟨S1x4x256x512, .f32⟩
  | 84 => ⟨S1x4x256x512, .f32⟩
  | 85 => ⟨S1x4x256x512, .f32⟩
  | 86 => ⟨S1x4x256x512, .f32⟩
  | 87 => ⟨S1x4x256x512, .f32⟩
  | 88 => ⟨S1x4x256x512, .f32⟩
  | 89 => ⟨S1x4x256x512, .f32⟩
  | 90 => ⟨S1x4x256x512, .f32⟩
  | 91 => ⟨S16x4x256x512, .f32⟩
  | 92 => ⟨S16x4x256x512, .f32⟩
  | 93 => ⟨S32x4x256x512, .f32⟩
  | 94 => ⟨S32x4x64x512, .f32⟩
  | 95 => ⟨S32x4x64x512, .f32⟩
  | 96 => ⟨S_, .f32⟩
  | 97 => ⟨S32x4x64, .f32⟩
  | 98 => ⟨S32x4x64x1, .f32⟩
  | 99 => ⟨S_, .f32⟩
  | 100 => ⟨S32x4x64x1, .f32⟩
  | 101 => ⟨S32x4x64x1, .f32⟩
  | 102 => ⟨S_, .f32⟩
  | 103 => ⟨S32x4x64x1, .f32⟩
  | 104 => ⟨S32x4x64x1, .f32⟩
  | 105 => ⟨S32x4x64x1, .f32⟩
  | 106 => ⟨S32x4x64x1, .f32⟩
  | 107 => ⟨S_, .f32⟩
  | 108 => ⟨S32x4x64x1, .f32⟩
  | 109 => ⟨S32x4x64x1, .f32⟩
  | 110 => ⟨S32x4x64x512, .f32⟩
  | 111 => ⟨S32x4x64x512, .f32⟩
  | 112 => ⟨S1x1x1x512, .f32⟩
  | 113 => ⟨S32x4x64x512, .f32⟩
  | 114 => ⟨S32x4x64x512, .f32⟩
  | 115 => ⟨S32x64x4x512, .f32⟩
  | 116 => ⟨S2048x2048, .f32⟩
  | 117 => ⟨S2048x2048, .f32⟩
  | 118 => ⟨S2048x2048, .f32⟩
  | 119 => ⟨S_, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S_, .f32⟩
  | 126 => ⟨S2048x2048, .f32⟩
  | 127 => ⟨S2048x2048, .f32⟩
  | _ => ⟨S2048x6160, .f32⟩

abbrev hbmTy0_2 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S32x64x4x512, .f32⟩
  | 10 => ⟨S32x4x64x512, .f32⟩
  | 11 => ⟨S32x4x64x512, .f32⟩
  | 12 => ⟨S_, .f32⟩
  | 13 => ⟨S512, .f32⟩
  | 14 => ⟨S1x1x1x512, .f32⟩
  | 15 => ⟨S32x4x64x512, .f32⟩
  | 16 => ⟨S32x4x64x512, .f32⟩
  | 17 => ⟨S_, .f32⟩
  | 18 => ⟨S512, .f32⟩
  | 19 => ⟨S32x4x64x512, .f32⟩
  | 20 => ⟨S_, .f32⟩
  | 21 => ⟨S32x4x64, .f32⟩
  | 22 => ⟨S32x4x64x1, .f32⟩
  | 23 => ⟨S32x4x64x512, .f32⟩
  | 24 => ⟨S32x4x64x512, .f32⟩
  | 25 => ⟨S32x4x64x1, .f32⟩
  | 26 => ⟨S_, .f32⟩
  | 27 => ⟨S32x4x64x1, .f32⟩
  | 28 => ⟨S32x4x64x1, .f32⟩
  | 29 => ⟨S_, .f32⟩
  | 30 => ⟨S32x4x64, .f32⟩
  | 31 => ⟨S32x4x64x512, .f32⟩
  | 32 => ⟨S32x4x64x512, .f32⟩
  | 33 => ⟨S32x4x64x512, .f32⟩
  | 34 => ⟨S32x4x64x512, .f32⟩
  | 35 => ⟨S32x4x64x512, .f32⟩
  | 36 => ⟨S32x4x512x256, .f32⟩
  | 37 => ⟨S32x4x256x512, .f32⟩
  | 38 => ⟨S32x4x64x256, .f32⟩
  | 39 => ⟨S1x4x256x512, .f32⟩
  | 40 => ⟨S1x4x256x512, .f32⟩
  | 41 => ⟨S1x4x256x512, .f32⟩
  | 42 => ⟨S1x4x256x512, .f32⟩
  | 43 => ⟨S1x4x256x512, .f32⟩
  | 44 => ⟨S1x4x256x512, .f32⟩
  | 45 => ⟨S1x4x256x512, .f32⟩
  | 46 => ⟨S1x4x256x512, .f32⟩
  | 47 => ⟨S1x4x256x512, .f32⟩
  | 48 => ⟨S1x4x256x512, .f32⟩
  | 49 => ⟨S1x4x256x512, .f32⟩
  | 50 => ⟨S1x4x256x512, .f32⟩
  | 51 => ⟨S1x4x256x512, .f32⟩
  | 52 => ⟨S1x4x256x512, .f32⟩
  | 53 => ⟨S1x4x256x512, .f32⟩
  | 54 => ⟨S1x4x256x512, .f32⟩
  | 55 => ⟨S1x4x256x512, .f32⟩
  | 56 => ⟨S1x4x256x512, .f32⟩
  | 57 => ⟨S1x4x256x512, .f32⟩
  | 58 => ⟨S1x4x256x512, .f32⟩
  | 59 => ⟨S1x4x256x512, .f32⟩
  | 60 => ⟨S1x4x256x512, .f32⟩
  | 61 => ⟨S1x4x256x512, .f32⟩
  | 62 => ⟨S1x4x256x512, .f32⟩
  | 63 => ⟨S1x4x256x512, .f32⟩
  | 64 => ⟨S1x4x256x512, .f32⟩
  | 65 => ⟨S1x4x256x512, .f32⟩
  | 66 => ⟨S1x4x256x512, .f32⟩
  | 67 => ⟨S1x4x256x512, .f32⟩
  | 68 => ⟨S1x4x256x512, .f32⟩
  | 69 => ⟨S1x4x256x512, .f32⟩
  | 70 => ⟨S1x4x256x512, .f32⟩
  | 71 => ⟨S1x4x256x512, .f32⟩
  | 72 => ⟨S1x4x256x512, .f32⟩
  | 73 => ⟨S1x4x256x512, .f32⟩
  | 74 => ⟨S1x4x256x512, .f32⟩
  | 75 => ⟨S1x4x256x512, .f32⟩
  | 76 => ⟨S1x4x256x512, .f32⟩
  | 77 => ⟨S1x4x256x512, .f32⟩
  | 78 => ⟨S1x4x256x512, .f32⟩
  | 79 => ⟨S1x4x256x512, .f32⟩
  | 80 => ⟨S1x4x256x512, .f32⟩
  | 81 => ⟨S1x4x256x512, .f32⟩
  | 82 => ⟨S1x4x256x512, .f32⟩
  | 83 => ⟨S1x4x256x512, .f32⟩
  | 84 => ⟨S1x4x256x512, .f32⟩
  | 85 => ⟨S1x4x256x512, .f32⟩
  | 86 => ⟨S1x4x256x512, .f32⟩
  | 87 => ⟨S1x4x256x512, .f32⟩
  | 88 => ⟨S1x4x256x512, .f32⟩
  | 89 => ⟨S1x4x256x512, .f32⟩
  | 90 => ⟨S1x4x256x512, .f32⟩
  | 91 => ⟨S1x4x256x512, .f32⟩
  | 92 => ⟨S1x4x256x512, .f32⟩
  | 93 => ⟨S1x4x256x512, .f32⟩
  | 94 => ⟨S1x4x256x512, .f32⟩
  | 95 => ⟨S1x4x256x512, .f32⟩
  | 96 => ⟨S1x4x256x512, .f32⟩
  | 97 => ⟨S1x4x256x512, .f32⟩
  | 98 => ⟨S1x4x256x512, .f32⟩
  | 99 => ⟨S1x4x256x512, .f32⟩
  | 100 => ⟨S1x4x256x512, .f32⟩
  | 101 => ⟨S1x4x256x512, .f32⟩
  | 102 => ⟨S1x4x256x512, .f32⟩
  | 103 => ⟨S1x4x256x512, .f32⟩
  | 104 => ⟨S1x4x256x512, .f32⟩
  | 105 => ⟨S1x4x256x512, .f32⟩
  | 106 => ⟨S1x4x256x512, .f32⟩
  | 107 => ⟨S1x4x256x512, .f32⟩
  | 108 => ⟨S1x4x256x512, .f32⟩
  | 109 => ⟨S1x4x256x512, .f32⟩
  | 110 => ⟨S1x4x256x512, .f32⟩
  | 111 => ⟨S1x4x256x512, .f32⟩
  | 112 => ⟨S1x4x256x512, .f32⟩
  | 113 => ⟨S1x4x256x512, .f32⟩
  | 114 => ⟨S1x4x256x512, .f32⟩
  | 115 => ⟨S1x4x256x512, .f32⟩
  | 116 => ⟨S1x4x256x512, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x4x256x512, .f32⟩
  | 122 => ⟨S1x4x256x512, .f32⟩
  | 123 => ⟨S1x4x256x512, .f32⟩
  | 124 => ⟨S1x4x256x512, .f32⟩
  | 125 => ⟨S1x4x256x512, .f32⟩
  | 126 => ⟨S1x4x256x512, .f32⟩
  | 127 => ⟨S1x4x256x512, .f32⟩
  | _ => ⟨S2048x6160, .f32⟩

abbrev hbmTy0_3 (i : Nat) : BufTy := match i % 128 with
  | 0 => ⟨S1x4x256x512, .f32⟩
  | 1 => ⟨S1x4x256x512, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x4x256x512, .f32⟩
  | 7 => ⟨S1x4x256x512, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x4x256x512, .f32⟩
  | 13 => ⟨S1x4x256x512, .f32⟩
  | 14 => ⟨S1x4x256x512, .f32⟩
  | 15 => ⟨S1x4x256x512, .f32⟩
  | 16 => ⟨S1x4x256x512, .f32⟩
  | 17 => ⟨S1x4x256x512, .f32⟩
  | 18 => ⟨S1x4x256x512, .f32⟩
  | 19 => ⟨S1x4x256x512, .f32⟩
  | 20 => ⟨S1x4x256x512, .f32⟩
  | 21 => ⟨S1x4x256x512, .f32⟩
  | 22 => ⟨S1x4x256x512, .f32⟩
  | 23 => ⟨S1x4x256x512, .f32⟩
  | 24 => ⟨S1x4x256x512, .f32⟩
  | 25 => ⟨S1x4x256x512, .f32⟩
  | 26 => ⟨S1x4x256x512, .f32⟩
  | 27 => ⟨S1x4x256x512, .f32⟩
  | 28 => ⟨S1x4x256x512, .f32⟩
  | 29 => ⟨S1x4x256x512, .f32⟩
  | 30 => ⟨S1x4x256x512, .f32⟩
  | 31 => ⟨S1x4x256x512, .f32⟩
  | 32 => ⟨S1x4x256x512, .f32⟩
  | 33 => ⟨S1x4x256x512, .f32⟩
  | 34 => ⟨S1x4x256x512, .f32⟩
  | 35 => ⟨S1x4x256x512, .f32⟩
  | 36 => ⟨S1x4x256x512, .f32⟩
  | 37 => ⟨S16x4x256x512, .f32⟩
  | 38 => ⟨S16x4x256x512, .f32⟩
  | 39 => ⟨S32x4x256x512, .f32⟩
  | 40 => ⟨S16x4x256x512, .f32⟩
  | 41 => ⟨S16x4x256x512, .f32⟩
  | 42 => ⟨S32x4x256x512, .f32⟩
  | 43 => ⟨S_, .f32⟩
  | 44 => ⟨S32x4x256, .f32⟩
  | 45 => ⟨S32x4x256x1, .f32⟩
  | 46 => ⟨S_, .f32⟩
  | 47 => ⟨S32x4x256, .f32⟩
  | 48 => ⟨S32x4x512x64, .f32⟩
  | 49 => ⟨S32x4x64x512, .f32⟩
  | 50 => ⟨S32x4x256x64, .f32⟩
  | 51 => ⟨S32x4x64x256, .f32⟩
  | 52 => ⟨S32x4x256, .f32⟩
  | 53 => ⟨S32x4x1x256, .f32⟩
  | 54 => ⟨S32x4x64x256, .f32⟩
  | 55 => ⟨S32x4x64x256, .f32⟩
  | 56 => ⟨S32x4x64x256, .f32⟩
  | 57 => ⟨S_, .f32⟩
  | 58 => ⟨S32x4x256, .f32⟩
  | 59 => ⟨S32x4x1x256, .f32⟩
  | 60 => ⟨S32x4x64x256, .f32⟩
  | 61 => ⟨S32x4x1x256, .f32⟩
  | 62 => ⟨S_, .f32⟩
  | 63 => ⟨S32x4x64x256, .f32⟩
  | 64 => ⟨S32x4x64x256, .f32⟩
  | 65 => ⟨S_, .f32⟩
  | 66 => ⟨S_, .f32⟩
  | 67 => ⟨S32x4x64x256, .f32⟩
  | 68 => ⟨S32x64x4x256, .f32⟩
  | 69 => ⟨S2048x1024, .f32⟩
  | 70 => ⟨S32x64x4x512, .f32⟩
  | 71 => ⟨S2048x2048, .f32⟩
  | 72 => ⟨S32x64x4x256, .f32⟩
  | 73 => ⟨S2048x1024, .f32⟩
  | 74 => ⟨S_, .f32⟩
  | 75 => ⟨S32x4x64x256, .f32⟩
  | 76 => ⟨S32x4x64x256, .f32⟩
  | 77 => ⟨S32x64x4x256, .f32⟩
  | 78 => ⟨S2048x1024, .f32⟩
  | 79 => ⟨S_, .f32⟩
  | 80 => ⟨S2048x1024, .f32⟩
  | 81 => ⟨S2048x1024, .f32⟩
  | 82 => ⟨S2048x1024, .f32⟩
  | 83 => ⟨S2048x1024, .f32⟩
  | 84 => ⟨S2048x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S1024x16, .f32⟩
  | 91 => ⟨S16x1024, .f32⟩
  | 92 => ⟨S2048x16, .f32⟩
  | 93 => ⟨S2048x6160, .f32⟩
  | 94 => ⟨S_, .i32⟩
  | 95 => ⟨S_, .f32⟩
  | 96 => ⟨S2048x6272, .f32⟩
  | 97 => ⟨S2048x6272, .bf16⟩
  | 98 => ⟨S1x512, .f32⟩
  | 99 => ⟨S1x1024, .f32⟩
  | 100 => ⟨S_, .i32⟩
  | 101 => ⟨S_, .f32⟩
  | 102 => ⟨S128x1024, .f32⟩
  | _ => ⟨S2048x6160, .f32⟩

abbrev hbmTy (i : Nat) : BufTy := match i / 128 with
  | 0 => hbmTy0_0 i
  | 1 => hbmTy0_1 i
  | 2 => hbmTy0_2 i
  | 3 => hbmTy0_3 i
  | _ => ⟨S2048x6160, .f32⟩

abbrev bufTy : (tb : Table) → Fin (tcTables nBuf tb) → BufTy
  | .hbm, ⟨i, _⟩ => hbmTy i
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_call1_call0_cst : Ref sig .tc := ⟨.hbm, 76, rfl⟩
abbrev main_call1_call0_v0 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_1 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_2 : Ref sig .tc := ⟨.hbm, 224, rfl⟩
abbrev main_v167 : Ref sig .tc := ⟨.hbm, 225, rfl⟩
abbrev main_v168 : Ref sig .tc := ⟨.hbm, 226, rfl⟩
abbrev main_cst_3 : Ref sig .tc := ⟨.hbm, 227, rfl⟩
abbrev main_v169 : Ref sig .tc := ⟨.hbm, 228, rfl⟩
abbrev main_v170 : Ref sig .tc := ⟨.hbm, 229, rfl⟩
abbrev main_cst_4 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_5 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_call2_v0 : Ref sig .tc := ⟨.hbm, 245, rfl⟩
abbrev main_call2_v1 : Ref sig .tc := ⟨.hbm, 246, rfl⟩
abbrev main_call2_cst : Ref sig .tc := ⟨.hbm, 247, rfl⟩
abbrev main_call2_v2 : Ref sig .tc := ⟨.hbm, 248, rfl⟩
abbrev main_call2_v3 : Ref sig .tc := ⟨.hbm, 249, rfl⟩
abbrev main_call2_cst_0 : Ref sig .tc := ⟨.hbm, 250, rfl⟩
abbrev main_call2_v4 : Ref sig .tc := ⟨.hbm, 251, rfl⟩
abbrev main_v184_2 : Ref sig .tc := ⟨.hbm, 252, rfl⟩
abbrev main_call2_cst_1 : Ref sig .tc := ⟨.hbm, 253, rfl⟩
abbrev main_call2_v6 : Ref sig .tc := ⟨.hbm, 254, rfl⟩
abbrev main_call2_v7 : Ref sig .tc := ⟨.hbm, 255, rfl⟩
abbrev main_v184_1 : Ref sig .tc := ⟨.hbm, 256, rfl⟩
abbrev main_v184_0 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_call3_v0 : Ref sig .tc := ⟨.hbm, 261, rfl⟩
abbrev main_call3_v1 : Ref sig .tc := ⟨.hbm, 262, rfl⟩
abbrev main_call3_v2 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_cst_6 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_7 : Ref sig .tc := ⟨.hbm, 273, rfl⟩
abbrev main_v196 : Ref sig .tc := ⟨.hbm, 274, rfl⟩
abbrev main_v197 : Ref sig .tc := ⟨.hbm, 275, rfl⟩
abbrev main_cst_8 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_cst_9 : Ref sig .tc := ⟨.hbm, 282, rfl⟩
abbrev main_v203 : Ref sig .tc := ⟨.hbm, 283, rfl⟩
abbrev main_v204 : Ref sig .tc := ⟨.hbm, 284, rfl⟩
abbrev main_cst_10 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_cst_11 : Ref sig .tc := ⟨.hbm, 427, rfl⟩
abbrev main_v346 : Ref sig .tc := ⟨.hbm, 428, rfl⟩
abbrev main_v347 : Ref sig .tc := ⟨.hbm, 429, rfl⟩
abbrev main_cst_12 : Ref sig .tc := ⟨.hbm, 430, rfl⟩
abbrev main_v348 : Ref sig .tc := ⟨.hbm, 431, rfl⟩
abbrev main_v349 : Ref sig .tc := ⟨.hbm, 432, rfl⟩
abbrev main_v350 : Ref sig .tc := ⟨.hbm, 433, rfl⟩
abbrev main_v351 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_cst_13 : Ref sig .tc := ⟨.hbm, 441, rfl⟩
abbrev main_v358 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_cst_14 : Ref sig .tc := ⟨.hbm, 446, rfl⟩
abbrev main_v362 : Ref sig .tc := ⟨.hbm, 447, rfl⟩
abbrev main_v363 : Ref sig .tc := ⟨.hbm, 448, rfl⟩
abbrev main_call4_call0_cst : Ref sig .tc := ⟨.hbm, 449, rfl⟩
abbrev main_call4_call0_v0 : Ref sig .tc := ⟨.hbm, 450, rfl⟩
abbrev main_v364 : Ref sig .tc := ⟨.hbm, 451, rfl⟩
abbrev main_v365 : Ref sig .tc := ⟨.hbm, 452, rfl⟩
abbrev main_v366 : Ref sig .tc := ⟨.hbm, 453, rfl⟩
abbrev main_v367 : Ref sig .tc := ⟨.hbm, 454, rfl⟩
abbrev main_v368 : Ref sig .tc := ⟨.hbm, 455, rfl⟩
abbrev main_v369 : Ref sig .tc := ⟨.hbm, 456, rfl⟩
abbrev main_v370 : Ref sig .tc := ⟨.hbm, 457, rfl⟩
abbrev main_cst_15 : Ref sig .tc := ⟨.hbm, 458, rfl⟩
abbrev main_v371 : Ref sig .tc := ⟨.hbm, 459, rfl⟩
abbrev main_v372 : Ref sig .tc := ⟨.hbm, 460, rfl⟩
abbrev main_v373 : Ref sig .tc := ⟨.hbm, 461, rfl⟩
abbrev main_v374 : Ref sig .tc := ⟨.hbm, 462, rfl⟩
abbrev main_cst_16 : Ref sig .tc := ⟨.hbm, 463, rfl⟩
abbrev main_v375 : Ref sig .tc := ⟨.hbm, 464, rfl⟩
abbrev main_v376 : Ref sig .tc := ⟨.hbm, 465, rfl⟩
abbrev main_call5_v0 : Ref sig .tc := ⟨.hbm, 466, rfl⟩
abbrev main_call5_v1 : Ref sig .tc := ⟨.hbm, 467, rfl⟩
abbrev main_v377 : Ref sig .tc := ⟨.hbm, 468, rfl⟩
abbrev main_cst_17 : Ref sig .tc := ⟨.hbm, 469, rfl⟩
abbrev main_v378 : Ref sig .tc := ⟨.hbm, 470, rfl⟩
abbrev main_v379 : Ref sig .tc := ⟨.hbm, 471, rfl⟩
abbrev main_cst_18 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_v384 : Ref sig .tc := ⟨.hbm, 477, rfl⟩
abbrev main_c : Ref sig .tc := ⟨.hbm, 478, rfl⟩
abbrev main_call6_v0 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_c_19 : Ref sig .tc := ⟨.hbm, 484, rfl⟩
abbrev main_call7_v0 : Ref sig .tc := ⟨.hbm, 485, rfl⟩
abbrev main_v389 : Ref sig .tc := ⟨.hbm, 486, rfl⟩

abbrev nD : Nat := 1
abbrev τ : Topo := Topo.v7x

variable {F : FTy → Type} [FloatOps F]
-- ==== Act.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ActRefIdeal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Zoh.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S64x1 : Shape := ⟨2, ![64, 1]⟩

abbrev nBuf : Space → Nat
  | .hbm => 21
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x16x64, .f32⟩
  | .hbm, ⟨8, _⟩ => ⟨S64x16x64, .f32⟩
  | .hbm, ⟨9, _⟩ => ⟨S64x1x64, .f32⟩
  | .hbm, ⟨10, _⟩ => ⟨S64x1x64, .f32⟩
  | .hbm, ⟨11, _⟩ => ⟨S64x1x1, .f32⟩
  | .hbm, ⟨12, _⟩ => ⟨S64x16x64, .f32⟩
  | .hbm, ⟨13, _⟩ => ⟨S64x16x64, .f32⟩
  | .hbm, ⟨14, _⟩ => ⟨S64x1x64, .f32⟩
  | .hbm, ⟨15, _⟩ => ⟨S64x1x64, .f32⟩
  | .hbm, ⟨16, _⟩ => ⟨S64x1x64, .f32⟩
  | .hbm, ⟨17, _⟩ => ⟨S64x1x64, .f32⟩
  | .hbm, ⟨18, _⟩ => ⟨S64x1x1, .f32⟩
  | .hbm, ⟨19, _⟩ => ⟨S64x16x64, .f32⟩
  | .hbm, ⟨20, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x1x64, .f32⟩
  | .local _ .vmem, ⟨10, _⟩ => ⟨S64x1x64, .f32⟩
  | .local _ .vmem, ⟨11, _⟩ => ⟨S64x1x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ZohRefIdeal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩
abbrev S64x1 : Shape := ⟨2, ![64, 1]⟩
abbrev S64x64x1 : Shape := ⟨3, ![64, 64, 1]⟩
abbrev S64x1x64 : Shape := ⟨3, ![64, 1, 64]⟩
abbrev S64x1x1 : Shape := ⟨3, ![64, 1, 1]⟩

abbrev nBuf : Space → Nat
  | .hbm => 180
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x16x64, .f32⟩
  | 8 => ⟨S64x16x64, .f32⟩
  | 9 => ⟨S64x64x16, .f32⟩
  | 10 => ⟨S64x64x16, .f32⟩
  | 11 => ⟨S_, .f32⟩
  | 12 => ⟨S64x64, .f32⟩
  | 13 => ⟨S64x64, .f32⟩
  | 14 => ⟨S_, .f32⟩
  | 15 => ⟨S64x64, .f32⟩
  | 16 => ⟨S64x64, .i1⟩
  | 17 => ⟨S_, .f32⟩
  | 18 => ⟨S64x64, .f32⟩
  | 19 => ⟨S64x64, .i1⟩
  | 20 => ⟨S_, .f32⟩
  | 21 => ⟨S64x64, .f32⟩
  | 22 => ⟨S_, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64, .f32⟩
  | 29 => ⟨S64x1, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64x1, .f32⟩
  | 64 => ⟨S64x64x16, .f32⟩
  | 65 => ⟨S64x64x16, .f32⟩
  | 66 => ⟨S64x64x1, .f32⟩
  | 67 => ⟨S64x64x16, .f32⟩
  | 68 => ⟨S64x64x16, .f32⟩
  | 69 => ⟨S64x64x16, .f32⟩
  | 70 => ⟨S64x64x1, .f32⟩
  | 71 => ⟨S64x64x16, .f32⟩
  | 72 => ⟨S64x64x16, .f32⟩
  | 73 => ⟨S64x64x1, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S_, .f32⟩
  | 81 => ⟨S64x64, .f32⟩
  | 82 => ⟨S64x64x1, .f32⟩
  | 83 => ⟨S_, .f32⟩
  | 84 => ⟨S64x64, .f32⟩
  | 85 => ⟨S64x64x16, .f32⟩
  | 86 => ⟨S64x64x16, .f32⟩
  | 87 => ⟨S64x64x16, .f32⟩
  | 88 => ⟨S_, .f32⟩
  | 89 => ⟨S64x64, .f32⟩
  | 90 => ⟨S64x64x1, .f32⟩
  | 91 => ⟨S_, .f32⟩
  | 92 => ⟨S64x64, .f32⟩
  | 93 => ⟨S64x64x16, .f32⟩
  | 94 => ⟨S64x64x16, .f32⟩
  | 95 => ⟨S64x64x16, .f32⟩
  | 96 => ⟨S64x64x16, .f32⟩
  | 97 => ⟨S64x64x16, .f32⟩
  | 98 => ⟨S_, .f32⟩
  | 99 => ⟨S64x64, .f32⟩
  | 100 => ⟨S64x64x1, .f32⟩
  | 101 => ⟨S_, .f32⟩
  | 102 => ⟨S64x64, .f32⟩
  | 103 => ⟨S64x64, .f32⟩
  | 104 => ⟨S64x64x16, .f32⟩
  | 105 => ⟨S64x64x16, .f32⟩
  | 106 => ⟨S64x64x16, .f32⟩
  | 107 => ⟨S64x64x16, .f32⟩
  | 108 => ⟨S_, .f32⟩
  | 109 => ⟨S64x64, .f32⟩
  | 110 => ⟨S64x64x1, .f32⟩
  | 111 => ⟨S_, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64, .f32⟩
  | 30 => ⟨S64x1, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64, .f32⟩
  | 38 => ⟨S64x1, .f32⟩
  | 39 => ⟨S64x1, .f32⟩
  | 40 => ⟨S64x64, .f32⟩
  | 41 => ⟨S64x64, .f32⟩
  | 42 => ⟨S64x64, .f32⟩
  | 43 => ⟨S_, .f32⟩
  | 44 => ⟨S64, .f32⟩
  | 45 => ⟨S64, .f32⟩
  | 46 => ⟨S64x64, .f32⟩
  | 47 => ⟨S64x1x64, .f32⟩
  | 48 => ⟨S64x1x64, .f32⟩
  | 49 => ⟨S64x1x1, .f32⟩
  | 50 => ⟨S64x16x64, .f32⟩
  | 51 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_16 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_17 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_18 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩

abbrev nD : Nat := 1
abbrev τ : Topo := Topo.v7x

variable {F : FTy → Type} [FloatOps F]
-- ==== Scan.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1x64 : Shape := ⟨3, ![64, 1, 64]⟩
abbrev S64x1x1 : Shape := ⟨3, ![64, 1, 1]⟩
abbrev S64x8x64 : Shape := ⟨3, ![64, 8, 64]⟩
abbrev S1x8x1 : Shape := ⟨3, ![1, 8, 1]⟩
abbrev S8x64x64 : Shape := ⟨3, ![8, 64, 64]⟩
abbrev S8x4096 : Shape := ⟨2, ![8, 4096]⟩
abbrev S4x256x1024 : Shape := ⟨3, ![4, 256, 1024]⟩
abbrev S4x1024x256 : Shape := ⟨3, ![4, 1024, 256]⟩
abbrev S64x1024 : Shape := ⟨2, ![64, 1024]⟩
abbrev S256x1024 : Shape := ⟨2, ![256, 1024]⟩
abbrev S16x16x64 : Shape := ⟨3, ![16, 16, 64]⟩
abbrev S256x64 : Shape := ⟨2, ![256, 64]⟩
abbrev S1x256x1024 : Shape := ⟨3, ![1, 256, 1024]⟩
abbrev S16x256 : Shape := ⟨2, ![16, 256]⟩
abbrev S1024x256 : Shape := ⟨2, ![1024, 256]⟩
abbrev S16x64x16 : Shape := ⟨3, ![16, 64, 16]⟩
abbrev S1024x16 : Shape := ⟨2, ![1024, 16]⟩
abbrev S1x1024x256 : Shape := ⟨3, ![1, 1024, 256]⟩
abbrev S2048x4096 : Shape := ⟨2, ![2048, 4096]⟩
abbrev S2048x128 : Shape := ⟨2, ![2048, 128]⟩
abbrev S1x128x512 : Shape := ⟨3, ![1, 128, 512]⟩
abbrev S8x512 : Shape := ⟨2, ![8, 512]⟩
abbrev S1x512x128 : Shape := ⟨3, ![1, 512, 128]⟩
abbrev S2048x512 : Shape := ⟨2, ![2048, 512]⟩
abbrev S128x512 : Shape := ⟨2, ![128, 512]⟩
abbrev S1x512 : Shape := ⟨2, ![1, 512]⟩
abbrev S512x128 : Shape := ⟨2, ![512, 128]⟩
abbrev S1x1024 : Shape := ⟨2, ![1, 1024]⟩
abbrev S1x4096 : Shape := ⟨2, ![1, 4096]⟩
abbrev S512 : Shape := ⟨1, ![512]⟩

abbrev nBuf : Space → Nat
  | .hbm => 62
  | .vmem => 85
  | .smem => 0
  | _ => 0

abbrev bufTy : (tb : Table) → Fin (tcTables nBuf tb) → BufTy
  | .hbm, ⟨0, _⟩ => ⟨S2048x1024, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S1024, .f32⟩
  | .hbm, ⟨9, _⟩ => ⟨S2048x1024, .f32⟩
  | .hbm, ⟨10, _⟩ => ⟨S64x1x64, .f32⟩
  | .hbm, ⟨11, _⟩ => ⟨S64x1x64, .f32⟩
  | .hbm, ⟨12, _⟩ => ⟨S64x1x1, .f32⟩
  | .hbm, ⟨13, _⟩ => ⟨S64x16x64, .f32⟩
  | .hbm, ⟨14, _⟩ => ⟨S64x16x64, .f32⟩
  | .hbm, ⟨15, _⟩ => ⟨S64x1x64, .f32⟩
  | .hbm, ⟨16, _⟩ => ⟨S64x1x64, .f32⟩
  | .hbm, ⟨17, _⟩ => ⟨S64x16x64, .f32⟩
  | .hbm, ⟨18, _⟩ => ⟨S64x16x64, .f32⟩
  | .hbm, ⟨19, _⟩ => ⟨S64x8x64, .f32⟩
  | .hbm, ⟨20, _⟩ => ⟨S64x8x64, .f32⟩
  | .hbm, ⟨21, _⟩ => ⟨S64x8x64, .f32⟩
  | .hbm, ⟨22, _⟩ => ⟨S64x8x64, .f32⟩
  | .hbm, ⟨23, _⟩ => ⟨S64x8x64, .f32⟩
  | .hbm, ⟨24, _⟩ => ⟨S64x8x64, .f32⟩
  | .hbm, ⟨25, _⟩ => ⟨S8x64x64, .f32⟩
  | .hbm, ⟨26, _⟩ => ⟨S8x4096, .f32⟩
  | .hbm, ⟨27, _⟩ => ⟨S8x64x64, .f32⟩
  | .hbm, ⟨28, _⟩ => ⟨S8x4096, .f32⟩
  | .hbm, ⟨29, _⟩ => ⟨S8x64x64, .f32⟩
  | .hbm, ⟨30, _⟩ => ⟨S8x4096, .f32⟩
  | .hbm, ⟨31, _⟩ => ⟨S8x64x64, .f32⟩
  | .hbm, ⟨32, _⟩ => ⟨S8x4096, .f32⟩
  | .hbm, ⟨33, _⟩ => ⟨S8x64x64, .f32⟩
  | .hbm, ⟨34, _⟩ => ⟨S8x4096, .f32⟩
  | .hbm, ⟨35, _⟩ => ⟨S8x64x64, .f32⟩
  | .hbm, ⟨36, _⟩ => ⟨S8x4096, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x16x64, .f32⟩
  | .hbm, ⟨41, _⟩ => ⟨S64x64x16, .f32⟩
  | .hbm, ⟨42, _⟩ => ⟨S64x64x16, .f32⟩
  | .hbm, ⟨43, _⟩ => ⟨S4x256x1024, .bf16⟩
  | .hbm, ⟨44, _⟩ => ⟨S4x256x1024, .bf16⟩
  | .hbm, ⟨45, _⟩ => ⟨S4x1024x256, .bf16⟩
  | .hbm, ⟨46, _⟩ => ⟨S4x1024x256, .bf16⟩
  | .hbm, ⟨47, _⟩ => ⟨S4x256x1024, .bf16⟩
  | .hbm, ⟨48, _⟩ => ⟨S4x256x1024, .bf16⟩
  | .hbm, ⟨49, _⟩ => ⟨S4x1024x256, .bf16⟩
  | .hbm, ⟨50, _⟩ => ⟨S4x1024x256, .bf16⟩
  | .hbm, ⟨51, _⟩ => ⟨S2048x4096, .f32⟩
  | .hbm, ⟨52, _⟩ => ⟨S2048x4096, .f32⟩
  | .hbm, ⟨53, _⟩ => ⟨S2048x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x4096, .f32⟩
  | .hbm, ⟨58, _⟩ => ⟨S2048x4096, .f32⟩
  | .hbm, ⟨59, _⟩ => ⟨S2048x1024, .f32⟩
  | .hbm, ⟨60, _⟩ => ⟨S1x4096, .f32⟩
  | .hbm, ⟨61, _⟩ => ⟨S1x4096, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x8x64, .f32⟩
  | .local _ .vmem, ⟨10, _⟩ => ⟨S64x8x64, .f32⟩
  | .local _ .vmem, ⟨11, _⟩ => ⟨S64x8x64, .f32⟩
  | .local _ .vmem, ⟨12, _⟩ => ⟨S64x8x64, .f32⟩
  | .local _ .vmem, ⟨13, _⟩ => ⟨S64x8x64, .f32⟩
  | .local _ .vmem, ⟨14, _⟩ => ⟨S64x8x64, .f32⟩
  | .local _ .vmem, ⟨15, _⟩ => ⟨S64x16x64, .f32⟩
  | .local _ .vmem, ⟨16, _⟩ => ⟨S64x16x64, .f32⟩
  | .local _ .vmem, ⟨17, _⟩ => ⟨S64x64x16, .f32⟩
  | .local _ .vmem, ⟨18, _⟩ => ⟨S64x64x16, .f32⟩
  | .local _ .vmem, ⟨19, _⟩ => ⟨S64x16x64, .f32⟩
  | .local _ .vmem, ⟨20, _⟩ => ⟨S64x16x64, .f32⟩
  | .local _ .vmem, ⟨21, _⟩ => ⟨S64x64x16, .f32⟩
  | .local _ .vmem, ⟨22, _⟩ => ⟨S64x64x16, .f32⟩
  | .local _ .vmem, ⟨23, _⟩ => ⟨S4x256x1024, .bf16⟩
  | .local _ .vmem, ⟨24, _⟩ => ⟨S4x256x1024, .bf16⟩
  | .local _ .vmem, ⟨25, _⟩ => ⟨S4x1024x256, .bf16⟩
  | .local _ .vmem, ⟨26, _⟩ => ⟨S4x1024x256, .bf16⟩
  | .local _ .vmem, ⟨27, _⟩ => ⟨S4x256x1024, .bf16⟩
  | .local _ .vmem, ⟨28, _⟩ => ⟨S4x256x1024, .bf16⟩
  | .local _ .vmem, ⟨29, _⟩ => ⟨S4x1024x256, .bf16⟩
  | .local _ .vmem, ⟨30, _⟩ => ⟨S4x1024x256, .bf16⟩
  | .local _ .vmem, ⟨31, _⟩ => ⟨S2048x128, .f32⟩
  | .local _ .vmem, ⟨32, _⟩ => ⟨S2048x128, .f32⟩
  | .local _ .vmem, ⟨33, _⟩ => ⟨S1x128x512, .bf16⟩
  | .local _ .vmem, ⟨34, _⟩ => ⟨S1x128x512, .bf16⟩
  | .local _ .vmem, ⟨35, _⟩ => ⟨S1x128x512, .bf16⟩
  | .local _ .vmem, ⟨36, _⟩ => ⟨S1x128x512, .bf16⟩
  | .local _ .vmem, ⟨37, _⟩ => ⟨S8x512, .f32⟩
  | .local _ .vmem, ⟨38, _⟩ => ⟨S8x512, .f32⟩
  | .local _ .vmem, ⟨39, _⟩ => ⟨S8x512, .f32⟩
  | .local _ .vmem, ⟨40, _⟩ => ⟨S8x512, .f32⟩
  | .local _ .vmem, ⟨41, _⟩ => ⟨S8x512, .f32⟩
  | .local _ .vmem, ⟨42, _⟩ => ⟨S8x512, .f32⟩
  | .local _ .vmem, ⟨43, _⟩ => ⟨S1x512x128, .bf16⟩
  | .local _ .vmem, ⟨44, _⟩ => ⟨S1x512x128, .bf16⟩
  | .local _ .vmem, ⟨45, _⟩ => ⟨S1x512x128, .bf16⟩
  | .local _ .vmem, ⟨46, _⟩ => ⟨S1x512x128, .bf16⟩
  | .local _ .vmem, ⟨47, _⟩ => ⟨S2048x512, .f32⟩
  | .local _ .vmem, ⟨48, _⟩ => ⟨S2048x512, .f32⟩
  | .local _ .vmem, ⟨49, _⟩ => ⟨S2048x512, .f32⟩
  | .local _ .vmem, ⟨50, _⟩ => ⟨S2048x512, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S1x128x512, .bf16⟩
  | .local _ .vmem, ⟨56, _⟩ => ⟨S1x128x512, .bf16⟩
  | .local _ .vmem, ⟨57, _⟩ => ⟨S1x128x512, .bf16⟩
  | .local _ .vmem, ⟨58, _⟩ => ⟨S1x128x512, .bf16⟩
  | .local _ .vmem, ⟨59, _⟩ => ⟨S8x512, .f32⟩
  | .local _ .vmem, ⟨60, _⟩ => ⟨S8x512, .f32⟩
  | .local _ .vmem, ⟨61, _⟩ => ⟨S8x512, .f32⟩
  | .local _ .vmem, ⟨62, _⟩ => ⟨S8x512, .f32⟩
  | .local _ .vmem, ⟨63, _⟩ => ⟨S8x512, .f32⟩
  | .local _ .vmem, ⟨64, _⟩ => ⟨S8x512, .f32⟩
  | .local _ .vmem, ⟨65, _⟩ => ⟨S1x512x128, .bf16⟩
  | .local _ .vmem, ⟨66, _⟩ => ⟨S1x512x128, .bf16⟩
  | .local _ .vmem, ⟨67, _⟩ => ⟨S1x512x128, .bf16⟩
  | .local _ .vmem, ⟨68, _⟩ => ⟨S1x512x128, .bf16⟩
  | .local _ .vmem, ⟨69, _⟩ => ⟨S2048x128, .f32⟩
  | .local _ .vmem, ⟨70, _⟩ => ⟨S2048x128, .f32⟩
  | .local _ .vmem, ⟨71, _⟩ => ⟨S2048x512, .f32⟩
  | .local _ .vmem, ⟨72, _⟩ => ⟨S2048x512, .f32⟩
  | .local _ .vmem, ⟨73, _⟩ => ⟨S2048x512, .f32⟩
  | .local _ .vmem, ⟨74, _⟩ => ⟨S2048x512, .f32⟩
  | .local _ .vmem, ⟨75, _⟩ => ⟨S2048x512, .f32⟩
  | .local _ .vmem, ⟨76, _⟩ => ⟨S2048x512, .f32⟩
  | .local _ .vmem, ⟨77, _⟩ => ⟨S2048x512, .f32⟩
  | .local _ .vmem, ⟨78, _⟩ => ⟨S2048x512, .f32⟩
  | .local _ .vmem, ⟨79, _⟩ => ⟨S2048x128, .f32⟩
  | .local _ .vmem, ⟨80, _⟩ => ⟨S2048x128, .f32⟩
  | .local _ .vmem, ⟨81, _⟩ => ⟨S1x512, .f32⟩
  | .local _ .vmem, ⟨82, _⟩ => ⟨S1x512, .f32⟩
  | .local _ .vmem, ⟨83, _⟩ => ⟨S1x512, .f32⟩
  | .local _ .vmem, ⟨84, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_v24_2 : Ref sig .tc := ⟨.hbm, 45, rfl⟩
abbrev main_v24_3 : Ref sig .tc := ⟨.hbm, 46, rfl⟩
abbrev main_v24_4 : Ref sig .tc := ⟨.hbm, 47, rfl⟩
abbrev main_v24_5 : Ref sig .tc := ⟨.hbm, 48, rfl⟩
abbrev main_v24_6 : Ref sig .tc := ⟨.hbm, 49, rfl⟩
abbrev main_v24_7 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29_0 : Ref sig .tc := ⟨.hbm, 57, rfl⟩
abbrev main_v29_1 : Ref sig .tc := ⟨.hbm, 58, rfl⟩
abbrev main_v29_2 : Ref sig .tc := ⟨.hbm, 59, rfl⟩
abbrev main_v29_3 : Ref sig .tc := ⟨.hbm, 60, rfl⟩
abbrev main_v29_4 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg4_1 : Ref sig .tc := ⟨.vmem, 40, rfl⟩
abbrev cc2_stg5_0 : Ref sig .tc := ⟨.vmem, 41, rfl⟩
abbrev cc2_stg5_1 : Ref sig .tc := ⟨.vmem, 42, rfl⟩
abbrev cc2_stg6_0 : Ref sig .tc := ⟨.vmem, 43, rfl⟩
abbrev cc2_stg6_1 : Ref sig .tc := ⟨.vmem, 44, rfl⟩
abbrev cc2_stg7_0 : Ref sig .tc := ⟨.vmem, 45, rfl⟩
abbrev cc2_stg7_1 : Ref sig .tc := ⟨.vmem, 46, rfl⟩
abbrev cc2_stg8_0 : Ref sig .tc := ⟨.vmem, 47, rfl⟩
abbrev cc2_stg8_1 : Ref sig .tc := ⟨.vmem, 48, rfl⟩
abbrev cc2_stg9_0 : Ref sig .tc := ⟨.vmem, 49, rfl⟩
abbrev cc2_stg9_1 : Ref sig .tc := ⟨.vmem, 50, rfl⟩
abbrev cc2_stg10_0 : Ref sig .tc := ⟨.vmem, 51, rfl⟩
abbrev cc2_stg10_1 : Ref sig .tc := ⟨.vmem, 52, rfl⟩
abbrev cc3_stg0_0 : Ref sig .tc := ⟨.vmem, 53, rfl⟩
abbrev cc3_stg0_1 : Ref sig .tc := ⟨.vmem, 54, rfl⟩
abbrev cc3_stg1_0 : Ref sig .tc := ⟨.vmem, 55, rfl⟩
abbrev cc3_stg1_1 : Ref sig .tc := ⟨.vmem, 56, rfl⟩
abbrev cc3_stg2_0 : Ref sig .tc := ⟨.vmem, 57, rfl⟩
abbrev cc3_stg2_1 : Ref sig .tc := ⟨.vmem, 58, rfl⟩
abbrev cc3_stg3_0 : Ref sig .tc := ⟨.vmem, 59, rfl⟩
abbrev cc3_stg3_1 : Ref sig .tc := ⟨.vmem, 60, rfl⟩
abbrev cc3_stg4_0 : Ref sig .tc := ⟨.vmem, 61, rfl⟩
abbrev cc3_stg4_1 : Ref sig .tc := ⟨.vmem, 62, rfl⟩
abbrev cc3_stg5_0 : Ref sig .tc := ⟨.vmem, 63, rfl⟩
abbrev cc3_stg5_1 : Ref sig .tc := ⟨.vmem, 64, rfl⟩
abbrev cc3_stg6_0 : Ref sig .tc := ⟨.vmem, 65, rfl⟩
abbrev cc3_stg6_1 : Ref sig .tc := ⟨.vmem, 66, rfl⟩
abbrev cc3_stg7_0 : Ref sig .tc := ⟨.vmem, 67, rfl⟩
abbrev cc3_stg7_1 : Ref sig .tc := ⟨.vmem, 68, rfl⟩
abbrev cc3_stg8_0 : Ref sig .tc := ⟨.vmem, 69, rfl⟩
abbrev cc3_stg8_1 : Ref sig .tc := ⟨.vmem, 70, rfl⟩
abbrev cc3_stg9_0 : Ref sig .tc := ⟨.vmem, 71, rfl⟩
abbrev cc3_stg9_1 : Ref sig .tc := ⟨.vmem, 72, rfl⟩
abbrev cc3_stg10_0 : Ref sig .tc := ⟨.vmem, 73, rfl⟩
abbrev cc3_stg10_1 : Ref sig .tc := ⟨.vmem, 74, rfl⟩
abbrev cc3_stg11_0 : Ref sig .tc := ⟨.vmem, 75, rfl⟩
abbrev cc3_stg11_1 : Ref sig .tc := ⟨.vmem, 76, rfl⟩
abbrev cc3_stg12_0 : Ref sig .tc := ⟨.vmem, 77, rfl⟩
abbrev cc3_stg12_1 : Ref sig .tc := ⟨.vmem, 78, rfl⟩
abbrev cc3_stg13_0 : Ref sig .tc := ⟨.vmem, 79, rfl⟩
abbrev cc3_stg13_1 : Ref sig .tc := ⟨.vmem, 80, rfl⟩
abbrev cc3_stg14_0 : Ref sig .tc := ⟨.vmem, 81, rfl⟩
abbrev cc3_stg14_1 : Ref sig .tc := ⟨.vmem, 82, rfl⟩
abbrev cc3_stg15_0 : Ref sig .tc := ⟨.vmem, 83, rfl⟩
abbrev cc3_stg15_1 : Ref sig .tc := ⟨.vmem, 84, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc2_sem5_0 : DmaSem sig := 41
abbrev cc2_sem5_1 : DmaSem sig := 42
abbrev cc2_sem6_0 : DmaSem sig := 43
abbrev cc2_sem6_1 : DmaSem sig := 44
abbrev cc2_sem7_0 : DmaSem sig := 45
abbrev cc2_sem7_1 : DmaSem sig := 46
abbrev cc2_sem8_0 : DmaSem sig := 47
abbrev cc2_sem8_1 : DmaSem sig := 48
abbrev cc2_sem9_0 : DmaSem sig := 49
abbrev cc2_sem9_1 : DmaSem sig := 50
abbrev cc2_sem10_0 : DmaSem sig := 51
abbrev cc2_sem10_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58
abbrev cc3_sem3_0 : DmaSem sig := 59
abbrev cc3_sem3_1 : DmaSem sig := 60
abbrev cc3_sem4_0 : DmaSem sig := 61
abbrev cc3_sem4_1 : DmaSem sig := 62
abbrev cc3_sem5_0 : DmaSem sig := 63
abbrev cc3_sem5_1 : DmaSem sig := 64
abbrev cc3_sem6_0 : DmaSem sig := 65
abbrev cc3_sem6_1 : DmaSem sig := 66
abbrev cc3_sem7_0 : DmaSem sig := 67
abbrev cc3_sem7_1 : DmaSem sig := 68
abbrev cc3_sem8_0 : DmaSem sig := 69
abbrev cc3_sem8_1 : DmaSem sig := 70
abbrev cc3_sem9_0 : DmaSem sig := 71
abbrev cc3_sem9_1 : DmaSem sig := 72
abbrev cc3_sem10_0 : DmaSem sig := 73
abbrev cc3_sem10_1 : DmaSem sig := 74
abbrev cc3_sem11_0 : DmaSem sig := 75
abbrev cc3_sem11_1 : DmaSem sig := 76
abbrev cc3_sem12_0 : DmaSem sig := 77
abbrev cc3_sem12_1 : DmaSem sig := 78
abbrev cc3_sem13_0 : DmaSem sig := 79
abbrev cc3_sem13_1 : DmaSem sig := 80
abbrev cc3_sem14_0 : DmaSem sig := 81
abbrev cc3_sem14_1 : DmaSem sig := 82
abbrev cc3_sem15_0 : DmaSem sig := 83
abbrev cc3_sem15_1 : DmaSem sig := 84

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := .none

abbrev stage1_0 : Fin 1 → Memref sig .tc .vmem S64x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x64x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4x256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x256x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S4x1024x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S4x1024x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S4x256x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S4x256x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S4x1024x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S4x1024x256 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev grid2 : Pipeline.Grid := ⟨1, ![8], ![false]⟩

@[reducible] def k2_t1_loop : Scf.Loop 32 :=
  let c0_i32 : BitVec 32 := 0#32
  let c256_i32 : BitVec 32 := 256#32
  let v56 : BitVec 32 := Scalar.addi c0_i32 c256_i32
  let c1_i32_27 : BitVec 32 := 1#32
  ⟨c0_i32, v56, c1_i32_27⟩
def k2_mult1 (k2_t1 : Fin k2_t1_loop.trips) : BitVec 32 :=
  let c0_i32 : BitVec 32 := 0#32
  let c1_i32_27 : BitVec 32 := 1#32
  let arg12 : BitVec 32 := Scf.iv c0_i32 c1_i32_27 k2_t1
  let c8_i32 : BitVec 32 := 8#32
  let v72 : BitVec 32 := Scalar.muli arg12 c8_i32
  v72
def k2_off1 (k2_t1 : Fin k2_t1_loop.trips) : Fin 2 → Nat :=
  let c0_i32 : BitVec 32 := 0#32
  let c1_i32_27 : BitVec 32 := 1#32
  let arg12 : BitVec 32 := Scf.iv c0_i32 c1_i32_27 k2_t1
  let c8_i32 : BitVec 32 := 8#32
  let v72 : BitVec 32 := Scalar.muli arg12 c8_i32
  let v73 : BitVec 32 := v72
  let v74 : Index := Scalar.indexCast v73
  let c0_43 : Index := 0#32
  ![v74.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_2 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_7 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2048x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![8], ![false]⟩

@[reducible] def k3_t1_loop : Scf.Loop 32 :=
  let c0_i32 : BitVec 32 := 0#32
  let c256_i32 : BitVec 32 := 256#32
  let v58 : BitVec 32 := Scalar.addi c0_i32 c256_i32
  let c1_i32 : BitVec 32 := 1#32
  ⟨c0_i32, v58, c1_i32⟩
def k3_mult1 (k3_t1 : Fin k3_t1_loop.trips) : BitVec 32 :=
  let c255_i32 : BitVec 32 := 255#32
  let c0_i32 : BitVec 32 := 0#32
  let c1_i32 : BitVec 32 := 1#32
  let arg17 : BitVec 32 := Scf.iv c0_i32 c1_i32 k3_t1
  let v83 : BitVec 32 := Scalar.subi c255_i32 arg17
  let c8_i32 : BitVec 32 := 8#32
  let v84 : BitVec 32 := Scalar.muli v83 c8_i32
  v84
def k3_off1 (k3_t1 : Fin k3_t1_loop.trips) : Fin 2 → Nat :=
  let c255_i32 : BitVec 32 := 255#32
  let c0_i32 : BitVec 32 := 0#32
  let c1_i32 : BitVec 32 := 1#32
  let arg17 : BitVec 32 := Scf.iv c0_i32 c1_i32 k3_t1
  let v83 : BitVec 32 := Scalar.subi c255_i32 arg17
  let c8_i32 : BitVec 32 := 8#32
  let v84 : BitVec 32 := Scalar.muli v83 c8_i32
  let v85 : BitVec 32 := v84
  let v86 : Index := Scalar.indexCast v85
  let c0_52 : Index := 0#32
  ![v86.toNat, 0]
def k3_mult2 (k3_t1 : Fin k3_t1_loop.trips) : BitVec 32 :=
  let c255_i32 : BitVec 32 := 255#32
  let c0_i32 : BitVec 32 := 0#32
  let c1_i32 : BitVec 32 := 1#32
  let arg17 : BitVec 32 := Scf.iv c0_i32 c1_i32 k3_t1
  let v83 : BitVec 32 := Scalar.subi c255_i32 arg17
  let c8_i32 : BitVec 32 := 8#32
  let v84 : BitVec 32 := Scalar.muli v83 c8_i32
  let v85 : BitVec 32 := v84
  let c8_i32_62 : BitVec 32 := 8#32
  let v140 : BitVec 32 := Scalar.subi v85 c8_i32_62
  let c0_i32_63 : BitVec 32 := 0#32
  let v141 : BitVec 32 := Scalar.maxsi v140 c0_i32_63
  v141
def k3_off2 (k3_t1 : Fin k3_t1_loop.trips) : Fin 2 → Nat :=
  let c255_i32 : BitVec 32 := 255#32
  let c0_i32 : BitVec 32 := 0#32
  let c1_i32 : BitVec 32 := 1#32
  let arg17 : BitVec 32 := Scf.iv c0_i32 c1_i32 k3_t1
  let v83 : BitVec 32 := Scalar.subi c255_i32 arg17
  let c8_i32 : BitVec 32 := 8#32
  let v84 : BitVec 32 := Scalar.muli v83 c8_i32
  let v85 : BitVec 32 := v84
  let c8_i32_62 : BitVec 32 := 8#32
  let v140 : BitVec 32 := Scalar.subi v85 c8_i32_62
  let c0_i32_63 : BitVec 32 := 0#32
  let v141 : BitVec 32 := Scalar.maxsi v140 c0_i32_63
  let v142 : BitVec 32 := v141
  let v144 : Index := Scalar.indexCast v142
  let c0_65 : Index := 0#32
  ![v144.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc3_transform_2 (i : grid3.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc3_transform_7 (i : grid3.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2048x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2048x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2048x512 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S2048x512 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S2048x512 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S2048x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S1x512 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S1x512 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]
-- ==== GlaFwd.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S_ : Shape := ⟨0, ![]⟩
abbrev S2048x6272 : Shape := ⟨2, ![2048, 6272]⟩
abbrev S128x1024 : Shape := ⟨2, ![128, 1024]⟩
abbrev S1x1024 : Shape := ⟨2, ![1, 1024]⟩
abbrev S1x512 : Shape := ⟨2, ![1, 512]⟩
abbrev S2048x2048 : Shape := ⟨2, ![2048, 2048]⟩
abbrev S4x32x512x256 : Shape := ⟨4, ![4, 32, 512, 256]⟩
abbrev S64x1024 : Shape := ⟨2, ![64, 1024]⟩
abbrev S64x2048 : Shape := ⟨2, ![64, 2048]⟩
abbrev S64x128 : Shape := ⟨2, ![64, 128]⟩
abbrev S4x1x512x256 : Shape := ⟨4, ![4, 1, 512, 256]⟩
abbrev S4x512x256 : Shape := ⟨3, ![4, 512, 256]⟩
abbrev S64x64 : Shape := ⟨2, ![64, 64]⟩
abbrev S1x512x256 : Shape := ⟨3, ![1, 512, 256]⟩
abbrev S512x256 : Shape := ⟨2, ![512, 256]⟩
abbrev S1x256 : Shape := ⟨2, ![1, 256]⟩
abbrev S64x512 : Shape := ⟨2, ![64, 512]⟩
abbrev S64x256 : Shape := ⟨2, ![64, 256]⟩
abbrev S1x1x512x256 : Shape := ⟨4, ![1, 1, 512, 256]⟩
abbrev S64 : Shape := ⟨1, ![64]⟩
abbrev S64x1 : Shape := ⟨2, ![64, 1]⟩

abbrev nBuf : Space → Nat
  | .hbm => 15
  | .vmem => 18
  | .smem => 0
  | _ => 0

abbrev bufTy : (tb : Table) → Fin (tcTables nBuf tb) → BufTy
  | .hbm, ⟨0, _⟩ => ⟨S2048x6160, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S2048x6272, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S128x1024, .bf16⟩
  | .hbm, ⟨11, _⟩ => ⟨S1x1024, .f32⟩
  | .hbm, ⟨12, _⟩ => ⟨S1x512, .f32⟩
  | .hbm, ⟨13, _⟩ => ⟨S2048x2048, .bf16⟩
  | .hbm, ⟨14, _⟩ => ⟨S4x32x512x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S64x2048, .bf16⟩
  | .local _ .vmem, ⟨14, _⟩ => ⟨S64x2048, .bf16⟩
  | .local _ .vmem, ⟨15, _⟩ => ⟨S4x1x512x256, .f32⟩
  | .local _ .vmem, ⟨16, _⟩ => ⟨S4x1x512x256, .f32⟩
  | .local _ .vmem, ⟨17, _⟩ => ⟨S4x512x256, .f32⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaFwdRefIdeal.lean ====
abbrev S2048x6160 : Shape := ⟨2, ![2048, 6160]⟩
abbrev S16x1024 : Shape := ⟨2, ![16, 1024]⟩
abbrev S1024 : Shape := ⟨1, ![1024]⟩
abbrev S512 : Shape := ⟨1, ![512]⟩
abbrev S2048x1024 : Shape := ⟨2, ![2048, 1024]⟩
abbrev S2048x2048 : Shape := ⟨2, ![2048, 2048]⟩
abbrev S2048x16 : Shape := ⟨2, ![2048, 16]⟩
abbrev S1x1024 : Shape := ⟨2, ![1, 1024]⟩
abbrev S_ : Shape := ⟨0, ![]⟩
abbrev S32x64x4x256 : Shape := ⟨4, ![32, 64, 4, 256]⟩
abbrev S32x4x64x256 : Shape := ⟨4, ![32, 4, 64, 256]⟩
abbrev S32x64x4x512 : Shape := ⟨4, ![32, 64, 4, 512]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S32x4x256x512 : Shape := ⟨4, ![32, 4, 256, 512]⟩
abbrev S32x4x256x1 : Shape := ⟨4, ![32, 4, 256, 1]⟩
abbrev S1x4x256x512 : Shape := ⟨4, ![1, 4, 256, 512]⟩
abbrev S16x4x256x512 : Shape := ⟨4, ![16, 4, 256, 512]⟩
abbrev S32x4x64 : Shape := ⟨3, ![32, 4, 64]⟩
abbrev S32x4x64x1 : Shape := ⟨4, ![32, 4, 64, 1]⟩
abbrev S1x1x1x512 : Shape := ⟨4, ![1, 1, 1, 512]⟩
abbrev S4x32x512x256 : Shape := ⟨4, ![4, 32, 512, 256]⟩

abbrev nBuf : Space → Nat
  | .hbm => 220
  | .vmem => 0
  | .smem => 0
  | _ => 0

abbrev hbmTy0_0 (i : Nat) : BufTy := match i % 128 with
  | 0 => ⟨S2048x6160, .f32⟩
  | 1 => ⟨S16x1024, .f32⟩
  | 2 => ⟨S1024, .f32⟩
  | 3 => ⟨S512, .f32⟩
  | 4 => ⟨S2048x1024, .f32⟩
  | 5 => ⟨S2048x1024, .f32⟩
  | 6 => ⟨S2048x2048, .f32⟩
  | 7 => ⟨S2048x2048, .f32⟩
  | 8 => ⟨S2048x16, .f32⟩
  | 9 => ⟨S2048x1024, .f32⟩
  | 10 => ⟨S1x1024, .f32⟩
  | 11 => ⟨S2048x1024, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S2048x1024, .i1⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S32x64x4x256, .f32⟩
  | 33 => ⟨S32x4x64x256, .f32⟩
  | 34 => ⟨S_, .f32⟩
  | 35 => ⟨S32x4x64x256, .f32⟩
  | 36 => ⟨S32x4x64x256, .f32⟩
  | 37 => ⟨S32x64x4x256, .f32⟩
  | 38 => ⟨S32x4x64x256, .f32⟩
  | 39 => ⟨S32x64x4x512, .f32⟩
  | 40 => ⟨S32x4x64x512, .f32⟩
  | 41 => ⟨S32x64x4x256, .f32⟩
  | 42 => ⟨S32x4x64x256, .f32⟩
  | 43 => ⟨S_, .f32⟩
  | 44 => ⟨S_, .f32⟩
  | 45 => ⟨S32x4x64x256, .f32⟩
  | 46 => ⟨S32x4x1x256, .f32⟩
  | 47 => ⟨S32x4x64x256, .f32⟩
  | 48 => ⟨S32x4x64x256, .f32⟩
  | 49 => ⟨S32x4x64x256, .f32⟩
  | 50 => ⟨S32x4x64x256, .f32⟩
  | 51 => ⟨S32x4x256, .f32⟩
  | 52 => ⟨S32x4x256, .f32⟩
  | 53 => ⟨S32x4x256x512, .f32⟩
  | 54 => ⟨S32x4x256x1, .f32⟩
  | 55 => ⟨S32x4x256x512, .f32⟩
  | 56 => ⟨S_, .f32⟩
  | 57 => ⟨S1x4x256x512, .f32⟩
  | 58 => ⟨S1x4x256x512, .f32⟩
  | 59 => ⟨S1x4x256x512, .f32⟩
  | 60 => ⟨S1x4x256x512, .f32⟩
  | 61 => ⟨S1x4x256x512, .f32⟩
  | 62 => ⟨S1x4x256x512, .f32⟩
  | 63 => ⟨S1x4x256x512, .f32⟩
  | 64 => ⟨S1x4x256x512, .f32⟩
  | 65 => ⟨S1x4x256x512, .f32⟩
  | 66 => ⟨S1x4x256x512, .f32⟩
  | 67 => ⟨S1x4x256x512, .f32⟩
  | 68 => ⟨S1x4x256x512, .f32⟩
  | 69 => ⟨S1x4x256x512, .f32⟩
  | 70 => ⟨S1x4x256x512, .f32⟩
  | 71 => ⟨S1x4x256x512, .f32⟩
  | 72 => ⟨S1x4x256x512, .f32⟩
  | 73 => ⟨S1x4x256x512, .f32⟩
  | 74 => ⟨S1x4x256x512, .f32⟩
  | 75 => ⟨S1x4x256x512, .f32⟩
  | 76 => ⟨S1x4x256x512, .f32⟩
  | 77 => ⟨S1x4x256x512, .f32⟩
  | 78 => ⟨S1x4x256x512, .f32⟩
  | 79 => ⟨S1x4x256x512, .f32⟩
  | 80 => ⟨S1x4x256x512, .f32⟩
  | 81 => ⟨S1x4x256x512, .f32⟩
  | 82 => ⟨S1x4x256x512, .f32⟩
  | 83 => ⟨S1x4x256x512, .f32⟩
  | 84 => ⟨S1x4x256x512, .f32⟩
  | 85 => ⟨S1x4x256x512, .f32⟩
  | 86 => ⟨S1x4x256x512, .f32⟩
  | 87 => ⟨S1x4x256x512, .f32⟩
  | 88 => ⟨S1x4x256x512, .f32⟩
  | 89 => ⟨S1x4x256x512, .f32⟩
  | 90 => ⟨S1x4x256x512, .f32⟩
  | 91 => ⟨S1x4x256x512, .f32⟩
  | 92 => ⟨S1x4x256x512, .f32⟩
  | 93 => ⟨S1x4x256x512, .f32⟩
  | 94 => ⟨S1x4x256x512, .f32⟩
  | 95 => ⟨S1x4x256x512, .f32⟩
  | 96 => ⟨S1x4x256x512, .f32⟩
  | 97 => ⟨S1x4x256x512, .f32⟩
  | 98 => ⟨S1x4x256x512, .f32⟩
  | 99 => ⟨S1x4x256x512, .f32⟩
  | 100 => ⟨S1x4x256x512, .f32⟩
  | 101 => ⟨S1x4x256x512, .f32⟩
  | 102 => ⟨S1x4x256x512, .f32⟩
  | 103 => ⟨S1x4x256x512, .f32⟩
  | 104 => ⟨S1x4x256x512, .f32⟩
  | 105 => ⟨S1x4x256x512, .f32⟩
  | 106 => ⟨S1x4x256x512, .f32⟩
  | 107 => ⟨S1x4x256x512, .f32⟩
  | 108 => ⟨S1x4x256x512, .f32⟩
  | 109 => ⟨S1x4x256x512, .f32⟩
  | 110 => ⟨S1x4x256x512, .f32⟩
  | 111 => ⟨S1x4x256x512, .f32⟩
  | 112 => ⟨S1x4x256x512, .f32⟩
  | 113 => ⟨S1x4x256x512, .f32⟩
  | 114 => ⟨S1x4x256x512, .f32⟩
  | 115 => ⟨S1x4x256x512, .f32⟩
  | 116 => ⟨S1x4x256x512, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x4x256x512, .f32⟩
  | 122 => ⟨S1x4x256x512, .f32⟩
  | 123 => ⟨S1x4x256x512, .f32⟩
  | 124 => ⟨S1x4x256x512, .f32⟩
  | 125 => ⟨S1x4x256x512, .f32⟩
  | 126 => ⟨S1x4x256x512, .f32⟩
  | 127 => ⟨S1x4x256x512, .f32⟩
  | _ => ⟨S2048x6160, .f32⟩

abbrev hbmTy0_1 (i : Nat) : BufTy := match i % 128 with
  | 0 => ⟨S1x4x256x512, .f32⟩
  | 1 => ⟨S1x4x256x512, .f32⟩
  | 2 => ⟨S1x4x256x512, .f32⟩
  | 3 => ⟨S1x4x256x512, .f32⟩
  | 4 => ⟨S1x4x256x512, .f32⟩
  | 5 => ⟨S1x4x256x512, .f32⟩
  | 6 => ⟨S1x4x256x512, .f32⟩
  | 7 => ⟨S1x4x256x512, .f32⟩
  | 8 => ⟨S1x4x256x512, .f32⟩
  | 9 => ⟨S1x4x256x512, .f32⟩
  | 10 => ⟨S1x4x256x512, .f32⟩
  | 11 => ⟨S1x4x256x512, .f32⟩
  | 12 => ⟨S1x4x256x512, .f32⟩
  | 13 => ⟨S1x4x256x512, .f32⟩
  | 14 => ⟨S1x4x256x512, .f32⟩
  | 15 => ⟨S1x4x256x512, .f32⟩
  | 16 => ⟨S1x4x256x512, .f32⟩
  | 17 => ⟨S1x4x256x512, .f32⟩
  | 18 => ⟨S1x4x256x512, .f32⟩
  | 19 => ⟨S1x4x256x512, .f32⟩
  | 20 => ⟨S1x4x256x512, .f32⟩
  | 21 => ⟨S1x4x256x512, .f32⟩
  | 22 => ⟨S1x4x256x512, .f32⟩
  | 23 => ⟨S1x4x256x512, .f32⟩
  | 24 => ⟨S1x4x256x512, .f32⟩
  | 25 => ⟨S1x4x256x512, .f32⟩
  | 26 => ⟨S1x4x256x512, .f32⟩
  | 27 => ⟨S1x4x256x512, .f32⟩
  | 28 => ⟨S1x4x256x512, .f32⟩
  | 29 => ⟨S1x4x256x512, .f32⟩
  | 30 => ⟨S1x4x256x512, .f32⟩
  | 31 => ⟨S1x4x256x512, .f32⟩
  | 32 => ⟨S1x4x256x512, .f32⟩
  | 33 => ⟨S1x4x256x512, .f32⟩
  | 34 => ⟨S1x4x256x512, .f32⟩
  | 35 => ⟨S1x4x256x512, .f32⟩
  | 36 => ⟨S1x4x256x512, .f32⟩
  | 37 => ⟨S1x4x256x512, .f32⟩
  | 38 => ⟨S1x4x256x512, .f32⟩
  | 39 => ⟨S1x4x256x512, .f32⟩
  | 40 => ⟨S1x4x256x512, .f32⟩
  | 41 => ⟨S1x4x256x512, .f32⟩
  | 42 => ⟨S1x4x256x512, .f32⟩
  | 43 => ⟨S1x4x256x512, .f32⟩
  | 44 => ⟨S1x4x256x512, .f32⟩
  | 45 => ⟨S1x4x256x512, .f32⟩
  | 46 => ⟨S1x4x256x512, .f32⟩
  | 47 => ⟨S1x4x256x512, .f32⟩
  | 48 => ⟨S1x4x256x512, .f32⟩
  | 49 => ⟨S1x4x256x512, .f32⟩
  | 50 => ⟨S1x4x256x512, .f32⟩
  | 51 => ⟨S1x4x256x512, .f32⟩
  | 52 => ⟨S1x4x256x512, .f32⟩
  | 53 => ⟨S1x4x256x512, .f32⟩
  | 54 => ⟨S1x4x256x512, .f32⟩
  | 55 => ⟨S1x4x256x512, .f32⟩
  | 56 => ⟨S1x4x256x512, .f32⟩
  | 57 => ⟨S1x4x256x512, .f32⟩
  | 58 => ⟨S16x4x256x512, .f32⟩
  | 59 => ⟨S16x4x256x512, .f32⟩
  | 60 => ⟨S32x4x256x512, .f32⟩
  | 61 => ⟨S32x4x64x512, .f32⟩
  | 62 => ⟨S32x4x64x512, .f32⟩
  | 63 => ⟨S_, .f32⟩
  | 64 => ⟨S32x4x64, .f32⟩
  | 65 => ⟨S32x4x64x1, .f32⟩
  | 66 => ⟨S_, .f32⟩
  | 67 => ⟨S32x4x64x1, .f32⟩
  | 68 => ⟨S32x4x64x1, .f32⟩
  | 69 => ⟨S_, .f32⟩
  | 70 => ⟨S32x4x64x1, .f32⟩
  | 71 => ⟨S32x4x64x1, .f32⟩
  | 72 => ⟨S32x4x64x1, .f32⟩
  | 73 => ⟨S32x4x64x512, .f32⟩
  | 74 => ⟨S32x4x64x512, .f32⟩
  | 75 => ⟨S1x1x1x512, .f32⟩
  | 76 => ⟨S32x4x64x512, .f32⟩
  | 77 => ⟨S32x4x64x512, .f32⟩
  | 78 => ⟨S32x64x4x512, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S2048x2048, .f32⟩
  | 89 => ⟨S2048x2048, .f32⟩
  | 90 => ⟨S2048x2048, .bf16⟩
  | 91 => ⟨S4x32x512x256, .f32⟩
  | _ => ⟨S2048x6160, .f32⟩

abbrev hbmTy (i : Nat) : BufTy := match i / 128 with
  | 0 => hbmTy0_0 i
  | 1 => hbmTy0_1 i
  | _ => ⟨S2048x6160, .f32⟩

abbrev bufTy : (tb : Table) → Fin (tcTables nBuf tb) → BufTy
  | .hbm, ⟨i, _⟩ => hbmTy i
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_call0_cst : Ref sig .tc := ⟨.hbm, 43, rfl⟩
abbrev main_call1_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_cst_2 : Ref sig .tc := ⟨.hbm, 191, rfl⟩
abbrev main_v167 : Ref sig .tc := ⟨.hbm, 192, rfl⟩
abbrev main_v168 : Ref sig .tc := ⟨.hbm, 193, rfl⟩
abbrev main_cst_3 : Ref sig .tc := ⟨.hbm, 194, rfl⟩
abbrev main_v169 : Ref sig .tc := ⟨.hbm, 195, rfl⟩
abbrev main_v170 : Ref sig .tc := ⟨.hbm, 196, rfl⟩
abbrev main_cst_4 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_call2_v0 : Ref sig .tc := ⟨.hbm, 208, rfl⟩
abbrev main_call2_v1 : Ref sig .tc := ⟨.hbm, 209, rfl⟩
abbrev main_call2_cst : Ref sig .tc := ⟨.hbm, 210, rfl⟩
abbrev main_call2_v2 : Ref sig .tc := ⟨.hbm, 211, rfl⟩
abbrev main_call2_v3 : Ref sig .tc := ⟨.hbm, 212, rfl⟩
abbrev main_call2_cst_0 : Ref sig .tc := ⟨.hbm, 213, rfl⟩
abbrev main_call2_v4 : Ref sig .tc := ⟨.hbm, 214, rfl⟩
abbrev main_call2_v5 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ActFwd.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActFwdRefIdeal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GluFwd.lean ====
abbrev S2048x4096 : Shape := ⟨2, ![2048, 4096]⟩
abbrev S2048x2048 : Shape := ⟨2, ![2048, 2048]⟩
abbrev S128x4096 : Shape := ⟨2, ![128, 4096]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluFwdRefIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SqReluFwd.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x2048, .bf16⟩
  | .hbm, ⟨6, _⟩ => ⟨S2048x8192, .f32⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqReluFwdRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ZohFwd.lean ====
abbrev S64x64 : Shape := ⟨2, ![64, 64]⟩
abbrev S64 : Shape := ⟨1, ![64]⟩
abbrev S64x64x16 : Shape := ⟨3, ![64, 64, 16]⟩
abbrev S64x1x64 : Shape := ⟨3, ![64, 1, 64]⟩
abbrev S64x1x1 : Shape := ⟨3, ![64, 1, 1]⟩
abbrev S64x16x64 : Shape := ⟨3, ![64, 16, 64]⟩
abbrev S64x8x64 : Shape := ⟨3, ![64, 8, 64]⟩
abbrev S1x8x1 : Shape := ⟨3, ![1, 8, 1]⟩

abbrev nBuf : Space → Nat
  | .hbm => 20
  | .vmem => 15
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1x64, .f32⟩
  | .hbm, ⟨6, _⟩ => ⟨S64x1x64, .f32⟩
  | .hbm, ⟨7, _⟩ => ⟨S64x1x1, .f32⟩
  | .hbm, ⟨8, _⟩ => ⟨S64x16x64, .f32⟩
  | .hbm, ⟨9, _⟩ => ⟨S64x16x64, .f32⟩
  | .hbm, ⟨10, _⟩ => ⟨S64x1x64, .f32⟩
  | .hbm, ⟨11, _⟩ => ⟨S64x1x64, .f32⟩
  | .hbm, ⟨12, _⟩ => ⟨S64x16x64, .f32⟩
  | .hbm, ⟨13, _⟩ => ⟨S64x16x64, .f32⟩
  | .hbm, ⟨14, _⟩ => ⟨S64x8x64, .f32⟩
  | .hbm, ⟨15, _⟩ => ⟨S64x8x64, .f32⟩
  | .hbm, ⟨16, _⟩ => ⟨S64x8x64, .f32⟩
  | .hbm, ⟨17, _⟩ => ⟨S64x8x64, .f32⟩
  | .hbm, ⟨18, _⟩ => ⟨S64x8x64, .f32⟩
  | .hbm, ⟨19, _⟩ => ⟨S64x8x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x8x64, .f32⟩
  | .local _ .vmem, ⟨10, _⟩ => ⟨S64x8x64, .f32⟩
  | .local _ .vmem, ⟨11, _⟩ => ⟨S64x8x64, .f32⟩
  | .local _ .vmem, ⟨12, _⟩ => ⟨S64x8x64, .f32⟩
  | .local _ .vmem, ⟨13, _⟩ => ⟨S64x8x64, .f32⟩
  | .local _ .vmem, ⟨14, _⟩ => ⟨S64x8x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v5_8 : Ref sig .tc := ⟨.hbm, 18, rfl⟩
abbrev main_v5_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ZohFwdRefIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x1x64 : Shape := ⟨3, ![64, 1, 64]⟩
abbrev S64x16x64 : Shape := ⟨3, ![64, 16, 64]⟩
abbrev S64x8x64 : Shape := ⟨3, ![64, 8, 64]⟩

abbrev nBuf : Space → Nat
  | .hbm => 169
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S_, .f32⟩
  | 6 => ⟨S64x64, .f32⟩
  | 7 => ⟨S64x64, .f32⟩
  | 8 => ⟨S64, .f32⟩
  | 9 => ⟨S64x1, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64x1, .f32⟩
  | 34 => ⟨S64x64x16, .f32⟩
  | 35 => ⟨S64x64x16, .f32⟩
  | 36 => ⟨S64x64x1, .f32⟩
  | 37 => ⟨S64x64x16, .f32⟩
  | 38 => ⟨S64x64x16, .f32⟩
  | 39 => ⟨S64x64x16, .f32⟩
  | 40 => ⟨S64x64x1, .f32⟩
  | 41 => ⟨S64x64x16, .f32⟩
  | 42 => ⟨S64x64x16, .f32⟩
  | 43 => ⟨S64x64x1, .f32⟩
  | 44 => ⟨S64x64x16, .f32⟩
  | 45 => ⟨S64x64x16, .f32⟩
  | 46 => ⟨S64x64x16, .f32⟩
  | 47 => ⟨S_, .f32⟩
  | 48 => ⟨S64x64, .f32⟩
  | 49 => ⟨S_, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x1x64, .f32⟩
  | 100 => ⟨S64x1x64, .f32⟩
  | 101 => ⟨S64x16x64, .f32⟩
  | 102 => ⟨S64x16x64, .f32⟩
  | 103 => ⟨S64x1x64, .f32⟩
  | 104 => ⟨S64x1x64, .f32⟩
  | 105 => ⟨S64x1x64, .f32⟩
  | 106 => ⟨S64x1x64, .f32⟩
  | 107 => ⟨S64x1x64, .f32⟩
  | 108 => ⟨S64x1x64, .f32⟩
  | 109 => ⟨S64x1x64, .f32⟩
  | 110 => ⟨S64x1x64, .f32⟩
  | 111 => ⟨S64x8x64, .f32⟩
  | 112 => ⟨S64x1x64, .f32⟩
  | 113 => ⟨S64x1x64, .f32⟩
  | 114 => ⟨S64x1x64, .f32⟩
  | 115 => ⟨S64x1x64, .f32⟩
  | 116 => ⟨S64x1x64, .f32⟩
  | 117 => ⟨S64x1x64, .f32⟩
  | 118 => ⟨S64x1x64, .f32⟩
  | 119 => ⟨S64x1x64, .f32⟩
  | 120 => ⟨S64x8x64, .f32⟩
  | 121 => ⟨S64x1x64, .f32⟩
  | 122 => ⟨S64x1x64, .f32⟩
  | 123 => ⟨S64x1x64, .f32⟩
  | 124 => ⟨S64x1x64, .f32⟩
  | 125 => ⟨S64x1x64, .f32⟩
  | 126 => ⟨S64x1x64, .f32⟩
  | 127 => ⟨S64x1x64, .f32⟩
  | _ => ⟨S64x64, .f32⟩

abbrev hbmTy0_1 (i : Nat) : BufTy := match i % 128 with
  | 0 => ⟨S64x1x64, .f32⟩
  | 1 => ⟨S64x8x64, .f32⟩
  | 2 => ⟨S64x1x64, .f32⟩
  | 3 => ⟨S64x1x64, .f32⟩
  | 4 => ⟨S64x1x64, .f32⟩
  | 5 => ⟨S64x1x64, .f32⟩
  | 6 => ⟨S64x1x64, .f32⟩
  | 7 => ⟨S64x1x64, .f32⟩
  | 8 => ⟨S64x1x64, .f32⟩
  | 9 => ⟨S64x1x64, .f32⟩
  | 10 => ⟨S64x8x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x1x64, .f32⟩
  | 20 => ⟨S64x1x64, .f32⟩
  | 21 => ⟨S64x1x64, .f32⟩
  | 22 => ⟨S64x1x64, .f32⟩
  | 23 => ⟨S64x1x64, .f32⟩
  | 24 => ⟨S64x1x64, .f32⟩
  | 25 => ⟨S64x1x64, .f32⟩
  | 26 => ⟨S64x1x64, .f32⟩
  | 27 => ⟨S64x8x64, .f32⟩
  | 28 => ⟨S64x64, .f32⟩
  | 29 => ⟨S64x64, .f32⟩
  | 30 => ⟨S64x64, .f32⟩
  | 31 => ⟨S64x64, .f32⟩
  | 32 => ⟨S64x1x64, .f32⟩
  | 33 => ⟨S64x1x64, .f32⟩
  | 34 => ⟨S64x1x64, .f32⟩
  | 35 => ⟨S64x1x64, .f32⟩
  | 36 => ⟨S64x1x64, .f32⟩
  | 37 => ⟨S64x1x64, .f32⟩
  | 38 => ⟨S64x1x64, .f32⟩
  | 39 => ⟨S64x1x64, .f32⟩
  | 40 => ⟨S64x8x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩

abbrev nD : Nat := 1
abbrev τ : Topo := Topo.v7x

variable {F : FTy → Type} [FloatOps F]
-- ==== MmRes.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x8192, .bf16⟩
  | .hbm, ⟨4, _⟩ => ⟨S8192x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmResRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmNtCb.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x8192, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_12 : BitVec 32 := 3#32
  let v21 : BitVec 1 := Scalar.cmpi .eq arg2 c3_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtCbRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S8192x2048, .f32⟩
  | .hbm, ⟨3, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmTnCb.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnCbRefIdeal.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .f32⟩
  | .hbm, ⟨3, _⟩ => ⟨S2048x8192, .f32⟩
  | .hbm, ⟨4, _⟩ => ⟨S2048x8192, .bf16⟩
  | .hbm, ⟨5, _⟩ => ⟨S2048x8x1024, .bf16⟩
  | .hbm, ⟨6, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Adamw.lean ====
abbrev S1x4232x128 : Shape := ⟨3, ![1, 4232, 128]⟩
abbrev S8x4232x128 : Shape := ⟨3, ![8, 4232, 128]⟩
abbrev S1x184x128 : Shape := ⟨3, ![1, 184, 128]⟩
abbrev S8x184x128 : Shape := ⟨3, ![8, 184, 128]⟩
abbrev S184x128 : Shape := ⟨2, ![184, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x4232x128, .f32⟩
  | .hbm, ⟨1, _⟩ => ⟨S1x4232x128, .f32⟩
  | .hbm, ⟨2, _⟩ => ⟨S1x4232x128, .f32⟩
  | .hbm, ⟨3, _⟩ => ⟨S8x4232x128, .f32⟩
  | .hbm, ⟨4, _⟩ => ⟨S1x4232x128, .f32⟩
  | .hbm, ⟨5, _⟩ => ⟨S1x4232x128, .f32⟩
  | .hbm, ⟨6, _⟩ => ⟨S1x4232x128, .f32⟩
  | .hbm, ⟨7, _⟩ => ⟨S1x4232x128, .f32⟩
  | .local _ .vmem, ⟨0, _⟩ => ⟨S1x184x128, .f32⟩
  | .local _ .vmem, ⟨1, _⟩ => ⟨S1x184x128, .f32⟩
  | .local _ .vmem, ⟨2, _⟩ => ⟨S1x184x128, .f32⟩
  | .local _ .vmem, ⟨3, _⟩ => ⟨S1x184x128, .f32⟩
  | .local _ .vmem, ⟨4, _⟩ => ⟨S1x184x128, .f32⟩
  | .local _ .vmem, ⟨5, _⟩ => ⟨S1x184x128, .f32⟩
  | .local _ .vmem, ⟨6, _⟩ => ⟨S8x184x128, .f32⟩
  | .local _ .vmem, ⟨7, _⟩ => ⟨S8x184x128, .f32⟩
  | .local _ .vmem, ⟨8, _⟩ => ⟨S1x184x128, .f32⟩
  | .local _ .vmem, ⟨9, _⟩ => ⟨S1x184x128, .f32⟩
  | .local _ .vmem, ⟨10, _⟩ => ⟨S1x184x128, .f32⟩
  | .local _ .vmem, ⟨11, _⟩ => ⟨S1x184x128, .f32⟩
  | .local _ .vmem, ⟨12, _⟩ => ⟨S1x184x128, .f32⟩
  | .local _ .vmem, ⟨13, _⟩ => ⟨S1x184x128, .f32⟩
  | .local _ .vmem, ⟨14, _⟩ => ⟨S1x184x128, .f32⟩
  | .local _ .vmem, ⟨15, _⟩ => ⟨S1x184x128, .f32⟩
  | _, _ => ⟨S1x4232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x184x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x184x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x184x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x184x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x184x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x184x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x184x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x184x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x4232x128 : Shape := ⟨3, ![1, 4232, 128]⟩
abbrev S8x4232x128 : Shape := ⟨3, ![8, 4232, 128]⟩
abbrev S_ : Shape := ⟨0, ![]⟩
abbrev S4232x128 : Shape := ⟨2, ![4232, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4232x128, .f32⟩
  | .hbm, ⟨1, _⟩ => ⟨S1x4232x128, .f32⟩
  | .hbm, ⟨2, _⟩ => ⟨S1x4232x128, .f32⟩
  | .hbm, ⟨3, _⟩ => ⟨S8x4232x128, .f32⟩
  | .hbm, ⟨4, _⟩ => ⟨S_, .f32⟩
  | .hbm, ⟨5, _⟩ => ⟨S4232x128, .f32⟩
  | .hbm, ⟨6, _⟩ => ⟨S1x4232x128, .f32⟩
  | .hbm, ⟨7, _⟩ => ⟨S_, .f32⟩
  | .hbm, ⟨8, _⟩ => ⟨S1x4232x128, .f32⟩
  | .hbm, ⟨9, _⟩ => ⟨S1x4232x128, .f32⟩
  | .hbm, ⟨10, _⟩ => ⟨S_, .f32⟩
  | .hbm, ⟨11, _⟩ => ⟨S1x4232x128, .f32⟩
  | .hbm, ⟨12, _⟩ => ⟨S1x4232x128, .f32⟩
  | .hbm, ⟨13, _⟩ => ⟨S1x4232x128, .f32⟩
  | .hbm, ⟨14, _⟩ => ⟨S_, .f32⟩
  | .hbm, ⟨15, _⟩ => ⟨S1x4232x128, .f32⟩
  | .hbm, ⟨16, _⟩ => ⟨S1x4232x128, .f32⟩
  | .hbm, ⟨17, _⟩ => ⟨S1x4232x128, .f32⟩
  | .hbm, ⟨18, _⟩ => ⟨S_, .f32⟩
  | .hbm, ⟨19, _⟩ => ⟨S1x4232x128, .f32⟩
  | .hbm, ⟨20, _⟩ => ⟨S1x4232x128, .f32⟩
  | .hbm, ⟨21, _⟩ => ⟨S1x4232x128, .f32⟩
  | .hbm, ⟨22, _⟩ => ⟨S_, .f32⟩
  | .hbm, ⟨23, _⟩ => ⟨S1x4232x128, .f32⟩
  | .hbm, ⟨24, _⟩ => ⟨S1x4232x128, .f32⟩
  | .hbm, ⟨25, _⟩ => ⟨S_, .f32⟩
  | .hbm, ⟨26, _⟩ => ⟨S1x4232x128, .f32⟩
  | .hbm, ⟨27, _⟩ => ⟨S1x4232x128, .f32⟩
  | .hbm, ⟨28, _⟩ => ⟨S1x4232x128, .f32⟩
  | .hbm, ⟨29, _⟩ => ⟨S_, .f32⟩
  | .hbm, ⟨30, _⟩ => ⟨S1x4232x128, .f32⟩
  | .hbm, ⟨31, _⟩ => ⟨S1x4232x128, .f32⟩
  | .hbm, ⟨32, _⟩ => ⟨S1x4232x128, .f32⟩
  | .hbm, ⟨33, _⟩ => ⟨S_, .f32⟩
  | .hbm, ⟨34, _⟩ => ⟨S1x4232x128, .f32⟩
  | .hbm, ⟨35, _⟩ => ⟨S1x4232x128, .f32⟩
  | .hbm, ⟨36, _⟩ => ⟨S1x4232x128, .f32⟩
  | .hbm, ⟨37, _⟩ => ⟨S_, .f32⟩
  | .hbm, ⟨38, _⟩ => ⟨S1x4232x128, .f32⟩
  | .hbm, ⟨39, _⟩ => ⟨S1x4232x128, .f32⟩
  | _, _ => ⟨S1x4232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ScanFwd.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S64x8x64 : Shape := ⟨3, ![64, 8, 64]⟩
abbrev S1x8x1 : Shape := ⟨3, ![1, 8, 1]⟩
abbrev S8x64x64 : Shape := ⟨3, ![8, 64, 64]⟩
abbrev S8x4096 : Shape := ⟨2, ![8, 4096]⟩
abbrev S4x256x1024 : Shape := ⟨3, ![4, 256, 1024]⟩
abbrev S4x1024x256 : Shape := ⟨3, ![4, 1024, 256]⟩
abbrev S64x1024 : Shape := ⟨2, ![64, 1024]⟩
abbrev S256x1024 : Shape := ⟨2, ![256, 1024]⟩
abbrev S16x16x64 : Shape := ⟨3, ![16, 16, 64]⟩
abbrev S256x64 : Shape := ⟨2, ![256, 64]⟩
abbrev S1x256x1024 : Shape := ⟨3, ![1, 256, 1024]⟩
abbrev S16x256 : Shape := ⟨2, ![16, 256]⟩
abbrev S1024x256 : Shape := ⟨2, ![1024, 256]⟩
abbrev S16x64x16 : Shape := ⟨3, ![16, 64, 16]⟩
abbrev S1024x16 : Shape := ⟨2, ![1024, 16]⟩
abbrev S1x1024x256 : Shape := ⟨3, ![1, 1024, 256]⟩
abbrev S2048x4096 : Shape := ⟨2, ![2048, 4096]⟩
abbrev S2048x128 : Shape := ⟨2, ![2048, 128]⟩
abbrev S1x128x512 : Shape := ⟨3, ![1, 128, 512]⟩
abbrev S8x512 : Shape := ⟨2, ![8, 512]⟩
abbrev S1x512x128 : Shape := ⟨3, ![1, 512, 128]⟩
abbrev S2048x512 : Shape := ⟨2, ![2048, 512]⟩
abbrev S128x512 : Shape := ⟨2, ![128, 512]⟩
abbrev S1x512 : Shape := ⟨2, ![1, 512]⟩
abbrev S512x128 : Shape := ⟨2, ![512, 128]⟩

abbrev nBuf : Space → Nat
  | .hbm => 39
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S64x1x64, .f32⟩
  | .hbm, ⟨9, _⟩ => ⟨S64x1x64, .f32⟩
  | .hbm, ⟨10, _⟩ => ⟨S64x1x1, .f32⟩
  | .hbm, ⟨11, _⟩ => ⟨S64x16x64, .f32⟩
  | .hbm, ⟨12, _⟩ => ⟨S64x16x64, .f32⟩
  | .hbm, ⟨13, _⟩ => ⟨S64x1x64, .f32⟩
  | .hbm, ⟨14, _⟩ => ⟨S64x1x64, .f32⟩
  | .hbm, ⟨15, _⟩ => ⟨S64x16x64, .f32⟩
  | .hbm, ⟨16, _⟩ => ⟨S64x16x64, .f32⟩
  | .hbm, ⟨17, _⟩ => ⟨S64x8x64, .f32⟩
  | .hbm, ⟨18, _⟩ => ⟨S64x8x64, .f32⟩
  | .hbm, ⟨19, _⟩ => ⟨S64x8x64, .f32⟩
  | .hbm, ⟨20, _⟩ => ⟨S64x8x64, .f32⟩
  | .hbm, ⟨21, _⟩ => ⟨S64x8x64, .f32⟩
  | .hbm, ⟨22, _⟩ => ⟨S64x8x64, .f32⟩
  | .hbm, ⟨23, _⟩ => ⟨S8x64x64, .f32⟩
  | .hbm, ⟨24, _⟩ => ⟨S8x4096, .f32⟩
  | .hbm, ⟨25, _⟩ => ⟨S8x64x64, .f32⟩
  | .hbm, ⟨26, _⟩ => ⟨S8x4096, .f32⟩
  | .hbm, ⟨27, _⟩ => ⟨S8x64x64, .f32⟩
  | .hbm, ⟨28, _⟩ => ⟨S8x4096, .f32⟩
  | .hbm, ⟨29, _⟩ => ⟨S64x64x16, .f32⟩
  | .hbm, ⟨30, _⟩ => ⟨S64x64x16, .f32⟩
  | .hbm, ⟨31, _⟩ => ⟨S64x64x16, .f32⟩
  | .hbm, ⟨32, _⟩ => ⟨S4x256x1024, .bf16⟩
  | .hbm, ⟨33, _⟩ => ⟨S4x256x1024, .bf16⟩
  | .hbm, ⟨34, _⟩ => ⟨S4x1024x256, .bf16⟩
  | .hbm, ⟨35, _⟩ => ⟨S4x1024x256, .bf16⟩
  | .hbm, ⟨36, _⟩ => ⟨S2048x4096, .f32⟩
  | .hbm, ⟨37, _⟩ => ⟨S2048x4096, .f32⟩
  | .hbm, ⟨38, _⟩ => ⟨S2048x1024, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x8x64, .f32⟩
  | .local _ .vmem, ⟨10, _⟩ => ⟨S64x8x64, .f32⟩
  | .local _ .vmem, ⟨11, _⟩ => ⟨S64x8x64, .f32⟩
  | .local _ .vmem, ⟨12, _⟩ => ⟨S64x8x64, .f32⟩
  | .local _ .vmem, ⟨13, _⟩ => ⟨S64x8x64, .f32⟩
  | .local _ .vmem, ⟨14, _⟩ => ⟨S64x8x64, .f32⟩
  | .local _ .vmem, ⟨15, _⟩ => ⟨S64x16x64, .f32⟩
  | .local _ .vmem, ⟨16, _⟩ => ⟨S64x16x64, .f32⟩
  | .local _ .vmem, ⟨17, _⟩ => ⟨S64x64x16, .f32⟩
  | .local _ .vmem, ⟨18, _⟩ => ⟨S64x64x16, .f32⟩
  | .local _ .vmem, ⟨19, _⟩ => ⟨S4x256x1024, .bf16⟩
  | .local _ .vmem, ⟨20, _⟩ => ⟨S4x256x1024, .bf16⟩
  | .local _ .vmem, ⟨21, _⟩ => ⟨S4x1024x256, .bf16⟩
  | .local _ .vmem, ⟨22, _⟩ => ⟨S4x1024x256, .bf16⟩
  | .local _ .vmem, ⟨23, _⟩ => ⟨S2048x128, .f32⟩
  | .local _ .vmem, ⟨24, _⟩ => ⟨S2048x128, .f32⟩
  | .local _ .vmem, ⟨25, _⟩ => ⟨S1x128x512, .bf16⟩
  | .local _ .vmem, ⟨26, _⟩ => ⟨S1x128x512, .bf16⟩
  | .local _ .vmem, ⟨27, _⟩ => ⟨S1x128x512, .bf16⟩
  | .local _ .vmem, ⟨28, _⟩ => ⟨S1x128x512, .bf16⟩
  | .local _ .vmem, ⟨29, _⟩ => ⟨S8x512, .f32⟩
  | .local _ .vmem, ⟨30, _⟩ => ⟨S8x512, .f32⟩
  | .local _ .vmem, ⟨31, _⟩ => ⟨S8x512, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S1x512x128, .bf16⟩
  | .local _ .vmem, ⟨36, _⟩ => ⟨S1x512x128, .bf16⟩
  | .local _ .vmem, ⟨37, _⟩ => ⟨S1x512x128, .bf16⟩
  | .local _ .vmem, ⟨38, _⟩ => ⟨S1x512x128, .bf16⟩
  | .local _ .vmem, ⟨39, _⟩ => ⟨S2048x512, .f32⟩
  | .local _ .vmem, ⟨40, _⟩ => ⟨S2048x512, .f32⟩
  | .local _ .vmem, ⟨41, _⟩ => ⟨S2048x512, .f32⟩
  | .local _ .vmem, ⟨42, _⟩ => ⟨S2048x512, .f32⟩
  | .local _ .vmem, ⟨43, _⟩ => ⟨S2048x128, .f32⟩
  | .local _ .vmem, ⟨44, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev main_v5_7 : Ref sig .tc := ⟨.hbm, 20, rfl⟩
abbrev main_v5_8 : Ref sig .tc := ⟨.hbm, 21, rfl⟩
abbrev main_v5_9 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg10_1 : Ref sig .tc := ⟨.vmem, 44, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := .none

abbrev stage1_0 : Fin 1 → Memref sig .tc .vmem S64x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x1024x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1024x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨1, ![8], ![false]⟩

@[reducible] def k2_t1_loop : Scf.Loop 32 :=
  let c0_i32 : BitVec 32 := 0#32
  let c256_i32 : BitVec 32 := 256#32
  let v56 : BitVec 32 := Scalar.addi c0_i32 c256_i32
  let c1_i32_27 : BitVec 32 := 1#32
  ⟨c0_i32, v56, c1_i32_27⟩
def k2_mult1 (k2_t1 : Fin k2_t1_loop.trips) : BitVec 32 :=
  let c0_i32 : BitVec 32 := 0#32
  let c1_i32_27 : BitVec 32 := 1#32
  let arg12 : BitVec 32 := Scf.iv c0_i32 c1_i32_27 k2_t1
  let c8_i32 : BitVec 32 := 8#32
  let v72 : BitVec 32 := Scalar.muli arg12 c8_i32
  v72
def k2_off1 (k2_t1 : Fin k2_t1_loop.trips) : Fin 2 → Nat :=
  let c0_i32 : BitVec 32 := 0#32
  let c1_i32_27 : BitVec 32 := 1#32
  let arg12 : BitVec 32 := Scf.iv c0_i32 c1_i32_27 k2_t1
  let c8_i32 : BitVec 32 := 8#32
  let v72 : BitVec 32 := Scalar.muli arg12 c8_i32
  let v73 : BitVec 32 := v72
  let v74 : Index := Scalar.indexCast v73
  let c0_43 : Index := 0#32
  ![v74.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_2 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_7 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi arg0 v28
  let c0_i32_13 : BitVec 32 := 0#32
  let v30 : BitVec 1 := Scalar.cmpi .ne v29 c0_i32_13
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let v34 : BitVec 1 := Scalar.andi v33 v30
  let v35 : BitVec 32 := Scalar.addi v29 v28
  let v36 : BitVec 32 := Scalar.select v34 v35 v29
  let c0_i32_16 : BitVec 32 := 0#32
  ![v16.toNat, v26.toNat, v36.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2048x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== BdAll.lean ====
abbrev S64x16x64 : Shape := ⟨3, ![64, 16, 64]⟩
abbrev S64x64x16 : Shape := ⟨3, ![64, 64, 16]⟩
abbrev S4x256x1024 : Shape := ⟨3, ![4, 256, 1024]⟩
abbrev S4x1024x256 : Shape := ⟨3, ![4, 1024, 256]⟩
abbrev S64x1024 : Shape := ⟨2, ![64, 1024]⟩
abbrev S256x1024 : Shape := ⟨2, ![256, 1024]⟩
abbrev S16x16x64 : Shape := ⟨3, ![16, 16, 64]⟩
abbrev S256x64 : Shape := ⟨2, ![256, 64]⟩
abbrev S1x256x1024 : Shape := ⟨3, ![1, 256, 1024]⟩
abbrev S16x256 : Shape := ⟨2, ![16, 256]⟩
abbrev S1024x256 : Shape := ⟨2, ![1024, 256]⟩
abbrev S16x64x16 : Shape := ⟨3, ![16, 64, 16]⟩
abbrev S1024x16 : Shape := ⟨2, ![1024, 16]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S64x64x16, .f32⟩
  | .hbm, ⟨3, _⟩ => ⟨S64x64x16, .f32⟩
  | .hbm, ⟨4, _⟩ => ⟨S4x256x1024, .bf16⟩
  | .hbm, ⟨5, _⟩ => ⟨S4x256x1024, .bf16⟩
  | .hbm, ⟨6, _⟩ => ⟨S4x1024x256, .bf16⟩
  | .hbm, ⟨7, _⟩ => ⟨S4x1024x256, .bf16⟩
  | .local _ .vmem, ⟨0, _⟩ => ⟨S64x16x64, .f32⟩
  | .local _ .vmem, ⟨1, _⟩ => ⟨S64x16x64, .f32⟩
  | .local _ .vmem, ⟨2, _⟩ => ⟨S64x64x16, .f32⟩
  | .local _ .vmem, ⟨3, _⟩ => ⟨S64x64x16, .f32⟩
  | .local _ .vmem, ⟨4, _⟩ => ⟨S4x256x1024, .bf16⟩
  | .local _ .vmem, ⟨5, _⟩ => ⟨S4x256x1024, .bf16⟩
  | .local _ .vmem, ⟨6, _⟩ => ⟨S4x1024x256, .bf16⟩
  | .local _ .vmem, ⟨7, _⟩ => ⟨S4x1024x256, .bf16⟩
  | _, _ => ⟨S64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== BdAllRefIdeal.lean ====
abbrev S64x16x64 : Shape := ⟨3, ![64, 16, 64]⟩
abbrev S64x64x16 : Shape := ⟨3, ![64, 64, 16]⟩
abbrev S16x16 : Shape := ⟨2, ![16, 16]⟩
abbrev S_ : Shape := ⟨0, ![]⟩
abbrev S1x16x1x16x1 : Shape := ⟨5, ![1, 16, 1, 16, 1]⟩
abbrev S4x16x16x1x64 : Shape := ⟨5, ![4, 16, 16, 1, 64]⟩
abbrev S4x16x16x16x64 : Shape := ⟨5, ![4, 16, 16, 16, 64]⟩
abbrev S4x256x1024 : Shape := ⟨3, ![4, 256, 1024]⟩
abbrev S4x16x64x1x16 : Shape := ⟨5, ![4, 16, 64, 1, 16]⟩
abbrev S4x16x64x16x16 : Shape := ⟨5, ![4, 16, 64, 16, 16]⟩
abbrev S4x1024x256 : Shape := ⟨3, ![4, 1024, 256]⟩

abbrev nBuf : Space → Nat
  | .hbm => 68
  | .vmem => 0
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S64x64x16, .f32⟩
  | .hbm, ⟨3, _⟩ => ⟨S64x64x16, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S1x16x1x16x1, .i1⟩
  | .hbm, ⟨11, _⟩ => ⟨S4x16x16x1x64, .f32⟩
  | .hbm, ⟨12, _⟩ => ⟨S_, .f32⟩
  | .hbm, ⟨13, _⟩ => ⟨S_, .f32⟩
  | .hbm, ⟨14, _⟩ => ⟨S4x16x16x16x64, .i1⟩
  | .hbm, ⟨15, _⟩ => ⟨S4x16x16x16x64, .f32⟩
  | .hbm, ⟨16, _⟩ => ⟨S4x16x16x16x64, .f32⟩
  | .hbm, ⟨17, _⟩ => ⟨S4x16x16x16x64, .f32⟩
  | .hbm, ⟨18, _⟩ => ⟨S4x256x1024, .f32⟩
  | .hbm, ⟨19, _⟩ => ⟨S4x256x1024, .bf16⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S1x16x1x16x1, .i1⟩
  | .hbm, ⟨27, _⟩ => ⟨S4x16x16x1x64, .f32⟩
  | .hbm, ⟨28, _⟩ => ⟨S_, .f32⟩
  | .hbm, ⟨29, _⟩ => ⟨S_, .f32⟩
  | .hbm, ⟨30, _⟩ => ⟨S4x16x16x16x64, .i1⟩
  | .hbm, ⟨31, _⟩ => ⟨S4x16x16x16x64, .f32⟩
  | .hbm, ⟨32, _⟩ => ⟨S4x16x16x16x64, .f32⟩
  | .hbm, ⟨33, _⟩ => ⟨S4x16x16x16x64, .f32⟩
  | .hbm, ⟨34, _⟩ => ⟨S4x256x1024, .f32⟩
  | .hbm, ⟨35, _⟩ => ⟨S4x256x1024, .bf16⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S1x16x1x16x1, .i1⟩
  | .hbm, ⟨43, _⟩ => ⟨S4x16x64x1x16, .f32⟩
  | .hbm, ⟨44, _⟩ => ⟨S_, .f32⟩
  | .hbm, ⟨45, _⟩ => ⟨S_, .f32⟩
  | .hbm, ⟨46, _⟩ => ⟨S4x16x64x16x16, .i1⟩
  | .hbm, ⟨47, _⟩ => ⟨S4x16x64x16x16, .f32⟩
  | .hbm, ⟨48, _⟩ => ⟨S4x16x64x16x16, .f32⟩
  | .hbm, ⟨49, _⟩ => ⟨S4x16x64x16x16, .f32⟩
  | .hbm, ⟨50, _⟩ => ⟨S4x1024x256, .f32⟩
  | .hbm, ⟨51, _⟩ => ⟨S4x1024x256, .bf16⟩
  | .hbm, ⟨52, _⟩ => ⟨S16x16, .i32⟩
  | .hbm, ⟨53, _⟩ => ⟨S16x16, .i32⟩
  | .hbm, ⟨54, _⟩ => ⟨S_, .i32⟩
  | .hbm, ⟨55, _⟩ => ⟨S16x16, .i32⟩
  | .hbm, ⟨56, _⟩ => ⟨S16x16, .i32⟩
  | .hbm, ⟨57, _⟩ => ⟨S16x16, .i1⟩
  | .hbm, ⟨58, _⟩ => ⟨S1x16x1x16x1, .i1⟩
  | .hbm, ⟨59, _⟩ => ⟨S4x16x64x1x16, .f32⟩
  | .hbm, ⟨60, _⟩ => ⟨S_, .f32⟩
  | .hbm, ⟨61, _⟩ => ⟨S_, .f32⟩
  | .hbm, ⟨62, _⟩ => ⟨S4x16x64x16x16, .i1⟩
  | .hbm, ⟨63, _⟩ => ⟨S4x16x64x16x16, .f32⟩
  | .hbm, ⟨64, _⟩ => ⟨S4x16x64x16x16, .f32⟩
  | .hbm, ⟨65, _⟩ => ⟨S4x16x64x16x16, .f32⟩
  | .hbm, ⟨66, _⟩ => ⟨S4x1024x256, .f32⟩
  | .hbm, ⟨67, _⟩ => ⟨S4x1024x256, .bf16⟩
  | _, _ => ⟨S64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]
-- ==== ToSlot.lean ====
abbrev S4x2048x1024 : Shape := ⟨3, ![4, 2048, 1024]⟩
abbrev S2 : Shape := ⟨1, ![2]⟩
abbrev S8x2048x1024 : Shape := ⟨3, ![8, 2048, 1024]⟩
abbrev S1x512x1024 : Shape := ⟨3, ![1, 512, 1024]⟩
abbrev S1 : Shape := ⟨1, ![1]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 4
  | .vmem => 4
  | .smem => 1
  | _ => 0

abbrev bufTy : (tb : Table) → Fin (tcTables nBuf tb) → BufTy
  | .hbm, ⟨0, _⟩ => ⟨S4x2048x1024, .f32⟩
  | .hbm, ⟨1, _⟩ => ⟨S8x2048x1024, .bf16⟩
  | .hbm, ⟨2, _⟩ => ⟨S1x2048x1024, .bf16⟩
  | .hbm, ⟨3, _⟩ => ⟨S2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .smem, ⟨0, _⟩ => ⟨S2, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli c2_i32 v0
  let c0 : Index := 0#32
  let v2 : BitVec 32 := pf.at 0 (Rect.unit (s := S2) ![0] S1.size inb_S2_S1_0) numel1_S1
  let v3 : BitVec 32 := Scalar.addi v1 v2
  let c0_i32 : BitVec 32 := 0#32
  let c0_i32_0 : BitVec 32 := 0#32
  ![v3.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ToSlotRefIdeal.lean ====
abbrev S4x2048x1024 : Shape := ⟨3, ![4, 2048, 1024]⟩
abbrev S1x2048x1024 : Shape := ⟨3, ![1, 2048, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x2048x1024, .f32⟩
  | .hbm, ⟨2, _⟩ => ⟨S2048x1024, .f32⟩
  | .hbm, ⟨3, _⟩ => ⟨S2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Glu.lean ====
/- Hand-written, untrusted: THE GATED LINEAR UNIT'S GRADIENT. The kernel's 128-row blocks of the two halves' cotangents,
   put beside the reference's term at the same row and column. -/
module

public import proofs.«01_k».proof.Defs
public import proofs.«01_k».proof.Proof.Gen.GluIdeal.Frame
public import proofs.«01_k».proof.Proof.Gen.GluRefIdeal.Read
public import Idealize.ShloMosaic.Lib.Pipeline.ValueKit
public import Idealize.ShloMosaic.Lib.Claim

@[expose] public section

set_option maxRecDepth 16384

noncomputable section

namespace Cert.Proof.Glu

open Cert.GluIdeal Cert.GluIdeal.Gen Idealize.ShloMosaic Idealize.ShloMosaic.TcCoe Idealize.SL.Sem
open Cert.GluRefIdeal.Read

variable (m : (ℓ : Loc nD τ sig) → Buf (Elt Ideal) ℓ)

/-- The windows' block indices: point `t` holds rows `128 t … 128 t + 127` of every array. -/
theorem idx : ∀ t : Fin cfg0.N, win0_0.index t = ![t.val, 0] ∧ win0_1.index t = ![t.val, 0] ∧ win0_2.index t = ![t.val, 0] :=
  (by decide +kernel : ∀ t : Fin grid0.N, _)

/-- What the body stores at index `y` of point `t`'s block is the reference's term at row `128 t + y 0`, column `y 1`. -/
theorem point (c : Dev nD) (t : Fin cfg0.N) (y : S128x4096.Idx) (j : S2048x4096.Idx)
    (hj0 : (j 0 : ℕ) = t.val * 128 + (y 0 : ℕ)) (hj1 : (j 1 : ℕ) = (y 1 : ℕ)) :
    k0_pay1 (iblk m c 0 t) (iblk m c 1 t) y
      = val_main_v16 (F := Ideal) (m ((c : Thread nD τ).loc main_arg0)) (m ((c : Thread nD τ).loc main_arg1)) j := by
  pointwise [k0_pay1, val_main_v16, val_main_v15, val_main_v14, val_main_v13, val_main_v12, val_main_v10, val_main_v9,
    val_main_v8, val_main_cst_1, val_main_v7, val_main_v6, val_main_cst_0, val_main_v5, val_main_v4, val_main_cst,
    val_main_v3, val_main_v2, val_main_v1, val_main_v0, Ideal.logistic]
  by_cases h : (y 1 : ℕ) < 2048
  · rw [dif_pos h, dif_pos (hj1 ▸ h)]
    blk_point [iblk, V, idx t]
  · rw [dif_neg h, dif_neg (hj1 ▸ h)]
    refine Eq.trans ?_ (congrArg₂ (· * ·) (mul_comm _ _) rfl)
    refine Eq.trans ?_ (mul_assoc _ _ _)
    blk_point [iblk, V, idx t]

/-- The cotangent array after the run is the reference's term of the argument arrays. -/
theorem final (c : Dev nD) : (dats m 0 c).arrAt 2 cfg0.N
    = val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_
  · blk_simp [idx t]
  · blk_simp [idx t]

/-- The kernel's run and the reference's end with equal cotangents. -/
theorem algebraic : Cert.algebraic_GluIdeal_GluRefIdeal := by
  pair_intro
  · run_from Cert.GluIdeal.Gen.run_main m g
  · run_from Cert.GluRefIdeal.Value.run m' g'
    exact (final m c).symm

end Cert.Proof.Glu

end
-- ==== Proof.SqRelu.lean ====
/- Hand-written, untrusted: THE SQUARED RECTIFIER'S GRADIENT. The kernel contracts the cotangent with the weight and scales
   each element by twice the rectified input; the reference adds the two halves of the square's derivative and passes
   them where the input is positive. Over the extended reals the two agree with no precondition. -/
module

public import proofs.«01_k».proof.Defs
public import proofs.«01_k».proof.Proof.Gen.SqReluIdeal.Frame
public import proofs.«01_k».proof.Proof.Gen.SqReluRefIdeal.Read
public import Idealize.ShloMosaic.Lib.Pipeline.ValueKit
public import Idealize.ShloMosaic.Lib.Claim

@[expose] public section

set_option maxRecDepth 16384

noncomputable section

namespace Cert.Proof.SqRelu

open Cert.SqReluIdeal Cert.SqReluIdeal.Gen Idealize.ShloMosaic Idealize.ShloMosaic.TcCoe Idealize.SL.Sem
open Cert.SqReluRefIdeal.Read

variable (m : (ℓ : Loc nD τ sig) → Buf (Elt Ideal) ℓ)

/-- The windows' block indices: the 16 points walk the 2 by 8 blocks of the result, row of blocks first. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val < 16 :=
  (by decide +kernel : ∀ t : Fin grid0.N, _)

/-- The word of the constant two. -/
theorem two_word : Ideal.ofBits .f32 0x40000000#32 = (2 : ℝ) := by
  simp [Ideal.ofBits, Ideal.ieee, -EReal.coe_mul]; norm_num

/-- Twice a product with the rectified input, against the two halves of the square's derivative where it is positive. -/
theorem half (s z : EReal) : s * (2 : ℝ) * max z 0 = if 0 < z then max z 0 * s + s * max z 0 else 0 := by
  split
  · rename_i h
    rw [max_eq_left h.le, mul_comm z s, mul_assoc, mul_comm _ z, ← mul_assoc]
    generalize s * z = x
    induction x using EReal.rec with
    | bot => rw [EReal.bot_mul_coe_of_pos (by norm_num)]; rfl
    | coe r => rw [← EReal.coe_mul, ← EReal.coe_add, mul_two]
    | top => rw [EReal.top_mul_coe_of_pos (by norm_num)]; rfl
  · rename_i h
    rw [max_eq_right (not_lt.mp h), mul_zero]

/-- What the body stores at index `y` of point `t`'s block is the reference's term at the array index of `y`. -/
theorem point (c : Dev nD) (t : Fin cfg0.N) (y : S1024x1024.Idx) (j : S2048x8192.Idx)
    (hj0 : (j 0 : ℕ) = t.val / 8 * 1024 + (y 0 : ℕ)) (hj1 : (j 1 : ℕ) = t.val % 8 * 1024 + (y 1 : ℕ)) :
    k0_pay1 (iblk m c 0 t) (iblk m c 1 t) (iblk m c 2 t) y
      = val_main_v12 (F := Ideal) (m ((c : Thread nD τ).loc main_arg0)) (m ((c : Thread nD τ).loc main_arg1))
          (m ((c : Thread nD τ).loc main_arg2)) j := by
  pointwise [k0_pay1, val_main_v12, val_main_v11, val_main_v10, val_main_v9, val_main_v8, val_main_v7, val_main_v6,
    val_main_v3, val_main_v2, val_main_v1, val_main_v0, val_main_cst, val_main_cst_0, val_main_cst_1, val_main_call0_v0,
    val_main_call0_cst]
  rw [two_word]
  refine (half _ _).trans ?_
  blk_point [iblk, V, idx t]

/-- The result array after the run is the reference's term of the argument arrays. -/
theorem final (c : Dev nD) : (dats m 0 c).arrAt 3 cfg0.N
    = val_main_v12 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  refine point m c t y _ ?_ ?_ <;> blk_simp [idx t]

/-- The kernel's run and the reference's end with equal results. -/
theorem algebraic : Cert.algebraic_SqReluIdeal_SqReluRefIdeal := by
  pair_intro
  · run_from Cert.SqReluIdeal.Gen.run_main m g
  · run_from Cert.SqReluRefIdeal.Value.run m' g'
    exact (final m c).symm

end Cert.Proof.SqRelu

end
-- ==== Proof.BlockDiag.lean ====
module
public import proofs.«01_k».proof.Defs
public import proofs.«01_k».proof.Proof.Gen.BlockDiagIdeal.Frame
public import proofs.«01_k».proof.Proof.Gen.BlockDiagRefIdeal.Read
public import Idealize.ShloMosaic.Lib.Pipeline.ValueKit
public import Idealize.ShloMosaic.Lib.Pipeline.ReadBack
public import Idealize.ShloMosaic.Lib.Claim
@[expose] public section
set_option maxRecDepth 16384
noncomputable section
namespace Cert.Proof.BlockDiag
open Cert.BlockDiagIdeal Cert.BlockDiagIdeal.Gen Idealize.ShloMosaic Idealize.ShloMosaic.TcCoe Idealize.SL.Sem
open Cert.BlockDiagRefIdeal.Read
variable (m : (ℓ : Loc nD τ sig) → Buf (Elt Ideal) ℓ)

theorem idx : ∀ t : Fin cfg0.N, win0_0.index t = ![t.val % 2, t.val / 2] ∧ win0_1.index t = ![t.val % 2, t.val / 2] ∧
    win0_2.index t = ![t.val / 2, 0, 0] ∧ t.val < 8 :=
  (by decide +kernel : ∀ t : Fin grid0.N, _)

theorem prod (x0 : Vec Ideal S1024x256 .f32) (x1 : Vec Ideal S1024x1024 .f32) (j : S256x1024.Idx) :
    k0_pay2 x0 x1 j = ∑ k : Fin 1024, x0 (ix2 k (j 0)) * x1 (ix2 k (j 1)) := by
  pointwise [k0_pay2, k0_pay1]

/-- The kernel's floor division of words, as it is written out from the truncating division. -/
def floorDiv (x n : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32)
    (IntOp.divsi .vector x n)

/-- The kernel's floor remainder of words, likewise. -/
def floorMod (x d : BitVec 32) : BitVec 32 :=
  Scalar.select
    (IntOp.andi
      (IntOp.xori (IntOp.cmpi .slt (IntOp.remsi .vector x d) 0#32) (Scalar.cmpi .slt d 0#32))
      (IntOp.cmpi .ne (IntOp.remsi .vector x d) 0#32))
    (IntOp.addi (IntOp.remsi .vector x d) d)
    (IntOp.remsi .vector x d)

theorem row_group (n : Nat) (h : n < 256) : floorDiv (BitVec.ofNat 32 n) 16#32 = BitVec.ofNat 32 (n / 16) :=
  (by decide +kernel : ∀ r : Fin 256, floorDiv (BitVec.ofNat 32 r.val) 16#32 = BitVec.ofNat 32 (r.val / 16)) ⟨n, h⟩

theorem lane_group (n : Nat) (h : n < 1024) : floorDiv (BitVec.ofNat 32 n) 64#32 = BitVec.ofNat 32 (n / 64) :=
  (by decide +kernel : ∀ r : Fin 1024, floorDiv (BitVec.ofNat 32 r.val) 64#32 = BitVec.ofNat 32 (r.val / 64)) ⟨n, h⟩

theorem lane_state (n : Nat) (h : n < 1024) :
    floorMod (BitVec.ofNat 32 n) (Scalar.select (Scalar.cmpi .eq 64#32 0#32) 1#32 64#32) = BitVec.ofNat 32 (n % 64) :=
  (by decide +kernel : ∀ r : Fin 1024, floorMod (BitVec.ofNat 32 r.val)
    (Scalar.select (Scalar.cmpi .eq 64#32 0#32) 1#32 64#32) = BitVec.ofNat 32 (r.val % 64)) ⟨n, h⟩

/-- Folding the product's columns: what is left of row `r` and lane `n` is the column `n` of the row's own group. -/
theorem fold (a : FVec Ideal S256x1024 .f32) (j : S1x256x64.Idx) (l : Fin 1024) (hl : l.val = (j 1).val / 16 * 64 + (j 2).val) :
    k0_pay4 a k0_pay6 k0_pay7 k0_pay8 k0_pay9 j = a (ix2 (j 1) l) := by
  have h1 : (j 1).val < 256 := (j 1).isLt
  have h2 : (j 2).val < 64 := (j 2).isLt
  have e : k0_pay4 a k0_pay6 k0_pay7 k0_pay8 k0_pay9 j = ∑ x : Fin 1024,
      Scalar.select (IntOp.cmpi .eq (floorMod (BitVec.ofNat 32 x.val) (Scalar.select (Scalar.cmpi .eq 64#32 0#32) 1#32 64#32))
          (BitVec.ofNat 32 (j 2).val))
        (Scalar.select (IntOp.cmpi .eq (floorDiv (BitVec.ofNat 32 (j 1).val) 16#32) (floorDiv (BitVec.ofNat 32 x.val) 64#32))
          (a (ix2 (j 1) x)) 0) 0 := by
    pointwise [k0_pay4, k0_pay6, k0_pay7, k0_pay8, k0_pay9, floorDiv, floorMod]
  rw [e, Finset.sum_eq_single l]
  · rw [lane_state _ l.isLt, lane_group _ l.isLt, row_group _ h1, hl,
      show ((j 1).val / 16 * 64 + (j 2).val) % 64 = (j 2).val by omega,
      show ((j 1).val / 16 * 64 + (j 2).val) / 64 = (j 1).val / 16 by omega]
    simp [IntOp.cmpi, Scalar.select]
  · intro x _ hx
    rw [lane_state _ x.isLt, lane_group _ x.isLt, row_group _ h1]
    have : ¬(x.val % 64 = (j 2).val ∧ (j 1).val / 16 = x.val / 64) := fun h => hx (Fin.ext (by omega))
    have := x.isLt
    simp (disch := omega) only [hlo_ix]
    split_ifs <;> simp_all
  · simp

/-- The output block of a tile's last point: the whole sum over the rows, the two halves one after the other. -/
theorem point (c : Dev nD) (t : Fin cfg0.N) (h2 : t.val % 2 = 1) (y : S1x256x64.Idx) (j : S4x256x64.Idx)
    (hj0 : (j 0).val = t.val / 2) (hj1 : (j 1).val = (y 1).val) (hj2 : (j 2).val = (y 2).val) :
    (outsAt0 m c t.val t.isLt).1 y =
      val_main_v8 (F := Ideal) (m ((c : Thread nD τ).loc main_arg0)) (m ((c : Thread nD τ).loc main_arg1)) j := by
  have h1 : (t.val - 1) % 2 = 0 := by omega
  have e := outsAt0_A m c ⟨t.val - 1, by omega⟩ h1 (by dsimp only; omega)
  dsimp only at e
  rw [outsAt0_B m c t (by omega) h2]; frame_out
  rw [e]; frame_out
  have h4 : (y 1).val < 256 := (y 1).isLt
  have h5 : (y 2).val < 64 := (y 2).isLt
  rw [read_unread_whole, fold _ y ⟨(y 1).val / 16 * 64 + (y 2).val, by omega⟩ rfl]
  pointwise [k0_pay5, k0_pay2, k0_pay1, val_main_v8, val_main_v7, val_main_v6, val_main_v5, val_main_v4, val_main_v1]
  rw [Fin.sum_univ_one, Fin.sum_univ_two_halves 1024 1024 rfl]
  refine Ideal.add_congr (Finset.sum_congr rfl fun k _ => ?_) (Finset.sum_congr rfl fun k _ => ?_)
  all_goals
    rw [mul_comm]
    refine Ideal.mul_congr ?_ ?_
    all_goals
    blk_point [iblk, V, idx t, idx ⟨t.val - 1, by omega⟩]

theorem final (c : Dev nD) : (dats m 0 c).arrAt 2 cfg0.N =
    val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ ?_ <;> blk_simp [idx t]

theorem algebraic : Cert.algebraic_BlockDiagIdeal_BlockDiagRefIdeal := by
  pair_intro
  · run_from Cert.BlockDiagIdeal.Gen.run_main m g
  · run_from Cert.BlockDiagRefIdeal.Value.run m' g'
    exact (final m c).symm

end Cert.Proof.BlockDiag
end
-- ==== Proof.Finite.lean ====
module
public import Idealize.ShloMosaic.Lib.Pipeline.ValueKit
@[expose] public section
noncomputable section
namespace Cert.Proof.Finite
open Idealize.ShloMosaic

/-- An array of finite values is one of real numbers. -/
theorem of_lt_top {s : Shape} (x : FVec Ideal s .f32) (b : FVec Ideal s .f32) (hb : ∀ i, b i = ⊤)
    (h : cmpf .olt (Host.absf x) b = fun _ => 1#1) : ∃ a : s.Idx → ℝ, x = fun i => (a i : EReal) := by
  have hx (i : s.Idx) : ∃ r : ℝ, x i = (r : EReal) := by
    have hi := congrFun h i
    pointwise [hb] at hi
    rw [show FloatOps.absf (x i) = max (x i) (-(x i)) from rfl] at hi
    induction hr : x i using EReal.rec with
    | bot => simp [hr] at hi
    | coe r => exact ⟨r, rfl⟩
    | top => simp [hr] at hi
  choose a ha using hx
  exact ⟨a, funext ha⟩

theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- The integer zero, as a float, is zero. -/
theorem zero_int : (FloatOps.sitofp (F := Ideal) FTy.f32 0#32 : EReal) = 0 := by
  change ((((0#32 : BitVec 32).toInt : ℤ) : ℝ) : EReal) = 0
  simp

theorem inf_word : Ideal.ofBits .f32 0x7F800000#32 = ⊤ := by
  simp [Ideal.ofBits, Ideal.ieee]

theorem half_neg_word : Ideal.ofBits .f32 0xBF000000#32 = ((-1 / 2 : ℝ) : EReal) := by
  simp [Ideal.ofBits, Ideal.ieee, -EReal.coe_mul]; norm_num
theorem n16_word : Ideal.ofBits .f32 0x41800000#32 = ((16 : ℝ) : EReal) := by
  simp [Ideal.ofBits, Ideal.ieee, -EReal.coe_mul]; norm_num
theorem n512_word : Ideal.ofBits .f32 0x44000000#32 = ((512 : ℝ) : EReal) := by
  simp [Ideal.ofBits, Ideal.ieee, -EReal.coe_mul]; norm_num
theorem sixteenth_word : Ideal.ofBits .f32 0x3D800000#32 = ((1 / 16 : ℝ) : EReal) := by
  simp [Ideal.ofBits, Ideal.ieee, -EReal.coe_mul]; norm_num
theorem n2048_word : Ideal.ofBits .f32 0x45000000#32 = ((2048 : ℝ) : EReal) := by
  simp [Ideal.ofBits, Ideal.ieee, -EReal.coe_mul]; norm_num

theorem width_word : Ideal.ofBits .f32 0x3A000000#32 = ((1 / 2048 : ℝ) : EReal) := by
  simp [Ideal.ofBits, Ideal.ieee, -EReal.coe_mul]; norm_num

/-- The small number under the root. -/
def eps : ℝ := 8796093 / 2 ^ 43
theorem eps_pos : 0 < eps := by norm_num [eps]
theorem eps_word : Ideal.ofBits .f32 0x358637BD#32 = (eps : EReal) := by
  simp [Ideal.ofBits, Ideal.ieee, eps, -EReal.coe_mul]; norm_num

/-- The mean of the squares of a row, with the small number added. -/
def ms {n : Nat} (N : ℝ) (x : Fin n → ℝ) : ℝ := (∑ k, x k * x k) / N + eps
theorem ms_pos {n : Nat} {N : ℝ} (hN : 0 < N) (x : Fin n → ℝ) : 0 < ms N x :=
  add_pos_of_nonneg_of_pos (div_nonneg (Finset.sum_nonneg fun k _ => mul_self_nonneg _) hN.le) eps_pos

theorem rsqrt_coe_pos {r : ℝ} (h : 0 < r) : Ideal.rsqrt (r : EReal) = (((Real.sqrt r)⁻¹ : ℝ) : EReal) := by
  rw [Ideal.rsqrt_coe, if_neg h.not_gt, if_neg h.ne']

theorem mean_sq_eps {n : Nat} {N : ℝ} (hN : 0 < N) (x : Fin n → ℝ) :
    Ideal.div (∑ k, ((x k * x k : ℝ) : EReal)) (N : EReal) + (eps : EReal) = ((ms N x : ℝ) : EReal) := by
  rw [sum_coe, div_coe_coe _ hN.ne', ← EReal.coe_add]; rfl

/-- The reciprocal root mean square of a row of finite values. -/
theorem rsqrt_ms {n : Nat} {N : ℝ} (hN : 0 < N) (x : Fin n → ℝ) :
    Ideal.rsqrt (Ideal.div (∑ k, ((x k * x k : ℝ) : EReal)) (N : EReal) + (eps : EReal)) = (((√(ms N x))⁻¹ : ℝ) : EReal) := by
  rw [mean_sq_eps hN]
  exact rsqrt_coe_pos (ms_pos hN x)

/-- The gradient of a row's normalisation: as the kernel computes it, from the row divided by its root mean square; and as
    the chain rule writes it, where the row enters twice through the mean of its squares. -/
theorem norm_grad {n : Nat} {N : ℝ} (hN : 0 < N) (x d : Fin n → ℝ) (j : Fin n) :
    (√(ms N x))⁻¹ * (d j - x j * (√(ms N x))⁻¹ * ((∑ k, d k * (x k * (√(ms N x))⁻¹)) / N))
      = d j * (√(ms N x))⁻¹ + x j * ((∑ k, x k * d k) * (-1 / 2 * ((√(ms N x))⁻¹ / ms N x)) / N)
        + (∑ k, x k * d k) * (-1 / 2 * ((√(ms N x))⁻¹ / ms N x)) / N * x j := by
  have h := ms_pos hN x
  have e : (∑ k, d k * (x k * (√(ms N x))⁻¹)) = (∑ k, x k * d k) * (√(ms N x))⁻¹ := by
    rw [Finset.sum_mul]; exact Finset.sum_congr rfl fun k _ => by ring
  have hr : (√(ms N x))⁻¹ / ms N x = (√(ms N x))⁻¹ * ((√(ms N x))⁻¹ * (√(ms N x))⁻¹) := by
    rw [← mul_inv, Real.mul_self_sqrt h.le, div_eq_mul_inv]
  rw [e, hr]
  ring

/-- A value that is a real number. -/
def IsReal (x : EReal) : Prop := ∃ r : ℝ, x = r
namespace IsReal
theorem coe (r : ℝ) : IsReal (r : EReal) := ⟨r, rfl⟩
theorem zero : IsReal 0 := ⟨0, rfl⟩
theorem one : IsReal 1 := ⟨1, rfl⟩
theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem exp {x : EReal} (hx : IsReal x) : IsReal (Ideal.exp x) := by
  obtain ⟨a, rfl⟩ := hx; exact ⟨Real.exp a, rfl⟩
theorem logistic {x : EReal} (hx : IsReal x) : IsReal (Ideal.logistic x) := by
  obtain ⟨a, rfl⟩ := hx; exact ⟨_, Ideal.logistic_coe a⟩
theorem sum {ι : Type} {s : Finset ι} {f : ι → EReal} (h : ∀ i, IsReal (f i)) : IsReal (∑ i ∈ s, f i) := by
  choose a ha using h
  exact ⟨∑ i ∈ s, a i, by simp only [ha, sum_coe]⟩
theorem ite {p : Prop} [Decidable p] {x y : EReal} (hx : IsReal x) (hy : IsReal y) : IsReal (if p then x else y) := by
  split <;> assumption
end IsReal

end Cert.Proof.Finite
end
-- ==== Proof.Rms.lean ====
module
public import proofs.«01_k».proof.Defs
public import proofs.«01_k».proof.Proof.Gen.RmsIdeal.Value
public import proofs.«01_k».proof.Proof.Gen.RmsRefIdeal.Read
public import proofs.«01_k».proof.Proof.Finite
public import Idealize.ShloMosaic.Lib.Pipeline.ValueKit
public import Idealize.ShloMosaic.Lib.Claim
@[expose] public section
set_option maxRecDepth 16384
noncomputable section
namespace Cert.Proof.Rms
open Cert.RmsIdeal Cert.RmsIdeal.Gen Idealize.ShloMosaic Idealize.ShloMosaic.TcCoe Idealize.SL.Sem
open Cert.RmsRefIdeal.Read Cert.Proof.Finite
variable (m : (ℓ : Loc nD τ sig) → Buf (Elt Ideal) ℓ)
theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![0, 0] ∧ t.val < 8 :=
  (by decide +kernel : ∀ t : Fin grid0.N, _)
/-- A row of the gradient of the input, at finite rows: the reference's. The residual's gradient is only added. -/
theorem dx (a b g : Fin 2048 → ℝ) (x0 x1 x2 : Vec Ideal S256x2048 .f32) (x3 : Vec Ideal S1x2048 .f32)
    (z0 z1 z2 : Vec Ideal S2048x2048 .f32) (z3 : Vec Ideal S2048 .f32) (r : Fin 256) (r' k : Fin 2048)
    (hx0 : ∀ k, x0 (ix2 r k) = a k) (hx1 : ∀ k, x1 (ix2 r k) = b k) (hx3 : ∀ k, x3 (ix2 0 k) = g k)
    (hx2 : x2 (ix2 r k) = z2 (ix2 r' k))
    (hz0 : ∀ k, z0 (ix2 r' k) = a k) (hz1 : ∀ k, z1 (ix2 r' k) = b k) (hz3 : ∀ k, z3 (ix1 k) = g k) :
    k0_pay5 x0 x1 x2 x3 (ix2 r k) = val_main_v36 (F := Ideal) z0 z1 z2 z3 (ix2 r' k) := by
  pointwise [k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, val_main_v38]
  have h : (0 : ℝ) < 2048 := by norm_num
  simp only [hx0, hx1, hx3, hx2, hz0, hz1, hz3, n2048_word, eps_word, half_neg_word, ← EReal.coe_mul, mean_sq_eps h]
  simp only [rsqrt_coe_pos (ms_pos h a), ← EReal.coe_mul, sum_coe, div_coe_coe _ (ms_pos h a).ne', div_coe_coe _ h.ne', Fin.sum_univ_one, ← EReal.coe_sub, add_assoc,
    ← EReal.coe_add]
  exact Ideal.add_congr rfl (congrArg _ ((norm_grad h a (fun k => b k * g k) k).trans (add_assoc _ _ _)))

/-- The finite arguments as arrays of real numbers. -/
theorem reals [Cert.Pre_finite_rms.Facts] (hpre : Cert.Pre_RmsIdeal_finite_rms m) (c : Dev nD) :
    (∃ a : S2048x2048.Idx → ℝ, m ((c : Thread nD τ).loc main_arg0) = fun i => (a i : EReal)) ∧
    (∃ a : S2048x2048.Idx → ℝ, m ((c : Thread nD τ).loc main_arg1) = fun i => (a i : EReal)) ∧
    ∃ a : S2048.Idx → ℝ, m ((c : Thread nD τ).loc main_arg3) = fun i => (a i : EReal) :=
  ⟨of_lt_top _ _ (fun _ => inf_word) (hpre c).1, of_lt_top _ _ (fun _ => inf_word) (hpre c).2.1,
    of_lt_top _ _ (fun _ => inf_word) (hpre c).2.2⟩

theorem dx_block [Cert.Pre_finite_rms.Facts] (hpre : Cert.Pre_RmsIdeal_finite_rms m) (c : Dev nD) (t : Fin cfg0.N) (y : S256x2048.Idx)
    (j : S2048x2048.Idx) (hj0 : (j 0).val = t.val * 256 + (y 0).val) (hj1 : (j 1).val = (y 1).val) :
    k0_pay5 (iblk m c 0 t) (iblk m c 1 t) (iblk m c 2 t) (iblk m c 3 t) y =
      val_main_v36 (F := Ideal) (m ((c : Thread nD τ).loc main_arg0)) (m ((c : Thread nD τ).loc main_arg1))
        (m ((c : Thread nD τ).loc main_arg2)) (m ((c : Thread nD τ).loc main_arg3)) j := by
  obtain ⟨⟨a, ha⟩, ⟨b, hb⟩, g, hg⟩ := reals m hpre c
  obtain ⟨r, k, rfl⟩ : ∃ (r : Fin 256) (k : Fin 2048), y = ix2 r k := ⟨y 0, y 1, eq_ix2 y⟩
  obtain ⟨r', k', rfl⟩ : ∃ r' k' : Fin 2048, j = ix2 r' k' := ⟨j 0, j 1, eq_ix2 j⟩
  obtain rfl : k' = k := Fin.ext hj1
  have hr : r'.val = t.val * 256 + r.val := hj0
  refine dx (fun k => a (ix2 r' k)) (fun k => b (ix2 r' k)) (fun k => g (ix1 k)) _ _ _ _ _ _ _ _ r r' k' (fun k => ?_) (fun k => ?_)
    (fun k => ?_) ?_ (fun k => congrFun ha _) (fun k => congrFun hb _) (fun k => congrFun hg _)
  · rw [← congrFun ha]; blk_point [iblk, V, idx t]
  · rw [← congrFun hb]; blk_point [iblk, V, idx t]
  · rw [← congrFun hg]; blk_point [iblk, V, idx t]
  · blk_point [iblk, V, idx t]

theorem final_dx [Cert.Pre_finite_rms.Facts] (hpre : Cert.Pre_RmsIdeal_finite_rms m) (c : Dev nD) : (dats m 0 c).arrAt 4 cfg0.N =
    val_main_v36 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h]; frame_out; refine dx_block m hpre c t y _ ?_ ?_ <;> blk_simp [idx t]
  · rw [outsAt0_B m c t h]; frame_out; refine dx_block m hpre c t y _ ?_ ?_ <;> blk_simp [idx t]

theorem final_dx16 [Cert.Pre_finite_rms.Facts] (hpre : Cert.Pre_RmsIdeal_finite_rms m) (c : Dev nD) : (dats m 0 c).arrAt 5 cfg0.N =
    val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 8 = 0
  · rw [outsAt0_A m c t h]; frame_out; refine dx_block m hpre c t y _ ?_ ?_ <;> blk_simp [idx t]
  · rw [outsAt0_B m c t h]; frame_out; refine dx_block m hpre c t y _ ?_ ?_ <;> blk_simp [idx t]

/-- The gradient of the scale, one block of rows added to what was there. -/
theorem dg (x0 x1 : Vec Ideal S256x2048 .f32) (x3 : Vec Ideal S1x2048 .f32) (y : S1x2048.Idx) :
    k0_pay2 (k0_pay6 x0 x1) x3 y = x3 y + k0_pay6 x0 x1 y := by
  pointwise [k0_pay2]

theorem dg_zero (y : S1x2048.Idx) : k0_pay1 (F := Ideal) y = 0 := by
  pointwise [k0_pay1]

theorem dg_sum (c : Dev nD) (t : Fin cfg0.N) (hf : t.val % 8 = 7) (y : S1x2048.Idx) : (outsAt0 m c t.val t.isLt).2.2 y =
    ∑ s : Fin 8, k0_pay6 (iblk m c 0 ⟨8 * (t.val / 8) + s.val, Pipeline.run_point_lt_of_flush t hf s⟩)
      (iblk m c 1 ⟨8 * (t.val / 8) + s.val, Pipeline.run_point_lt_of_flush t hf s⟩) y := by
  rw [Pipeline.eq_sum_fin_of_reset_step_apply_of_flush (fun n h => (outsAt0 m c n h).2.2) 8 (fun _ => 0)
    (fun t => k0_pay6 (iblk m c 0 t) (iblk m c 1 t))
    (fun t h j => by rw [outsAt0_A m c t h]; frame_out; rw [dg, dg_zero]) (fun t h j => by rw [outsAt0_B m c t h]; frame_out; rw [dg])
    t hf _, zero_add]

theorem dg_point (c : Dev nD) (t : Fin cfg0.N) (hf : t.val % 8 = 7) (y j : S1x2048.Idx) (hj : (j 1).val = (y 1).val) :
    (outsAt0 m c t.val t.isLt).2.2 y =
      val_main_v38 (F := Ideal) (m ((c : Thread nD τ).loc main_arg0)) (m ((c : Thread nD τ).loc main_arg1)) j := by
  have e := fun k : Fin 8 => idx ⟨8 * (t.val / 8) + k.val, Pipeline.run_point_lt_of_flush t hf k⟩
  have ht : t.val < 8 := (idx t).2.2.2.2.2.2.2
  rw [dg_sum m c t hf]
  pointwise [k0_pay3, k0_pay4, k0_pay6, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37, val_main_v38]
  rw [Fin.sum_univ_one, Fin.sum_univ_tiles 8 256 rfl]
  refine Finset.sum_congr rfl fun s _ => Finset.sum_congr rfl fun r _ => ?_
  rw [mul_comm]
  refine Ideal.mul_congr (Ideal.mul_congr ?_ (congrArg (fun v => Ideal.rsqrt (Ideal.div v _ + _)) (Finset.sum_congr rfl fun k _ =>
    Ideal.mul_congr ?_ ?_))) ?_
  all_goals blk_point [iblk, V, e s]

theorem final_dg (c : Dev nD) : (dats m 0 c).arrAt 6 cfg0.N =
    val_main_v38 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  refine dg_point m c t ((flush0_6 t).mp hf) y _ ?_
  blk_simp [idx t]

instance : Cert.Pre_finite_rms.Facts where
  bcast_S_S2048x2048 := by decide
  bcast_S_S2048 := by decide

theorem algebraic : Cert.algebraic_RmsIdeal_RmsRefIdeal_pre_finite_rms := by
  pair_intro
  · run_from Cert.RmsIdeal.Gen.run_main m g
  · run_from Cert.RmsRefIdeal.Value.run m' g'
    · exact (final_dx m hpre c).symm
    · exact (final_dx16 m hpre c).symm
    · exact (final_dg m c).symm

end Cert.Proof.Rms
end
-- ==== Proof.Loss.lean ====
module
public import proofs.«01_k».proof.Defs
public import proofs.«01_k».proof.Proof.Gen.LossIdeal.Value
public import proofs.«01_k».proof.Proof.Gen.LossRefIdeal.Read
public import proofs.«01_k».proof.Proof.Finite
public import Idealize.ShloMosaic.Lib.Pipeline.ValueKit
public import Idealize.ShloMosaic.Lib.Claim
@[expose] public section
set_option maxRecDepth 16384
noncomputable section
namespace Cert.Proof.Loss
open Cert.LossIdeal Cert.LossIdeal.Gen Idealize.ShloMosaic Idealize.ShloMosaic.TcCoe Idealize.SL.Sem
open Cert.LossRefIdeal.Read Cert.Proof.Finite
variable (m : (ℓ : Loc nD τ sig) → Buf (Elt Ideal) ℓ)

theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![0, 0] ∧ t.val < 8 :=
  (by decide +kernel : ∀ t : Fin grid0.N, _)

/-- Halving the mean's derivative of a square is the kernel's division of the difference by the width. -/
theorem scale (x : EReal) : Ideal.div (Ideal.ofBits .f32 0x3F000000#32) (Ideal.ofBits .f32 0x45000000#32) *
    (Ideal.ofBits .f32 0x40000000#32 * x) = x * Ideal.ofBits .f32 0x3A000000#32 := by
  have h : Ideal.ofBits .f32 0x3F000000#32 = ((1 / 2 : ℝ) : EReal) := by
    simp [Ideal.ofBits, Ideal.ieee, -EReal.coe_mul]; norm_num
  have h' : Ideal.ofBits .f32 0x40000000#32 = ((2 : ℝ) : EReal) := by
    simp [Ideal.ofBits, Ideal.ieee, -EReal.coe_mul]; norm_num
  rw [width_word, n2048_word, h, h', div_coe_coe _ (by norm_num), ← mul_assoc, ← EReal.coe_mul, mul_comm]
  norm_num

/-- A row of the gradient of the input, at finite rows: the reference's. -/
theorem dx (a b g : Fin 2048 → ℝ) (x0 x1 : Vec Ideal S256x2048 .f32) (x2 : Vec Ideal S1x2048 .f32)
    (z0 z1 : Vec Ideal S2048x2048 .f32) (z2 : Vec Ideal S2048 .f32) (r : Fin 256) (r' k : Fin 2048)
    (hx0 : ∀ k, x0 (ix2 r k) = a k) (hx1 : ∀ k, x1 (ix2 r k) = b k) (hx2 : ∀ k, x2 (ix2 0 k) = g k)
    (hz0 : ∀ k, z0 (ix2 r' k) = a k) (hz1 : ∀ k, z1 (ix2 r' k) = b k) (hz2 : ∀ k, z2 (ix1 k) = g k) :
    k0_pay10 x0 x1 x2 (ix2 r k) = val_main_v50 (F := Ideal) z0 z1 z2 (ix2 r' k) := by
  pointwise [k0_pay5, k0_pay6, k0_pay7, k0_pay8, k0_pay9, k0_pay10, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_cst_16, val_main_v52, val_main_v53, val_main_cst_17, val_main_v54, val_main_v55, val_main_cst_18, val_main_v56, val_main_v57, val_main_v58, val_main_v59, val_main_v60, val_main_v61, val_main_v62, val_main_v63, val_main_v64, val_main_v65, val_main_cst_19, val_main_v66, val_main_v67, val_main_v68, val_main_v69]
  have h : (0 : ℝ) < 2048 := by norm_num
  simp only [hx0, hx1, hx2, hz0, hz1, hz2, scale]
  simp only [width_word, n2048_word, eps_word, half_neg_word, ← EReal.coe_mul, mean_sq_eps h]
  simp only [rsqrt_coe_pos (ms_pos h a), ← EReal.coe_mul, sum_coe, div_coe_coe _ (ms_pos h a).ne', div_coe_coe _ h.ne',
    Fin.sum_univ_one, ← EReal.coe_sub, ← EReal.coe_add]
  exact congrArg _ (norm_grad h a (fun k => (a k * (√(ms 2048 a))⁻¹ * g k - b k) * (1 / 2048) * g k) k)

/-- The arguments as arrays of real numbers. -/
theorem reals [Cert.Pre_finite_loss.Facts] (hpre : Cert.Pre_LossIdeal_finite_loss m) (c : Dev nD) :
    (∃ a : S2048x2048.Idx → ℝ, m ((c : Thread nD τ).loc main_arg0) = fun i => (a i : EReal)) ∧
    (∃ a : S2048x2048.Idx → ℝ, m ((c : Thread nD τ).loc main_arg1) = fun i => (a i : EReal)) ∧
    ∃ a : S2048.Idx → ℝ, m ((c : Thread nD τ).loc main_arg2) = fun i => (a i : EReal) :=
  ⟨of_lt_top _ _ (fun _ => inf_word) (hpre c).1, of_lt_top _ _ (fun _ => inf_word) (hpre c).2.1,
    of_lt_top _ _ (fun _ => inf_word) (hpre c).2.2⟩

theorem dx_block [Cert.Pre_finite_loss.Facts] (hpre : Cert.Pre_LossIdeal_finite_loss m) (c : Dev nD) (t : Fin cfg0.N) (y : S256x2048.Idx)
    (j : S2048x2048.Idx) (hj0 : (j 0).val = t.val * 256 + (y 0).val) (hj1 : (j 1).val = (y 1).val) :
    k0_pay10 (iblk m c 0 t) (iblk m c 1 t) (iblk m c 2 t) y = val_main_v50 (F := Ideal) (m ((c : Thread nD τ).loc main_arg0)) (m ((c : Thread nD τ).loc main_arg1)) (m ((c : Thread nD τ).loc main_arg2)) j := by
  obtain ⟨⟨a, ha⟩, ⟨b, hb⟩, g, hg⟩ := reals m hpre c
  obtain ⟨r, k, rfl⟩ : ∃ (r : Fin 256) (k : Fin 2048), y = ix2 r k := ⟨y 0, y 1, eq_ix2 y⟩
  obtain ⟨r', k', rfl⟩ : ∃ r' k' : Fin 2048, j = ix2 r' k' := ⟨j 0, j 1, eq_ix2 j⟩
  obtain rfl : k' = k := Fin.ext hj1
  have hr : r'.val = t.val * 256 + r.val := hj0
  refine dx (fun k => a (ix2 r' k)) (fun k => b (ix2 r' k)) (fun k => g (ix1 k)) _ _ _ _ _ _ r r' k' (fun k => ?_) (fun k => ?_)
    (fun k => ?_) (fun k => congrFun ha _) (fun k => congrFun hb _) (fun k => congrFun hg _)
  · rw [← congrFun ha]; blk_point [iblk, V, idx t]
  · rw [← congrFun hb]; blk_point [iblk, V, idx t]
  · rw [← congrFun hg]; blk_point [iblk, V, idx t]

theorem final_dx [Cert.Pre_finite_loss.Facts] (hpre : Cert.Pre_LossIdeal_finite_loss m) (c : Dev nD) : (dats m 0 c).arrAt 3 cfg0.N =
    val_main_v50 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 8 = 0
  · rw [outsAt0_A m c t h]; frame_out; refine dx_block m hpre c t y _ ?_ ?_ <;> blk_simp [idx t]
  · rw [outsAt0_B m c t h]; frame_out; refine dx_block m hpre c t y _ ?_ ?_ <;> blk_simp [idx t]

theorem final_dx16 [Cert.Pre_finite_loss.Facts] (hpre : Cert.Pre_LossIdeal_finite_loss m) (c : Dev nD) : (dats m 0 c).arrAt 4 cfg0.N =
    val_main_v68 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h]; frame_out; refine dx_block m hpre c t y _ ?_ ?_ <;> blk_simp [idx t]
  · rw [outsAt0_B m c t h]; frame_out; refine dx_block m hpre c t y _ ?_ ?_ <;> blk_simp [idx t]

/-- The two sums over the rows, a block of rows added to what was there. -/
theorem add_rows (x0 x1 : Vec Ideal S1x2048 .f32) (y : S1x2048.Idx) :
    k0_pay3 x0 x1 y = x1 y + x0 y ∧ k0_pay4 x0 x1 y = x1 y + x0 y ∧ k0_pay1 (F := Ideal) y = 0 ∧ k0_pay2 (F := Ideal) y = 0 := by
  refine ⟨?_, ?_, ?_, ?_⟩ <;> pointwise [k0_pay1, k0_pay2, k0_pay3, k0_pay4]

/-- What the eight points of a run hold of the arguments. -/
theorem rows (c : Dev nD) (t : Fin cfg0.N) (hf : t.val % 8 = 7) (s : Fin 8) (r : Fin 256) (k : Fin 2048) :
    iblk m c 0 ⟨8 * (t.val / 8) + s.val, Pipeline.run_point_lt_of_flush t hf s⟩ (ix2 r k) =
      m ((c : Thread nD τ).loc main_arg0) (ix2 ⟨s.val * 256 + r.val, by omega⟩ k) ∧
    iblk m c 1 ⟨8 * (t.val / 8) + s.val, Pipeline.run_point_lt_of_flush t hf s⟩ (ix2 r k) =
      m ((c : Thread nD τ).loc main_arg1) (ix2 ⟨s.val * 256 + r.val, by omega⟩ k) ∧
    iblk m c 2 ⟨8 * (t.val / 8) + s.val, Pipeline.run_point_lt_of_flush t hf s⟩ (ix2 0 k) =
      m ((c : Thread nD τ).loc main_arg2) (ix1 k) := by
  have e := fun k : Fin 8 => idx ⟨8 * (t.val / 8) + k.val, Pipeline.run_point_lt_of_flush t hf k⟩
  have ht : t.val < 8 := (idx t).2.2.2.2.2.2.2
  refine ⟨?_, ?_, ?_⟩ <;> blk_point [iblk, V, e s]

theorem sq_point (c : Dev nD) (t : Fin cfg0.N) (hf : t.val % 8 = 7) (y j : S1x2048.Idx) (hj : (j 1).val = (y 1).val) :
    (outsAt0 m c t.val t.isLt).2.2.1 y = val_main_v67 (F := Ideal) (m ((c : Thread nD τ).loc main_arg0)) (m ((c : Thread nD τ).loc main_arg1)) (m ((c : Thread nD τ).loc main_arg2)) j := by
  obtain ⟨k, rfl⟩ : ∃ k : Fin 2048, y = ix2 0 k := ⟨y 1, (eq_ix2 y).trans (congrArg (ix2 · _) (Subsingleton.elim _ _))⟩
  obtain rfl : j = ix2 0 k := (eq_ix2 j).trans (congr (congrArg ix2 (Subsingleton.elim _ _)) (Fin.ext hj))
  rw [Pipeline.eq_sum_fin_of_reset_step_apply_of_flush (fun n h => (outsAt0 m c n h).2.2.1) 8 (fun _ => 0)
    (fun t => k0_pay11 (iblk m c 0 t) (iblk m c 1 t) (iblk m c 2 t))
    (fun t h j => by rw [outsAt0_A m c t h]; frame_out; rw [(add_rows _ _ _).1, (add_rows (fun _ => 0) (fun _ => 0) _).2.2.1])
    (fun t h j => by rw [outsAt0_B m c t h]; frame_out; rw [(add_rows _ _ _).1]) t hf _, zero_add]
  pointwise [k0_pay5, k0_pay6, k0_pay7, k0_pay8, k0_pay9, k0_pay11, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_cst_16, val_main_v52, val_main_v53, val_main_cst_17, val_main_v54, val_main_v55, val_main_cst_18, val_main_v56, val_main_v57, val_main_v58, val_main_v59, val_main_v60, val_main_v61, val_main_v62, val_main_v63, val_main_v64, val_main_v65, val_main_cst_19, val_main_v66, val_main_v67, val_main_v68, val_main_v69]
  rw [Fin.sum_univ_tiles 8 256 rfl]
  exact Finset.sum_congr rfl fun s _ => Finset.sum_congr rfl fun r _ => by simp only [rows m c t hf s r]

theorem final_sq (c : Dev nD) : (dats m 0 c).arrAt 5 cfg0.N = val_main_v67 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine sq_point m c t ((flush0_5 t).mp hf) y _ ?_
  blk_simp [idx t]

theorem dg_point (c : Dev nD) (t : Fin cfg0.N) (hf : t.val % 8 = 7) (y j : S1x2048.Idx) (hj : (j 1).val = (y 1).val) :
    (outsAt0 m c t.val t.isLt).2.2.2 y = val_main_v69 (F := Ideal) (m ((c : Thread nD τ).loc main_arg0)) (m ((c : Thread nD τ).loc main_arg1)) (m ((c : Thread nD τ).loc main_arg2)) j := by
  obtain ⟨k, rfl⟩ : ∃ k : Fin 2048, y = ix2 0 k := ⟨y 1, (eq_ix2 y).trans (congrArg (ix2 · _) (Subsingleton.elim _ _))⟩
  obtain rfl : j = ix2 0 k := (eq_ix2 j).trans (congr (congrArg ix2 (Subsingleton.elim _ _)) (Fin.ext hj))
  rw [Pipeline.eq_sum_fin_of_reset_step_apply_of_flush (fun n h => (outsAt0 m c n h).2.2.2) 8 (fun _ => 0)
    (fun t => k0_pay12 (iblk m c 0 t) (iblk m c 1 t) (iblk m c 2 t))
    (fun t h j => by rw [outsAt0_A m c t h]; frame_out; rw [(add_rows _ _ _).2.1, (add_rows (fun _ => 0) (fun _ => 0) _).2.2.2])
    (fun t h j => by rw [outsAt0_B m c t h]; frame_out; rw [(add_rows _ _ _).2.1]) t hf _, zero_add]
  pointwise [k0_pay5, k0_pay6, k0_pay7, k0_pay8, k0_pay9, k0_pay12, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_cst_16, val_main_v52, val_main_v53, val_main_cst_17, val_main_v54, val_main_v55, val_main_cst_18, val_main_v56, val_main_v57, val_main_v58, val_main_v59, val_main_v60, val_main_v61, val_main_v62, val_main_v63, val_main_v64, val_main_v65, val_main_cst_19, val_main_v66, val_main_v67, val_main_v68, val_main_v69]
  rw [Fin.sum_univ_one, Fin.sum_univ_tiles 8 256 rfl]
  exact Finset.sum_congr rfl fun s _ => Finset.sum_congr rfl fun r _ => by simp only [rows m c t hf s r, scale]; exact mul_comm _ _

theorem final_dg (c : Dev nD) : (dats m 0 c).arrAt 6 cfg0.N = val_main_v69 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine dg_point m c t ((flush0_6 t).mp hf) y _ ?_
  blk_simp [idx t]

/-- The reference's run, its results read stage by stage. -/
theorem ref_run (m' : (ℓ : Loc Cert.LossRefIdeal.nD Cert.LossRefIdeal.τ Cert.LossRefIdeal.sig) → Buf (Elt Ideal) ℓ)
    (g' : Dev Cert.LossRefIdeal.nD → PrngReg) :
    θ_run (Cert.LossRefIdeal.defs (F := Ideal)) (onTc (τ := Cert.LossRefIdeal.τ) (Cert.LossRefIdeal.main (F := Ideal))) ⟨m', fun _ => 0, g'⟩
      fun r => ∀ c : Dev Cert.LossRefIdeal.nD, r.2.mem ((c.tc : Thread Cert.LossRefIdeal.nD Cert.LossRefIdeal.τ).loc Cert.LossRefIdeal.main_v50) = val_main_v50 (F := Ideal) (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_v68) = val_main_v68 (F := Ideal) (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_v67) = val_main_v67 (F := Ideal) (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_v69) = val_main_v69 (F := Ideal) (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2))
      ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2) :=
  (θ_run Cert.LossRefIdeal.defs _ _).mono (fun _ h c => by
    obtain ⟨h0, h1, h2, h3, h4⟩ := h c
    exact ⟨h0.trans (val_main_v50_eq m' c), h1.trans (val_main_v68_eq m' c), h2.trans (val_main_v67_eq _ _ _),
      h3.trans (val_main_v69_eq _ _ _), h4⟩) (Cert.LossRefIdeal.Value.run m' g')

instance : Cert.Pre_finite_loss.Facts where
  bcast_S_S2048x2048 := by decide
  bcast_S_S2048 := by decide

theorem algebraic : Cert.algebraic_LossIdeal_LossRefIdeal_pre_finite_loss := by
  pair_intro
  · run_from Cert.LossIdeal.Gen.run_main m g
  · run_from ref_run m' g'
    · exact (final_dx m hpre c).symm
    · exact (final_dx16 m hpre c).symm
    · exact (final_sq m c).symm
    · exact (final_dg m c).symm

end Cert.Proof.Loss
end
-- ==== Proof.Cumsum.lean ====
module
public import Idealize.ShloMosaic.PureOps.Ideal.Laws
public import Idealize.ShloMosaic.Lib.Pointwise.Index
@[expose] public section

/-! Running sums along the third axis of a four-axis array, as a window of the axis' whole length computes them:
padded in front they sum the entries up to a place, padded behind the entries from it on. -/

noncomputable section
namespace Cert.Proof.Cumsum
open Idealize.ShloMosaic

/-- A fold of additions is the initial value and the sum. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A window's places, each shifted by `a`, are the entries `s` it meets. -/
theorem sum_shift {N : ℕ} (a t : ℕ) (f : Fin N → EReal) :
    (∑ n : Fin N, if h : a ≤ t + n.val ∧ t + n.val - a < N then f ⟨t + n.val - a, h.2⟩ else 0)
      = ∑ s : Fin N, if t ≤ s.val + a ∧ s.val + a - t < N then f s else 0 := by
  have e : ∀ n : Fin N, (if h : a ≤ t + n.val ∧ t + n.val - a < N then f ⟨t + n.val - a, h.2⟩ else 0)
      = ∑ s : Fin N, if s.val + a = t + n.val then f s else 0 := fun n => by
    split
    · next h =>
      rw [Finset.sum_eq_single (⟨t + n.val - a, h.2⟩ : Fin N)]
      · rw [if_pos (by show t + n.val - a + a = _; omega)]
      · intro s _ hs
        rw [if_neg fun q => hs (Fin.ext (by show s.val = t + n.val - a; omega))]
      · exact fun q => absurd (Finset.mem_univ _) q
    · next h =>
      exact (Finset.sum_eq_zero fun s _ => if_neg fun q => h ⟨by omega, by have := s.isLt; omega⟩).symm
  rw [Finset.sum_congr rfl fun n _ => e n, Finset.sum_comm]
  refine Finset.sum_congr rfl fun s _ => ?_
  split
  · next h =>
    rw [Finset.sum_eq_single (⟨s.val + a - t, h.2⟩ : Fin N)]
    · rw [if_pos (by show s.val + a = t + (s.val + a - t); omega)]
    · intro n _ hn
      rw [if_neg fun q => hn (Fin.ext (by show n.val = s.val + a - t; omega))]
    · exact fun q => absurd (Finset.mem_univ _) q
  · next h =>
    exact Finset.sum_eq_zero fun n _ => if_neg fun q => h ⟨by omega, by have := n.isLt; omega⟩

/-- The sums over windows of the third axis' length, padded by `a` in front and `b` behind. -/
theorem window {A B N C : ℕ} (a b : ℕ) (x : (⟨4, ![A, B, N, C]⟩ : Shape).Idx → EReal)
    (h : (⟨4, ![A, B, N, C]⟩ : Shape).ReduceWindows (![1, 1, N, 1] : Fin 4 → Nat) ![1, 1, 1, 1] ![0, 0, a, 0] ![0, 0, b, 0] ⟨4, ![A, B, N, C]⟩)
    (i : Fin A) (j : Fin B) (t : Fin N) (k : Fin C) :
    Ideal.hostReduceWindowAdd (![1, 1, N, 1] : Fin 4 → Nat) ![1, 1, 1, 1] ![0, 0, a, 0] ![0, 0, b, 0] h x 0 (ix4 i j t k)
      = ∑ s : Fin N, if t.val ≤ s.val + a ∧ s.val + a - t.val < N then x (ix4 i j s k) else 0 := by
  unfold Ideal.hostReduceWindowAdd Host.reduceWindow
  refine (foldl_add _ _ _).trans ?_
  rw [zero_add, ← List.ofFn_eq_map, List.sum_ofFn, ← Equiv.sum_comp (Shape.rowMajor _)]
  refine (sum_idx4 (n0 := 1) (n1 := 1) (n2 := N) (n3 := 1) _).trans ?_
  simp only [Fin.sum_univ_one, Equiv.symm_apply_apply]
  rw [← sum_shift a t.val (fun s => x (ix4 i j s k))]
  refine Finset.sum_congr rfl fun n _ => ?_
  have hi := i.isLt
  have hj := j.isLt
  have hk := k.isLt
  split
  · next hin =>
    have h2 := hin 2
    change a ≤ t.val * 1 + n.val ∧ t.val * 1 + n.val - a < N at h2
    rw [Nat.mul_one] at h2
    rw [dif_pos h2]
    refine congrArg x (funext fun q => Fin.ext ?_)
    match q with
    | ⟨0, _⟩ => show i.val * 1 + 0 - 0 = i.val; omega
    | ⟨1, _⟩ => show j.val * 1 + 0 - 0 = j.val; omega
    | ⟨2, _⟩ => show t.val * 1 + n.val - a = t.val + n.val - a; omega
    | ⟨3, _⟩ => show k.val * 1 + 0 - 0 = k.val; omega
  · next hin =>
    rw [dif_neg fun h2 => hin fun q => ?_]
    match q with
    | ⟨0, _⟩ => show 0 ≤ i.val * 1 + 0 ∧ i.val * 1 + 0 - 0 < A; omega
    | ⟨1, _⟩ => show 0 ≤ j.val * 1 + 0 ∧ j.val * 1 + 0 - 0 < B; omega
    | ⟨2, _⟩ => show a ≤ t.val * 1 + n.val ∧ t.val * 1 + n.val - a < N; omega
    | ⟨3, _⟩ => show 0 ≤ k.val * 1 + 0 ∧ k.val * 1 + 0 - 0 < C; omega

end Cert.Proof.Cumsum
-- ==== Proof.GlaChain.lean ====
module
public import proofs.«01_k».proof.Proof.Gen.GlaRefIdeal.Read
public import Idealize.ShloMosaic.Lib.Pipeline.ValueKit
@[expose] public section

/-! The recurrences over the 32 chunks that the reference of the gated-linear-attention gradient writes out: the
states forward, their cotangents backward, and the arrays that collect them, read at an index. -/

set_option maxRecDepth 16384
noncomputable section
namespace Cert.Proof.Gla
open Cert.GlaRefIdeal Cert.GlaRefIdeal.Read Idealize.ShloMosaic Idealize.ShloMosaic.TcCoe
variable (x0 : (⟨S2048x6160, .f32⟩ : BufTy).Contents (Elt Ideal)) (x1 : (⟨S16x1024, .f32⟩ : BufTy).Contents (Elt Ideal))
  (x2 : (⟨S1024, .f32⟩ : BufTy).Contents (Elt Ideal)) (x3 : (⟨S512, .f32⟩ : BufTy).Contents (Elt Ideal))
  (x4 : (⟨S2048x2048, .f32⟩ : BufTy).Contents (Elt Ideal))

/-- The decay factors of the 32 chunks, one array each. -/
def decs : Fin 32 → S1x4x256x512.Idx → EReal :=
  ![val_main_v34 x0 x1 x2, val_main_v35 x0 x1 x2, val_main_v36 x0 x1 x2, val_main_v37 x0 x1 x2,
    val_main_v38 x0 x1 x2, val_main_v39 x0 x1 x2, val_main_v40 x0 x1 x2, val_main_v41 x0 x1 x2,
    val_main_v42 x0 x1 x2, val_main_v43 x0 x1 x2, val_main_v44 x0 x1 x2, val_main_v45 x0 x1 x2,
    val_main_v46 x0 x1 x2, val_main_v47 x0 x1 x2, val_main_v48 x0 x1 x2, val_main_v49 x0 x1 x2,
    val_main_v50 x0 x1 x2, val_main_v51 x0 x1 x2, val_main_v52 x0 x1 x2, val_main_v53 x0 x1 x2,
    val_main_v54 x0 x1 x2, val_main_v55 x0 x1 x2, val_main_v56 x0 x1 x2, val_main_v57 x0 x1 x2,
    val_main_v58 x0 x1 x2, val_main_v59 x0 x1 x2, val_main_v60 x0 x1 x2, val_main_v61 x0 x1 x2,
    val_main_v62 x0 x1 x2, val_main_v63 x0 x1 x2, val_main_v64 x0 x1 x2, val_main_v65 x0 x1 x2]

/-- The 32 chunks' own products of decayed keys and values. -/
def kvs : Fin 32 → S1x4x256x512.Idx → EReal :=
  ![val_main_v66 x0 x1 x2, val_main_v67 x0 x1 x2, val_main_v68 x0 x1 x2, val_main_v69 x0 x1 x2,
    val_main_v70 x0 x1 x2, val_main_v71 x0 x1 x2, val_main_v72 x0 x1 x2, val_main_v73 x0 x1 x2,
    val_main_v74 x0 x1 x2, val_main_v75 x0 x1 x2, val_main_v76 x0 x1 x2, val_main_v77 x0 x1 x2,
    val_main_v78 x0 x1 x2, val_main_v79 x0 x1 x2, val_main_v80 x0 x1 x2, val_main_v81 x0 x1 x2,
    val_main_v82 x0 x1 x2, val_main_v83 x0 x1 x2, val_main_v84 x0 x1 x2, val_main_v85 x0 x1 x2,
    val_main_v86 x0 x1 x2, val_main_v87 x0 x1 x2, val_main_v88 x0 x1 x2, val_main_v89 x0 x1 x2,
    val_main_v90 x0 x1 x2, val_main_v91 x0 x1 x2, val_main_v92 x0 x1 x2, val_main_v93 x0 x1 x2,
    val_main_v94 x0 x1 x2, val_main_v95 x0 x1 x2, val_main_v96 x0 x1 x2, val_main_v97 x0 x1 x2]

/-- The states after the 32 chunks. -/
def states : Fin 32 → S1x4x256x512.Idx → EReal :=
  ![val_main_v99 x0 x1 x2, val_main_v101 x0 x1 x2, val_main_v103 x0 x1 x2, val_main_v105 x0 x1 x2,
    val_main_v107 x0 x1 x2, val_main_v109 x0 x1 x2, val_main_v111 x0 x1 x2, val_main_v113 x0 x1 x2,
    val_main_v115 x0 x1 x2, val_main_v117 x0 x1 x2, val_main_v119 x0 x1 x2, val_main_v121 x0 x1 x2,
    val_main_v123 x0 x1 x2, val_main_v125 x0 x1 x2, val_main_v127 x0 x1 x2, val_main_v129 x0 x1 x2,
    val_main_v131 x0 x1 x2, val_main_v133 x0 x1 x2, val_main_v135 x0 x1 x2, val_main_v137 x0 x1 x2,
    val_main_v139 x0 x1 x2, val_main_v141 x0 x1 x2, val_main_v143 x0 x1 x2, val_main_v145 x0 x1 x2,
    val_main_v147 x0 x1 x2, val_main_v149 x0 x1 x2, val_main_v151 x0 x1 x2, val_main_v153 x0 x1 x2,
    val_main_v155 x0 x1 x2, val_main_v157 x0 x1 x2, val_main_v159 x0 x1 x2, val_main_v161 x0 x1 x2]

/-- The 32 chunks' own contributions to the states' cotangents. -/
def grads : Fin 32 → S1x4x256x512.Idx → EReal :=
  ![val_main_v214 x0 x1 x2 x3 x4, val_main_v215 x0 x1 x2 x3 x4, val_main_v216 x0 x1 x2 x3 x4, val_main_v217 x0 x1 x2 x3 x4,
    val_main_v218 x0 x1 x2 x3 x4, val_main_v219 x0 x1 x2 x3 x4, val_main_v220 x0 x1 x2 x3 x4, val_main_v221 x0 x1 x2 x3 x4,
    val_main_v222 x0 x1 x2 x3 x4, val_main_v223 x0 x1 x2 x3 x4, val_main_v224 x0 x1 x2 x3 x4, val_main_v225 x0 x1 x2 x3 x4,
    val_main_v226 x0 x1 x2 x3 x4, val_main_v227 x0 x1 x2 x3 x4, val_main_v228 x0 x1 x2 x3 x4, val_main_v229 x0 x1 x2 x3 x4,
    val_main_v230 x0 x1 x2 x3 x4, val_main_v231 x0 x1 x2 x3 x4, val_main_v232 x0 x1 x2 x3 x4, val_main_v233 x0 x1 x2 x3 x4,
    val_main_v234 x0 x1 x2 x3 x4, val_main_v235 x0 x1 x2 x3 x4, val_main_v236 x0 x1 x2 x3 x4, val_main_v237 x0 x1 x2 x3 x4,
    val_main_v238 x0 x1 x2 x3 x4, val_main_v239 x0 x1 x2 x3 x4, val_main_v240 x0 x1 x2 x3 x4, val_main_v241 x0 x1 x2 x3 x4,
    val_main_v242 x0 x1 x2 x3 x4, val_main_v243 x0 x1 x2 x3 x4, val_main_v244 x0 x1 x2 x3 x4, val_main_v245 x0 x1 x2 x3 x4]

/-- The cotangents of the states after the 32 chunks. -/
def cots : Fin 32 → S1x4x256x512.Idx → EReal :=
  ![val_main_v337 x0 x1 x2 x3 x4, val_main_v334 x0 x1 x2 x3 x4, val_main_v331 x0 x1 x2 x3 x4, val_main_v328 x0 x1 x2 x3 x4,
    val_main_v325 x0 x1 x2 x3 x4, val_main_v322 x0 x1 x2 x3 x4, val_main_v319 x0 x1 x2 x3 x4, val_main_v316 x0 x1 x2 x3 x4,
    val_main_v313 x0 x1 x2 x3 x4, val_main_v310 x0 x1 x2 x3 x4, val_main_v307 x0 x1 x2 x3 x4, val_main_v304 x0 x1 x2 x3 x4,
    val_main_v301 x0 x1 x2 x3 x4, val_main_v298 x0 x1 x2 x3 x4, val_main_v295 x0 x1 x2 x3 x4, val_main_v292 x0 x1 x2 x3 x4,
    val_main_v289 x0 x1 x2 x3 x4, val_main_v286 x0 x1 x2 x3 x4, val_main_v283 x0 x1 x2 x3 x4, val_main_v280 x0 x1 x2 x3 x4,
    val_main_v277 x0 x1 x2 x3 x4, val_main_v274 x0 x1 x2 x3 x4, val_main_v271 x0 x1 x2 x3 x4, val_main_v268 x0 x1 x2 x3 x4,
    val_main_v265 x0 x1 x2 x3 x4, val_main_v262 x0 x1 x2 x3 x4, val_main_v259 x0 x1 x2 x3 x4, val_main_v256 x0 x1 x2 x3 x4,
    val_main_v253 x0 x1 x2 x3 x4, val_main_v250 x0 x1 x2 x3 x4, val_main_v247 x0 x1 x2 x3 x4, val_main_v245 x0 x1 x2 x3 x4]

/-- The products of each cotangent with the state before its chunk. -/
def prods : Fin 32 → S1x4x256x512.Idx → EReal :=
  ![val_main_v339 x0 x1 x2 x3 x4, val_main_v338 x0 x1 x2 x3 x4, val_main_v335 x0 x1 x2 x3 x4, val_main_v332 x0 x1 x2 x3 x4,
    val_main_v329 x0 x1 x2 x3 x4, val_main_v326 x0 x1 x2 x3 x4, val_main_v323 x0 x1 x2 x3 x4, val_main_v320 x0 x1 x2 x3 x4,
    val_main_v317 x0 x1 x2 x3 x4, val_main_v314 x0 x1 x2 x3 x4, val_main_v311 x0 x1 x2 x3 x4, val_main_v308 x0 x1 x2 x3 x4,
    val_main_v305 x0 x1 x2 x3 x4, val_main_v302 x0 x1 x2 x3 x4, val_main_v299 x0 x1 x2 x3 x4, val_main_v296 x0 x1 x2 x3 x4,
    val_main_v293 x0 x1 x2 x3 x4, val_main_v290 x0 x1 x2 x3 x4, val_main_v287 x0 x1 x2 x3 x4, val_main_v284 x0 x1 x2 x3 x4,
    val_main_v281 x0 x1 x2 x3 x4, val_main_v278 x0 x1 x2 x3 x4, val_main_v275 x0 x1 x2 x3 x4, val_main_v272 x0 x1 x2 x3 x4,
    val_main_v269 x0 x1 x2 x3 x4, val_main_v266 x0 x1 x2 x3 x4, val_main_v263 x0 x1 x2 x3 x4, val_main_v260 x0 x1 x2 x3 x4,
    val_main_v257 x0 x1 x2 x3 x4, val_main_v254 x0 x1 x2 x3 x4, val_main_v251 x0 x1 x2 x3 x4, val_main_v248 x0 x1 x2 x3 x4]

theorem decs_at (c : Fin 32) (h : Fin 4) (k : Fin 256) (v : Fin 512) : decs x0 x1 x2 c (ix4 0 h k v) = val_main_v29 (F := Ideal) x0 x1 x2 (ix3 c h k) := by
  fin_cases c <;> unfold decs <;> pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65] <;> rfl

theorem kvs_at (c : Fin 32) (h : Fin 4) (k : Fin 256) (v : Fin 512) : kvs x0 x1 x2 c (ix4 0 h k v) = val_main_v30 (F := Ideal) x0 x1 x2 (ix4 c h k v) := by
  fin_cases c <;> unfold kvs <;> pointwise [val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97] <;> rfl

theorem grads_at (c : Fin 32) (h : Fin 4) (k : Fin 256) (v : Fin 512) : grads x0 x1 x2 x3 x4 c (ix4 0 h k v) = val_main_v212 (F := Ideal) x0 x1 x2 x3 x4 (ix4 c h k v) := by
  fin_cases c <;> unfold grads <;> pointwise [val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245] <;> rfl

theorem states_zero (i : S1x4x256x512.Idx) : states x0 x1 x2 0 i = decs x0 x1 x2 0 i * val_main_v33 (F := Ideal) i + kvs x0 x1 x2 0 i := rfl
theorem states_succ (c : Fin 31) (i : S1x4x256x512.Idx) :
    states x0 x1 x2 c.succ i = decs x0 x1 x2 c.succ i * states x0 x1 x2 c.castSucc i + kvs x0 x1 x2 c.succ i := by
  fin_cases c <;> rfl
theorem cots_last_array : cots x0 x1 x2 x3 x4 31 = val_main_v245 (F := Ideal) x0 x1 x2 x3 x4 := rfl
theorem grads_last_array : grads x0 x1 x2 x3 x4 31 = val_main_v245 (F := Ideal) x0 x1 x2 x3 x4 := rfl
theorem cots_last : cots x0 x1 x2 x3 x4 31 = grads x0 x1 x2 x3 x4 31 := (cots_last_array x0 x1 x2 x3 x4).trans (grads_last_array x0 x1 x2 x3 x4).symm
theorem cots_castSucc (c : Fin 31) (i : S1x4x256x512.Idx) :
    cots x0 x1 x2 x3 x4 c.castSucc i = grads x0 x1 x2 x3 x4 c.castSucc i + decs x0 x1 x2 c.succ i * cots x0 x1 x2 x3 x4 c.succ i := by
  fin_cases c <;> rfl
theorem prods_zero (i : S1x4x256x512.Idx) : prods x0 x1 x2 x3 x4 0 i = cots x0 x1 x2 x3 x4 0 i * val_main_v33 (F := Ideal) i := rfl
theorem prods_succ (c : Fin 31) (i : S1x4x256x512.Idx) :
    prods x0 x1 x2 x3 x4 c.succ i = cots x0 x1 x2 x3 x4 c.succ i * states x0 x1 x2 c.castSucc i := by
  fin_cases c <;> rfl

theorem v164_at (c : Fin 32) (h : Fin 4) (k : Fin 256) (v : Fin 512) :
    val_main_v164 (F := Ideal) x0 x1 x2 (ix4 c h k v) = states x0 x1 x2 c (ix4 0 h k v) := by
  fin_cases c <;> pointwise [val_main_v162, val_main_v163, val_main_v164] <;> rfl
theorem v342_at (c : Fin 32) (h : Fin 4) (k : Fin 256) (v : Fin 512) :
    val_main_v342 (F := Ideal) x0 x1 x2 x3 x4 (ix4 c h k v) = cots x0 x1 x2 x3 x4 c (ix4 0 h k v) := by
  fin_cases c <;> pointwise [val_main_v340, val_main_v341, val_main_v342] <;> rfl
theorem v345_at (c : Fin 32) (h : Fin 4) (k : Fin 256) (v : Fin 512) :
    val_main_v345 (F := Ideal) x0 x1 x2 x3 x4 (ix4 c h k v) = prods x0 x1 x2 x3 x4 c (ix4 0 h k v) := by
  fin_cases c <;> pointwise [val_main_v343, val_main_v344, val_main_v345] <;> rfl

end Cert.Proof.Gla
-- ==== Proof.GlaRef.lean ====
module
public import proofs.«01_k».proof.Defs
public import proofs.«01_k».proof.Proof.Gen.GlaRefIdeal.Read
public import proofs.«01_k».proof.Proof.Cumsum
public import proofs.«01_k».proof.Proof.Finite
public import proofs.«01_k».proof.Proof.GlaChain
public import Idealize.ShloMosaic.Lib.Pipeline.ValueKit
@[expose] public section

/-! The reference's values in the gated-linear-attention gradient, each at an index, from the values before it. -/

set_option maxRecDepth 16384
noncomputable section
namespace Cert.Proof.Gla
open Cert.GlaRefIdeal Cert.GlaRefIdeal.Read Idealize.ShloMosaic Idealize.ShloMosaic.TcCoe Cert.Proof.Finite
/-- A host sum over the first three of four axes. -/
theorem hostReduceAdd_first {A B N C : Nat} (h : (⟨4, ![A, B, N, C]⟩ : Shape).ReducesTo [0, 1, 2] ⟨1, ![C]⟩)
    (x : (⟨4, ![A, B, N, C]⟩ : Shape).Idx → EReal) (init : EReal) (k : Fin C) :
    Ideal.hostReduceAdd h x init (ix1 k) = init + ∑ a : Fin A, ∑ b : Fin B, ∑ n : Fin N, x (ix4 a b n k) := by
  have hd : ∀ (a : Fin A) (b : Fin B) (n : Fin N) (q : Fin C), h.drop (ix4 a b n q) = ix1 k ↔ q = k := by
    intro a b n q
    constructor
    · intro e
      exact Fin.ext (congrArg Fin.val (congrFun e 0))
    · rintro rfl
      funext i
      match i with
      | ⟨0, _⟩ => rfl
  refine congrArg (init + ·) ?_
  rw [Finset.sum_filter, sum_idx4]
  simp only [hd, Finset.sum_ite_eq', Finset.mem_univ, if_true]

variable (x0 : (⟨S2048x6160, .f32⟩ : BufTy).Contents (Elt Ideal)) (x1 : (⟨S16x1024, .f32⟩ : BufTy).Contents (Elt Ideal))
  (x2 : (⟨S1024, .f32⟩ : BufTy).Contents (Elt Ideal)) (x3 : (⟨S512, .f32⟩ : BufTy).Contents (Elt Ideal))
  (x4 : (⟨S2048x2048, .f32⟩ : BufTy).Contents (Elt Ideal))

/-- Row `s` of chunk `c`. -/
def row (c : Fin 32) (s : Fin 64) : Fin 2048 := ⟨c.val * 64 + s.val, by omega⟩
/-- Column `k` of a head's keys. -/
def kcol (h : Fin 4) (k : Fin 256) : Fin 1024 := ⟨h.val * 256 + k.val, by omega⟩
/-- Column `v` of a head's values. -/
def vcol (h : Fin 4) (v : Fin 512) : Fin 2048 := ⟨h.val * 512 + v.val, by omega⟩

theorem row_div (c : Fin 32) (s : Fin 64) (p) : (⟨(row c s).val / 64, p⟩ : Fin 32) = c := Fin.ext (by simp only [row]; omega)
theorem row_mod (c : Fin 32) (s : Fin 64) (p) : (⟨(row c s).val % 64, p⟩ : Fin 64) = s := Fin.ext (by simp only [row]; omega)
theorem kcol_div (h : Fin 4) (k : Fin 256) (p) : (⟨(kcol h k).val / 256, p⟩ : Fin 4) = h := Fin.ext (by simp only [kcol]; omega)
theorem kcol_mod (h : Fin 4) (k : Fin 256) (p) : (⟨(kcol h k).val % 256, p⟩ : Fin 256) = k := Fin.ext (by simp only [kcol]; omega)
theorem vcol_div (h : Fin 4) (v : Fin 512) (p) : (⟨(vcol h v).val / 512, p⟩ : Fin 4) = h := Fin.ext (by simp only [vcol]; omega)
theorem vcol_mod (h : Fin 4) (v : Fin 512) (p) : (⟨(vcol h v).val % 512, p⟩ : Fin 512) = v := Fin.ext (by simp only [vcol]; omega)

theorem v8_at (r : Fin 2048) (k : Fin 1024) : val_main_v8 (F := Ideal) x0 x1 x2 (ix2 r k) =
    (∑ i : Fin 16, x0 (ix2 r ⟨6144 + i.val, by omega⟩) * x1 (ix2 i k)) + x2 (ix1 k) := by
  pointwise [val_main_v8, val_main_v7, val_main_v6, val_main_v5, val_main_v4]
theorem v15_at (c : Fin 32) (h : Fin 4) (s : Fin 64) (k : Fin 256) : val_main_v15 (F := Ideal) x0 (ix4 c h s k) =
    x0 (ix2 (row c s) ⟨h.val * 256 + k.val, by omega⟩) * Ideal.ofBits .f32 0x3D800000#32 := by
  pointwise [val_main_v0, val_main_v12, val_main_v13, val_main_cst_0, val_main_v14, val_main_v15]
  rfl
theorem v17_at (c : Fin 32) (h : Fin 4) (s : Fin 64) (k : Fin 256) : val_main_v17 (F := Ideal) x0 (ix4 c h s k) =
    x0 (ix2 (row c s) ⟨1024 + (kcol h k).val, by omega⟩) := by
  pointwise [val_main_v1, val_main_v16, val_main_v17]
  rfl
theorem v19_at (c : Fin 32) (h : Fin 4) (s : Fin 64) (v : Fin 512) : val_main_v19 (F := Ideal) x0 (ix4 c h s v) =
    x0 (ix2 (row c s) ⟨2048 + (vcol h v).val, by omega⟩) := by
  pointwise [val_main_v2, val_main_v18, val_main_v19]
  rfl
theorem v21_at (c : Fin 32) (h : Fin 4) (s : Fin 64) (k : Fin 256) : val_main_v21 (F := Ideal) x0 x1 x2 (ix4 c h s k) =
    val_main_v11 (F := Ideal) x0 x1 x2 (ix2 (row c s) (kcol h k)) := by
  pointwise [val_main_v20, val_main_v21]
  rfl
theorem v22_at (c : Fin 32) (h : Fin 4) (s : Fin 64) (k : Fin 256) : val_main_v22 (F := Ideal) x0 x1 x2 (ix4 c h s k) =
    ∑ s' : Fin 64, if s'.val ≤ s.val then val_main_v11 (F := Ideal) x0 x1 x2 (ix2 (row c s') (kcol h k)) else 0 := by
  have hz : val_main_call1_call0_v0 (F := Ideal) (Shape.Idx.first Gen.h_S_) = (0 : EReal) := by
    pointwise [val_main_call1_call0_v0, val_main_call1_call0_cst]
  refine (congrArg (fun z => Ideal.hostReduceWindowAdd _ _ _ _ Gen.reduceWindows_S32x4x64x256_S32x4x64x256_w1s1p0_0_w1s1p0_0_w64s1p63_0_w1s1p0_0 (val_main_v21 (F := Ideal) x0 x1 x2) z (ix4 c h s k)) hz).trans ?_
  refine (Cumsum.window (A := 32) (B := 4) (N := 64) (C := 256) 63 0 (val_main_v21 (F := Ideal) x0 x1 x2) _ c h s k).trans ?_
  refine Finset.sum_congr rfl fun s' _ => ?_
  by_cases hs : s'.val ≤ s.val
  · rw [if_pos hs, if_pos (by omega), v21_at]
  · rw [if_neg hs, if_neg (by omega)]
theorem v26_at (c : Fin 32) (h : Fin 4) (s : Fin 64) (k : Fin 256) : val_main_v26 (F := Ideal) x0 x1 x2 (ix4 c h s k) =
    Ideal.exp (val_main_v22 (F := Ideal) x0 x1 x2 (ix4 c h 63 k) - val_main_v22 (F := Ideal) x0 x1 x2 (ix4 c h s k)) := by
  pointwise [val_main_v23, val_main_v24, val_main_v25, val_main_v26]
theorem v29_at (c : Fin 32) (h : Fin 4) (k : Fin 256) : val_main_v29 (F := Ideal) x0 x1 x2 (ix3 c h k) =
    Ideal.exp (val_main_v22 (F := Ideal) x0 x1 x2 (ix4 c h 63 k)) := by
  pointwise [val_main_v23, val_main_v28, val_main_v29]
theorem v30_at (c : Fin 32) (h : Fin 4) (k : Fin 256) (v : Fin 512) : val_main_v30 (F := Ideal) x0 x1 x2 (ix4 c h k v) =
    ∑ s : Fin 64, val_main_v17 (F := Ideal) x0 (ix4 c h s k) * val_main_v26 (F := Ideal) x0 x1 x2 (ix4 c h s k) *
      val_main_v19 (F := Ideal) x0 (ix4 c h s v) := by
  pointwise [val_main_v27, val_main_v30]
theorem v165_at (c : Fin 32) (h : Fin 4) (s : Fin 64) (v : Fin 512) : val_main_v165 (F := Ideal) x0 x1 x2 (ix4 c h s v) =
    ∑ k : Fin 256, val_main_v15 (F := Ideal) x0 (ix4 c h s k) * val_main_v164 (F := Ideal) x0 x1 x2 (ix4 c h k v) := by
  pointwise [val_main_v165]
theorem v172_at (c : Fin 32) (h : Fin 4) (s : Fin 64) : val_main_v172 (F := Ideal) x0 x1 x2 (ix4 c h s 0) =
    Ideal.div (∑ v : Fin 512, val_main_v165 (F := Ideal) x0 x1 x2 (ix4 c h s v) * val_main_v165 (F := Ideal) x0 x1 x2 (ix4 c h s v))
      (Ideal.ofBits .f32 0x44000000#32) + Ideal.ofBits .f32 0x358637BD#32 := by
  pointwise [val_main_v166, val_main_v167, val_main_v168, val_main_v169, val_main_v170, val_main_v171, val_main_v172, val_main_cst_2, val_main_cst_3, val_main_cst_4]
theorem v173_at (c : Fin 32) (h : Fin 4) (s : Fin 64) : val_main_v173 (F := Ideal) x0 x1 x2 (ix4 c h s 0) =
    Ideal.rsqrt (Ideal.div (∑ v : Fin 512, val_main_v165 (F := Ideal) x0 x1 x2 (ix4 c h s v) * val_main_v165 (F := Ideal) x0 x1 x2 (ix4 c h s v))
      (Ideal.ofBits .f32 0x44000000#32) + Ideal.ofBits .f32 0x358637BD#32) := by
  pointwise [val_main_v166, val_main_v167, val_main_v168, val_main_v169, val_main_v170, val_main_v171, val_main_v172, val_main_v173, val_main_cst_2, val_main_cst_3, val_main_cst_4]
theorem v178_at (c : Fin 32) (h : Fin 4) (s : Fin 64) (v : Fin 512) : val_main_v178 (F := Ideal) x0 x1 x2 (ix4 c h s v) =
    val_main_v165 (F := Ideal) x0 x1 x2 (ix4 c h s v) * val_main_v173 (F := Ideal) x0 x1 x2 (ix4 c h s 0) := by
  pointwise [val_main_v177, val_main_v178]
theorem v183_at (c : Fin 32) (h : Fin 4) (s : Fin 64) (v : Fin 512) : val_main_v183 (F := Ideal) x0 x1 x2 x3 (ix2 (row c s) (vcol h v)) =
    val_main_v178 (F := Ideal) x0 x1 x2 (ix4 c h s v) * x3 (ix1 v) := by
  pointwise [val_main_v179, val_main_v180, val_main_v181, val_main_v182, val_main_v183]
  simp only [row_div, row_mod, vcol_div, vcol_mod]
theorem v184_2_at (r k : Fin 2048) : val_main_v184_2 (F := Ideal) x0 (ix2 r k) =
    Ideal.logistic (x0 (ix2 r ⟨4096 + k.val, by omega⟩)) := by
  pointwise [val_main_call2_v0, val_main_call2_v1, val_main_call2_v2, val_main_call2_v3, val_main_call2_v4, val_main_call2_cst, val_main_call2_cst_0, val_main_v184_2, val_main_v3]
  rfl
theorem v190_at (c : Fin 32) (h : Fin 4) (s : Fin 64) (v : Fin 512) : val_main_v190 (F := Ideal) x0 x4 (ix4 c h s v) =
    x4 (ix2 (row c s) (vcol h v)) * (x0 (ix2 (row c s) ⟨4096 + (vcol h v).val, by omega⟩) * val_main_v184_2 (F := Ideal) x0 (ix2 (row c s) (vcol h v))) := by
  pointwise [val_main_v184_0, val_main_v187, val_main_v189, val_main_v190, val_main_v3]
  rfl
theorem v188_at (r k : Fin 2048) : val_main_v188 (F := Ideal) x0 x1 x2 x3 x4 (ix2 r k) =
    val_main_v183 (F := Ideal) x0 x1 x2 x3 (ix2 r k) * x4 (ix2 r k) * val_main_v184_2 (F := Ideal) x0 (ix2 r k) +
      x0 (ix2 r ⟨4096 + k.val, by omega⟩) * (val_main_v183 (F := Ideal) x0 x1 x2 x3 (ix2 r k) * x4 (ix2 r k)) *
        (val_main_v184_2 (F := Ideal) x0 (ix2 r k) * (1 - val_main_v184_2 (F := Ideal) x0 (ix2 r k))) := by
  pointwise [val_main_v184_1, val_main_v186, val_main_v188, val_main_call2_cst_1, val_main_call2_v6, val_main_call2_v7, val_main_call3_v0, val_main_call3_v1, val_main_call3_v2, val_main_v3]
theorem v210_at (c : Fin 32) (h : Fin 4) (s : Fin 64) (v : Fin 512) : val_main_v210 (F := Ideal) x0 x1 x2 x3 x4 (ix4 c h s v) =
    val_main_v190 (F := Ideal) x0 x4 (ix4 c h s v) * x3 (ix1 v) * val_main_v173 (F := Ideal) x0 x1 x2 (ix4 c h s 0) +
      (val_main_v165 (F := Ideal) x0 x1 x2 (ix4 c h s v) * Ideal.div ((∑ v' : Fin 512, val_main_v165 (F := Ideal) x0 x1 x2 (ix4 c h s v') * (val_main_v190 (F := Ideal) x0 x4 (ix4 c h s v') * x3 (ix1 v'))) * (Ideal.ofBits .f32 0xBF000000#32 * Ideal.div (val_main_v173 (F := Ideal) x0 x1 x2 (ix4 c h s 0)) (val_main_v172 (F := Ideal) x0 x1 x2 (ix4 c h s 0)))) (Ideal.ofBits .f32 0x44000000#32) +
        Ideal.div ((∑ v' : Fin 512, val_main_v165 (F := Ideal) x0 x1 x2 (ix4 c h s v') * (val_main_v190 (F := Ideal) x0 x4 (ix4 c h s v') * x3 (ix1 v'))) * (Ideal.ofBits .f32 0xBF000000#32 * Ideal.div (val_main_v173 (F := Ideal) x0 x1 x2 (ix4 c h s 0)) (val_main_v172 (F := Ideal) x0 x1 x2 (ix4 c h s 0)))) (Ideal.ofBits .f32 0x44000000#32) * val_main_v165 (F := Ideal) x0 x1 x2 (ix4 c h s v)) := by
  pointwise [val_main_v174, val_main_v175, val_main_v176, val_main_cst_5, val_main_v194, val_main_v179, val_main_v195, val_main_v197, val_main_v198, val_main_v199, val_main_v200, val_main_v201, val_main_v202, val_main_v203, val_main_v204, val_main_v205, val_main_v206, val_main_v207, val_main_v208, val_main_v209, val_main_v210, val_main_cst_7, val_main_cst_8, val_main_cst_9, val_main_cst_10]
  simp only [Fin.sum_univ_one]
  exact add_assoc _ _ _
theorem v212_at (c : Fin 32) (h : Fin 4) (k : Fin 256) (v : Fin 512) : val_main_v212 (F := Ideal) x0 x1 x2 x3 x4 (ix4 c h k v) =
    ∑ s : Fin 64, val_main_v210 (F := Ideal) x0 x1 x2 x3 x4 (ix4 c h s v) * val_main_v15 (F := Ideal) x0 (ix4 c h s k) := by
  pointwise [val_main_v211, val_main_v212]
theorem v372_at (c : Fin 32) (h : Fin 4) (s : Fin 64) (k : Fin 256) : val_main_v372 (F := Ideal) x0 x1 x2 x3 x4 (ix4 c h s k) =
    (∑ v : Fin 512, val_main_v210 (F := Ideal) x0 x1 x2 x3 x4 (ix4 c h s v) * val_main_v164 (F := Ideal) x0 x1 x2 (ix4 c h k v)) *
      Ideal.ofBits .f32 0x3D800000#32 := by
  pointwise [val_main_v213, val_main_v371, val_main_v372, val_main_cst_15]
theorem v348_at (c : Fin 32) (h : Fin 4) (k : Fin 256) : val_main_v348 (F := Ideal) x0 x1 x2 x3 x4 (ix3 c h k) =
    ∑ v : Fin 512, val_main_v345 (F := Ideal) x0 x1 x2 x3 x4 (ix4 c h k v) := by
  pointwise [val_main_v346, val_main_v347, val_main_v348, val_main_cst_11, val_main_cst_12]
  exact Fin.sum_univ_one _
theorem v350_at (c : Fin 32) (h : Fin 4) (s : Fin 64) (v : Fin 512) : val_main_v350 (F := Ideal) x0 x1 x2 x3 x4 (ix4 c h s v) =
    ∑ k : Fin 256, val_main_v342 (F := Ideal) x0 x1 x2 x3 x4 (ix4 c h k v) * val_main_v27 (F := Ideal) x0 x1 x2 (ix4 c h s k) := by
  pointwise [val_main_v349, val_main_v350]
theorem v352_at (c : Fin 32) (h : Fin 4) (s : Fin 64) (k : Fin 256) : val_main_v352 (F := Ideal) x0 x1 x2 x3 x4 (ix4 c h s k) =
    ∑ v : Fin 512, val_main_v342 (F := Ideal) x0 x1 x2 x3 x4 (ix4 c h k v) * val_main_v19 (F := Ideal) x0 (ix4 c h s v) := by
  pointwise [val_main_v351, val_main_v352]
theorem v356_at (c : Fin 32) (h : Fin 4) (s : Fin 64) (k : Fin 256) : val_main_v356 (F := Ideal) x0 x1 x2 x3 x4 (ix4 c h s k) =
    val_main_v352 (F := Ideal) x0 x1 x2 x3 x4 (ix4 c h s k) * val_main_v26 (F := Ideal) x0 x1 x2 (ix4 c h s k) := by
  pointwise [val_main_v356]
theorem v357_at (c : Fin 32) (h : Fin 4) (s : Fin 64) (k : Fin 256) : val_main_v357 (F := Ideal) x0 x1 x2 x3 x4 (ix4 c h s k) =
    val_main_v17 (F := Ideal) x0 (ix4 c h s k) * val_main_v352 (F := Ideal) x0 x1 x2 x3 x4 (ix4 c h s k) * val_main_v26 (F := Ideal) x0 x1 x2 (ix4 c h s k) := by
  pointwise [val_main_v355, val_main_v357]
theorem v363_at (c : Fin 32) (h : Fin 4) (s : Fin 64) (k : Fin 256) : val_main_v363 (F := Ideal) x0 x1 x2 x3 x4 (ix4 c h s k) =
    -val_main_v357 (F := Ideal) x0 x1 x2 x3 x4 (ix4 c h s k) + if 63 ≤ s.val then
      val_main_v348 (F := Ideal) x0 x1 x2 x3 x4 (ix3 c h k) * val_main_v29 (F := Ideal) x0 x1 x2 (ix3 c h k) +
        ∑ s' : Fin 64, val_main_v357 (F := Ideal) x0 x1 x2 x3 x4 (ix4 c h s' k) else 0 := by
  pointwise [val_main_v353, val_main_v354, val_main_v358, val_main_v359, val_main_v360, val_main_v361, val_main_v362, val_main_v363, val_main_cst_13, val_main_cst_14]
  by_cases hs : 63 ≤ s.val
  · rw [if_pos hs, dif_pos (by omega)]
  · rw [if_neg hs, dif_neg (by omega)]
theorem v364_at (c : Fin 32) (h : Fin 4) (s : Fin 64) (k : Fin 256) : val_main_v364 (F := Ideal) x0 x1 x2 x3 x4 (ix4 c h s k) =
    ∑ s' : Fin 64, if s.val ≤ s'.val then val_main_v363 (F := Ideal) x0 x1 x2 x3 x4 (ix4 c h s' k) else 0 := by
  have hz : val_main_call4_call0_v0 (F := Ideal) (Shape.Idx.first Gen.h_S_) = (0 : EReal) := by
    pointwise [val_main_call4_call0_v0, val_main_call4_call0_cst]
  refine (congrArg (fun z => Ideal.hostReduceWindowAdd _ _ _ _ Gen.reduceWindows_S32x4x64x256_S32x4x64x256_w1s1p0_0_w1s1p0_0_w64s1p0_63_w1s1p0_0 (val_main_v363 (F := Ideal) x0 x1 x2 x3 x4) z (ix4 c h s k)) hz).trans ?_
  refine (Cumsum.window (A := 32) (B := 4) (N := 64) (C := 256) 0 63 (val_main_v363 (F := Ideal) x0 x1 x2 x3 x4) _ c h s k).trans ?_
  refine Finset.sum_congr rfl fun s' _ => ?_
  by_cases hs : s.val ≤ s'.val
  · rw [if_pos hs, if_pos (by omega)]
  · rw [if_neg hs, if_neg (by omega)]
theorem v377_at (c : Fin 32) (h : Fin 4) (s : Fin 64) (k : Fin 256) : val_main_v377 (F := Ideal) x0 x1 x2 x3 x4 (ix2 (row c s) (kcol h k)) =
    -(-Ideal.div (val_main_v364 (F := Ideal) x0 x1 x2 x3 x4 (ix4 c h s k)) (Ideal.ofBits .f32 0x41800000#32) *
      val_main_v9_1 (F := Ideal) x0 x1 x2 (ix2 (row c s) (kcol h k))) := by
  pointwise [val_main_v365, val_main_v366, val_main_v375, val_main_v376, val_main_call5_v0, val_main_call5_v1, val_main_v377, val_main_cst_16]
  simp only [row_div, row_mod, kcol_div, kcol_mod]
theorem v374_at (c : Fin 32) (h : Fin 4) (s : Fin 64) (k : Fin 256) : val_main_v374 (F := Ideal) x0 x1 x2 x3 x4 (ix2 (row c s) (kcol h k)) =
    val_main_v372 (F := Ideal) x0 x1 x2 x3 x4 (ix4 c h s k) := by
  pointwise [val_main_v373, val_main_v374]
  simp only [row_div, row_mod, kcol_div, kcol_mod]
theorem v370_at (c : Fin 32) (h : Fin 4) (s : Fin 64) (k : Fin 256) : val_main_v370 (F := Ideal) x0 x1 x2 x3 x4 (ix2 (row c s) (kcol h k)) =
    val_main_v356 (F := Ideal) x0 x1 x2 x3 x4 (ix4 c h s k) := by
  pointwise [val_main_v369, val_main_v370]
  simp only [row_div, row_mod, kcol_div, kcol_mod]
theorem v368_at (c : Fin 32) (h : Fin 4) (s : Fin 64) (v : Fin 512) : val_main_v368 (F := Ideal) x0 x1 x2 x3 x4 (ix2 (row c s) (vcol h v)) =
    val_main_v350 (F := Ideal) x0 x1 x2 x3 x4 (ix4 c h s v) := by
  pointwise [val_main_v367, val_main_v368]
  simp only [row_div, row_mod, vcol_div, vcol_mod]
theorem v383_at (r : Fin 2048) (i : Fin 16) : val_main_v383 (F := Ideal) x0 x1 x2 x3 x4 (ix2 r i) =
    ∑ k : Fin 1024, val_main_v377 (F := Ideal) x0 x1 x2 x3 x4 (ix2 r k) * x1 (ix2 i k) := by
  pointwise [val_main_v383]
theorem v386_q (r : Fin 2048) (k : Fin 6272) (j : Fin 1024) (e : k.val = 0 + j.val) : val_main_v386 (F := Ideal) x0 x1 x2 x3 x4 (ix2 r k) =
    val_main_v374 (F := Ideal) x0 x1 x2 x3 x4 (ix2 r j) := by
  obtain ⟨k, hk⟩ := k
  obtain rfl : k = 0 + j.val := e
  pointwise [val_main_v384, val_main_v385, val_main_v386]
  repeat first | rw [dif_pos (by omega)] | rw [dif_neg (by omega)]
  try exact congrArg _ (congrArg (ix2 r) (Fin.ext (by dsimp only; omega)))
theorem v386_k (r : Fin 2048) (k : Fin 6272) (j : Fin 1024) (e : k.val = 1024 + j.val) : val_main_v386 (F := Ideal) x0 x1 x2 x3 x4 (ix2 r k) =
    val_main_v370 (F := Ideal) x0 x1 x2 x3 x4 (ix2 r j) := by
  obtain ⟨k, hk⟩ := k
  obtain rfl : k = 1024 + j.val := e
  pointwise [val_main_v384, val_main_v385, val_main_v386]
  repeat first | rw [dif_pos (by omega)] | rw [dif_neg (by omega)]
  try exact congrArg _ (congrArg (ix2 r) (Fin.ext (by dsimp only; omega)))
theorem v386_v (r : Fin 2048) (k : Fin 6272) (j : Fin 2048) (e : k.val = 2048 + j.val) : val_main_v386 (F := Ideal) x0 x1 x2 x3 x4 (ix2 r k) =
    val_main_v368 (F := Ideal) x0 x1 x2 x3 x4 (ix2 r j) := by
  obtain ⟨k, hk⟩ := k
  obtain rfl : k = 2048 + j.val := e
  pointwise [val_main_v384, val_main_v385, val_main_v386]
  repeat first | rw [dif_pos (by omega)] | rw [dif_neg (by omega)]
  try exact congrArg _ (congrArg (ix2 r) (Fin.ext (by dsimp only; omega)))
theorem v386_r (r : Fin 2048) (k : Fin 6272) (j : Fin 2048) (e : k.val = 4096 + j.val) : val_main_v386 (F := Ideal) x0 x1 x2 x3 x4 (ix2 r k) =
    val_main_v188 (F := Ideal) x0 x1 x2 x3 x4 (ix2 r j) := by
  obtain ⟨k, hk⟩ := k
  obtain rfl : k = 4096 + j.val := e
  pointwise [val_main_v384, val_main_v385, val_main_v386]
  repeat first | rw [dif_pos (by omega)] | rw [dif_neg (by omega)]
  try exact congrArg _ (congrArg (ix2 r) (Fin.ext (by dsimp only; omega)))
theorem v386_g (r : Fin 2048) (k : Fin 6272) (j : Fin 16) (e : k.val = 6144 + j.val) : val_main_v386 (F := Ideal) x0 x1 x2 x3 x4 (ix2 r k) =
    val_main_v383 (F := Ideal) x0 x1 x2 x3 x4 (ix2 r j) := by
  obtain ⟨k, hk⟩ := k
  obtain rfl : k = 6144 + j.val := e
  pointwise [val_main_v384, val_main_v385, val_main_v386]
  repeat first | rw [dif_pos (by omega)] | rw [dif_neg (by omega)]
  try exact congrArg _ (congrArg (ix2 r) (Fin.ext (by dsimp only; omega)))
theorem v386_pad (r : Fin 2048) (k : Fin 6272) (e : 6160 ≤ k.val) : val_main_v386 (F := Ideal) x0 x1 x2 x3 x4 (ix2 r k) = 0 := by
  pointwise [val_main_v385, val_main_v386, val_main_call6_v0, val_main_c]
  rw [dif_neg (by omega), zero_int]
theorem v387_at (k : Fin 512) : val_main_v387 (F := Ideal) x0 x1 x2 x4 (ix2 0 k) =
    ∑ c : Fin 32, ∑ h : Fin 4, ∑ s : Fin 64, val_main_v178 (F := Ideal) x0 x1 x2 (ix4 c h s k) * val_main_v190 (F := Ideal) x0 x4 (ix4 c h s k) := by
  pointwise [val_main_v387, val_main_v193, val_main_v196, val_main_v192, val_main_v191]
  refine (hostReduceAdd_first _ _ _ k).trans ?_
  simp only [Fin.sum_univ_one]
  pointwise [val_main_cst_7]
  refine (hostReduceAdd_first _ _ _ k).trans ?_
  pointwise [val_main_cst_6]
theorem v388_at (k : Fin 1024) : val_main_v388 (F := Ideal) x0 x1 x2 x3 x4 (ix2 0 k) =
    ∑ r : Fin 2048, val_main_v377 (F := Ideal) x0 x1 x2 x3 x4 (ix2 r k) := by
  pointwise [val_main_v378, val_main_v379, val_main_v380, val_main_v388, val_main_cst_17, val_main_cst_18]
  exact Fin.sum_univ_one _
theorem v389_at (i : Fin 128) (k : Fin 1024) : val_main_v389 (F := Ideal) x0 x1 x2 x3 x4 (ix2 i k) =
    if h : i.val < 16 then ∑ r : Fin 2048, val_main_v377 (F := Ideal) x0 x1 x2 x3 x4 (ix2 r k) * x0 (ix2 r ⟨6144 + i.val, by omega⟩) else 0 := by
  pointwise [val_main_v381, val_main_v382, val_main_v389, val_main_call7_v0, val_main_c_19, val_main_v4]
  simp only [zero_int]
/-- The decay's log-sigmoid over 16. -/
def ls (x : ℝ) : ℝ := (min x 0 - Real.log (1 + Real.exp (-|x|))) / 16
/-- The logarithm the reference's softplus takes. -/
theorem log1p_exp (x : ℝ) : Ideal.log1p (Ideal.exp ((-|x| : ℝ) : EReal)) = ((Real.log (1 + Real.exp (-|x|)) : ℝ) : EReal) := by
  have h := Real.exp_pos (-|x|)
  rw [Ideal.exp_coe, Ideal.log1p, ← EReal.coe_one, ← EReal.coe_add, Ideal.log_coe, if_neg (by linarith)]
/-- The reference's softplus at a finite value. -/
theorem softplus (y : ℝ) : max (y : EReal) 0 + Ideal.log1p (Ideal.exp (-(FloatOps.absf (F := Ideal) (φ := .f32) (y : EReal) : EReal))) =
    ((max y 0 + Real.log (1 + Real.exp (-|y|)) : ℝ) : EReal) := by
  have ha : (FloatOps.absf (F := Ideal) (φ := .f32) (y : EReal) : EReal) = ((|y| : ℝ) : EReal) := rfl
  rw [ha, ← EReal.coe_neg, log1p_exp, ← EReal.coe_zero, ← coe_max, ← EReal.coe_add]
/-- The kernel's log-sigmoid over 16 at a finite value. -/
theorem logsig (x : ℝ) : (min (x : EReal) 0 - Ideal.log (1 + Ideal.exp (0 - FloatOps.absf (F := Ideal) (φ := .f32) (x : EReal)))) *
    Ideal.ofBits .f32 0x3D800000#32 = (ls x : EReal) := by
  have ha : (FloatOps.absf (F := Ideal) (φ := .f32) (x : EReal) : EReal) = ((|x| : ℝ) : EReal) := rfl
  rw [ha, ← EReal.coe_zero, ← EReal.coe_sub, zero_sub, Ideal.exp_coe, ← EReal.coe_one, ← EReal.coe_add, Ideal.log_coe,
    if_neg (show ¬ 1 + Real.exp (-|x|) ≤ 0 by have := Real.exp_pos (-|x|); linarith), ← coe_min, ← EReal.coe_sub, sixteenth_word, ← EReal.coe_mul, ls, mul_one_div]
/-- The reference's log-sigmoid over 16 is the kernel's, at infinite values as well. -/
theorem v11_eq (r : Fin 2048) (k : Fin 1024) (x : EReal) (hx : val_main_v8 (F := Ideal) x0 x1 x2 (ix2 r k) = x) :
    val_main_v11 (F := Ideal) x0 x1 x2 (ix2 r k) =
      (min x 0 - Ideal.log (1 + Ideal.exp (0 - FloatOps.absf (F := Ideal) (φ := .f32) x))) * Ideal.ofBits .f32 0x3D800000#32 := by
  pointwise [val_main_cst, val_main_v10, val_main_v11, val_main_v9_0, val_main_call0_v0, val_main_call0_v1_0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  have h1 : Ideal.log 1 = 0 := by rw [← EReal.coe_one, Ideal.log_coe, if_neg (by norm_num), Real.log_one]; rfl
  have ht : (FloatOps.absf (F := Ideal) (φ := .f32) (⊤ : EReal) : EReal) = ⊤ := rfl
  have hb : (FloatOps.absf (F := Ideal) (φ := .f32) (⊥ : EReal) : EReal) = ⊤ := rfl
  simp only [hx, ne_eq, not_true_eq_false, if_false]
  induction x with
  | coe x =>
    rw [logsig, ← EReal.coe_neg, softplus, n16_word, ← EReal.coe_neg, div_coe_coe _ (by norm_num), ls, ← neg_zero (G := ℝ), max_neg_neg, neg_zero, abs_neg]
    exact congrArg _ (by ring)
  | top => simp [ht, hb, h1, Ideal.log1p, n16_word, Ideal.div_coe]
  | bot => simp [ht, hb, h1, Ideal.log1p, n16_word, sixteenth_word, Ideal.div_coe]
theorem v11_at (r : Fin 2048) (k : Fin 1024) (x : ℝ) (hx : val_main_v8 (F := Ideal) x0 x1 x2 (ix2 r k) = x) :
    val_main_v11 (F := Ideal) x0 x1 x2 (ix2 r k) = (ls x : EReal) := (v11_eq x0 x1 x2 r k _ hx).trans (logsig x)
theorem v9_1_at (r : Fin 2048) (k : Fin 1024) (x : ℝ) (hx : val_main_v8 (F := Ideal) x0 x1 x2 (ix2 r k) = x) :
    val_main_v9_1 (F := Ideal) x0 x1 x2 (ix2 r k) = (((1 + Real.exp x)⁻¹ : ℝ) : EReal) := by
  pointwise [val_main_v9_1, val_main_call0_v0, val_main_call0_v1_0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21]
  simp only [hx, ← EReal.coe_neg, ne_eq, not_true_eq_false, if_false, inf_word, EReal.coe_ne_top]
  simp only [softplus, EReal.coe_ne_top, if_false, ← EReal.coe_sub, Ideal.exp_coe]
  refine congrArg _ ?_
  have hp := Real.exp_pos (-|x|)
  rw [abs_neg, ← sub_sub, Real.exp_sub, Real.exp_log (by linarith)]
  rcases le_total 0 x with h | h
  · have e : Real.exp x * Real.exp (-x) = 1 := by rw [← Real.exp_add, add_neg_cancel, Real.exp_zero]
    rw [abs_of_nonneg h, max_eq_right (by linarith), sub_zero]
    have := Real.exp_pos x
    have := Real.exp_pos (-x)
    field_simp
    linarith
  · rw [abs_of_nonpos h, max_eq_left (by linarith), sub_self, Real.exp_zero, neg_neg, one_div]
end Cert.Proof.Gla
-- ==== Proof.GlaReal.lean ====
module
public import proofs.«01_k».proof.Proof.GlaRef
@[expose] public section

/-! On finite arguments every value of the gated-linear-attention gradient's reference is a real number. -/

set_option maxRecDepth 16384
noncomputable section
namespace Cert.Proof.Gla
open Cert.GlaRefIdeal Cert.GlaRefIdeal.Read Idealize.ShloMosaic Idealize.ShloMosaic.TcCoe Cert.Proof.Finite
variable {x0 : (⟨S2048x6160, .f32⟩ : BufTy).Contents (Elt Ideal)} {x1 : (⟨S16x1024, .f32⟩ : BufTy).Contents (Elt Ideal)}
  {x2 : (⟨S1024, .f32⟩ : BufTy).Contents (Elt Ideal)} {x3 : (⟨S512, .f32⟩ : BufTy).Contents (Elt Ideal)}
  {x4 : (⟨S2048x2048, .f32⟩ : BufTy).Contents (Elt Ideal)}

/-- The five arguments are finite. -/
structure Reals (x0 : (⟨S2048x6160, .f32⟩ : BufTy).Contents (Elt Ideal)) (x1 : (⟨S16x1024, .f32⟩ : BufTy).Contents (Elt Ideal))
    (x2 : (⟨S1024, .f32⟩ : BufTy).Contents (Elt Ideal)) (x3 : (⟨S512, .f32⟩ : BufTy).Contents (Elt Ideal))
    (x4 : (⟨S2048x2048, .f32⟩ : BufTy).Contents (Elt Ideal)) : Prop where
  h0 : ∀ i, IsReal (x0 i)
  h1 : ∀ i, IsReal (x1 i)
  h2 : ∀ i, IsReal (x2 i)
  h3 : ∀ i, IsReal (x3 i)
  h4 : ∀ i, IsReal (x4 i)

variable (R : Reals x0 x1 x2 x3 x4)
include R

theorem r8 (r : Fin 2048) (k : Fin 1024) : IsReal (val_main_v8 (F := Ideal) x0 x1 x2 (ix2 r k)) := by
  rw [v8_at]; exact .add (.sum fun _ => .mul (R.h0 _) (R.h1 _)) (R.h2 _)
theorem r11 (r : Fin 2048) (k : Fin 1024) : IsReal (val_main_v11 (F := Ideal) x0 x1 x2 (ix2 r k)) := by
  obtain ⟨x, hx⟩ := r8 R r k
  exact ⟨_, v11_at x0 x1 x2 r k x hx⟩
theorem r22 (c : Fin 32) (h : Fin 4) (s : Fin 64) (k : Fin 256) : IsReal (val_main_v22 (F := Ideal) x0 x1 x2 (ix4 c h s k)) := by
  rw [v22_at]; exact .sum fun _ => .ite (r11 R _ _) .zero
theorem r15 (c : Fin 32) (h : Fin 4) (s : Fin 64) (k : Fin 256) : IsReal (val_main_v15 (F := Ideal) x0 (ix4 c h s k)) := by
  rw [v15_at, sixteenth_word]; exact .mul (R.h0 _) (.coe _)
theorem r17 (c : Fin 32) (h : Fin 4) (s : Fin 64) (k : Fin 256) : IsReal (val_main_v17 (F := Ideal) x0 (ix4 c h s k)) := by
  rw [v17_at]; exact R.h0 _
theorem r19 (c : Fin 32) (h : Fin 4) (s : Fin 64) (v : Fin 512) : IsReal (val_main_v19 (F := Ideal) x0 (ix4 c h s v)) := by
  rw [v19_at]; exact R.h0 _
theorem r26 (c : Fin 32) (h : Fin 4) (s : Fin 64) (k : Fin 256) : IsReal (val_main_v26 (F := Ideal) x0 x1 x2 (ix4 c h s k)) := by
  rw [v26_at]; exact .exp (.sub (r22 R _ _ _ _) (r22 R _ _ _ _))
theorem r29 (c : Fin 32) (h : Fin 4) (k : Fin 256) : IsReal (val_main_v29 (F := Ideal) x0 x1 x2 (ix3 c h k)) := by
  rw [v29_at]; exact .exp (r22 R _ _ _ _)
theorem r30 (c : Fin 32) (h : Fin 4) (k : Fin 256) (v : Fin 512) : IsReal (val_main_v30 (F := Ideal) x0 x1 x2 (ix4 c h k v)) := by
  rw [v30_at]; exact .sum fun _ => .mul (.mul (r17 R _ _ _ _) (r26 R _ _ _ _)) (r19 R _ _ _ _)
omit R in
/-- The state before the first chunk is zero. -/
theorem v33_zero (i : S1x4x256x512.Idx) : val_main_v33 (F := Ideal) i = (0 : EReal) := by
  pointwise [val_main_v33, val_main_cst_1]
theorem rstates (c : Fin 32) (h : Fin 4) (k : Fin 256) (v : Fin 512) : IsReal (states x0 x1 x2 c (ix4 0 h k v)) := by
  induction c using Fin.induction with
  | zero =>
    rw [states_zero, v33_zero, decs_at, kvs_at]
    exact .add (.mul (r29 R _ _ _) .zero) (r30 R _ _ _ _)
  | succ c ih =>
    rw [states_succ, decs_at, kvs_at]
    exact .add (.mul (r29 R _ _ _) ih) (r30 R _ _ _ _)
theorem r164 (c : Fin 32) (h : Fin 4) (k : Fin 256) (v : Fin 512) : IsReal (val_main_v164 (F := Ideal) x0 x1 x2 (ix4 c h k v)) := by
  rw [v164_at]; exact rstates R _ _ _ _
theorem r165 (c : Fin 32) (h : Fin 4) (s : Fin 64) (v : Fin 512) : IsReal (val_main_v165 (F := Ideal) x0 x1 x2 (ix4 c h s v)) := by
  rw [v165_at]; exact .sum fun _ => .mul (r15 R _ _ _ _) (r164 R _ _ _ _)
/-- The reciprocal root mean square of a row of outputs. -/
theorem v173_real (c : Fin 32) (h : Fin 4) (s : Fin 64) (a : Fin 512 → ℝ)
    (ha : ∀ v, val_main_v165 (F := Ideal) x0 x1 x2 (ix4 c h s v) = a v) :
    val_main_v173 (F := Ideal) x0 x1 x2 (ix4 c h s 0) = (((√(ms 512 a))⁻¹ : ℝ) : EReal) := by
  simp only [v173_at, ha, n512_word, eps_word, ← EReal.coe_mul]
  exact rsqrt_ms (by norm_num) a
theorem r173 (c : Fin 32) (h : Fin 4) (s : Fin 64) : IsReal (val_main_v173 (F := Ideal) x0 x1 x2 (ix4 c h s 0)) := by
  choose a ha using r165 R c h s
  exact ⟨_, v173_real R c h s a ha⟩
theorem r178 (c : Fin 32) (h : Fin 4) (s : Fin 64) (v : Fin 512) : IsReal (val_main_v178 (F := Ideal) x0 x1 x2 (ix4 c h s v)) := by
  rw [v178_at]; exact .mul (r165 R _ _ _ _) (r173 R _ _ _)
theorem r190 (c : Fin 32) (h : Fin 4) (s : Fin 64) (v : Fin 512) : IsReal (val_main_v190 (F := Ideal) x0 x4 (ix4 c h s v)) := by
  rw [v190_at, v184_2_at]; exact .mul (R.h4 _) (.mul (R.h0 _) (.logistic (R.h0 _)))
/-- The cotangent of a row of outputs, as the norm's gradient is usually written. -/
theorem v210_real (c : Fin 32) (h : Fin 4) (s : Fin 64) (a d : Fin 512 → ℝ)
    (ha : ∀ v, val_main_v165 (F := Ideal) x0 x1 x2 (ix4 c h s v) = a v)
    (hd : ∀ v, val_main_v190 (F := Ideal) x0 x4 (ix4 c h s v) * x3 (ix1 v) = d v) (v : Fin 512) :
    val_main_v210 (F := Ideal) x0 x1 x2 x3 x4 (ix4 c h s v) =
      (((√(ms 512 a))⁻¹ * (d v - a v * (√(ms 512 a))⁻¹ * ((∑ k, d k * (a k * (√(ms 512 a))⁻¹)) / 512)) : ℝ) : EReal) := by
  have hN : (0 : ℝ) < 512 := by norm_num
  have hm : val_main_v172 (F := Ideal) x0 x1 x2 (ix4 c h s 0) = ((ms 512 a : ℝ) : EReal) := by
    simp only [v172_at, ha, n512_word, eps_word, ← EReal.coe_mul]
    exact mean_sq_eps hN a
  rw [v210_at, v173_real R c h s a ha, hm]
  simp only [ha, hd, half_neg_word, n512_word, div_coe_coe _ (ms_pos hN a).ne', ← EReal.coe_mul, sum_coe, div_coe_coe _ hN.ne',
    ← EReal.coe_add]
  rw [norm_grad hN a d v, add_assoc]
theorem r210 (c : Fin 32) (h : Fin 4) (s : Fin 64) (v : Fin 512) : IsReal (val_main_v210 (F := Ideal) x0 x1 x2 x3 x4 (ix4 c h s v)) := by
  choose a ha using r165 R c h s
  choose d hd using fun v => IsReal.mul (r190 R c h s v) (R.h3 (ix1 v))
  exact ⟨_, v210_real R c h s a d ha hd v⟩
theorem r212 (c : Fin 32) (h : Fin 4) (k : Fin 256) (v : Fin 512) : IsReal (val_main_v212 (F := Ideal) x0 x1 x2 x3 x4 (ix4 c h k v)) := by
  rw [v212_at]; exact .sum fun _ => .mul (r210 R _ _ _ _) (r15 R _ _ _ _)
theorem rcots (c : Fin 32) (h : Fin 4) (k : Fin 256) (v : Fin 512) : IsReal (cots x0 x1 x2 x3 x4 c (ix4 0 h k v)) := by
  induction c using Fin.reverseInduction with
  | last =>
    rw [show Fin.last 31 = 31 from rfl, cots_last, grads_at]
    exact r212 R _ _ _ _
  | cast c ih =>
    rw [cots_castSucc, grads_at, decs_at]
    exact .add (r212 R _ _ _ _) (.mul (r29 R _ _ _) ih)
theorem r348 (c : Fin 32) (h : Fin 4) (k : Fin 256) : IsReal (val_main_v348 (F := Ideal) x0 x1 x2 x3 x4 (ix3 c h k)) := by
  rw [v348_at]
  refine .sum fun v => ?_
  rw [v345_at]
  induction c using Fin.cases with
  | zero => rw [prods_zero, v33_zero]; exact .mul (rcots R _ _ _ _) .zero
  | succ c => rw [prods_succ]; exact .mul (rcots R _ _ _ _) (rstates R _ _ _ _)
theorem r352 (c : Fin 32) (h : Fin 4) (s : Fin 64) (k : Fin 256) : IsReal (val_main_v352 (F := Ideal) x0 x1 x2 x3 x4 (ix4 c h s k)) := by
  rw [v352_at]
  refine .sum fun v => .mul ?_ (r19 R _ _ _ _)
  rw [v342_at]; exact rcots R _ _ _ _
theorem r357 (c : Fin 32) (h : Fin 4) (s : Fin 64) (k : Fin 256) : IsReal (val_main_v357 (F := Ideal) x0 x1 x2 x3 x4 (ix4 c h s k)) := by
  rw [v357_at]; exact .mul (.mul (r17 R _ _ _ _) (r352 R _ _ _ _)) (r26 R _ _ _ _)

end Cert.Proof.Gla
-- ==== Proof.GlaPay.lean ====
module
public import proofs.«01_k».proof.Proof.GlaReal
public import proofs.«01_k».proof.Proof.Gen.GlaIdeal.Frame
@[expose] public section

/-! The gated-linear-attention gradient's kernel, one chunk: what the body computes from a chunk's blocks is what the
reference computes for that chunk. -/

set_option maxRecDepth 16384
noncomputable section
namespace Cert.Proof.Gla
open Cert.GlaIdeal Cert.GlaIdeal.Gen Cert.GlaRefIdeal.Read Idealize.ShloMosaic Idealize.ShloMosaic.TcCoe Cert.Proof.Finite
variable {x0 : (⟨GlaRefIdeal.S2048x6160, .f32⟩ : BufTy).Contents (Elt Ideal)} {x1 : (⟨GlaRefIdeal.S16x1024, .f32⟩ : BufTy).Contents (Elt Ideal)}
  {x2 : (⟨GlaRefIdeal.S1024, .f32⟩ : BufTy).Contents (Elt Ideal)} {x3 : (⟨GlaRefIdeal.S512, .f32⟩ : BufTy).Contents (Elt Ideal)}
  {x4 : (⟨GlaRefIdeal.S2048x2048, .f32⟩ : BufTy).Contents (Elt Ideal)}

/-- A sum over 128 padded places is the sum over the first 16. -/
theorem sum_pad (f : Fin 128 → EReal) (h : ∀ i : Fin 128, 16 ≤ i.val → f i = 0) :
    ∑ i, f i = ∑ i : Fin 16, f ⟨i.val, by omega⟩ := by
  refine (Fin.sum_univ_add (a := 16) (b := 112) f).trans ?_
  rw [Finset.sum_eq_zero (s := Finset.univ) (f := fun i : Fin 112 => f (Fin.natAdd 16 i)) fun i _ => h _ (by simp), add_zero]
  rfl

theorem kcol_0 (k : Fin 256) : (kcol 0 k).val = k.val := by show 0 * 256 + k.val = _; omega
theorem kcol_1 (k : Fin 256) : (kcol 1 k).val = 256 + k.val := by show 1 * 256 + k.val = _; omega
theorem kcol_2 (k : Fin 256) : (kcol 2 k).val = 512 + k.val := by show 2 * 256 + k.val = _; omega
theorem kcol_3 (k : Fin 256) : (kcol 3 k).val = 768 + k.val := by show 3 * 256 + k.val = _; omega
theorem le_mask (a b : Fin 64) (x y : EReal) :
    Scalar.select (IntOp.cmpi .sle (BitVec.ofNat 32 a.val) (BitVec.ofNat 32 b.val)) x y = if a.val ≤ b.val then x else y := by
  rw [(by decide +kernel : ∀ a b : Fin 64, IntOp.cmpi .sle (BitVec.ofNat 32 a.val) (BitVec.ofNat 32 b.val) = if a.val ≤ b.val then 1#1 else 0#1) a b]
  split <;> rfl
theorem lt_mask (a b : Fin 64) (x y : EReal) :
    Scalar.select (IntOp.cmpi .slt (BitVec.ofNat 32 a.val) (BitVec.ofNat 32 b.val)) x y = if a.val < b.val then x else y := by
  rw [(by decide +kernel : ∀ a b : Fin 64, IntOp.cmpi .slt (BitVec.ofNat 32 a.val) (BitVec.ofNat 32 b.val) = if a.val < b.val then 1#1 else 0#1) a b]
  split <;> rfl

/-- The gate's blocks of chunk `c`: the low-rank columns, the weight, the bias and the keys. -/
structure Gate (x0 : (⟨GlaRefIdeal.S2048x6160, .f32⟩ : BufTy).Contents (Elt Ideal)) (x1 : (⟨GlaRefIdeal.S16x1024, .f32⟩ : BufTy).Contents (Elt Ideal))
    (x2 : (⟨GlaRefIdeal.S1024, .f32⟩ : BufTy).Contents (Elt Ideal)) (c : Fin 32)
    (g : Vec Ideal S64x128 .f32) (w : Vec Ideal S128x1024 .bf16) (b : Vec Ideal S1x1024 .f32) (kk : Vec Ideal S64x1024 .f32) : Prop where
  hg : ∀ (s : Fin 64) (i : Fin 128), g (ix2 s i) = if h : i.val < 16 then x0 (ix2 (row c s) ⟨6144 + i.val, by omega⟩) else (0 : EReal)
  hw : ∀ (i : Fin 128) (k : Fin 1024), w (ix2 i k) = if h : i.val < 16 then x1 (ix2 ⟨i.val, h⟩ k) else (0 : EReal)
  hb : ∀ k : Fin 1024, b (ix2 0 k) = x2 (ix1 k)
  hk : ∀ (s : Fin 64) (k : Fin 1024), kk (ix2 s k) = x0 (ix2 (row c s) ⟨1024 + k.val, by omega⟩)

section Gate
variable {c : Fin 32} {g : Vec Ideal S64x128 .f32} {w : Vec Ideal S128x1024 .bf16} {b : Vec Ideal S1x1024 .f32} {kk : Vec Ideal S64x1024 .f32}
  (G : Gate x0 x1 x2 c g w b kk)
include G

theorem pre_at (s : Fin 64) (k : Fin 1024) : k0_pay7 g w b (ix2 s k) = val_main_v8 (F := Ideal) x0 x1 x2 (ix2 (row c s) k) := by
  rw [v8_at]
  pointwise [k0_pay7]
  rw [G.hb, sum_pad _ fun i hi => by rw [G.hg, dif_neg (by omega), zero_mul]]
  refine congrArg (· + _) (Finset.sum_congr rfl fun i _ => ?_)
  rw [G.hg, G.hw, dif_pos i.isLt, dif_pos i.isLt]

theorem cum_at (s : Fin 64) (h : Fin 4) (k : Fin 256) :
    k0_pay8 g w b (ix2 s (kcol h k)) = val_main_v22 (F := Ideal) x0 x1 x2 (ix4 c h s k) := by
  rw [v22_at]
  pointwise [k0_pay8]
  refine Finset.sum_congr rfl fun s' _ => ?_
  rw [le_mask, v11_eq x0 x1 x2 _ _ _ rfl, pre_at G]
theorem decay_at (s : Fin 64) (h : Fin 4) (k : Fin 256) :
    k0_pay10 g w b (ix2 s (kcol h k)) = val_main_v26 (F := Ideal) x0 x1 x2 (ix4 c h s k) := by
  rw [v26_at]
  pointwise [k0_pay10, k0_pay9]
  rw [cum_at G, cum_at G]
theorem dec_at (h : Fin 4) (k : Fin 256) :
    k0_pay12 g w b (ix2 0 (kcol h k)) = val_main_v29 (F := Ideal) x0 x1 x2 (ix3 c h k) := by
  rw [v29_at]
  pointwise [k0_pay12, k0_pay9]
  rw [cum_at G]
theorem kd_at (s : Fin 64) (h : Fin 4) (k : Fin 256) :
    k0_pay11 g w b kk (ix2 s (kcol h k)) = val_main_v17 (F := Ideal) x0 (ix4 c h s k) * val_main_v26 (F := Ideal) x0 x1 x2 (ix4 c h s k) := by
  rw [v17_at]
  pointwise [k0_pay11]
  rw [G.hk, decay_at G]
end Gate

/-- The blocks of chunk `c` that head `h` reads. -/
structure Head (x0 : (⟨GlaRefIdeal.S2048x6160, .f32⟩ : BufTy).Contents (Elt Ideal)) (x1 : (⟨GlaRefIdeal.S16x1024, .f32⟩ : BufTy).Contents (Elt Ideal))
    (x2 : (⟨GlaRefIdeal.S1024, .f32⟩ : BufTy).Contents (Elt Ideal)) (x3 : (⟨GlaRefIdeal.S512, .f32⟩ : BufTy).Contents (Elt Ideal))
    (x4 : (⟨GlaRefIdeal.S2048x2048, .f32⟩ : BufTy).Contents (Elt Ideal)) (c : Fin 32) (h : Fin 4)
    (q : Vec Ideal S64x256 .f32) (S : Vec Ideal S1x1x512x256 .f32) (r dy V : Vec Ideal S64x512 .f32) (on : Vec Ideal S1x512 .f32) : Prop where
  hq : ∀ (s : Fin 64) (k : Fin 256), q (ix2 s k) = x0 (ix2 (row c s) ⟨h.val * 256 + k.val, by omega⟩)
  hS : ∀ (v : Fin 512) (k : Fin 256), S (ix4 0 0 v k) = val_main_v164 (F := Ideal) x0 x1 x2 (ix4 c h k v)
  hr : ∀ (s : Fin 64) (v : Fin 512), r (ix2 s v) = x0 (ix2 (row c s) ⟨4096 + (vcol h v).val, by omega⟩)
  hdy : ∀ (s : Fin 64) (v : Fin 512), dy (ix2 s v) = x4 (ix2 (row c s) (vcol h v))
  hV : ∀ (s : Fin 64) (v : Fin 512), V (ix2 s v) = x0 (ix2 (row c s) ⟨2048 + (vcol h v).val, by omega⟩)
  hon : ∀ v : Fin 512, on (ix2 0 v) = x3 (ix1 v)

section Head
variable {c : Fin 32} {h : Fin 4} {q : Vec Ideal S64x256 .f32} {S : Vec Ideal S1x1x512x256 .f32} {r dy V : Vec Ideal S64x512 .f32} {on : Vec Ideal S1x512 .f32}
  (H : Head x0 x1 x2 x3 x4 c h q S r dy V on)
include H

theorem q_at (s : Fin 64) (k : Fin 256) : k0_pay16 q (ix2 s k) = val_main_v15 (F := Ideal) x0 (ix4 c h s k) := by
  rw [v15_at]
  pointwise [k0_pay16]
  rw [H.hq]
theorem o_at (s : Fin 64) (v : Fin 512) : k0_pay18 q S (ix2 s v) = val_main_v165 (F := Ideal) x0 x1 x2 (ix4 c h s v) := by
  rw [v165_at]
  pointwise [k0_pay18, k0_pay17]
  exact Finset.sum_congr rfl fun k _ => by rw [q_at H, H.hS]
theorem rinv_at (s : Fin 64) : k0_pay19 q S (ix2 s 0) = val_main_v173 (F := Ideal) x0 x1 x2 (ix4 c h s 0) := by
  rw [v173_at]
  pointwise [k0_pay19]
  simp only [o_at H]
theorem oh_at (s : Fin 64) (v : Fin 512) : k0_pay20 q S (ix2 s v) = val_main_v178 (F := Ideal) x0 x1 x2 (ix4 c h s v) := by
  rw [v178_at]
  pointwise [k0_pay20]
  rw [o_at H, rinv_at H]
theorem dn_at (s : Fin 64) (v : Fin 512) : k0_pay23 r dy (ix2 s v) = val_main_v190 (F := Ideal) x0 x4 (ix4 c h s v) := by
  rw [v190_at, v184_2_at]
  pointwise [k0_pay23, k0_pay21, k0_pay22]
  rw [H.hdy, H.hr]

variable (R : Reals x0 x1 x2 x3 x4)
include R

/-- The cotangent of the gate's input. -/
theorem dr_at (s : Fin 64) (v : Fin 512) : k0_pay27 (k0_pay22 r) (k0_pay24 on q S dy) (k0_pay25 r) k0_pay26 (ix2 s v) =
    val_main_v188 (F := Ideal) x0 x1 x2 x3 x4 (ix2 (row c s) (vcol h v)) := by
  rw [v188_at, v184_2_at, v183_at]
  pointwise [k0_pay27, k0_pay25, k0_pay24, k0_pay26, k0_pay22, k0_pay21, k0_pay13]
  rw [oh_at H, H.hdy, H.hr, H.hon]
  obtain ⟨a, ha⟩ := r178 R c h s v
  obtain ⟨b, hb⟩ := R.h3 (ix1 v)
  obtain ⟨d, hd⟩ := R.h4 (ix2 (row c s) (vcol h v))
  obtain ⟨e, he⟩ := R.h0 (ix2 (row c s) ⟨4096 + (vcol h v).val, by omega⟩)
  rw [ha, hb, hd, he, Ideal.logistic_coe]
  simp only [← EReal.coe_one, ← EReal.coe_sub, ← EReal.coe_mul, ← EReal.coe_add]
  exact congrArg _ (by ring)

/-- The cotangent of the head's output before its norm. -/
theorem do_at (s : Fin 64) (v : Fin 512) : k0_pay29 (k0_pay13 on) (k0_pay19 q S) (k0_pay20 q S) (k0_pay23 r dy) (ix2 s v) =
    val_main_v210 (F := Ideal) x0 x1 x2 x3 x4 (ix4 c h s v) := by
  choose a ha using r165 R c h s
  choose d hd using fun v => IsReal.mul (r190 R c h s v) (R.h3 (ix1 v))
  rw [v210_real R c h s a d ha hd]
  pointwise [k0_pay29, k0_pay13]
  simp only [rinv_at H, oh_at H, dn_at H, H.hon, hd, v178_at, ha, v173_real R c h s a ha, n512_word, ← EReal.coe_mul, sum_coe,
    div_coe_coe _ (by norm_num : (512 : ℝ) ≠ 0), ← EReal.coe_sub]
theorem dq_at (s : Fin 64) (k : Fin 256) : k0_pay30 (k0_pay13 on) (k0_pay17 S) (k0_pay19 q S) (k0_pay20 q S) (k0_pay23 r dy) (ix2 s k) =
    val_main_v372 (F := Ideal) x0 x1 x2 x3 x4 (ix4 c h s k) := by
  rw [v372_at]
  pointwise [k0_pay30, k0_pay17]
  simp only [do_at H R, H.hS]
theorem G_at (GP : Vec Ideal S1x512x256 .f32) (DP : Vec Ideal S1x256 .f32) (v : Fin 512) (k : Fin 256) :
    k0_pay31 (k0_pay13 on) (k0_pay16 q) (k0_pay19 q S) (k0_pay20 q S) (k0_pay23 r dy) GP DP (ix2 v k) =
      GP (ix3 0 v k) * DP (ix2 0 k) + val_main_v212 (F := Ideal) x0 x1 x2 x3 x4 (ix4 c h k v) := by
  rw [v212_at]
  pointwise [k0_pay31]
  simp only [do_at H R, q_at H]
end Head

section Cot
variable {c : Fin 32} {h : Fin 4} {q : Vec Ideal S64x256 .f32} {S : Vec Ideal S1x1x512x256 .f32} {r dy V : Vec Ideal S64x512 .f32} {on : Vec Ideal S1x512 .f32}
  (H : Head x0 x1 x2 x3 x4 c h q S r dy V on) (D : Vec Ideal S512x256 .f32)
  (hD : ∀ (v : Fin 512) (k : Fin 256), D (ix2 v k) = cots x0 x1 x2 x3 x4 c (ix4 0 h k v))
include hD

include H in
theorem dkd_at (s : Fin 64) (k : Fin 256) : k0_pay33 D V (ix2 s k) = val_main_v352 (F := Ideal) x0 x1 x2 x3 x4 (ix4 c h s k) := by
  rw [v352_at]
  pointwise [k0_pay33]
  refine Finset.sum_congr rfl fun v _ => ?_
  rw [hD, v342_at, v19_at, H.hV, mul_comm]
theorem ddec_at (alive : Ideal .f32) (SP : Vec Ideal S1x1x512x256 .f32)
    (hSP : ∀ (v : Fin 512) (k : Fin 256), cots x0 x1 x2 x3 x4 c (ix4 0 h k v) * (SP (ix4 0 0 v k) * alive) = prods x0 x1 x2 x3 x4 c (ix4 0 h k v))
    (k : Fin 256) : k0_pay35 alive D SP (ix2 0 k) = val_main_v348 (F := Ideal) x0 x1 x2 x3 x4 (ix3 c h k) := by
  rw [v348_at]
  pointwise [k0_pay35]
  refine Finset.sum_congr rfl fun v _ => ?_
  rw [hD, v345_at, hSP]
variable (kd : FVec Ideal S64x1024 .f32)
  (hkd : ∀ (s : Fin 64) (k : Fin 256), kd (ix2 s (kcol h k)) = val_main_v17 (F := Ideal) x0 (ix4 c h s k) * val_main_v26 (F := Ideal) x0 x1 x2 (ix4 c h s k))
include hkd
theorem dv_sum (s : Fin 64) (v : Fin 512) : ∑ k : Fin 256, kd (ix2 s (kcol h k)) * D (ix2 v k) =
    val_main_v350 (F := Ideal) x0 x1 x2 x3 x4 (ix4 c h s v) := by
  rw [v350_at]
  refine Finset.sum_congr rfl fun k _ => ?_
  rw [hD, hkd, v342_at, mul_comm]
  pointwise [val_main_v27]
end Cot

section Dv
variable {c : Fin 32} (D : Vec Ideal S512x256 .f32) (kd : FVec Ideal S64x1024 .f32)
  (hkd : ∀ (s : Fin 64) (h : Fin 4) (k : Fin 256), kd (ix2 s (kcol h k)) = val_main_v17 (F := Ideal) x0 (ix4 c h s k) * val_main_v26 (F := Ideal) x0 x1 x2 (ix4 c h s k))
include hkd
theorem dv0_at (hD : ∀ (v : Fin 512) (k : Fin 256), D (ix2 v k) = cots x0 x1 x2 x3 x4 c (ix4 0 0 k v)) (s : Fin 64) (v : Fin 512) :
    k0_pay34 kd D (ix2 s v) = val_main_v350 (F := Ideal) x0 x1 x2 x3 x4 (ix4 c 0 s v) := by
  rw [← dv_sum D hD kd fun s k => hkd s 0 k]
  pointwise [k0_pay34]
  exact Finset.sum_congr rfl fun k _ => congrArg (fun q => kd (ix2 s q) * D (ix2 v k)) (Fin.ext (kcol_0 k).symm)
theorem dv3_at (hD : ∀ (v : Fin 512) (k : Fin 256), D (ix2 v k) = cots x0 x1 x2 x3 x4 c (ix4 0 3 k v)) (s : Fin 64) (v : Fin 512) :
    k0_pay90 kd D (ix2 s v) = val_main_v350 (F := Ideal) x0 x1 x2 x3 x4 (ix4 c 3 s v) := by
  rw [← dv_sum D hD kd fun s k => hkd s 3 k]
  pointwise [k0_pay90]
  exact Finset.sum_congr rfl fun k _ => congrArg (fun q => kd (ix2 s q) * D (ix2 v k)) (Fin.ext (kcol_3 k).symm)
end Dv

section Cols
variable {c : Fin 32} (d0 d1 d2 : FVec Ideal S64x256 .f32) (D : FVec Ideal S512x256 .f32) (V : Vec Ideal S64x512 .f32)
  (h0 : ∀ (s : Fin 64) (k : Fin 256), d0 (ix2 s k) = val_main_v352 (F := Ideal) x0 x1 x2 x3 x4 (ix4 c 0 s k))
  (h1 : ∀ (s : Fin 64) (k : Fin 256), d1 (ix2 s k) = val_main_v352 (F := Ideal) x0 x1 x2 x3 x4 (ix4 c 1 s k))
  (h2 : ∀ (s : Fin 64) (k : Fin 256), d2 (ix2 s k) = val_main_v352 (F := Ideal) x0 x1 x2 x3 x4 (ix4 c 2 s k))
  (h3 : ∀ (s : Fin 64) (k : Fin 256), k0_pay33 D V (ix2 s k) = val_main_v352 (F := Ideal) x0 x1 x2 x3 x4 (ix4 c 3 s k))
include h0 h1 h2 h3
theorem dkds_at (s : Fin 64) (h : Fin 4) (k : Fin 256) : k0_pay93 d0 d1 d2 D V (ix2 s (kcol h k)) =
    val_main_v352 (F := Ideal) x0 x1 x2 x3 x4 (ix4 c h s k) := by
  pointwise [k0_pay93]
  have e0 := kcol_0 k
  have e1 := kcol_1 k
  have e2 := kcol_2 k
  have e3 := kcol_3 k
  have hl := h3 s k
  pointwise [k0_pay33] at hl
  match h with
  | 0 =>
    rw [dif_pos (by omega)]
    exact (congrArg (fun q => d0 (ix2 s q)) (Fin.ext e0)).trans (h0 s k)
  | 1 =>
    rw [dif_neg (by omega), dif_pos (by omega)]
    exact (congrArg (fun q => d1 (ix2 s q)) (Fin.ext (by dsimp only; omega))).trans (h1 s k)
  | 2 =>
    rw [dif_neg (by omega), dif_neg (by omega), dif_pos (by omega)]
    exact (congrArg (fun q => d2 (ix2 s q)) (Fin.ext (by dsimp only; omega))).trans (h2 s k)
  | 3 =>
    rw [dif_neg (by omega), dif_neg (by omega), dif_neg (by omega)]
    exact (congrArg (fun q => ∑ x, V (ix2 s x) * D (ix2 x q)) (Fin.ext (by dsimp only; omega))).trans hl
theorem dk_at (decay : FVec Ideal S64x1024 .f32)
    (hdecay : ∀ (s : Fin 64) (h : Fin 4) (k : Fin 256), decay (ix2 s (kcol h k)) = val_main_v26 (F := Ideal) x0 x1 x2 (ix4 c h s k))
    (s : Fin 64) (h : Fin 4) (k : Fin 256) : k0_pay94 decay d0 d1 d2 D V (ix2 s (kcol h k)) =
    val_main_v356 (F := Ideal) x0 x1 x2 x3 x4 (ix4 c h s k) := by
  rw [v356_at]
  pointwise [k0_pay94]
  rw [dkds_at d0 d1 d2 D V h0 h1 h2 h3, hdecay]
end Cols

section Dec
variable {c : Fin 32} (d0 d1 d2 : FVec Ideal S1x256 .f32) (alive : Ideal .f32) (D : FVec Ideal S512x256 .f32) (SP : Vec Ideal S1x1x512x256 .f32)
  (h0 : ∀ k : Fin 256, d0 (ix2 0 k) = val_main_v348 (F := Ideal) x0 x1 x2 x3 x4 (ix3 c 0 k))
  (h1 : ∀ k : Fin 256, d1 (ix2 0 k) = val_main_v348 (F := Ideal) x0 x1 x2 x3 x4 (ix3 c 1 k))
  (h2 : ∀ k : Fin 256, d2 (ix2 0 k) = val_main_v348 (F := Ideal) x0 x1 x2 x3 x4 (ix3 c 2 k))
  (h3 : ∀ k : Fin 256, k0_pay35 alive D SP (ix2 0 k) = val_main_v348 (F := Ideal) x0 x1 x2 x3 x4 (ix3 c 3 k))
include h0 h1 h2 h3
theorem ddecs_at (dec : FVec Ideal S1x1024 .f32)
    (hdec : ∀ (h : Fin 4) (k : Fin 256), dec (ix2 0 (kcol h k)) = val_main_v29 (F := Ideal) x0 x1 x2 (ix3 c h k)) (h : Fin 4) (k : Fin 256) :
    k0_pay95 dec alive d0 d1 d2 D SP (ix2 0 (kcol h k)) =
    val_main_v348 (F := Ideal) x0 x1 x2 x3 x4 (ix3 c h k) * val_main_v29 (F := Ideal) x0 x1 x2 (ix3 c h k) := by
  pointwise [k0_pay95]
  rw [hdec]
  refine congrArg (· * _) ?_
  have e0 := kcol_0 k
  have e1 := kcol_1 k
  have e2 := kcol_2 k
  have e3 := kcol_3 k
  have hl := h3 k
  pointwise [k0_pay35] at hl
  match h with
  | 0 =>
    rw [dif_pos (by omega)]
    exact (congrArg (fun q => d0 (ix2 0 q)) (Fin.ext e0)).trans (h0 k)
  | 1 =>
    rw [dif_neg (by omega), dif_pos (by omega)]
    exact (congrArg (fun q => d1 (ix2 0 q)) (Fin.ext (by dsimp only; omega))).trans (h1 k)
  | 2 =>
    rw [dif_neg (by omega), dif_neg (by omega), dif_pos (by omega)]
    exact (congrArg (fun q => d2 (ix2 0 q)) (Fin.ext (by dsimp only; omega))).trans (h2 k)
  | 3 =>
    rw [dif_neg (by omega), dif_neg (by omega), dif_neg (by omega)]
    exact (congrArg (fun q => ∑ x, D (ix2 x q) * (SP (ix4 0 0 x q) * alive)) (Fin.ext (by dsimp only; omega))).trans hl
end Dec

theorem ite_coe (p : Prop) [Decidable p] (x y : ℝ) : (if p then (x : EReal) else (y : EReal)) = ((if p then x else y : ℝ) : EReal) := by
  split <;> rfl
theorem ite_coe_zero (p : Prop) [Decidable p] (x : ℝ) : (if p then (x : EReal) else 0) = ((if p then x else 0 : ℝ) : EReal) := by
  split <;> rfl
/-- The reference's cotangent of the gate's logits: the cotangent of the cumulative sum at the last row and the terms of the rows
before, summed from the back, leave the decay's cotangent and the terms of the rows before. -/
theorem v377_real (R : Reals x0 x1 x2 x3 x4) (c : Fin 32) (s : Fin 64) (h : Fin 4) (k : Fin 256) (x D : ℝ) (e : Fin 64 → ℝ)
    (hx : val_main_v8 (F := Ideal) x0 x1 x2 (ix2 (row c s) (kcol h k)) = x)
    (hD : val_main_v348 (F := Ideal) x0 x1 x2 x3 x4 (ix3 c h k) * val_main_v29 (F := Ideal) x0 x1 x2 (ix3 c h k) = D)
    (he : ∀ s : Fin 64, val_main_v357 (F := Ideal) x0 x1 x2 x3 x4 (ix4 c h s k) = e s) :
    val_main_v377 (F := Ideal) x0 x1 x2 x3 x4 (ix2 (row c s) (kcol h k)) =
      (((D + ∑ s' : Fin 64, if s'.val < s.val then e s' else 0) / 16 * (1 + Real.exp x)⁻¹ : ℝ) : EReal) := by
  rw [v377_at, v364_at, v9_1_at x0 x1 x2 _ _ x hx, n16_word]
  simp only [v363_at, he, hD, sum_coe, ite_coe_zero, ← EReal.coe_neg, ← EReal.coe_add, ← EReal.coe_mul,
    div_coe_coe _ (by norm_num : (16 : ℝ) ≠ 0)]
  refine congrArg _ ?_
  have h1 : ∀ s' : Fin 64, (if s.val ≤ s'.val then -e s' + (if 63 ≤ s'.val then D + ∑ q, e q else 0) else 0) =
      (if s'.val < s.val then e s' else 0) - e s' + (if s' = 63 then D + ∑ q, e q else 0) := by
    intro s'
    have := s.isLt
    have := s'.isLt
    by_cases h63 : s' = 63
    · subst h63
      rw [if_pos (by show s.val ≤ 63; omega), if_pos (by decide), if_neg (by show ¬ 63 < s.val; omega), if_pos rfl]
      ring
    · have : ¬ 63 ≤ s'.val := fun hh => h63 (Fin.ext (by show s'.val = 63; omega))
      rw [if_neg this, if_neg h63]
      by_cases hs : s.val ≤ s'.val
      · rw [if_pos hs, if_neg (by omega)]; ring
      · rw [if_neg hs, if_pos (by omega)]; ring
  simp only [h1, Finset.sum_add_distrib, Finset.sum_sub_distrib, Finset.sum_ite_eq', Finset.mem_univ, if_true]
  ring

/-- The cotangent of the gate's logits, from the decayed keys, their cotangents and the decay's cotangent. -/
theorem dpre_at (R : Reals x0 x1 x2 x3 x4) {c : Fin 32} (pre kd dkd : FVec Ideal S64x1024 .f32) (dd : FVec Ideal S1x1024 .f32) (s : Fin 64) (h : Fin 4) (k : Fin 256)
    (hpre : pre (ix2 s (kcol h k)) = val_main_v8 (F := Ideal) x0 x1 x2 (ix2 (row c s) (kcol h k)))
    (hkd : ∀ s : Fin 64, kd (ix2 s (kcol h k)) = val_main_v17 (F := Ideal) x0 (ix4 c h s k) * val_main_v26 (F := Ideal) x0 x1 x2 (ix4 c h s k))
    (hdkd : ∀ s : Fin 64, dkd (ix2 s (kcol h k)) = val_main_v352 (F := Ideal) x0 x1 x2 x3 x4 (ix4 c h s k))
    (hdd : dd (ix2 0 (kcol h k)) = val_main_v348 (F := Ideal) x0 x1 x2 x3 x4 (ix3 c h k) * val_main_v29 (F := Ideal) x0 x1 x2 (ix3 c h k)) :
    k0_pay97 pre kd dkd dd k0_pay96 (Scalar.ofBits .f32 0x3F800000#32) (Scalar.ofBits .f32 0x00000000#32) (ix2 s (kcol h k)) =
      val_main_v377 (F := Ideal) x0 x1 x2 x3 x4 (ix2 (row c s) (kcol h k)) := by
  obtain ⟨x, hx⟩ := r8 R (row c s) (kcol h k)
  obtain ⟨D, hD⟩ := IsReal.mul (r348 R c h k) (r29 R c h k)
  choose e he using fun s => r357 R c h s k
  have hm (s' : Fin 64) : dkd (ix2 s' (kcol h k)) * kd (ix2 s' (kcol h k)) = e s' := by
    rw [hdkd, hkd, ← he, v357_at, mul_comm _ (_ * _ : EReal), mul_assoc, mul_assoc, mul_comm (val_main_v26 _ _ _ _)]
  rw [v377_real R c s h k x D e hx hD he]
  pointwise [k0_pay97, k0_pay96]
  simp only [lt_mask, hm]
  rw [hdd, hD, hpre, hx, ← EReal.coe_zero, ← EReal.coe_sub, Ideal.logistic_coe, sixteenth_word, zero_sub, neg_neg]
  simp only [ite_coe, sum_coe, ← EReal.coe_add, ← EReal.coe_mul, mul_one_div]
end Cert.Proof.Gla
-- ==== Proof.GlaChunk.lean ====
module
public import proofs.«01_k».proof.Proof.GlaPay
@[expose] public section

/-! One chunk of the gated-linear-attention gradient: the four heads write the same expressions, and what the chunk stores is the
reference's at that chunk, given the carried cotangent. -/

set_option maxRecDepth 16384
noncomputable section
namespace Cert.Proof.Gla
open Cert.GlaIdeal Cert.GlaIdeal.Gen Cert.GlaRefIdeal.Read Idealize.ShloMosaic Idealize.ShloMosaic.TcCoe Cert.Proof.Finite

/-! The four heads' expressions are those of the first. -/
section Forms
variable (q : Vec Ideal S64x256 .f32) (S SP : Vec Ideal S1x1x512x256 .f32) (r dy V : Vec Ideal S64x512 .f32) (on : Vec Ideal S1x512 .f32)
  (GP : Vec Ideal S1x512x256 .f32) (DP : Vec Ideal S1x256 .f32) (al : Ideal .f32) (x : FVec Ideal S1x512 .f32) (D : FVec Ideal S512x256 .f32)
/-- A head's carried cotangent after its chunk. -/
def cot : FVec Ideal S512x256 .f32 := k0_pay31 (k0_pay13 on) (k0_pay16 q) (k0_pay19 q S) (k0_pay20 q S) (k0_pay23 r dy) GP DP
/-- The same, as it is stored. -/
def cotp : FVec Ideal S1x512x256 .f32 := k0_pay32 (k0_pay13 on) (k0_pay16 q) (k0_pay19 q S) (k0_pay20 q S) (k0_pay23 r dy) GP DP
/-- A head's cotangent of the gate's input. -/
def dgate : FVec Ideal S64x512 .bf16 := k0_pay27 (k0_pay22 r) (k0_pay24 on q S dy) (k0_pay25 r) k0_pay26
/-- A head's cotangent of the queries. -/
def dquery : FVec Ideal S64x256 .bf16 := k0_pay30 (k0_pay13 on) (k0_pay17 S) (k0_pay19 q S) (k0_pay20 q S) (k0_pay23 r dy)
theorem form31 : k0_pay31 (k0_pay13 on) (k0_pay16 q) (k0_pay19 q S) (k0_pay20 q S) (k0_pay23 r dy) GP DP = cot q S r dy on GP DP := rfl
theorem form32 : k0_pay32 (k0_pay13 on) (k0_pay16 q) (k0_pay19 q S) (k0_pay20 q S) (k0_pay23 r dy) GP DP = cotp q S r dy on GP DP := rfl
theorem form27 : k0_pay27 (k0_pay22 r) (k0_pay24 on q S dy) (k0_pay25 r) k0_pay26 = dgate q S r dy on := rfl
theorem form30 : k0_pay30 (k0_pay13 on) (k0_pay17 S) (k0_pay19 q S) (k0_pay20 q S) (k0_pay23 r dy) = dquery q S r dy on := rfl
theorem form50 : k0_pay50 (k0_pay36 q) (k0_pay47 (k0_pay13 on) (k0_pay38 q S) (k0_pay39 q S) (k0_pay40 q S) r dy) GP DP =
    cotp q S r dy on GP DP := rfl
theorem form51 : k0_pay51 (k0_pay36 q) (k0_pay47 (k0_pay13 on) (k0_pay38 q S) (k0_pay39 q S) (k0_pay40 q S) r dy) GP DP V =
    k0_pay33 (cot q S r dy on GP DP) V := rfl
theorem form53 : k0_pay53 al (k0_pay36 q) (k0_pay47 (k0_pay13 on) (k0_pay38 q S) (k0_pay39 q S) (k0_pay40 q S) r dy) GP DP SP =
    k0_pay35 al (cot q S r dy on GP DP) SP := rfl
theorem form48 : k0_pay48 (k0_pay13 on) (k0_pay37 S) (k0_pay38 q S) (k0_pay39 q S) (k0_pay40 q S) r dy = dquery q S r dy on := rfl
theorem form45 : k0_pay45 (k0_pay13 on) (k0_pay38 q S) (k0_pay40 q S) r dy = dgate q S r dy on := rfl
theorem form46 : k0_pay46 x (k0_pay38 q S) (k0_pay40 q S) r dy = k0_pay28 x (k0_pay20 q S) (k0_pay23 r dy) := rfl
theorem form68 : k0_pay68 (k0_pay54 q) (k0_pay57 (k0_pay54 q) S) (k0_pay58 (k0_pay54 q) S) (k0_pay64 (k0_pay13 on) r dy)
    (k0_pay65 (k0_pay13 on) (k0_pay54 q) S r dy) (FloatOps.ofBits .f32 1140850688#32) GP DP = cot q S r dy on GP DP := rfl
theorem form69 : k0_pay69 (k0_pay54 q) (k0_pay57 (k0_pay54 q) S) (k0_pay58 (k0_pay54 q) S) (k0_pay64 (k0_pay13 on) r dy)
    (k0_pay65 (k0_pay13 on) (k0_pay54 q) S r dy) (FloatOps.ofBits .f32 1140850688#32) GP DP = cotp q S r dy on GP DP := rfl
theorem form70 : k0_pay70 (k0_pay54 q) (k0_pay57 (k0_pay54 q) S) (k0_pay58 (k0_pay54 q) S) (k0_pay64 (k0_pay13 on) r dy)
    (k0_pay65 (k0_pay13 on) (k0_pay54 q) S r dy) (FloatOps.ofBits .f32 1140850688#32) GP DP V = k0_pay33 (cot q S r dy on GP DP) V := rfl
theorem form72 : k0_pay72 al D SP = k0_pay35 al D SP := rfl
theorem form67 : k0_pay67 (k0_pay55 S) (k0_pay57 (k0_pay54 q) S) (k0_pay58 (k0_pay54 q) S) (k0_pay64 (k0_pay13 on) r dy)
    (k0_pay65 (k0_pay13 on) (k0_pay54 q) S r dy) (FloatOps.ofBits .f32 1140850688#32) = dquery q S r dy on := rfl
theorem form62 : k0_pay62 (k0_pay13 on) (k0_pay54 q) S r dy = dgate q S r dy on := rfl
theorem form63 : k0_pay63 x (k0_pay54 q) S r dy = k0_pay28 x (k0_pay20 q S) (k0_pay23 r dy) := rfl
theorem form88 : k0_pay88 (k0_pay13 on) (k0_pay73 q) (k0_pay76 q S) (k0_pay77 q S) (k0_pay80 r dy) GP DP = cot q S r dy on GP DP := rfl
theorem form89 : k0_pay89 (k0_pay13 on) (k0_pay73 q) (k0_pay76 q S) (k0_pay77 q S) (k0_pay80 r dy) GP DP = cotp q S r dy on GP DP := rfl
theorem form87 : k0_pay87 (k0_pay13 on) (k0_pay74 S) (k0_pay76 q S) (k0_pay77 q S) (k0_pay80 r dy) = dquery q S r dy on := rfl
theorem form84 : k0_pay84 (k0_pay79 r) (k0_pay81 (k0_pay13 on) q S dy) (k0_pay82 r) k0_pay83 = dgate q S r dy on := rfl
theorem form85 : k0_pay85 x (k0_pay77 q S) (k0_pay80 r dy) = k0_pay28 x (k0_pay20 q S) (k0_pay23 r dy) := rfl
end Forms

variable {x0 : (⟨GlaRefIdeal.S2048x6160, .f32⟩ : BufTy).Contents (Elt Ideal)} {x1 : (⟨GlaRefIdeal.S16x1024, .f32⟩ : BufTy).Contents (Elt Ideal)}
  {x2 : (⟨GlaRefIdeal.S1024, .f32⟩ : BufTy).Contents (Elt Ideal)} {x3 : (⟨GlaRefIdeal.S512, .f32⟩ : BufTy).Contents (Elt Ideal)}
  {x4 : (⟨GlaRefIdeal.S2048x2048, .f32⟩ : BufTy).Contents (Elt Ideal)} {c : Fin 32}
  {on : Vec Ideal S1x512 .f32}

theorem exists_kcol (k : Fin 1024) : ∃ (h : Fin 4) (k' : Fin 256), k = kcol h k' :=
  ⟨⟨k.val / 256, by omega⟩, ⟨k.val % 256, by omega⟩, Fin.ext (by show k.val = k.val / 256 * 256 + k.val % 256; omega)⟩

section One
variable {h : Fin 4} {q : Vec Ideal S64x256 .f32} {S : Vec Ideal S1x1x512x256 .f32} {r dy V : Vec Ideal S64x512 .f32}
  (H : Head x0 x1 x2 x3 x4 c h q S r dy V on) (R : Reals x0 x1 x2 x3 x4)
include H R

theorem cot_at (GP : Vec Ideal S1x512x256 .f32) (DP : Vec Ideal S1x256 .f32)
    (hG : ∀ (v : Fin 512) (k : Fin 256), GP (ix3 0 v k) * DP (ix2 0 k) + val_main_v212 (F := Ideal) x0 x1 x2 x3 x4 (ix4 c h k v) =
      cots x0 x1 x2 x3 x4 c (ix4 0 h k v)) (v : Fin 512) (k : Fin 256) : cot q S r dy on GP DP (ix2 v k) = cots x0 x1 x2 x3 x4 c (ix4 0 h k v) :=
  (G_at H R GP DP v k).trans (hG v k)
theorem cotp_at (GP : Vec Ideal S1x512x256 .f32) (DP : Vec Ideal S1x256 .f32)
    (hG : ∀ (v : Fin 512) (k : Fin 256), GP (ix3 0 v k) * DP (ix2 0 k) + val_main_v212 (F := Ideal) x0 x1 x2 x3 x4 (ix4 c h k v) =
      cots x0 x1 x2 x3 x4 c (ix4 0 h k v)) (v : Fin 512) (k : Fin 256) : cotp q S r dy on GP DP (ix3 0 v k) = cots x0 x1 x2 x3 x4 c (ix4 0 h k v) := by
  rw [← cot_at H R GP DP hG]
  unfold cotp cot
  pointwise [k0_pay32]

/-- A head's columns of the projection's cotangent. -/
theorem dgate_out (x : S64x512.Idx) (y : S64x6272.Idx) {o : ℕ} (ho : o = 4096 + h.val * 512) (e0 : (y 0).val = (x 0).val) (e1 : (y 1).val = o + (x 1).val) :
    dgate q S r dy on x = val_main_v386 (F := Ideal) x0 x1 x2 x3 x4 (ix2 (row c (y 0)) (y 1)) := by
  obtain ⟨s, v, rfl⟩ : ∃ (s : Fin 64) (v : Fin 512), x = ix2 s v := ⟨x 0, x 1, eq_ix2 x⟩
  rw [show y 0 = s from Fin.ext e0, v386_r (j := vcol h v) (e := e1.trans (by rw [ho]; exact add_assoc _ _ _))]
  exact dr_at H R s v
theorem dquery_out (x : S64x256.Idx) (y : S64x6272.Idx) {o : ℕ} (ho : o = h.val * 256) (e0 : (y 0).val = (x 0).val) (e1 : (y 1).val = o + (x 1).val) :
    dquery q S r dy on x = val_main_v386 (F := Ideal) x0 x1 x2 x3 x4 (ix2 (row c (y 0)) (y 1)) := by
  obtain ⟨s, k, rfl⟩ : ∃ (s : Fin 64) (k : Fin 256), x = ix2 s k := ⟨x 0, x 1, eq_ix2 x⟩
  rw [show y 0 = s from Fin.ext e0, v386_q (j := kcol h k) (e := e1.trans (by rw [ho]; exact (zero_add _).symm)), v374_at]
  exact dq_at H R s k
omit H R in
theorem dvalue_out (p : S64x512.Idx → EReal) (hp : ∀ (s : Fin 64) (v : Fin 512), p (ix2 s v) = val_main_v350 (F := Ideal) x0 x1 x2 x3 x4 (ix4 c h s v))
    (x : S64x512.Idx) (y : S64x6272.Idx) {o : ℕ} (ho : o = 2048 + h.val * 512) (e0 : (y 0).val = (x 0).val) (e1 : (y 1).val = o + (x 1).val) :
    p x = val_main_v386 (F := Ideal) x0 x1 x2 x3 x4 (ix2 (row c (y 0)) (y 1)) := by
  obtain ⟨s, v, rfl⟩ : ∃ (s : Fin 64) (v : Fin 512), x = ix2 s v := ⟨x 0, x 1, eq_ix2 x⟩
  rw [show y 0 = s from Fin.ext e0, v386_v (j := vcol h v) (e := e1.trans (by rw [ho]; exact add_assoc _ _ _)), v368_at]
  exact hp s v
end One

section Dv
variable (kd : FVec Ideal S64x1024 .f32)
  (hkd : ∀ (s : Fin 64) (h : Fin 4) (k : Fin 256), kd (ix2 s (kcol h k)) = val_main_v17 (F := Ideal) x0 (ix4 c h s k) * val_main_v26 (F := Ideal) x0 x1 x2 (ix4 c h s k))
  {q : Vec Ideal S64x256 .f32} {S : Vec Ideal S1x1x512x256 .f32} {r dy : Vec Ideal S64x512 .f32} (GP : Vec Ideal S1x512x256 .f32) (DP : Vec Ideal S1x256 .f32)
include hkd
theorem dv1_at (hD : ∀ (v : Fin 512) (k : Fin 256), cot q S r dy on GP DP (ix2 v k) = cots x0 x1 x2 x3 x4 c (ix4 0 1 k v)) (s : Fin 64) (v : Fin 512) :
    k0_pay52 kd (k0_pay36 q) (k0_pay47 (k0_pay13 on) (k0_pay38 q S) (k0_pay39 q S) (k0_pay40 q S) r dy) GP DP (ix2 s v) =
      val_main_v350 (F := Ideal) x0 x1 x2 x3 x4 (ix4 c 1 s v) := by
  rw [← dv_sum (cot q S r dy on GP DP) hD kd fun s k => hkd s 1 k]
  pointwise [k0_pay52]
  exact Finset.sum_congr rfl fun k _ => congrArg (fun j => kd (ix2 s j) * cot q S r dy on GP DP (ix2 v k)) (Fin.ext (kcol_1 k).symm)
theorem dv2_at (hD : ∀ (v : Fin 512) (k : Fin 256), cot q S r dy on GP DP (ix2 v k) = cots x0 x1 x2 x3 x4 c (ix4 0 2 k v)) (s : Fin 64) (v : Fin 512) :
    k0_pay71 kd (k0_pay54 q) (k0_pay57 (k0_pay54 q) S) (k0_pay58 (k0_pay54 q) S) (k0_pay64 (k0_pay13 on) r dy)
      (k0_pay65 (k0_pay13 on) (k0_pay54 q) S r dy) (FloatOps.ofBits .f32 1140850688#32) GP DP (ix2 s v) =
      val_main_v350 (F := Ideal) x0 x1 x2 x3 x4 (ix4 c 2 s v) := by
  rw [← dv_sum (cot q S r dy on GP DP) hD kd fun s k => hkd s 2 k]
  pointwise [k0_pay71]
  exact Finset.sum_congr rfl fun k _ => congrArg (fun j => kd (ix2 s j) * cot q S r dy on GP DP (ix2 v k)) (Fin.ext (kcol_2 k).symm)
end Dv

section All
variable {g : Vec Ideal S64x128 .f32} {w : Vec Ideal S128x1024 .bf16} {b : Vec Ideal S1x1024 .f32} {kk : Vec Ideal S64x1024 .f32}
  {q0 q1 q2 q3 : Vec Ideal S64x256 .f32} {S0 S1 S2 S3 : Vec Ideal S1x1x512x256 .f32} {r0 r1 r2 r3 dy0 dy1 dy2 dy3 V0 V1 V2 V3 : Vec Ideal S64x512 .f32}
  (Gt : Gate x0 x1 x2 c g w b kk) (R : Reals x0 x1 x2 x3 x4)
  (H0 : Head x0 x1 x2 x3 x4 c 0 q0 S0 r0 dy0 V0 on) (H1 : Head x0 x1 x2 x3 x4 c 1 q1 S1 r1 dy1 V1 on)
  (H2 : Head x0 x1 x2 x3 x4 c 2 q2 S2 r2 dy2 V2 on) (H3 : Head x0 x1 x2 x3 x4 c 3 q3 S3 r3 dy3 V3 on)
  (D0 D1 D2 D3 : FVec Ideal S512x256 .f32)
  (hD0 : ∀ (v : Fin 512) (k : Fin 256), D0 (ix2 v k) = cots x0 x1 x2 x3 x4 c (ix4 0 0 k v))
  (hD1 : ∀ (v : Fin 512) (k : Fin 256), D1 (ix2 v k) = cots x0 x1 x2 x3 x4 c (ix4 0 1 k v))
  (hD2 : ∀ (v : Fin 512) (k : Fin 256), D2 (ix2 v k) = cots x0 x1 x2 x3 x4 c (ix4 0 2 k v))
  (hD3 : ∀ (v : Fin 512) (k : Fin 256), D3 (ix2 v k) = cots x0 x1 x2 x3 x4 c (ix4 0 3 k v))
include H0 H1 H2 H3

/-- The gradient of the norm's scale, one chunk's rows and heads added to what was there. -/
theorem don_at (P : Vec Ideal S1x512 .f32) (v : Fin 512) :
    k0_pay91 (k0_pay28 (k0_pay28 (k0_pay28 (k0_pay28 k0_pay15 (k0_pay20 q0 S0) (k0_pay23 r0 dy0)) (k0_pay20 q1 S1) (k0_pay23 r1 dy1))
      (k0_pay20 q2 S2) (k0_pay23 r2 dy2)) (k0_pay20 q3 S3) (k0_pay23 r3 dy3)) P (ix2 0 v) =
    P (ix2 0 v) + ∑ h : Fin 4, ∑ s : Fin 64, val_main_v178 (F := Ideal) x0 x1 x2 (ix4 c h s v) * val_main_v190 (F := Ideal) x0 x4 (ix4 c h s v) := by
  pointwise [k0_pay91, k0_pay28, k0_pay15]
  simp only [oh_at H0, oh_at H1, oh_at H2, oh_at H3, dn_at H0, dn_at H1, dn_at H2, dn_at H3, Fin.sum_univ_four, mul_comm (val_main_v178 _ _ _ _)]

include hD0 hD1 hD2 hD3 Gt R
theorem dkey_out (x : S64x1024.Idx) (y : S64x6272.Idx) (e0 : (y 0).val = (x 0).val) (e1 : (y 1).val = 1024 + (x 1).val) :
    k0_pay94 (k0_pay10 g w b) (k0_pay33 D0 V0) (k0_pay33 D1 V1) (k0_pay33 D2 V2) D3 V3 x =
      val_main_v386 (F := Ideal) x0 x1 x2 x3 x4 (ix2 (row c (y 0)) (y 1)) := by
  obtain ⟨s, k, rfl⟩ : ∃ (s : Fin 64) (k : Fin 1024), x = ix2 s k := ⟨x 0, x 1, eq_ix2 x⟩
  obtain ⟨h, k, rfl⟩ := exists_kcol k
  rw [show y 0 = s from Fin.ext e0, v386_k (j := kcol h k) (e := e1), v370_at]
  exact dk_at _ _ _ D3 V3 (dkd_at H0 D0 hD0) (dkd_at H1 D1 hD1) (dkd_at H2 D2 hD2) (dkd_at H3 D3 hD3) _ (decay_at Gt) s h k

variable {SP0 SP1 SP2 SP3 : Vec Ideal S1x1x512x256 .f32} (al : Ideal .f32)
  (hS0 : ∀ (v : Fin 512) (k : Fin 256), cots x0 x1 x2 x3 x4 c (ix4 0 0 k v) * (SP0 (ix4 0 0 v k) * al) = prods x0 x1 x2 x3 x4 c (ix4 0 0 k v))
  (hS1 : ∀ (v : Fin 512) (k : Fin 256), cots x0 x1 x2 x3 x4 c (ix4 0 1 k v) * (SP1 (ix4 0 0 v k) * al) = prods x0 x1 x2 x3 x4 c (ix4 0 1 k v))
  (hS2 : ∀ (v : Fin 512) (k : Fin 256), cots x0 x1 x2 x3 x4 c (ix4 0 2 k v) * (SP2 (ix4 0 0 v k) * al) = prods x0 x1 x2 x3 x4 c (ix4 0 2 k v))
  (hS3 : ∀ (v : Fin 512) (k : Fin 256), cots x0 x1 x2 x3 x4 c (ix4 0 3 k v) * (SP3 (ix4 0 0 v k) * al) = prods x0 x1 x2 x3 x4 c (ix4 0 3 k v))
include hS0 hS1 hS2 hS3

/-- The cotangent of the gate's logits. -/
theorem dlogit_at (s : Fin 64) (k : Fin 1024) :
    k0_pay97 (k0_pay7 g w b) (k0_pay11 g w b kk) (k0_pay93 (k0_pay33 D0 V0) (k0_pay33 D1 V1) (k0_pay33 D2 V2) D3 V3)
      (k0_pay95 (k0_pay12 g w b) al (k0_pay35 al D0 SP0) (k0_pay35 al D1 SP1) (k0_pay35 al D2 SP2) D3 SP3) k0_pay96
      (FloatOps.ofBits .f32 1065353216#32) (FloatOps.ofBits .f32 0#32) (ix2 s k) =
    val_main_v377 (F := Ideal) x0 x1 x2 x3 x4 (ix2 (row c s) k) := by
  obtain ⟨h, k, rfl⟩ := exists_kcol k
  refine dpre_at R _ _ _ _ s h k (pre_at Gt s _) (fun s => kd_at Gt s h k) (fun s => ?_) ?_
  · exact dkds_at _ _ _ D3 V3 (dkd_at H0 D0 hD0) (dkd_at H1 D1 hD1) (dkd_at H2 D2 hD2) (dkd_at H3 D3 hD3) s h k
  · exact ddecs_at _ _ _ al D3 SP3 (ddec_at D0 hD0 al SP0 hS0) (ddec_at D1 hD1 al SP1 hS1) (ddec_at D2 hD2 al SP2 hS2)
      (ddec_at D3 hD3 al SP3 hS3) _ (dec_at Gt) h k

end All

section Sums
variable {g : Vec Ideal S64x128 .f32} {w : Vec Ideal S128x1024 .bf16} {b : Vec Ideal S1x1024 .f32} {kk : Vec Ideal S64x1024 .f32}
  (Gt : Gate x0 x1 x2 c g w b kk)
include Gt
/-- The low-rank gate's columns of the projection's cotangent; the padded ones are zero. -/
theorem dlow_out (L : FVec Ideal S64x1024 .f32)
    (hL : ∀ (s : Fin 64) (k : Fin 1024), L (ix2 s k) = val_main_v377 (F := Ideal) x0 x1 x2 x3 x4 (ix2 (row c s) k))
    (x : S64x128.Idx) (y : S64x6272.Idx) (e0 : (y 0).val = (x 0).val) (e1 : (y 1).val = 6144 + (x 1).val) :
    k0_pay1 L (k0_pay100 w) x = val_main_v386 (F := Ideal) x0 x1 x2 x3 x4 (ix2 (row c (y 0)) (y 1)) := by
  obtain ⟨s, i, rfl⟩ : ∃ (s : Fin 64) (i : Fin 128), x = ix2 s i := ⟨x 0, x 1, eq_ix2 x⟩
  rw [show y 0 = s from Fin.ext e0]
  by_cases hi : i.val < 16
  · rw [v386_g (j := ⟨i.val, hi⟩) (e := e1), v383_at]
    pointwise [k0_pay1, k0_pay100]
    exact Finset.sum_congr rfl fun k _ => by rw [hL, Gt.hw, dif_pos hi]
  · refine Eq.trans ?_ (v386_pad x0 x1 x2 x3 x4 (row c s) (y 1) (by rw [e1]; show 6160 ≤ 6144 + i.val; omega)).symm
    pointwise [k0_pay1, k0_pay100]
    exact Finset.sum_eq_zero fun k _ => by rw [Gt.hw, dif_neg hi, mul_zero]
variable (p1 p2 p3 : FVec Ideal S64x1024 .f32) (p4 : FVec Ideal S1x1024 .f32) (p5 : IVec S64x64 1) (p6 p7 : Ideal .f32)
  (hL : ∀ (s : Fin 64) (k : Fin 1024), k0_pay97 p1 p2 p3 p4 p5 p6 p7 (ix2 s k) = val_main_v377 (F := Ideal) x0 x1 x2 x3 x4 (ix2 (row c s) k))
include hL
omit Gt in
/-- The gradient of the gate's bias, one chunk's rows added to what was there. -/
theorem dbias_at (P : Vec Ideal S1x1024 .f32) (k : Fin 1024) : k0_pay98 p1 p2 p3 p4 p5 p6 p7 P (ix2 0 k) =
      P (ix2 0 k) + ∑ s : Fin 64, val_main_v377 (F := Ideal) x0 x1 x2 x3 x4 (ix2 (row c s) k) := by
  pointwise [k0_pay98]
  simp only [hL]
/-- The gradient of the gate's weight, one chunk's rows added to what was there. -/
theorem dweight_at (P : Vec Ideal S128x1024 .f32) (i : Fin 128) (k : Fin 1024) : k0_pay99 p1 p2 p3 p4 p5 p6 p7 P g (ix2 i k) =
      P (ix2 i k) + if h : i.val < 16 then ∑ s : Fin 64, val_main_v377 (F := Ideal) x0 x1 x2 x3 x4 (ix2 (row c s) k) *
        x0 (ix2 (row c s) ⟨6144 + i.val, by omega⟩) else 0 := by
  pointwise [k0_pay99]
  simp only [hL, Gt.hg]
  refine congrArg (_ + ·) ?_
  split
  · exact Finset.sum_congr rfl fun s _ => mul_comm _ _
  · exact Finset.sum_eq_zero fun s _ => zero_mul _
end Sums
end Cert.Proof.Gla
-- ==== Proof.GlaHost.lean ====
module
public import proofs.«01_k».proof.Defs
public import proofs.«01_k».proof.Proof.Gen.GlaIdeal.Frame
public import Idealize.ShloMosaic.Lib.Pipeline.ValueKit
public import Idealize.ShloMosaic.Lib.Claim
public import Idealize.ShloMosaic.Lib.StableHlo.RunRead
public import proofs.«01_k».proof.Proof.GlaChain
public import proofs.«01_k».proof.Proof.Finite
@[expose] public section

/-! What the gated-linear-attention gradient's kernel is given by the host: the states, equal to the reference's, and
the arguments padded and reshaped. -/

set_option maxRecDepth 16384
noncomputable section
namespace Cert.Proof.Gla
open Cert.GlaIdeal Cert.GlaIdeal.Gen Idealize.ShloMosaic Idealize.ShloMosaic.TcCoe Idealize.SL.Sem Cert.Proof.Finite
variable (m : (ℓ : Loc nD τ sig) → Buf (Elt Ideal) ℓ) (c : Dev nD)

/-- The arguments of the call on one device: the projections, -/
abbrev a0 : (⟨GlaRefIdeal.S2048x6160, .f32⟩ : BufTy).Contents (Elt Ideal) := m ((c : Thread nD τ).loc main_arg0)
/-- the decay's low-rank weight, -/
abbrev a1 : (⟨GlaRefIdeal.S16x1024, .f32⟩ : BufTy).Contents (Elt Ideal) := m ((c : Thread nD τ).loc main_arg1)
/-- the decay's bias, -/
abbrev a2 : (⟨GlaRefIdeal.S1024, .f32⟩ : BufTy).Contents (Elt Ideal) := m ((c : Thread nD τ).loc main_arg2)
/-- the output norm's scale, -/
abbrev a3 : (⟨GlaRefIdeal.S512, .f32⟩ : BufTy).Contents (Elt Ideal) := m ((c : Thread nD τ).loc main_arg3)
/-- and the output's gradient. -/
abbrev a4 : (⟨GlaRefIdeal.S2048x2048, .f32⟩ : BufTy).Contents (Elt Ideal) := m ((c : Thread nD τ).loc main_arg4)

/-- The contents before the recurrence over the chunks. -/
abbrev W : Valuation τ sig (Elt Ideal) :=
  StableHlo.after (hostOps0 ++ hostOps0_1 ++ hostOps0_2 ++ hostOps0_3) (fun b => m (c, b))

theorem W_v16 : W m c (Proc.devRef .tc main_v16) = GlaRefIdeal.Read.val_main_v22 (F := Ideal) (a0 m c) (a1 m c) (a2 m c) := rfl
theorem W_v11 : W m c (Proc.devRef .tc main_v11) = GlaRefIdeal.Read.val_main_v17 (F := Ideal) (a0 m c) := rfl
theorem W_v13 : W m c (Proc.devRef .tc main_v13) = GlaRefIdeal.Read.val_main_v19 (F := Ideal) (a0 m c) := rfl

set_option maxHeartbeats 8000000 in
/-- The recurrence over the chunks, from the decays, the keys and the values: the reference's states. -/
theorem st_after (U : Valuation τ sig (Elt Ideal)) (x0 x1 x2)
    (h16 : U (Proc.devRef .tc main_v16) = GlaRefIdeal.Read.val_main_v22 (F := Ideal) x0 x1 x2)
    (h11 : U (Proc.devRef .tc main_v11) = GlaRefIdeal.Read.val_main_v17 (F := Ideal) x0)
    (h13 : U (Proc.devRef .tc main_v13) = GlaRefIdeal.Read.val_main_v19 (F := Ideal) x0)
    (j : Fin 32) (h : Fin 4) (v : Fin 512) (k : Fin 256) :
    StableHlo.after hostOps0_4 U (Proc.devRef .tc main_v159) (ix4 h j v k) = states x0 x1 x2 j (ix4 0 h k v) := by
  after_reads_simp
  fin_cases j <;>
    (pointwise; after_reads_simp; pointwise; after_reads_simp; simp only [h16, h11, h13]; rfl)

theorem V_split (b : Ref sig .tc) : V m c b = StableHlo.after
    (hostOps0_4 ++ (hostOps0_5 ++ (hostOps0_6 ++ (hostOps0_7 ++ hostOps0_8)))) (W m c) (Proc.devRef .tc b) := by
  unfold V W
  rw [← StableHlo.after_append]
  simp only [List.flatten_cons, List.flatten_nil, List.append_nil, List.append_assoc]

/-- The operations after the recurrence leave the states alone. -/
theorem st_rest (U : Valuation τ sig (Elt Ideal)) :
    StableHlo.after (hostOps0_5 ++ (hostOps0_6 ++ (hostOps0_7 ++ hostOps0_8))) U (Proc.devRef .tc main_v159) =
      U (Proc.devRef .tc main_v159) := by
  after_reads_simp

/-- The states the kernel is given are the reference's, transposed. -/
theorem st_host (j : Fin 32) (h : Fin 4) (v : Fin 512) (k : Fin 256) : V m c main_v159 (ix4 h j v k) =
    GlaRefIdeal.Read.val_main_v164 (F := Ideal) (a0 m c) (a1 m c) (a2 m c) (ix4 j h k v) := by
  rw [V_split, StableHlo.after_append, st_rest, v164_at]
  exact st_after _ _ _ _ (W_v16 m c) (W_v11 m c) (W_v13 m c) j h v k

theorem proj_host (r : Fin 2048) (k : Fin 6272) : V m c main_v160 (ix2 r k) =
    if h : k.val < 6160 then a0 m c (ix2 r ⟨k.val, h⟩) else (0 : EReal) := by
  rw [V_split]
  after_reads_simp
  change pad S2048x6272 ![0, 0] ![0, 112] ![0, 0] (a0 m c) (sitofp .f32 (constantI S_ 32 0#32) : FVec Ideal S_ .f32)
    pads_S2048x6160_S2048x6272_000_01120 h_S_ (ix2 r k) = _
  pointwise
  simp only [zero_int]

theorem wgu_host (i : Fin 128) (k : Fin 1024) : V m c main_v162 (ix2 i k) =
    if h : i.val < 16 then a1 m c (ix2 ⟨i.val, h⟩ k) else (0 : EReal) := by
  rw [V_split]
  after_reads_simp
  change pad S128x1024 ![0, 0] ![112, 0] ![0, 0] (a1 m c) (sitofp .f32 (constantI S_ 32 0#32) : FVec Ideal S_ .f32)
    pads_S16x1024_S128x1024_01120_000 h_S_ (ix2 i k) = _
  pointwise
  simp only [zero_int]

theorem bg_host (k : Fin 1024) : V m c main_v163 (ix2 0 k) = a2 m c (ix1 k) := by
  rw [V_split]
  after_reads_simp
  pointwise

theorem on_host (k : Fin 512) : V m c main_v164 (ix2 0 k) = a3 m c (ix1 k) := by
  rw [V_split]
  after_reads_simp
  pointwise

theorem dy_host : V m c main_arg4 = a4 m c := by
  rw [V_split]
  after_reads_simp
-- ==== Proof.GlaState.lean ====
module
public import proofs.«01_k».proof.Proof.GlaChunk
public import proofs.«01_k».proof.Proof.GlaHost
public import Idealize.ShloMosaic.Lib.Pipeline.ReadBack
public import Idealize.ShloMosaic.Lib.Claim
@[expose] public section
set_option maxRecDepth 16384
noncomputable section
namespace Cert.Proof.Gla
open Cert.GlaIdeal Cert.GlaIdeal.Gen Idealize.ShloMosaic Idealize.ShloMosaic.TcCoe Idealize.SL.Sem
open Cert.GlaRefIdeal.Read Cert.Proof.Finite
variable (m : (ℓ : Loc nD τ sig) → Buf (Elt Ideal) ℓ) (c : Dev nD)

theorem idx : ∀ t : Fin cfg0.N, win0_0.index t = ![31 - t.val, 0] ∧ win0_1.index t = ![31 - t.val, 1] ∧ win0_2.index t = ![31 - t.val, 1] ∧
    win0_3.index t = ![31 - t.val, 2] ∧ win0_4.index t = ![31 - t.val, 48] ∧ win0_5.index t = ![0, 0] ∧ win0_6.index t = ![0, 0] ∧
    win0_7.index t = ![0, 0] ∧ win0_8.index t = ![0, 31 - t.val, 0, 0] ∧ win0_9.index t = ![0, 30 - t.val, 0, 0] ∧
    win0_10.index t = ![31 - t.val, 0] ∧ win0_11.index t = ![31 - t.val, 0] ∧ win0_12.index t = ![0, 0] ∧ win0_13.index t = ![0, 0] ∧
    win0_14.index t = ![0, 0] ∧ t.val < 32 :=
  (by decide +kernel : ∀ t : Fin grid0.N, _)
/-- The chunk that grid point `t` handles. -/
def ch (t : Fin cfg0.N) : Fin 32 := ⟨31 - t.val, by omega⟩

theorem q_blk (t : Fin cfg0.N) (s : Fin 64) (k : Fin 1024) : X0_0 m c t (ix2 s k) = a0 m c (ix2 (row (ch t) s) ⟨k.val, by omega⟩) := by
  unfold X0_0 Pipeline.Window.fill
  rw [dif_pos (moved0_0 t _)]
  blk_simp [iblk]
  refine (congrArg (V m c main_v160) (?_ : _ = ix2 (row (ch t) s) ⟨k.val, by omega⟩)).trans ?_
  · blk_ext [idx t, row, ch]
  · rw [proj_host]
    exact dif_pos _
theorem k_blk (t : Fin cfg0.N) (s : Fin 64) (k : Fin 1024) : X0_1 m c t (ix2 s k) = a0 m c (ix2 (row (ch t) s) ⟨1024 + k.val, by omega⟩) := by
  unfold X0_1 Pipeline.Window.fill
  rw [dif_pos (moved0_1 t _)]
  blk_simp [iblk]
  refine (congrArg (V m c main_v160) (?_ : _ = ix2 (row (ch t) s) ⟨1024 + k.val, by omega⟩)).trans ?_
  · blk_ext [idx t, row, ch]
  · rw [proj_host]
    exact dif_pos _
theorem v_blk (t : Fin cfg0.N) (s : Fin 64) (k : Fin 2048) : X0_2 m c t (ix2 s k) = a0 m c (ix2 (row (ch t) s) ⟨2048 + k.val, by omega⟩) := by
  unfold X0_2 Pipeline.Window.fill
  rw [dif_pos (moved0_2 t _)]
  blk_simp [iblk]
  refine (congrArg (V m c main_v160) (?_ : _ = ix2 (row (ch t) s) ⟨2048 + k.val, by omega⟩)).trans ?_
  · blk_ext [idx t, row, ch]
  · rw [proj_host]
    exact dif_pos _
theorem r_blk (t : Fin cfg0.N) (s : Fin 64) (k : Fin 2048) : X0_3 m c t (ix2 s k) = a0 m c (ix2 (row (ch t) s) ⟨4096 + k.val, by omega⟩) := by
  unfold X0_3 Pipeline.Window.fill
  rw [dif_pos (moved0_3 t _)]
  blk_simp [iblk]
  refine (congrArg (V m c main_v160) (?_ : _ = ix2 (row (ch t) s) ⟨4096 + k.val, by omega⟩)).trans ?_
  · blk_ext [idx t, row, ch]
  · rw [proj_host]
    exact dif_pos _
theorem g_blk (t : Fin cfg0.N) (s : Fin 64) (i : Fin 128) : iblk m c 4 t (ix2 s i) =
    if h : i.val < 16 then a0 m c (ix2 (row (ch t) s) ⟨6144 + i.val, by omega⟩) else 0 := by
  blk_simp [iblk]
  refine (congrArg (V m c main_v160) (?_ : _ = ix2 (row (ch t) s) ⟨6144 + i.val, by omega⟩)).trans ?_
  · blk_ext [idx t, row, ch]
  · rw [proj_host]
    by_cases h : i.val < 16
    · rw [dif_pos h, dif_pos (by dsimp only; omega)]
    · rw [dif_neg h, dif_neg (by dsimp only; omega)]
theorem w_blk (t : Fin cfg0.N) (i : Fin 128) (k : Fin 1024) : iblk m c 5 t (ix2 i k) = if h : i.val < 16 then a1 m c (ix2 ⟨i.val, h⟩ k) else 0 := by
  blk_simp [iblk]
  refine (congrArg (V m c main_v162) (?_ : _ = ix2 i k)).trans (wgu_host m c i k)
  blk_ext [idx t, row, ch]
theorem b_blk (t : Fin cfg0.N) (k : Fin 1024) : iblk m c 6 t (ix2 0 k) = a2 m c (ix1 k) := by
  blk_simp [iblk]
  refine (congrArg (V m c main_v163) (?_ : _ = ix2 0 k)).trans (bg_host m c k)
  blk_ext [idx t, row, ch]
theorem on_blk (t : Fin cfg0.N) (k : Fin 512) : iblk m c 7 t (ix2 0 k) = a3 m c (ix1 k) := by
  blk_simp [iblk]
  refine (congrArg (V m c main_v164) (?_ : _ = ix2 0 k)).trans (on_host m c k)
  blk_ext [idx t, row, ch]
theorem S_blk (t : Fin cfg0.N) (h : Fin 4) (v : Fin 512) (k : Fin 256) : iblk m c 8 t (ix4 h 0 v k) = val_main_v164 (F := Ideal) (a0 m c) (a1 m c) (a2 m c) (ix4 (ch t) h k v) := by
  blk_simp [iblk]
  refine (congrArg (V m c main_v159) (?_ : _ = ix4 h (ch t) v k)).trans (st_host m c _ h v k)
  blk_ext [idx t, row, ch]
theorem SP_blk (t : Fin cfg0.N) (h : Fin 4) (v : Fin 512) (k : Fin 256) : iblk m c 9 t (ix4 h 0 v k) = val_main_v164 (F := Ideal) (a0 m c) (a1 m c) (a2 m c) (ix4 ⟨30 - t.val, by omega⟩ h k v) := by
  blk_simp [iblk]
  refine (congrArg (V m c main_v159) (?_ : _ = ix4 h ⟨30 - t.val, by omega⟩ v k)).trans (st_host m c _ h v k)
  blk_ext [idx t, row, ch]
theorem dy_blk (t : Fin cfg0.N) (s : Fin 64) (v : Fin 2048) : iblk m c 10 t (ix2 s v) = a4 m c (ix2 (row (ch t) s) v) := by
  blk_simp [iblk]
  refine (congrArg (V m c main_arg4) (?_ : _ = ix2 (row (ch t) s) v)).trans (congrFun (dy_host m c) _)
  blk_ext [idx t, row, ch]

theorem gate (t : Fin cfg0.N) : Gate (a0 m c) (a1 m c) (a2 m c) (ch t) (iblk m c 4 t) (iblk m c 5 t) (iblk m c 6 t) (X0_1 m c t) :=
  ⟨g_blk m c t, w_blk m c t, b_blk m c t, fun s k => k_blk m c t s k⟩

theorem head (t : Fin cfg0.N) (h : Fin 4) {oq ov oh : ℕ} (eq : oq = h.val * 256) (ev : ov = h.val * 512) (eh : oh = h.val)
    (i1 : ∀ a, (![0, oq] : Fin 2 → ℕ) a + S64x256.size a ≤ S64x1024.size a)
    (i2 : ∀ a, (![oh, 0, 0, 0] : Fin 4 → ℕ) a + S1x1x512x256.size a ≤ S4x1x512x256.size a)
    (i3 : ∀ a, (![0, ov] : Fin 2 → ℕ) a + S64x512.size a ≤ S64x2048.size a) :
    Head (a0 m c) (a1 m c) (a2 m c) (a3 m c) (a4 m c) (ch t) h (View.ld (X0_0 m c t) (Rect.unit ![0, oq] ![64, 256] i1))
      (View.ld (iblk m c 8 t) (Rect.unit ![oh, 0, 0, 0] ![1, 1, 512, 256] i2)) (View.ld (X0_3 m c t) (Rect.unit ![0, ov] ![64, 512] i3))
      (View.ld (iblk m c 10 t) (Rect.unit ![0, ov] ![64, 512] i3)) (View.ld (X0_2 m c t) (Rect.unit ![0, ov] ![64, 512] i3)) (iblk m c 7 t) := by
  subst eq ev eh
  refine ⟨fun s k => ?_, fun v k => ?_, fun s v => ?_, fun s v => ?_, fun s v => ?_, on_blk m c t⟩
  · exact (View.ld_unit_apply_of _ _ _ _ _ (ix2 s (kcol h k)) fun a => by fin_cases a <;> simp [kcol]).trans (q_blk m c t s (kcol h k))
  · exact (View.ld_unit_apply_of _ _ _ _ _ (ix4 h 0 v k) fun a => by fin_cases a <;> simp).trans (S_blk m c t h v k)
  · exact (View.ld_unit_apply_of _ _ _ _ _ (ix2 s (vcol h v)) fun a => by fin_cases a <;> simp [vcol]).trans (r_blk m c t s (vcol h v))
  · exact (View.ld_unit_apply_of _ _ _ _ _ (ix2 s (vcol h v)) fun a => by fin_cases a <;> simp [vcol]).trans (dy_blk m c t s (vcol h v))
  · exact (View.ld_unit_apply_of _ _ _ _ _ (ix2 s (vcol h v)) fun a => by fin_cases a <;> simp [vcol]).trans (v_blk m c t s (vcol h v))

/-- What the scratch holds before grid point `t`: the next chunk's cotangent of the state and its decay, whose product is the carried part of this chunk's. -/
def Prev (t : Fin cfg0.N) (P : Vec Ideal S4x512x256 .f32) (E : Vec Ideal S1x1024 .f32) : Prop :=
  ∀ (h : Fin 4) (v : Fin 512) (k : Fin 256), P (ix3 h v k) * E (ix2 0 (kcol h k)) +
    val_main_v212 (F := Ideal) (a0 m c) (a1 m c) (a2 m c) (a3 m c) (a4 m c) (ix4 (ch t) h k v) =
    cots (a0 m c) (a1 m c) (a2 m c) (a3 m c) (a4 m c) (ch t) (ix4 0 h k v)
/-- The cotangent of the state a chunk leaves, as the scratch lays it out. -/
def carry (t : Fin cfg0.N) (y : S4x512x256.Idx) : EReal := cots (a0 m c) (a1 m c) (a2 m c) (a3 m c) (a4 m c) (ch t) (ix4 0 (y 0) (y 2) (y 1))
variable {m c}

theorem Prev.ld {t : Fin cfg0.N} {P : Vec Ideal S4x512x256 .f32} {E : Vec Ideal S1x1024 .f32} (hP : Prev m c t P E) (h : Fin 4) {oh ok : ℕ}
    (eh : oh = h.val) (ek : ok = h.val * 256) (i1 : ∀ a, (![oh, 0, 0] : Fin 3 → ℕ) a + S1x512x256.size a ≤ S4x512x256.size a)
    (i2 : ∀ a, (![0, ok] : Fin 2 → ℕ) a + S1x256.size a ≤ S1x1024.size a) (v : Fin 512) (k : Fin 256) :
    View.ld P (Rect.unit ![oh, 0, 0] ![1, 512, 256] i1) (ix3 0 v k) *
      View.ld E (Rect.unit ![0, ok] ![1, 256] i2) (ix2 (0 : Fin 1) k) +
      val_main_v212 (F := Ideal) (a0 m c) (a1 m c) (a2 m c) (a3 m c) (a4 m c) (ix4 (ch t) h k v) =
    cots (a0 m c) (a1 m c) (a2 m c) (a3 m c) (a4 m c) (ch t) (ix4 0 h k v) := by
  subst eh ek
  refine (congrArg (· + _) (congrArg₂ (· * ·) ?_ ?_)).trans (hP h v k)
  · exact View.ld_unit_apply_of _ _ _ _ _ (ix3 h v k) fun a => by fin_cases a <;> simp
  · exact View.ld_unit_apply_of _ _ _ _ _ (ix2 0 (kcol h k)) fun a => by fin_cases a <;> simp [kcol]

variable (R : Reals (a0 m c) (a1 m c) (a2 m c) (a3 m c) (a4 m c))
include R

theorem carry_out {t : Fin cfg0.N} {h : Fin 4} {q : Vec Ideal S64x256 .f32} {S : Vec Ideal S1x1x512x256 .f32} {r dy V : Vec Ideal S64x512 .f32}
    {on : Vec Ideal S1x512 .f32} (H : Head (a0 m c) (a1 m c) (a2 m c) (a3 m c) (a4 m c) (ch t) h q S r dy V on)
    (GP : Vec Ideal S1x512x256 .f32) (DP : Vec Ideal S1x256 .f32)
    (hG : ∀ (v : Fin 512) (k : Fin 256), GP (ix3 0 v k) * DP (ix2 0 k) + val_main_v212 (F := Ideal) (a0 m c) (a1 m c) (a2 m c) (a3 m c) (a4 m c) (ix4 (ch t) h k v) =
      cots (a0 m c) (a1 m c) (a2 m c) (a3 m c) (a4 m c) (ch t) (ix4 0 h k v))
    (x : S1x512x256.Idx) (y : S4x512x256.Idx) (e0 : (y 0).val = h.val + (x 0).val) (e1 : (y 1).val = (x 1).val) (e2 : (y 2).val = (x 2).val) :
    cotp q S r dy on GP DP x = carry m c t y := by
  obtain ⟨z, v, k, rfl⟩ : ∃ (z : Fin 1) (v : Fin 512) (k : Fin 256), x = ix3 z v k := ⟨x 0, x 1, x 2, eq_ix3 x⟩
  obtain rfl : z = 0 := Subsingleton.elim _ _
  unfold carry
  rw [show y 0 = h from Fin.ext e0, show y 1 = v from Fin.ext e1, show y 2 = k from Fin.ext e2]
  exact cotp_at H R GP DP hG v k

theorem carry_A (t : Fin cfg0.N) (h0 : t.val % 32 = 0) (hP : Prev m c t (k0_pay2 (F := Ideal)) (k0_pay3 (F := Ideal))) (y : S4x512x256.Idx) :
    (outsAt0 m c t.val t.isLt).2.2.2.2.1 y = carry m c t y := by
  rw [outsAt0_A m c t h0]
  frame_open
  simp (disch := decide) only [↓ View.readCov_skip, ↓ View.readCov_cons_toLoadRect, ↓ View.readCov_fill]
  frame_out
  simp only [form32, form50, form69, form89]
  refine View.canon_append_of_piecesOf (Val := Elt Ideal) (e := .f32) (carry m c t) [_] [_, _, _, _] ⟨fun x => ?_, fun x => ?_, fun x => ?_, fun x => ?_, trivial⟩ y ?_
  · exact carry_out R (head m c t 3 rfl rfl rfl _ _ _) _ _ (Prev.ld hP 3 rfl rfl _ _) x _ (congrArg (_ + ·) (one_mul _)) ((zero_add _).trans (one_mul _)) ((zero_add _).trans (one_mul _))
  · exact carry_out R (head m c t 2 rfl rfl rfl _ _ _) _ _ (Prev.ld hP 2 rfl rfl _ _) x _ (congrArg (_ + ·) (one_mul _)) ((zero_add _).trans (one_mul _)) ((zero_add _).trans (one_mul _))
  · exact carry_out R (head m c t 1 rfl rfl rfl _ _ _) _ _ (Prev.ld hP 1 rfl rfl _ _) x _ (congrArg (_ + ·) (one_mul _)) ((zero_add _).trans (one_mul _)) ((zero_add _).trans (one_mul _))
  · exact carry_out R (head m c t 0 rfl rfl rfl _ _ _) _ _ (Prev.ld hP 0 rfl rfl _ _) x _ (congrArg (_ + ·) (one_mul _)) ((zero_add _).trans (one_mul _)) ((zero_add _).trans (one_mul _))
  · exact View.cover_of_tiledL _ ![1, 512, 256] (by sl_kernel_rfl) y

theorem carry_B (t : Fin cfg0.N) (h0 : ¬t.val % 32 = 0)
    (hP : Prev m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2) (y : S4x512x256.Idx) :
    (outsAt0 m c t.val t.isLt).2.2.2.2.1 y = carry m c t y := by
  rw [outsAt0_B m c t h0]
  frame_out
  simp only [read_unread_whole]
  canon_tiles x e
  all_goals simp only [form32, form50, form69, form89]
  · exact carry_out R (head m c t 3 rfl rfl rfl _ _ _) _ _ (Prev.ld hP 3 rfl rfl _ _) x _ e0 e1 e2
  · exact carry_out R (head m c t 2 rfl rfl rfl _ _ _) _ _ (Prev.ld hP 2 rfl rfl _ _) x _ e0 e1 e2
  · exact carry_out R (head m c t 1 rfl rfl rfl _ _ _) _ _ (Prev.ld hP 1 rfl rfl _ _) x _ e0 e1 e2
  · exact carry_out R (head m c t 0 rfl rfl rfl _ _ _) _ _ (Prev.ld hP 0 rfl rfl _ _) x _ (e0.trans (zero_add _).symm) e1 e2

theorem decn_at (t : Fin cfg0.N) (h : Fin 4) (k : Fin 256) : (outsAt0 m c t.val t.isLt).2.2.2.2.2 (ix2 0 (kcol h k)) =
    val_main_v29 (F := Ideal) (a0 m c) (a1 m c) (a2 m c) (ix3 (ch t) h k) := by
  rw [← dec_at (gate m c t)]
  by_cases h0 : t.val % 32 = 0
  · rw [outsAt0_A m c t h0]
    frame_out
    pointwise [k0_pay92]
  · rw [outsAt0_B m c t h0]
    frame_out
    pointwise [k0_pay92]

omit R in
theorem prev_A (t : Fin cfg0.N) (h0 : t.val % 32 = 0) : Prev m c t (k0_pay2 (F := Ideal)) (k0_pay3 (F := Ideal)) := by
  intro h v k
  have ht := (idx t).2.2.2.2.2.2.2.2.2.2.2.2.2.2.2
  rw [show ch t = 31 from Fin.ext (by show 31 - t.val = 31; omega), cots_last, grads_at]
  pointwise [k0_pay2, k0_pay3]
  rw [zero_mul, zero_add]

theorem prev_B (t : Fin cfg0.N) (h0 : ¬t.val % 32 = 0)
    (ih : ∀ y, (outsAt0 m c (t.val - 1) (Nat.lt_of_le_of_lt (Nat.sub_le _ _) t.isLt)).2.2.2.2.1 y =
      carry m c ⟨t.val - 1, Nat.lt_of_le_of_lt (Nat.sub_le _ _) t.isLt⟩ y) :
    Prev m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  intro h v k
  have ht := (idx t).2.2.2.2.2.2.2.2.2.2.2.2.2.2.2
  have hs : ch ⟨t.val - 1, Nat.lt_of_le_of_lt (Nat.sub_le _ _) t.isLt⟩ = Fin.succ ⟨31 - t.val, by omega⟩ := Fin.ext (by show 31 - (t.val - 1) = 31 - t.val + 1; omega)
  rw [ih, decn_at R ⟨t.val - 1, Nat.lt_of_le_of_lt (Nat.sub_le _ _) t.isLt⟩ h k, hs, show ch t = Fin.castSucc ⟨31 - t.val, by omega⟩ from rfl, cots_castSucc,
    grads_at, decs_at, add_comm, mul_comm (val_main_v29 _ _ _ _)]
  unfold carry
  rw [hs]
  rfl

theorem carry_at : ∀ (n : ℕ) (hn : n < cfg0.N) (y : S4x512x256.Idx), (outsAt0 m c n hn).2.2.2.2.1 y = carry m c ⟨n, hn⟩ y
  | 0, hn, y => carry_A R ⟨0, hn⟩ rfl (prev_A _ rfl) y
  | n + 1, hn, y => by
    have ht := (idx ⟨n + 1, hn⟩).2.2.2.2.2.2.2.2.2.2.2.2.2.2.2
    have h0 : ¬(⟨n + 1, hn⟩ : Fin cfg0.N).val % 32 = 0 := by dsimp only at ht ⊢; omega
    exact carry_B R ⟨n + 1, hn⟩ h0 (prev_B R _ h0 (carry_at n _)) y

/-- One where the chunk before exists, zero at the first. -/
def alive (t : Fin cfg0.N) : Ideal .f32 := k0_pay14 (BitVec.ofNat 32 (grid0.coords t 0).val)
omit R in
theorem coords_at : ∀ t : Fin cfg0.N, (grid0.coords t 0).val = t.val := (by decide +kernel : ∀ t : Fin grid0.N, _)
omit R in
theorem alive_last (t : Fin cfg0.N) (h : t.val = 31) : alive t = (0 : EReal) := by
  unfold alive
  rw [coords_at, h]
  pointwise [k0_pay14]
omit R in
theorem before_last : ∀ t : Fin cfg0.N, ¬t.val = 31 → Scalar.cmpi .eq (BitVec.ofNat 32 t.val) 31#32 = 0#1 := (by decide +kernel : ∀ t : Fin grid0.N, _)
omit R in
theorem alive_one (t : Fin cfg0.N) (h : ¬t.val = 31) : alive t = (1 : EReal) := by
  unfold alive
  rw [coords_at]
  pointwise [k0_pay14]
  rw [before_last t h]
  rfl
omit R in
theorem prior_at (t : Fin cfg0.N) (h : Fin 4) {oh : ℕ} (eh : oh = h.val) (i2 : ∀ a, (![oh, 0, 0, 0] : Fin 4 → ℕ) a + S1x1x512x256.size a ≤ S4x1x512x256.size a)
    (v : Fin 512) (k : Fin 256) : View.ld (iblk m c 9 t) (Rect.unit ![oh, 0, 0, 0] ![1, 1, 512, 256] i2) (ix4 0 0 v k) =
      val_main_v164 (F := Ideal) (a0 m c) (a1 m c) (a2 m c) (ix4 ⟨30 - t.val, by omega⟩ h k v) := by
  subst eh
  exact (View.ld_unit_apply_of _ _ _ _ _ (ix4 h 0 v k) fun a => by fin_cases a <;> simp).trans (SP_blk m c t h v k)
omit R in
theorem prior (t : Fin cfg0.N) (h : Fin 4) {SP : Vec Ideal S1x1x512x256 .f32}
    (hS : ∀ (v : Fin 512) (k : Fin 256), SP (ix4 0 0 v k) = val_main_v164 (F := Ideal) (a0 m c) (a1 m c) (a2 m c) (ix4 ⟨30 - t.val, by omega⟩ h k v))
    (v : Fin 512) (k : Fin 256) : cots (a0 m c) (a1 m c) (a2 m c) (a3 m c) (a4 m c) (ch t) (ix4 0 h k v) * (SP (ix4 0 0 v k) * alive t) =
    prods (a0 m c) (a1 m c) (a2 m c) (a3 m c) (a4 m c) (ch t) (ix4 0 h k v) := by
  have ht := (idx t).2.2.2.2.2.2.2.2.2.2.2.2.2.2.2
  rw [hS]
  by_cases h31 : t.val = 31
  · rw [alive_last t h31, mul_zero, mul_zero, show ch t = 0 from Fin.ext (by show 31 - t.val = 0; omega), prods_zero, v33_zero, mul_zero]
  · have hs : ch t = Fin.succ ⟨30 - t.val, by omega⟩ := Fin.ext (by show 31 - t.val = 30 - t.val + 1; omega)
    rw [alive_one t h31, mul_one, hs, prods_succ, v164_at]
    rfl

section Logit
variable (m c)
/-- Head `h`'s cotangent of the state at grid point `t`, from what the scratch held. -/
def dstate (t : Fin cfg0.N) (P : Vec Ideal S4x512x256 .f32) (E : Vec Ideal S1x1024 .f32) (oq ov oh : ℕ)
    (i1 : ∀ a, (![0, oq] : Fin 2 → ℕ) a + S64x256.size a ≤ S64x1024.size a)
    (i2 : ∀ a, (![oh, 0, 0, 0] : Fin 4 → ℕ) a + S1x1x512x256.size a ≤ S4x1x512x256.size a)
    (i3 : ∀ a, (![0, ov] : Fin 2 → ℕ) a + S64x512.size a ≤ S64x2048.size a)
    (i4 : ∀ a, (![oh, 0, 0] : Fin 3 → ℕ) a + S1x512x256.size a ≤ S4x512x256.size a)
    (i5 : ∀ a, (![0, oq] : Fin 2 → ℕ) a + S1x256.size a ≤ S1x1024.size a) : FVec Ideal S512x256 .f32 :=
  cot (View.ld (X0_0 m c t) (Rect.unit ![0, oq] ![64, 256] i1))
      (View.ld (iblk m c 8 t) (Rect.unit ![oh, 0, 0, 0] ![1, 1, 512, 256] i2)) (View.ld (X0_3 m c t) (Rect.unit ![0, ov] ![64, 512] i3))
      (View.ld (iblk m c 10 t) (Rect.unit ![0, ov] ![64, 512] i3)) (iblk m c 7 t)
      (View.ld P (Rect.unit ![oh, 0, 0] ![1, 512, 256] i4)) (View.ld E (Rect.unit ![0, oq] ![1, 256] i5))
/-- The cotangent of the gate's logits at grid point `t`. -/
def dlogit (t : Fin cfg0.N) (P : Vec Ideal S4x512x256 .f32) (E : Vec Ideal S1x1024 .f32) : FVec Ideal S64x1024 .f32 :=
  k0_pay97 (k0_pay7 (iblk m c 4 t) (iblk m c 5 t) (iblk m c 6 t)) (k0_pay11 (iblk m c 4 t) (iblk m c 5 t) (iblk m c 6 t) (X0_1 m c t))
    (k0_pay93 (k0_pay33 (dstate m c t P E 0 0 0 inb_S64x1024_S64x256_0_0 inb_S4x1x512x256_S1x1x512x256_0_0_0_0 inb_S64x2048_S64x512_0_0 inb_S4x512x256_S1x512x256_0_0_0 inb_S1x1024_S1x256_0_0) (View.ld (X0_2 m c t) (Rect.unit ![0, 0] ![64, 512] inb_S64x2048_S64x512_0_0)))
      (k0_pay33 (dstate m c t P E 256 512 1 inb_S64x1024_S64x256_0_256 inb_S4x1x512x256_S1x1x512x256_1_0_0_0 inb_S64x2048_S64x512_0_512 inb_S4x512x256_S1x512x256_1_0_0 inb_S1x1024_S1x256_0_256) (View.ld (X0_2 m c t) (Rect.unit ![0, 512] ![64, 512] inb_S64x2048_S64x512_0_512)))
      (k0_pay33 (dstate m c t P E 512 1024 2 inb_S64x1024_S64x256_0_512 inb_S4x1x512x256_S1x1x512x256_2_0_0_0 inb_S64x2048_S64x512_0_1024 inb_S4x512x256_S1x512x256_2_0_0 inb_S1x1024_S1x256_0_512) (View.ld (X0_2 m c t) (Rect.unit ![0, 1024] ![64, 512] inb_S64x2048_S64x512_0_1024)))
      (dstate m c t P E 768 1536 3 inb_S64x1024_S64x256_0_768 inb_S4x1x512x256_S1x1x512x256_3_0_0_0 inb_S64x2048_S64x512_0_1536 inb_S4x512x256_S1x512x256_3_0_0 inb_S1x1024_S1x256_0_768) (View.ld (X0_2 m c t) (Rect.unit ![0, 1536] ![64, 512] inb_S64x2048_S64x512_0_1536)))
    (k0_pay95 (k0_pay12 (iblk m c 4 t) (iblk m c 5 t) (iblk m c 6 t)) (alive t)
      (k0_pay35 (alive t) (dstate m c t P E 0 0 0 inb_S64x1024_S64x256_0_0 inb_S4x1x512x256_S1x1x512x256_0_0_0_0 inb_S64x2048_S64x512_0_0 inb_S4x512x256_S1x512x256_0_0_0 inb_S1x1024_S1x256_0_0) (View.ld (iblk m c 9 t) (Rect.unit ![0, 0, 0, 0] ![1, 1, 512, 256] inb_S4x1x512x256_S1x1x512x256_0_0_0_0)))
      (k0_pay35 (alive t) (dstate m c t P E 256 512 1 inb_S64x1024_S64x256_0_256 inb_S4x1x512x256_S1x1x512x256_1_0_0_0 inb_S64x2048_S64x512_0_512 inb_S4x512x256_S1x512x256_1_0_0 inb_S1x1024_S1x256_0_256) (View.ld (iblk m c 9 t) (Rect.unit ![1, 0, 0, 0] ![1, 1, 512, 256] inb_S4x1x512x256_S1x1x512x256_1_0_0_0)))
      (k0_pay35 (alive t) (dstate m c t P E 512 1024 2 inb_S64x1024_S64x256_0_512 inb_S4x1x512x256_S1x1x512x256_2_0_0_0 inb_S64x2048_S64x512_0_1024 inb_S4x512x256_S1x512x256_2_0_0 inb_S1x1024_S1x256_0_512) (View.ld (iblk m c 9 t) (Rect.unit ![2, 0, 0, 0] ![1, 1, 512, 256] inb_S4x1x512x256_S1x1x512x256_2_0_0_0)))
      (dstate m c t P E 768 1536 3 inb_S64x1024_S64x256_0_768 inb_S4x1x512x256_S1x1x512x256_3_0_0_0 inb_S64x2048_S64x512_0_1536 inb_S4x512x256_S1x512x256_3_0_0 inb_S1x1024_S1x256_0_768) (View.ld (iblk m c 9 t) (Rect.unit ![3, 0, 0, 0] ![1, 1, 512, 256] inb_S4x1x512x256_S1x1x512x256_3_0_0_0)))
    k0_pay96 (FloatOps.ofBits .f32 1065353216#32) (FloatOps.ofBits .f32 0#32)
end Logit
variable {t : Fin cfg0.N} {P : Vec Ideal S4x512x256 .f32} {E : Vec Ideal S1x1024 .f32} (hP : Prev m c t P E)
include hP
theorem dstate_at (h : Fin 4) {oq ov oh : ℕ} (eq : oq = h.val * 256) (ev : ov = h.val * 512) (eh : oh = h.val) (i1 i2 i3 i4 i5) (v : Fin 512) (k : Fin 256) :
    dstate m c t P E oq ov oh i1 i2 i3 i4 i5 (ix2 v k) = cots (a0 m c) (a1 m c) (a2 m c) (a3 m c) (a4 m c) (ch t) (ix4 0 h k v) :=
  cot_at (head m c t h eq ev eh i1 i2 i3) R _ _ (Prev.ld hP h eh eq i4 i5) v k
theorem dlogit_row (s : Fin 64) (k : Fin 1024) : dlogit m c t P E (ix2 s k) =
    val_main_v377 (F := Ideal) (a0 m c) (a1 m c) (a2 m c) (a3 m c) (a4 m c) (ix2 (row (ch t) s) k) :=
  dlogit_at (gate m c t) R (head m c t 0 rfl rfl rfl inb_S64x1024_S64x256_0_0 inb_S4x1x512x256_S1x1x512x256_0_0_0_0 inb_S64x2048_S64x512_0_0)
    (head m c t 1 rfl rfl rfl inb_S64x1024_S64x256_0_256 inb_S4x1x512x256_S1x1x512x256_1_0_0_0 inb_S64x2048_S64x512_0_512)
    (head m c t 2 rfl rfl rfl inb_S64x1024_S64x256_0_512 inb_S4x1x512x256_S1x1x512x256_2_0_0_0 inb_S64x2048_S64x512_0_1024)
    (head m c t 3 rfl rfl rfl inb_S64x1024_S64x256_0_768 inb_S4x1x512x256_S1x1x512x256_3_0_0_0 inb_S64x2048_S64x512_0_1536) _ _ _ _
    (dstate_at R hP 0 rfl rfl rfl _ _ _ _ _) (dstate_at R hP 1 rfl rfl rfl _ _ _ _ _)
    (dstate_at R hP 2 rfl rfl rfl _ _ _ _ _) (dstate_at R hP 3 rfl rfl rfl _ _ _ _ _) (alive t) (prior t 0 (prior_at t 0 rfl _))
    (prior t 1 (prior_at t 1 rfl _)) (prior t 2 (prior_at t 2 rfl _)) (prior t 3 (prior_at t 3 rfl _)) s k
end Cert.Proof.Gla
-- ==== Proof.GlaRun.lean ====
module
public import proofs.«01_k».proof.Proof.GlaState
@[expose] public section
set_option maxRecDepth 16384
noncomputable section
namespace Cert.Proof.Gla
open Cert.GlaIdeal Cert.GlaIdeal.Gen Idealize.ShloMosaic Idealize.ShloMosaic.TcCoe Idealize.SL.Sem
open Cert.GlaRefIdeal.Read Cert.Proof.Finite
variable {m : (ℓ : Loc nD τ sig) → Buf (Elt Ideal) ℓ} {c : Dev nD} (R : Reals (a0 m c) (a1 m c) (a2 m c) (a3 m c) (a4 m c))
include R

set_option maxHeartbeats 1600000 in
theorem dp_at (t : Fin cfg0.N) (y : S64x6272.Idx) : (outsAt0 m c t.val t.isLt).1 y =
    val_main_v386 (F := Ideal) (a0 m c) (a1 m c) (a2 m c) (a3 m c) (a4 m c) (ix2 (row (ch t) (y 0)) (y 1)) := by
  have al : k0_pay14 (BitVec.ofNat 32 (grid0.coords t 0).val) = alive t := rfl
  by_cases h0 : t.val % 32 = 0
  case' pos =>
    have hP := prev_A (m := m) (c := c) t h0
    rw [outsAt0_A m c t h0]
    frame_open
    simp (disch := decide) only [↓ View.readCov_skip, ↓ View.readCov_cons_toLoadRect, ↓ View.readCov_fill]
    frame_out
  case' neg =>
    have hP := prev_B R t h0 (carry_at R _ _)
    rw [outsAt0_B m c t h0]
    frame_out
    simp only [read_unread_whole]
  all_goals
    have H0 := head m c t 0 rfl rfl rfl inb_S64x1024_S64x256_0_0 inb_S4x1x512x256_S1x1x512x256_0_0_0_0 inb_S64x2048_S64x512_0_0
    have H1 := head m c t 1 rfl rfl rfl inb_S64x1024_S64x256_0_256 inb_S4x1x512x256_S1x1x512x256_1_0_0_0 inb_S64x2048_S64x512_0_512
    have H2 := head m c t 2 rfl rfl rfl inb_S64x1024_S64x256_0_512 inb_S4x1x512x256_S1x1x512x256_2_0_0_0 inb_S64x2048_S64x512_0_1024
    have H3 := head m c t 3 rfl rfl rfl inb_S64x1024_S64x256_0_768 inb_S4x1x512x256_S1x1x512x256_3_0_0_0 inb_S64x2048_S64x512_0_1536
    have D0 := dstate_at R hP 0 rfl rfl rfl inb_S64x1024_S64x256_0_0 inb_S4x1x512x256_S1x1x512x256_0_0_0_0 inb_S64x2048_S64x512_0_0 inb_S4x512x256_S1x512x256_0_0_0 inb_S1x1024_S1x256_0_0
    have D1 := dstate_at R hP 1 rfl rfl rfl inb_S64x1024_S64x256_0_256 inb_S4x1x512x256_S1x1x512x256_1_0_0_0 inb_S64x2048_S64x512_0_512 inb_S4x512x256_S1x512x256_1_0_0 inb_S1x1024_S1x256_0_256
    have D2 := dstate_at R hP 2 rfl rfl rfl inb_S64x1024_S64x256_0_512 inb_S4x1x512x256_S1x1x512x256_2_0_0_0 inb_S64x2048_S64x512_0_1024 inb_S4x512x256_S1x512x256_2_0_0 inb_S1x1024_S1x256_0_512
    have D3 := dstate_at R hP 3 rfl rfl rfl inb_S64x1024_S64x256_0_768 inb_S4x1x512x256_S1x1x512x256_3_0_0_0 inb_S64x2048_S64x512_0_1536 inb_S4x512x256_S1x512x256_3_0_0 inb_S1x1024_S1x256_0_768
    simp only [form31, form27, form30, form51, form53, form48, form45, form68, form70, form72, form67, form62, form88, form87, form84, al]
    canon_tiles x e using View.cover_of_tiledBy _ ![64, 128] (by sl_kernel_rfl) y
    · exact dlow_out (gate m c t) _ (dlogit_row R hP) x y e0 e1
    · exact dkey_out (gate m c t) R H0 H1 H2 H3 _ _ _ _ D0 D1 D2 D3 x y e0 e1
    · exact dvalue_out (h := 3) _ (dv3_at _ _ (kd_at (gate m c t)) D3) x y rfl e0 e1
    · exact dquery_out H3 R x y rfl e0 e1
    · exact dgate_out H3 R x y rfl e0 e1
    · exact dvalue_out (h := 2) _ (dv2_at _ (kd_at (gate m c t)) _ _ D2) x y rfl e0 e1
    · exact dquery_out H2 R x y rfl e0 e1
    · exact dgate_out H2 R x y rfl e0 e1
    · exact dvalue_out (h := 1) _ (dv1_at _ (kd_at (gate m c t)) _ _ D1) x y rfl e0 e1
    · exact dquery_out H1 R x y rfl e0 e1
    · exact dgate_out H1 R x y rfl e0 e1
    · exact dvalue_out (h := 0) _ (dv0_at _ _ (kd_at (gate m c t)) D0) x y rfl e0 e1
    · exact dquery_out H0 R x y rfl e0 (e1.trans (zero_add _).symm)
    · exact dgate_out H0 R x y rfl e0 e1

omit R in
theorem sum_points (t : Fin cfg0.N) (hf : t.val % 32 = 31) (f : Fin 32 → EReal) :
    ∑ s : Fin 32, f (ch ⟨32 * (t.val / 32) + s.val, Pipeline.run_point_lt_of_flush t hf s⟩) = ∑ k : Fin 32, f k := by
  have ht := (idx t).2.2.2.2.2.2.2.2.2.2.2.2.2.2.2
  rw [← Equiv.sum_comp Fin.revPerm f]
  refine Finset.sum_congr rfl fun s _ => congrArg f (Fin.ext ?_)
  show 31 - (32 * (t.val / 32) + s.val) = 32 - (s.val + 1)
  omega

omit R in
theorem don_zero (y : S1x512.Idx) : k0_pay4 (F := Ideal) y = 0 := by
  pointwise [k0_pay4]
omit R in
theorem dbg_zero (y : S1x1024.Idx) : k0_pay5 (F := Ideal) y = 0 := by
  pointwise [k0_pay5]
omit R in
theorem dwgu_zero (y : S128x1024.Idx) : k0_pay6 (F := Ideal) y = 0 := by
  pointwise [k0_pay6]

set_option maxHeartbeats 1600000 in
omit R in
theorem don_sum (t : Fin cfg0.N) (hf : t.val % 32 = 31) (v : Fin 512) : (outsAt0 m c t.val t.isLt).2.1 (ix2 0 v) =
    val_main_v387 (F := Ideal) (a0 m c) (a1 m c) (a2 m c) (a4 m c) (ix2 0 v) := by
  rw [v387_at, ← sum_points t hf, Pipeline.eq_sum_fin_of_reset_step_apply_of_flush (fun n h v => (outsAt0 m c n h).2.1 (ix2 0 v)) 32 (fun _ => 0)
    (fun t v => ∑ h : Fin 4, ∑ s : Fin 64, val_main_v178 (F := Ideal) (a0 m c) (a1 m c) (a2 m c) (ix4 (ch t) h s v) *
      val_main_v190 (F := Ideal) (a0 m c) (a4 m c) (ix4 (ch t) h s v)) ?_ ?_ t hf v, zero_add]
  · intro t h v
    rw [outsAt0_A m c t h]
    frame_out
    simp only [form46, form63, form85]
    refine (don_at (head m c t 0 rfl rfl rfl _ _ _) (head m c t 1 rfl rfl rfl _ _ _) (head m c t 2 rfl rfl rfl _ _ _) (head m c t 3 rfl rfl rfl _ _ _) _ v).trans ?_
    rw [don_zero]
  · intro t h v
    rw [outsAt0_B m c t h]
    frame_out
    simp only [form46, form63, form85]
    exact don_at (head m c t 0 rfl rfl rfl _ _ _) (head m c t 1 rfl rfl rfl _ _ _) (head m c t 2 rfl rfl rfl _ _ _) (head m c t 3 rfl rfl rfl _ _ _) _ v

set_option maxHeartbeats 1600000 in
theorem dbg_sum (t : Fin cfg0.N) (hf : t.val % 32 = 31) (k : Fin 1024) : (outsAt0 m c t.val t.isLt).2.2.1 (ix2 0 k) =
    val_main_v388 (F := Ideal) (a0 m c) (a1 m c) (a2 m c) (a3 m c) (a4 m c) (ix2 0 k) := by
  have al : ∀ t, k0_pay14 (BitVec.ofNat 32 (grid0.coords t 0).val) = alive t := fun _ => rfl
  rw [v388_at, Fin.sum_univ_tiles 32 64 rfl]
  refine Eq.trans ?_ (sum_points t hf fun c' => ∑ s : Fin 64, val_main_v377 (F := Ideal) (a0 m c) (a1 m c) (a2 m c) (a3 m c) (a4 m c) (ix2 (row c' s) k))
  rw [Pipeline.eq_sum_fin_of_reset_step_apply_of_flush (fun n h k => (outsAt0 m c n h).2.2.1 (ix2 0 k)) 32 (fun _ => 0)
    (fun t k => ∑ s : Fin 64, val_main_v377 (F := Ideal) (a0 m c) (a1 m c) (a2 m c) (a3 m c) (a4 m c) (ix2 (row (ch t) s) k)) ?_ ?_ t hf k, zero_add]
  · intro t h v
    have hP := prev_A (m := m) (c := c) t h
    rw [outsAt0_A m c t h]
    frame_open
    simp (disch := decide) only [↓ View.readCov_skip, ↓ View.readCov_cons_toLoadRect, ↓ View.readCov_fill]
    frame_out
    simp only [form31, form51, form53, form68, form70, form72, form88, al]
    refine (dbias_at _ _ _ _ _ _ _ (dlogit_row R hP) _ v).trans ?_
    rw [dbg_zero]
  · intro t h v
    have hP := prev_B R t h (carry_at R _ _)
    rw [outsAt0_B m c t h]
    frame_out
    simp only [read_unread_whole]
    simp only [form31, form51, form53, form68, form70, form72, form88, al]
    exact dbias_at _ _ _ _ _ _ _ (dlogit_row R hP) _ v

set_option maxHeartbeats 1600000 in
theorem dwgu_sum (t : Fin cfg0.N) (hf : t.val % 32 = 31) (i : Fin 128) (k : Fin 1024) : (outsAt0 m c t.val t.isLt).2.2.2.1 (ix2 i k) =
    val_main_v389 (F := Ideal) (a0 m c) (a1 m c) (a2 m c) (a3 m c) (a4 m c) (ix2 i k) := by
  have al : ∀ t, k0_pay14 (BitVec.ofNat 32 (grid0.coords t 0).val) = alive t := fun _ => rfl
  have key : (outsAt0 m c t.val t.isLt).2.2.2.1 (ix2 i k) = ∑ c' : Fin 32, if h : i.val < 16 then
      ∑ s : Fin 64, val_main_v377 (F := Ideal) (a0 m c) (a1 m c) (a2 m c) (a3 m c) (a4 m c) (ix2 (row c' s) k) *
        a0 m c (ix2 (row c' s) ⟨6144 + i.val, by omega⟩) else 0 := by
    refine Eq.trans ?_ (sum_points t hf fun c' => if h : i.val < 16 then
      ∑ s : Fin 64, val_main_v377 (F := Ideal) (a0 m c) (a1 m c) (a2 m c) (a3 m c) (a4 m c) (ix2 (row c' s) k) *
        a0 m c (ix2 (row c' s) ⟨6144 + i.val, by omega⟩) else 0)
    rw [Pipeline.eq_sum_fin_of_reset_step_apply_of_flush (fun n h (_ : Unit) => (outsAt0 m c n h).2.2.2.1 (ix2 i k)) 32 (fun _ => 0)
      (fun t _ => if h : i.val < 16 then
        ∑ s : Fin 64, val_main_v377 (F := Ideal) (a0 m c) (a1 m c) (a2 m c) (a3 m c) (a4 m c) (ix2 (row (ch t) s) k) *
          a0 m c (ix2 (row (ch t) s) ⟨6144 + i.val, by omega⟩) else 0) ?_ ?_ t hf (), zero_add]
    · intro t h _
      have hP := prev_A (m := m) (c := c) t h
      rw [outsAt0_A m c t h]
      frame_open
      simp (disch := decide) only [↓ View.readCov_skip, ↓ View.readCov_cons_toLoadRect, ↓ View.readCov_fill]
      frame_out
      simp only [form31, form51, form53, form68, form70, form72, form88, al]
      refine (dweight_at (gate m c t) _ _ _ _ _ _ _ (dlogit_row R hP) _ i k).trans ?_
      rw [dwgu_zero]
    · intro t h _
      have hP := prev_B R t h (carry_at R _ _)
      rw [outsAt0_B m c t h]
      frame_out
      simp only [read_unread_whole]
      simp only [form31, form51, form53, form68, form70, form72, form88, al]
      exact dweight_at (gate m c t) _ _ _ _ _ _ _ (dlogit_row R hP) _ i k
  rw [v389_at, key]
  by_cases h : i.val < 16
  · simp only [dif_pos h]
    rw [Fin.sum_univ_tiles 32 64 rfl]
    rfl
  · simp only [dif_neg h]
    exact Finset.sum_const_zero
end Cert.Proof.Gla
end
-- ==== Proof.Gla.lean ====
module
public import proofs.«01_k».proof.Proof.GlaRun
public import proofs.«01_k».proof.Defs
@[expose] public section
set_option maxRecDepth 16384
noncomputable section
namespace Cert.Proof.Gla
open Cert.GlaIdeal Cert.GlaIdeal.Gen Idealize.ShloMosaic Idealize.ShloMosaic.TcCoe Idealize.SL.Sem
open Cert.GlaRefIdeal.Read Cert.Proof.Finite
variable {m : (ℓ : Loc nD τ sig) → Buf (Elt Ideal) ℓ} {c : Dev nD} (R : Reals (a0 m c) (a1 m c) (a2 m c) (a3 m c) (a4 m c))
include R

theorem final_dp : (dats m 0 c).arrAt 11 cfg0.N = val_main_v386 (F := Ideal) (a0 m c) (a1 m c) (a2 m c) (a3 m c) (a4 m c) := by
  refine (dats m 0 c).arrAt_eq_of_covers 11 _ (by decide +kernel) fun t _ y => ?_
  blk_simp
  rw [after0_11, dp_at R]
  refine congrArg (val_main_v386 (F := Ideal) (a0 m c) (a1 m c) (a2 m c) (a3 m c) (a4 m c)) ?_
  blk_ext [idx t, row, ch]

omit R in
theorem final_don : (dats m 0 c).arrAt 12 cfg0.N = val_main_v387 (F := Ideal) (a0 m c) (a1 m c) (a2 m c) (a4 m c) := by
  refine (dats m 0 c).arrAt_eq_of_covers 12 _ (by decide +kernel) fun t hf y => ?_
  obtain ⟨z, k, rfl⟩ : ∃ (z : Fin 1) (k : Fin 512), y = ix2 z k := ⟨y 0, y 1, eq_ix2 y⟩
  obtain rfl : z = 0 := Subsingleton.elim _ _
  blk_simp
  rw [after0_12]
  refine (don_sum t ((flush0_12 t).mp hf) k).trans (congrArg (val_main_v387 (F := Ideal) (a0 m c) (a1 m c) (a2 m c) (a4 m c)) ?_)
  blk_ext [idx t]

theorem final_dbg : (dats m 0 c).arrAt 13 cfg0.N = val_main_v388 (F := Ideal) (a0 m c) (a1 m c) (a2 m c) (a3 m c) (a4 m c) := by
  refine (dats m 0 c).arrAt_eq_of_covers 13 _ (by decide +kernel) fun t hf y => ?_
  obtain ⟨z, k, rfl⟩ : ∃ (z : Fin 1) (k : Fin 1024), y = ix2 z k := ⟨y 0, y 1, eq_ix2 y⟩
  obtain rfl : z = 0 := Subsingleton.elim _ _
  blk_simp
  rw [after0_13]
  refine (dbg_sum R t ((flush0_13 t).mp hf) k).trans (congrArg (val_main_v388 (F := Ideal) (a0 m c) (a1 m c) (a2 m c) (a3 m c) (a4 m c)) ?_)
  blk_ext [idx t]

theorem final_dwgu : (dats m 0 c).arrAt 14 cfg0.N = val_main_v389 (F := Ideal) (a0 m c) (a1 m c) (a2 m c) (a3 m c) (a4 m c) := by
  refine (dats m 0 c).arrAt_eq_of_covers 14 _ (by decide +kernel) fun t hf y => ?_
  obtain ⟨i, k, rfl⟩ : ∃ (i : Fin 128) (k : Fin 1024), y = ix2 i k := ⟨y 0, y 1, eq_ix2 y⟩
  blk_simp
  rw [after0_14]
  refine (dwgu_sum R t ((flush0_14 t).mp hf) i k).trans (congrArg (val_main_v389 (F := Ideal) (a0 m c) (a1 m c) (a2 m c) (a3 m c) (a4 m c)) ?_)
  blk_ext [idx t]

omit R in
theorem reals_of [Cert.Pre_finite_gla.Facts] (hpre : Cert.Pre_GlaIdeal_finite_gla m) (c : Dev nD) :
    Reals (a0 m c) (a1 m c) (a2 m c) (a3 m c) (a4 m c) := by
  obtain ⟨b0, e0⟩ := of_lt_top _ _ (fun _ => inf_word) (hpre c).1
  obtain ⟨b1, e1⟩ := of_lt_top _ _ (fun _ => inf_word) (hpre c).2.1
  obtain ⟨b2, e2⟩ := of_lt_top _ _ (fun _ => inf_word) (hpre c).2.2.1
  obtain ⟨b3, e3⟩ := of_lt_top _ _ (fun _ => inf_word) (hpre c).2.2.2.1
  obtain ⟨b4, e4⟩ := of_lt_top _ _ (fun _ => inf_word) (hpre c).2.2.2.2
  exact ⟨fun i => ⟨b0 i, congrFun e0 i⟩, fun i => ⟨b1 i, congrFun e1 i⟩, fun i => ⟨b2 i, congrFun e2 i⟩, fun i => ⟨b3 i, congrFun e3 i⟩,
    fun i => ⟨b4 i, congrFun e4 i⟩⟩

instance : Cert.Pre_finite_gla.Facts where
  bcast_S_S2048x6160 := by decide
  bcast_S_S16x1024 := by decide
  bcast_S_S1024 := by decide
  bcast_S_S512 := by decide
  bcast_S_S2048x2048 := by decide

omit R in
/-- The kernel's run: the four gradients are the reference's, and the arguments end unchanged. -/
theorem kernel_run [Cert.Pre_finite_gla.Facts] (hpre : Cert.Pre_GlaIdeal_finite_gla m) (g : Dev nD → PrngReg) :
    θ_run (defs (F := Ideal)) (onTc (τ := τ) (main (F := Ideal))) ⟨m, fun _ => 0, g⟩ fun r => ∀ c : Dev nD,
      (r.2.mem ((c.tc : Thread nD τ).loc main_v165_0) = val_main_v386 (F := Ideal) (a0 m c) (a1 m c) (a2 m c) (a3 m c) (a4 m c)
      ∧ r.2.mem ((c.tc : Thread nD τ).loc main_v165_1) = val_main_v387 (F := Ideal) (a0 m c) (a1 m c) (a2 m c) (a4 m c)
      ∧ r.2.mem ((c.tc : Thread nD τ).loc main_v165_2) = val_main_v388 (F := Ideal) (a0 m c) (a1 m c) (a2 m c) (a3 m c) (a4 m c)
      ∧ r.2.mem ((c.tc : Thread nD τ).loc main_v165_3) = val_main_v389 (F := Ideal) (a0 m c) (a1 m c) (a2 m c) (a3 m c) (a4 m c))
      ∧ r.2.mem ((c.tc : Thread nD τ).loc main_arg0) = a0 m c ∧ r.2.mem ((c.tc : Thread nD τ).loc main_arg1) = a1 m c
      ∧ r.2.mem ((c.tc : Thread nD τ).loc main_arg2) = a2 m c ∧ r.2.mem ((c.tc : Thread nD τ).loc main_arg3) = a3 m c
      ∧ r.2.mem ((c.tc : Thread nD τ).loc main_arg4) = a4 m c :=
  (θ_run defs _ _).mono (fun _ h c => ⟨⟨((h.2 c).1 11).trans (final_dp (reals_of hpre c)), ((h.2 c).1 12).trans final_don,
    ((h.2 c).1 13).trans (final_dbg (reals_of hpre c)), ((h.2 c).1 14).trans (final_dwgu (reals_of hpre c))⟩, h.1 c⟩)
    (θ_run_and (unchanged m g) (run_main m g))

omit R in
/-- The reference's run, its results read stage by stage. -/
theorem ref_run (m' : (ℓ : Loc GlaRefIdeal.nD GlaRefIdeal.τ GlaRefIdeal.sig) → Buf (Elt Ideal) ℓ) (g' : Dev GlaRefIdeal.nD → PrngReg) :
    θ_run (GlaRefIdeal.defs (F := Ideal)) (onTc (τ := GlaRefIdeal.τ) (GlaRefIdeal.main (F := Ideal))) ⟨m', fun _ => 0, g'⟩ fun r => ∀ c : Dev GlaRefIdeal.nD,
      r.2.mem ((c.tc : Thread GlaRefIdeal.nD GlaRefIdeal.τ).loc GlaRefIdeal.main_v386) = val_main_v386 (F := Ideal) (m' ((c.tc : Thread GlaRefIdeal.nD GlaRefIdeal.τ).loc GlaRefIdeal.main_arg0)) (m' ((c.tc : Thread GlaRefIdeal.nD GlaRefIdeal.τ).loc GlaRefIdeal.main_arg1)) (m' ((c.tc : Thread GlaRefIdeal.nD GlaRefIdeal.τ).loc GlaRefIdeal.main_arg2)) (m' ((c.tc : Thread GlaRefIdeal.nD GlaRefIdeal.τ).loc GlaRefIdeal.main_arg3)) (m' ((c.tc : Thread GlaRefIdeal.nD GlaRefIdeal.τ).loc GlaRefIdeal.main_arg4))
      ∧ r.2.mem ((c.tc : Thread GlaRefIdeal.nD GlaRefIdeal.τ).loc GlaRefIdeal.main_v387) = val_main_v387 (F := Ideal) (m' ((c.tc : Thread GlaRefIdeal.nD GlaRefIdeal.τ).loc GlaRefIdeal.main_arg0)) (m' ((c.tc : Thread GlaRefIdeal.nD GlaRefIdeal.τ).loc GlaRefIdeal.main_arg1)) (m' ((c.tc : Thread GlaRefIdeal.nD GlaRefIdeal.τ).loc GlaRefIdeal.main_arg2)) (m' ((c.tc : Thread GlaRefIdeal.nD GlaRefIdeal.τ).loc GlaRefIdeal.main_arg4))
      ∧ r.2.mem ((c.tc : Thread GlaRefIdeal.nD GlaRefIdeal.τ).loc GlaRefIdeal.main_v388) = val_main_v388 (F := Ideal) (m' ((c.tc : Thread GlaRefIdeal.nD GlaRefIdeal.τ).loc GlaRefIdeal.main_arg0)) (m' ((c.tc : Thread GlaRefIdeal.nD GlaRefIdeal.τ).loc GlaRefIdeal.main_arg1)) (m' ((c.tc : Thread GlaRefIdeal.nD GlaRefIdeal.τ).loc GlaRefIdeal.main_arg2)) (m' ((c.tc : Thread GlaRefIdeal.nD GlaRefIdeal.τ).loc GlaRefIdeal.main_arg3)) (m' ((c.tc : Thread GlaRefIdeal.nD GlaRefIdeal.τ).loc GlaRefIdeal.main_arg4))
      ∧ r.2.mem ((c.tc : Thread GlaRefIdeal.nD GlaRefIdeal.τ).loc GlaRefIdeal.main_v389) = val_main_v389 (F := Ideal) (m' ((c.tc : Thread GlaRefIdeal.nD GlaRefIdeal.τ).loc GlaRefIdeal.main_arg0)) (m' ((c.tc : Thread GlaRefIdeal.nD GlaRefIdeal.τ).loc GlaRefIdeal.main_arg1)) (m' ((c.tc : Thread GlaRefIdeal.nD GlaRefIdeal.τ).loc GlaRefIdeal.main_arg2)) (m' ((c.tc : Thread GlaRefIdeal.nD GlaRefIdeal.τ).loc GlaRefIdeal.main_arg3)) (m' ((c.tc : Thread GlaRefIdeal.nD GlaRefIdeal.τ).loc GlaRefIdeal.main_arg4))
      ∧ r.2.mem ((c.tc : Thread GlaRefIdeal.nD GlaRefIdeal.τ).loc GlaRefIdeal.main_arg0) = m' ((c.tc : Thread GlaRefIdeal.nD GlaRefIdeal.τ).loc GlaRefIdeal.main_arg0)
      ∧ r.2.mem ((c.tc : Thread GlaRefIdeal.nD GlaRefIdeal.τ).loc GlaRefIdeal.main_arg1) = m' ((c.tc : Thread GlaRefIdeal.nD GlaRefIdeal.τ).loc GlaRefIdeal.main_arg1)
      ∧ r.2.mem ((c.tc : Thread GlaRefIdeal.nD GlaRefIdeal.τ).loc GlaRefIdeal.main_arg2) = m' ((c.tc : Thread GlaRefIdeal.nD GlaRefIdeal.τ).loc GlaRefIdeal.main_arg2)
      ∧ r.2.mem ((c.tc : Thread GlaRefIdeal.nD GlaRefIdeal.τ).loc GlaRefIdeal.main_arg3) = m' ((c.tc : Thread GlaRefIdeal.nD GlaRefIdeal.τ).loc GlaRefIdeal.main_arg3)
      ∧ r.2.mem ((c.tc : Thread GlaRefIdeal.nD GlaRefIdeal.τ).loc GlaRefIdeal.main_arg4) = m' ((c.tc : Thread GlaRefIdeal.nD GlaRefIdeal.τ).loc GlaRefIdeal.main_arg4) :=
  (θ_run GlaRefIdeal.defs _ _).mono (fun _ h c => by
    obtain ⟨h0, h1, h2, h3, h4⟩ := h c
    exact ⟨h0.trans (val_main_v386_eq _), h1.trans (val_main_v387_eq _), h2.trans (val_main_v388_eq _), h3.trans (val_main_v389_eq _), h4⟩)
    (GlaRefIdeal.Value.run m' g')

omit R in
theorem algebraic : Cert.algebraic_GlaIdeal_GlaRefIdeal_pre_finite_gla := by
  intro m g m' g' hpre hagree
  refine ⟨fun c => val_main_v386 (F := Ideal) (a0 m c) (a1 m c) (a2 m c) (a3 m c) (a4 m c), fun c => val_main_v387 (F := Ideal) (a0 m c) (a1 m c) (a2 m c) (a4 m c),
    fun c => val_main_v388 (F := Ideal) (a0 m c) (a1 m c) (a2 m c) (a3 m c) (a4 m c), fun c => val_main_v389 (F := Ideal) (a0 m c) (a1 m c) (a2 m c) (a3 m c) (a4 m c),
    (θ_run _ _ _).mono (fun r h c => ?_) (kernel_run hpre g), (θ_run _ _ _).mono (fun r h c => ?_) (ref_run m' g')⟩
  · obtain ⟨⟨h0, h1, h2, h3⟩, h4⟩ := h c
    exact ⟨h0, h1, h2, h3, h4⟩
  · obtain ⟨h0, h1, h2, h3, h4⟩ := h c
    obtain ⟨e0, e1, e2, e3, e4⟩ := hagree c
    rw [e0, e1, e2, e3, e4] at h0 h2 h3
    rw [e0, e1, e2, e4] at h1
    exact ⟨h0, h1, h2, h3, h4⟩
end Cert.Proof.Gla
end
-- ==== Proof.Act.lean ====
module
public import proofs.«01_k».proof.Defs
public import proofs.«01_k».proof.Proof.Gen.ActIdeal.Frame
public import proofs.«01_k».proof.Proof.Gen.ActRefIdeal.Read
public import Idealize.ShloMosaic.Lib.Pipeline.ValueKit
public import Idealize.ShloMosaic.Lib.Claim
@[expose] public section
set_option maxRecDepth 16384
noncomputable section
namespace Cert.Proof.Act
open Cert Cert.ActIdeal Cert.ActIdeal.Gen Idealize.ShloMosaic Idealize.ShloMosaic.TcCoe Idealize.SL.Sem
open Cert.ActRefIdeal.Read
variable (m : (ℓ : Loc nD τ sig) → Buf (Elt Ideal) ℓ)

/-- One device's arguments. -/
abbrev a0 (c : Dev nD) : Vec Ideal S2048x1024 .f32 := m ((c : Thread nD τ).loc main_arg0)
abbrev a1 (c : Dev nD) : Vec Ideal S2048x1024 .f32 := m ((c : Thread nD τ).loc main_arg1)
abbrev a2 (c : Dev nD) : Vec Ideal S2048x1024 .f32 := m ((c : Thread nD τ).loc main_arg2)
abbrev a3 (c : Dev nD) : Vec Ideal S1024 .f32 := m ((c : Thread nD τ).loc main_arg3)

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![0, 0] ∧ t.val < 8 :=
  (by decide +kernel : ∀ t : Fin grid0.N, _)

/-- One entry of the gradient of GELU: both programs compute it by the same formula. -/
theorem gelu (x0 x1 : Vec Ideal S256x1024 .f32) (z0 z1 z2 : Vec Ideal S2048x1024 .f32) (z3 : Vec Ideal S1024 .f32)
    (y : S256x1024.Idx) (j : S2048x1024.Idx) (h0 : x0 y = z0 j) (h1 : x1 y = val_main_v3 (F := Ideal) z1 z2 z3 j) :
    k0_pay3 x0 x1 y = val_main_v36 (F := Ideal) z0 z1 z2 z3 j := by
  pointwise [k0_pay3, val_main_v4, val_main_v5, val_main_v6, val_main_cst, val_main_v7, val_main_v8, val_main_cst_0, val_main_v9, val_main_v10, val_main_v11, val_main_cst_1, val_main_v12, val_main_v13, val_main_v14, val_main_cst_2, val_main_v15, val_main_v16, val_main_cst_3, val_main_v17, val_main_v18, val_main_v19, val_main_cst_4, val_main_v20, val_main_v21, val_main_cst_5, val_main_v22, val_main_v23, val_main_v24, val_main_v25, val_main_v26, val_main_cst_6, val_main_v27, val_main_v28, val_main_v29, val_main_cst_7, val_main_v30, val_main_v31, val_main_v32, val_main_cst_8, val_main_v33, val_main_v34, val_main_v35, val_main_v36]
  rw [h0, h1, mul_assoc (val_main_v3 z1 z2 z3 j) (val_main_v3 z1 z2 z3 j) (val_main_v3 z1 z2 z3 j)]

section Blocks
variable (c : Dev nD) (t : Fin cfg0.N) (y : S256x1024.Idx) (j : S2048x1024.Idx)

theorem ypre_block (hj0 : (j 0).val = t.val * 256 + (y 0).val) (hj1 : (j 1).val = (y 1).val) :
    iblk m c 1 t y = val_main_v3 (F := Ideal) (a1 m c) (a2 m c) (a3 m c) j := by
  pointwise [val_main_v0, val_main_v1, val_main_v2, val_main_v3]
  trans a1 m c ((win0_1.blk t).view.emb y) + a3 m c (ix1 ((win0_1.blk t).view.emb y 1)) * a2 m c ((win0_1.blk t).view.emb y)
  · blk_point [iblk, V, idx t]
  · have e : (win0_1.blk t).view.emb y = j := by blk_ext [idx t]
    rw [e]

theorem dyp_block (hj0 : (j 0).val = t.val * 256 + (y 0).val) (hj1 : (j 1).val = (y 1).val) :
    k0_pay3 (iblk m c 0 t) (iblk m c 1 t) y = val_main_v36 (F := Ideal) (a0 m c) (a1 m c) (a2 m c) (a3 m c) j := by
  refine gelu _ _ _ _ _ _ y j ?_ (ypre_block m c t y j hj0 hj1)
  blk_point [iblk, V, idx t]

theorem du_block (hj0 : (j 0).val = t.val * 256 + (y 0).val) (hj1 : (j 1).val = (y 1).val) :
    k0_pay4 (iblk m c 0 t) (iblk m c 1 t) (iblk m c 3 t) y = val_main_v38 (F := Ideal) (a0 m c) (a1 m c) (a2 m c) (a3 m c) j := by
  have h := dyp_block m c t y j hj0 hj1
  pointwise [k0_pay4, val_main_v0, val_main_v37, val_main_v38]
  rw [h, mul_comm]
  refine Ideal.mul_congr ?_ rfl
  blk_point [iblk, V, idx t]

theorem dd_block (hj0 : (j 0).val = t.val * 256 + (y 0).val) (hj1 : (j 1).val = (y 1).val) :
    k0_pay5 (iblk m c 0 t) (iblk m c 1 t) (iblk m c 2 t) y = val_main_v39 (F := Ideal) (a0 m c) (a1 m c) (a2 m c) (a3 m c) j := by
  have h := dyp_block m c t y j hj0 hj1
  pointwise [k0_pay5, val_main_v39]
  rw [h]
  refine Ideal.mul_congr rfl ?_
  blk_point [iblk, V, idx t]
end Blocks

theorem final_dyp (c : Dev nD) : (dats m 0 c).arrAt 4 cfg0.N = val_main_v36 (F := Ideal) (a0 m c) (a1 m c) (a2 m c) (a3 m c) := by
  refine (dats m 0 c).arrAt_eq_of_covers 4 _ (by decide +kernel) fun t _ y => ?_
  blk_simp
  rw [after0_4]
  by_cases h : t.val % 8 = 0
  · rw [outsAt0_A m c t h]; frame_out; refine dyp_block m c t y _ ?_ ?_ <;> blk_simp [idx t]
  · rw [outsAt0_B m c t h]; frame_out; refine dyp_block m c t y _ ?_ ?_ <;> blk_simp [idx t]

theorem final_du (c : Dev nD) : (dats m 0 c).arrAt 5 cfg0.N = val_main_v38 (F := Ideal) (a0 m c) (a1 m c) (a2 m c) (a3 m c) := by
  refine (dats m 0 c).arrAt_eq_of_covers 5 _ (by decide +kernel) fun t _ y => ?_
  blk_simp
  rw [after0_5]
  by_cases h : t.val % 8 = 0
  · rw [outsAt0_A m c t h]; frame_out; refine du_block m c t y _ ?_ ?_ <;> blk_simp [idx t]
  · rw [outsAt0_B m c t h]; frame_out; refine du_block m c t y _ ?_ ?_ <;> blk_simp [idx t]

/-- The gradient of the skip: one block's column sums added to what was there. -/
theorem dd_add (x : Vec Ideal S256x1024 .f32) (z : Vec Ideal S1x1024 .f32) (y : S1x1024.Idx) :
    k0_pay2 x z y = z y + ∑ r : Fin 256, x (ix2 r (y 1)) := by
  pointwise [k0_pay2]

theorem dd_zero (y : S1x1024.Idx) : k0_pay1 (F := Ideal) y = 0 := by
  pointwise [k0_pay1]

theorem dd_sum (c : Dev nD) (t : Fin cfg0.N) (hf : t.val % 8 = 7) (y : S1x1024.Idx) : (outsAt0 m c t.val t.isLt).2.2 y =
    ∑ s : Fin 8, ∑ r : Fin 256, k0_pay5 (iblk m c 0 ⟨8 * (t.val / 8) + s.val, Pipeline.run_point_lt_of_flush t hf s⟩)
      (iblk m c 1 ⟨8 * (t.val / 8) + s.val, Pipeline.run_point_lt_of_flush t hf s⟩)
      (iblk m c 2 ⟨8 * (t.val / 8) + s.val, Pipeline.run_point_lt_of_flush t hf s⟩) (ix2 r (y 1)) := by
  rw [Pipeline.eq_sum_fin_of_reset_step_apply_of_flush (fun n h => (outsAt0 m c n h).2.2) 8 (fun _ => 0)
    (fun t y => ∑ r : Fin 256, k0_pay5 (iblk m c 0 t) (iblk m c 1 t) (iblk m c 2 t) (ix2 r (y 1)))
    (fun t h j => by rw [outsAt0_A m c t h]; frame_out; rw [dd_add, dd_zero]) (fun t h j => by rw [outsAt0_B m c t h]; frame_out; rw [dd_add])
    t hf _, zero_add]

theorem dd_point (c : Dev nD) (t : Fin cfg0.N) (hf : t.val % 8 = 7) (y j : S1x1024.Idx) (hj : (j 1).val = (y 1).val) :
    (outsAt0 m c t.val t.isLt).2.2 y = val_main_v43 (F := Ideal) (a0 m c) (a1 m c) (a2 m c) (a3 m c) j := by
  have ht : t.val < 8 := (idx t).2.2.2.2.2.2.2
  rw [dd_sum m c t hf]
  pointwise [val_main_cst_9, val_main_v40, val_main_v41, val_main_cst_10, val_main_v42, val_main_v43]
  rw [Fin.sum_univ_one, Fin.sum_univ_tiles 8 256 rfl]
  refine Finset.sum_congr rfl fun s _ => Finset.sum_congr rfl fun r _ => ?_
  refine dd_block m c _ _ _ ?_ ?_
  · show s.val * 256 + r.val = (8 * (t.val / 8) + s.val) * 256 + r.val
    omega
  · exact hj

theorem final_dd (c : Dev nD) : (dats m 0 c).arrAt 6 cfg0.N = val_main_v43 (F := Ideal) (a0 m c) (a1 m c) (a2 m c) (a3 m c) := by
  refine (dats m 0 c).arrAt_eq_of_covers 6 _ (by decide +kernel) fun t hf y => ?_
  blk_simp
  rw [after0_6]
  refine dd_point m c t ((flush0_6 t).mp hf) y _ ?_
  blk_simp [idx t]

/-- The reference's run, its results read stage by stage. -/
theorem ref_run (m' : (ℓ : Loc ActRefIdeal.nD ActRefIdeal.τ ActRefIdeal.sig) → Buf (Elt Ideal) ℓ) (g' : Dev ActRefIdeal.nD → PrngReg) :
    θ_run (ActRefIdeal.defs (F := Ideal)) (onTc (τ := ActRefIdeal.τ) (ActRefIdeal.main (F := Ideal))) ⟨m', fun _ => 0, g'⟩ fun r => ∀ c : Dev ActRefIdeal.nD,
      r.2.mem ((c.tc : Thread ActRefIdeal.nD ActRefIdeal.τ).loc ActRefIdeal.main_v36) = val_main_v36 (F := Ideal) (m' ((c.tc : Thread ActRefIdeal.nD ActRefIdeal.τ).loc ActRefIdeal.main_arg0)) (m' ((c.tc : Thread ActRefIdeal.nD ActRefIdeal.τ).loc ActRefIdeal.main_arg1)) (m' ((c.tc : Thread ActRefIdeal.nD ActRefIdeal.τ).loc ActRefIdeal.main_arg2)) (m' ((c.tc : Thread ActRefIdeal.nD ActRefIdeal.τ).loc ActRefIdeal.main_arg3))
      ∧ r.2.mem ((c.tc : Thread ActRefIdeal.nD ActRefIdeal.τ).loc ActRefIdeal.main_v38) = val_main_v38 (F := Ideal) (m' ((c.tc : Thread ActRefIdeal.nD ActRefIdeal.τ).loc ActRefIdeal.main_arg0)) (m' ((c.tc : Thread ActRefIdeal.nD ActRefIdeal.τ).loc ActRefIdeal.main_arg1)) (m' ((c.tc : Thread ActRefIdeal.nD ActRefIdeal.τ).loc ActRefIdeal.main_arg2)) (m' ((c.tc : Thread ActRefIdeal.nD ActRefIdeal.τ).loc ActRefIdeal.main_arg3))
      ∧ r.2.mem ((c.tc : Thread ActRefIdeal.nD ActRefIdeal.τ).loc ActRefIdeal.main_v43) = val_main_v43 (F := Ideal) (m' ((c.tc : Thread ActRefIdeal.nD ActRefIdeal.τ).loc ActRefIdeal.main_arg0)) (m' ((c.tc : Thread ActRefIdeal.nD ActRefIdeal.τ).loc ActRefIdeal.main_arg1)) (m' ((c.tc : Thread ActRefIdeal.nD ActRefIdeal.τ).loc ActRefIdeal.main_arg2)) (m' ((c.tc : Thread ActRefIdeal.nD ActRefIdeal.τ).loc ActRefIdeal.main_arg3))
      ∧ r.2.mem ((c.tc : Thread ActRefIdeal.nD ActRefIdeal.τ).loc ActRefIdeal.main_arg0) = m' ((c.tc : Thread ActRefIdeal.nD ActRefIdeal.τ).loc ActRefIdeal.main_arg0)
      ∧ r.2.mem ((c.tc : Thread ActRefIdeal.nD ActRefIdeal.τ).loc ActRefIdeal.main_arg1) = m' ((c.tc : Thread ActRefIdeal.nD ActRefIdeal.τ).loc ActRefIdeal.main_arg1)
      ∧ r.2.mem ((c.tc : Thread ActRefIdeal.nD ActRefIdeal.τ).loc ActRefIdeal.main_arg2) = m' ((c.tc : Thread ActRefIdeal.nD ActRefIdeal.τ).loc ActRefIdeal.main_arg2)
      ∧ r.2.mem ((c.tc : Thread ActRefIdeal.nD ActRefIdeal.τ).loc ActRefIdeal.main_arg3) = m' ((c.tc : Thread ActRefIdeal.nD ActRefIdeal.τ).loc ActRefIdeal.main_arg3) :=
  (θ_run ActRefIdeal.defs _ _).mono (fun _ h c => by
    obtain ⟨h0, h1, h2, h3⟩ := h c
    exact ⟨h0.trans (val_main_v36_eq m' c), h1.trans (val_main_v38_eq m' c), h2.trans (val_main_v43_eq m' c), h3⟩)
    (ActRefIdeal.Value.run m' g')
theorem algebraic : Cert.algebraic_ActIdeal_ActRefIdeal := by
  pair_intro
  · run_from Cert.ActIdeal.Gen.run_main m g
  · run_from ref_run m' g'
    · exact (final_dyp m c).symm
    · exact (final_du m c).symm
    · exact (final_dd m c).symm
end Cert.Proof.Act
end
-- ==== Proof.Zoh.lean ====
module
public import proofs.«01_k».proof.Defs
public import proofs.«01_k».proof.Proof.Gen.ZohIdeal.Frame
public import proofs.«01_k».proof.Proof.Gen.ZohRefIdeal.Read
public import Idealize.ShloMosaic.Lib.Pipeline.ValueKit
public import Idealize.ShloMosaic.Lib.Claim

/-! The gradient of the S5 layer's discretisation: the kernel holds every quantity with a unit axis in the middle and B with its last two
axes exchanged; apart from that it takes the same steps as the reference. -/

@[expose] public section
set_option maxRecDepth 16384
noncomputable section
namespace Cert.Proof.Zoh
open Cert Cert.ZohIdeal Cert.ZohIdeal.Gen Idealize.ShloMosaic Idealize.ShloMosaic.TcCoe Idealize.SL.Sem
open Cert.ZohRefIdeal.Read

/-! ## The kernel's layouts against the reference's -/

/-- The kernel's matrix with a unit axis in the middle. -/
def M (x : Vec Ideal S64x1x64 .f32) (z : Vec Ideal S64x64 .f32) : Prop := ∀ g n : Fin 64, x (ix3 g 0 n) = z (ix2 g n)
/-- The kernel's array with the last two axes exchanged. -/
def B (x : Vec Ideal S64x16x64 .f32) (z : Vec Ideal ZohRefIdeal.S64x64x16 .f32) : Prop :=
  ∀ (g n : Fin 64) (k : Fin 16), x (ix3 g k n) = z (ix3 g n k)
/-- The kernel's vector with two unit axes. -/
def T (x : Vec Ideal S64x1x1 .f32) (z : Vec Ideal S64 .f32) : Prop := ∀ g : Fin 64, x (ix3 g 0 0) = z (ix1 g)

section Steps
variable {a b : Vec Ideal S64x1x64 .f32} {a' b' : Vec Ideal S64x64 .f32}
variable {d e : Vec Ideal S64x16x64 .f32} {d' e' : Vec Ideal ZohRefIdeal.S64x64x16 .f32}
variable {s : Vec Ideal S64x1x1 .f32} {s' : Vec Ideal S64 .f32}

theorem M.mul (h : M a a') (k : M b b') : M (mulf (F := Ideal) (φ := .f32) a b) (mulf (F := Ideal) (φ := .f32) a' b') :=
  fun g n => by pointwise; rw [h g n, k g n]
theorem M.add (h : M a a') (k : M b b') : M (addf (F := Ideal) (φ := .f32) a b) (addf (F := Ideal) (φ := .f32) a' b') :=
  fun g n => by pointwise; rw [h g n, k g n]
theorem M.sub (h : M a a') (k : M b b') : M (subf (F := Ideal) (φ := .f32) a b) (subf (F := Ideal) (φ := .f32) a' b') :=
  fun g n => by pointwise; rw [h g n, k g n]
theorem M.div (h : M a a') (k : M b b') : M (divf (F := Ideal) (φ := .f32) a b) (Host.divf (F := Ideal) (φ := .f32) a' b') :=
  fun g n => by pointwise; rw [h g n, k g n]
theorem M.minimum (h : M a a') (k : M b b') : M (minimumf (F := Ideal) (φ := .f32) a b) (minimumf (F := Ideal) (φ := .f32) a' b') :=
  fun g n => by pointwise; rw [h g n, k g n]
theorem M.exp (h : M a a') : M (Idealize.ShloMosaic.exp (F := Ideal) (φ := .f32) a) (Host.exp (F := Ideal) (φ := .f32) a') :=
  fun g n => by pointwise; rw [h g n]
theorem M.cos (h : M a a') : M (Idealize.ShloMosaic.cos (F := Ideal) (φ := .f32) a) (Host.cos (F := Ideal) (φ := .f32) a') :=
  fun g n => by pointwise; rw [h g n]
theorem M.sin (h : M a a') : M (Idealize.ShloMosaic.sin (F := Ideal) (φ := .f32) a) (Host.sin (F := Ideal) (φ := .f32) a') :=
  fun g n => by pointwise; rw [h g n]
theorem M.neg (h : M a a') :
    M (subf (F := Ideal) (φ := .f32) (broadcast S64x1x64 (Scalar.ofBits .f32 0x00000000#32)) a) (Host.negf (F := Ideal) (φ := .f32) a') :=
  fun g n => by pointwise; rw [h g n, zero_sub]
theorem B.mul (h : B d d') (k : B e e') : B (mulf (F := Ideal) (φ := .f32) d e) (mulf (F := Ideal) (φ := .f32) d' e') :=
  fun g n i => by pointwise; rw [h g n i, k g n i]
theorem B.add (h : B d d') (k : B e e') : B (addf (F := Ideal) (φ := .f32) d e) (addf (F := Ideal) (φ := .f32) d' e') :=
  fun g n i => by pointwise; rw [h g n i, k g n i]
theorem B.neg (h : B d d') :
    B (subf (F := Ideal) (φ := .f32) (broadcast S64x16x64 (Scalar.ofBits .f32 0x00000000#32)) d) (Host.negf (F := Ideal) (φ := .f32) d') :=
  fun g n i => by pointwise; rw [h g n i, zero_sub]
/-- A matrix repeated along the inputs. -/
theorem M.rep (h : M a a') : B (broadcastTo S64x16x64 a broadcasts_S64x1x64_S64x16x64)
    (broadcastInDim ZohRefIdeal.S64x64x16 ![0, 1, 2] ZohRefIdeal.Gen.bcast_S64x64x1_S64x64x16_0_1_2
      (broadcastInDim ZohRefIdeal.S64x64x1 ![0, 1] ZohRefIdeal.Gen.bcast_S64x64_S64x64x1_0_1 a')) :=
  fun g n i => by pointwise; exact h g n
/-- A vector repeated along the states. -/
theorem T.rep (h : T s s') : M (broadcastTo S64x1x64 s broadcasts_S64x1x1_S64x1x64)
    (broadcastInDim S64x64 ![0, 1] ZohRefIdeal.Gen.bcast_S64x1_S64x64_0_1 (broadcastInDim S64x1 ![0] ZohRefIdeal.Gen.bcast_S64_S64x1_0 s')) :=
  fun g n => by pointwise; exact h g
/-- The sum over the inputs; the reference sums once more over a unit axis. -/
theorem B.sum (h : B d d') : M
    (shapeCast S64x1x64 (multiReduction (F := Ideal) (φ := .f32) .add [1] S64x64 d 0x00000000#32 reduces_S64x16x64_S64x64 (.inl rfl) rfl)
      shapeCasts_S64x64_S64x1x64)
    (Host.reduceAdd (F := Ideal) (φ := .f32)
      (shapeCast _ (Host.reduceAdd (F := Ideal) (φ := .f32) d' (constant ZohRefIdeal.S_ .f32 0x00000000#32) ZohRefIdeal.Gen.reducesTo_S64x64x16_S64x64_d2 ZohRefIdeal.Gen.h_S_)
        ZohRefIdeal.Gen.shapeCasts_S64x64_S64x64x1) (constant ZohRefIdeal.S_ .f32 0x00000000#32) ZohRefIdeal.Gen.reducesTo_S64x64x1_S64x64_d2 ZohRefIdeal.Gen.h_S_) :=
  fun g n => by
    pointwise
    rw [Fin.sum_univ_one]
    exact Finset.sum_congr rfl fun i _ => h g n i
/-- The sum over the states. -/
theorem M.sum (h : M a a') : T
    (shapeCast S64x1x1 (multiReduction (F := Ideal) (φ := .f32) .add [2] S64x1 a 0x00000000#32 reduces_S64x1x64_S64x1 (.inl rfl) rfl)
      shapeCasts_S64x1_S64x1x1)
    (Host.reduceAdd (F := Ideal) (φ := .f32) a' (constant ZohRefIdeal.S_ .f32 0x00000000#32) ZohRefIdeal.Gen.reducesTo_S64x64_S64_d1 ZohRefIdeal.Gen.h_S_) :=
  fun g => by
    pointwise
    exact Finset.sum_congr rfl fun n _ => h g n
end Steps

section Kernel
variable {x0 x1 x5 x6 : Vec Ideal S64x1x64 .f32} {x2 : Vec Ideal S64x1x1 .f32} {x3 x4 x7 x8 : Vec Ideal S64x16x64 .f32}
variable {z0 z1 z5 z6 : Vec Ideal S64x64 .f32} {z2 : Vec Ideal S64 .f32} {z3 z4 : Vec Ideal ZohRefIdeal.S64x64x16 .f32}
variable {z7 z8 : Vec Ideal S64x16x64 .f32}

theorem const (w : BitVec 32) : M (broadcast S64x1x64 (Scalar.ofBits (F := Ideal) .f32 w))
    (broadcastInDim S64x64 ![] ZohRefIdeal.Gen.bcast_S_S64x64 (constant (F := Ideal) ZohRefIdeal.S_ .f32 w)) :=
  fun g n => by pointwise

theorem p3 (h1 : M x1 z1) : M (k0_pay6 (F := Ideal) x1) z1 := fun g n => by pointwise [k0_pay6]; exact h1 g n
theorem p7 (h3 : B x3 z3) : B (k0_pay7 (F := Ideal) x3) z3 := fun g n i => by pointwise [k0_pay7]; exact h3 g n i
theorem p11 (h0 : M x0 z0) : M (k0_pay9 (F := Ideal) x0) (val_main_v3 (F := Ideal) z0) := .minimum (p3 h0) (const _)
theorem p20 (h0 : M x0 z0) : M (k0_pay10 (F := Ideal) x0) (val_main_v12 (F := Ideal) z0) := fun g n => by
  pointwise [k0_pay10, k0_pay5, val_main_v12, val_main_v11, val_main_v10, val_main_v9, val_main_v8, val_main_v7, val_main_v6, val_main_v5,
    val_main_v4, val_main_cst_0, val_main_cst_1, val_main_cst_2, val_main_cst_3, val_main_cst_4]
  rw [h0 g n]
theorem p21 (h2 : T x2 z2) : T (k0_pay11 (F := Ideal) x2) (val_main_v13 (F := Ideal) z2) := fun g => by
  pointwise [k0_pay11, val_main_v13]; rw [h2 g]
theorem p22 (h2 : T x2 z2) : M (broadcastTo S64x1x64 (k0_pay11 (F := Ideal) x2) broadcasts_S64x1x1_S64x1x64) (val_main_v15 (F := Ideal) z2) := (p21 h2).rep
theorem p24 (h0 : M x0 z0) (h2 : T x2 z2) : M (k0_pay12 (F := Ideal) x0 x2) (val_main_v17 (F := Ideal) z0 z2) := .exp (.mul (p11 h0) (p22 h2))
theorem p26 (h1 : M x1 z1) (h2 : T x2 z2) : M (k0_pay13 (F := Ideal) x1 x2) (val_main_v19 (F := Ideal) z1 z2) := .mul (p3 h1) (p22 h2)
theorem p32 (h0 : M x0 z0) (h1 : M x1 z1) (h2 : T x2 z2) : M (k0_pay18 (F := Ideal) x0 x1 x2) (val_main_v25 (F := Ideal) z0 z1 z2) :=
  .mul (p24 h0 h2) (.sin (p26 h1 h2))
theorem p35 (h0 : M x0 z0) (h1 : M x1 z1) : M (k0_pay19 (F := Ideal) x0 x1) (val_main_v28 (F := Ideal) z0 z1) :=
  .add (.mul (p11 h0) (p11 h0)) (.mul (p3 h1) (p3 h1))
theorem p37 (h0 : M x0 z0) (h1 : M x1 z1) (h2 : T x2 z2) : M (k0_pay20 (F := Ideal) x0 x1 x2) (val_main_v30 (F := Ideal) z0 z1 z2) :=
  .sub (.mul (p24 h0 h2) (.cos (p26 h1 h2))) (const _)
end Kernel

section Backward
variable {v3 v11 v20 v24 v27 v28 v30 v31 v32 v35 v37 v40 v41 v44 v47 v51 v53 v55 v69 v79 v117 v121 v127 v131 : Vec Ideal S64x1x64 .f32}
variable {v7 v9 v56 v57 v61 v70 : Vec Ideal S64x16x64 .f32} {v21 : Vec Ideal S64x1x1 .f32}
variable {z0 z1 z5 z6 : Vec Ideal S64x64 .f32} {z2 : Vec Ideal S64 .f32} {z3 z4 : Vec Ideal ZohRefIdeal.S64x64x16 .f32}
variable {z7 z8 : Vec Ideal S64x16x64 .f32}
variable (h3 : M v3 z1) (h7 : B v7 z3) (h9 : B v9 z4) (h11 : M v11 (val_main_v3 (F := Ideal) z0)) (h20 : M v20 (val_main_v12 (F := Ideal) z0))
  (h21 : T v21 (val_main_v13 (F := Ideal) z2)) (h24 : M v24 (val_main_v17 (F := Ideal) z0 z2))
  (h27 : M v27 (val_main_v20 (F := Ideal) z1 z2)) (h28 : M v28 (val_main_v21 (F := Ideal) z1 z2))
  (h30 : M v30 (val_main_v23 (F := Ideal) z1 z2)) (h31 : M v31 (val_main_v24 (F := Ideal) z1 z2))
  (h32 : M v32 (val_main_v25 (F := Ideal) z0 z1 z2)) (h35 : M v35 (val_main_v28 (F := Ideal) z0 z1))
  (h37 : M v37 (val_main_v30 (F := Ideal) z0 z1 z2)) (h40 : M v40 (val_main_v33 (F := Ideal) z0 z1 z2))
  (h41 : M v41 (val_main_v34 (F := Ideal) z0 z1 z2)) (h44 : M v44 (val_main_v37 (F := Ideal) z0 z1))
  (h47 : M v47 (val_main_v40 (F := Ideal) z0 z1 z2)) (h51 : M v51 (val_main_v44 (F := Ideal) z0 z1))
  (h53 : M v53 z5) (h55 : M v55 z6) (h56 : B v56 (val_main_v0 (F := Ideal) z7)) (h57 : B v57 (val_main_v1 (F := Ideal) z8))
  (h61 : B v61 (val_main_v60 (F := Ideal) z0 z1 z2 z8)) (h69 : M v69 (val_main_v70 (F := Ideal) z4 z8))
  (h70 : B v70 (val_main_v0 (F := Ideal) z7)) (h79 : M v79 (val_main_v79 (F := Ideal) z3 z4 z7 z8))
  (h117 : M v117 (val_main_v115 (F := Ideal) z0 z1 z2 z3 z4 z7 z8)) (h121 : M v121 (val_main_v119 (F := Ideal) z0 z1 z2 z3 z4 z7 z8))
  (h127 : M v127 (val_main_v125 (F := Ideal) z0 z1 z2 z3 z4 z5 z6 z7 z8)) (h131 : M v131 (val_main_v128 (F := Ideal) z0 z1 z2 z3 z4 z5 z6 z7 z8))

include h3 h11 h32 h37 in
theorem p40 : M (k0_pay21 (F := Ideal) v3 v11 v32 v37) (val_main_v33 (F := Ideal) z0 z1 z2) := .add (.mul h37 h11) (.mul h32 h3)
include h3 h11 h32 h35 h37 in
theorem p41 : M (k0_pay22 (F := Ideal) v3 v11 v32 v35 v37) (val_main_v34 (F := Ideal) z0 z1 z2) := .div (p40 h3 h11 h32 h37) h35
include h35 in
theorem p44 : M (k0_pay23 (F := Ideal) v35) (val_main_v37 (F := Ideal) z0 z1) := .div (const _) (.mul h35 h35)
include h3 h11 h32 h37 in
theorem p47 : M (k0_pay24 (F := Ideal) v3 v11 v32 v37) (val_main_v40 (F := Ideal) z0 z1 z2) := .sub (.mul h32 h11) (.mul h37 h3)
include h3 h11 h32 h35 h37 in
theorem p48 : M (k0_pay25 (F := Ideal) v3 v11 v32 v35 v37) (val_main_v41 (F := Ideal) z0 z1 z2) := .div (p47 h3 h11 h32 h37) h35
include h57 in
theorem p58 : B (k0_pay29 (F := Ideal) v57) (val_main_v1 (F := Ideal) z8) := p7 h57
include h3 h11 h32 h35 h37 h57 in
theorem p61 : B (k0_pay31 (F := Ideal) v3 v11 v32 v35 v37 v57) (val_main_v60 (F := Ideal) z0 z1 z2 z8) := .mul (p48 h3 h11 h32 h35 h37).rep (p58 h57)
include h9 h57 in
theorem p69 : M (k0_pay32 (F := Ideal) v9 v57) (val_main_v70 (F := Ideal) z4 z8) := (B.mul (p58 h57) h9).sum
include h56 in
theorem p72 : B (k0_pay34 (F := Ideal) v56) (val_main_v71 (F := Ideal) z7) := h56.neg
include h3 h11 h32 h35 h37 h56 h57 in
theorem p75 : B (k0_pay35 (F := Ideal) v3 v11 v32 v35 v37 v56 v57) (val_main_v74 (F := Ideal) z0 z1 z2 z7 z8) :=
  .add (.mul (p41 h3 h11 h32 h35 h37).rep (p58 h57)) (.mul (p48 h3 h11 h32 h35 h37).rep (p72 h56))
include h7 h9 h56 h57 in
theorem p79 : M (k0_pay36 (F := Ideal) v7 v9 v56 v57) (val_main_v79 (F := Ideal) z3 z4 z7 z8) :=
  .add (B.mul (p58 h57) h7).sum (B.mul (p72 h56) h9).sum
include h41 h61 h70 in
theorem p82 : B (k0_pay37 (F := Ideal) v41 v61 v70) (val_main_v82 (F := Ideal) z0 z1 z2 z7 z8) := .add h61 (.mul h41.rep h70)
include h7 h69 h70 in
theorem p86 : M (k0_pay38 (F := Ideal) v7 v69 v70) (val_main_v87 (F := Ideal) z3 z4 z7 z8) := .add h69 (B.mul h70 h7).sum
include h35 h79 in
theorem p91 : M (k0_pay39 (F := Ideal) v35 v79) (val_main_v91 (F := Ideal) z0 z1 z3 z4 z7 z8) := .div h79 h35
include h35 h79 in
theorem p93 : M (k0_pay40 (F := Ideal) v35 v79) (val_main_v92 (F := Ideal) z0 z1 z3 z4 z7 z8) := (p91 h35 h79).neg
include h7 h40 h44 h47 h51 h69 h70 h79 in
theorem p104 : M (k0_pay41 (F := Ideal) v7 v40 v44 v47 v51 v69 v70 v79) (val_main_v102 (F := Ideal) z0 z1 z2 z3 z4 z7 z8) :=
  .add (M.mul (.mul h79 h51) h47).neg (M.mul (.mul (p86 h7 h69 h70) h44) h40).neg
include h7 h35 h69 h70 in
theorem p105 : M (k0_pay42 (F := Ideal) v7 v35 v69 v70) (val_main_v103 (F := Ideal) z0 z1 z3 z4 z7 z8) := .div (p86 h7 h69 h70) h35
include h3 h7 h11 h35 h55 h69 h70 h79 in
theorem p109 : M (k0_pay43 (F := Ideal) v3 v7 v11 v35 v55 v69 v70 v79) (val_main_v107 (F := Ideal) z0 z1 z3 z4 z6 z7 z8) :=
  .add (.add h55 (.mul (p91 h35 h79) h11)) (.mul (p105 h7 h35 h69 h70) h3)
include h3 h7 h11 h35 h53 h69 h70 h79 in
theorem p113 : M (k0_pay44 (F := Ideal) v3 v7 v11 v35 v53 v69 v70 v79) (val_main_v111 (F := Ideal) z0 z1 z3 z4 z5 z7 z8) :=
  .add (.add h53 (.mul (p93 h35 h79) h3)) (.mul (p105 h7 h35 h69 h70) h11)
include h3 h7 h32 h35 h37 h40 h44 h47 h51 h69 h70 h79 in
theorem p117 : M (k0_pay45 (F := Ideal) v3 v7 v32 v35 v37 v40 v44 v47 v51 v69 v70 v79) (val_main_v115 (F := Ideal) z0 z1 z2 z3 z4 z7 z8) :=
  have h := p104 h7 h40 h44 h47 h51 h69 h70 h79
  .add (.add (.add (.mul h37 (p93 h35 h79)) (.mul h32 (p105 h7 h35 h69 h70))) (.mul h3 h)) (.mul h h3)
include h7 h11 h32 h35 h37 h40 h44 h47 h51 h69 h70 h79 in
theorem p121 : M (k0_pay46 (F := Ideal) v7 v11 v32 v35 v37 v40 v44 v47 v51 v69 v70 v79) (val_main_v119 (F := Ideal) z0 z1 z2 z3 z4 z7 z8) :=
  have h := p104 h7 h40 h44 h47 h51 h69 h70 h79
  .add (.add (.add (.mul h32 (p91 h35 h79)) (.mul h37 (p105 h7 h35 h69 h70))) (.mul h11 h)) (.mul h h11)
include h3 h7 h11 h27 h30 h35 h53 h55 h69 h70 h79 in
theorem p127 : M (k0_pay47 (F := Ideal) v3 v7 v11 v27 v30 v35 v53 v55 v69 v70 v79) (val_main_v125 (F := Ideal) z0 z1 z2 z3 z4 z5 z6 z7 z8) :=
  .add (.mul (p109 h3 h7 h11 h35 h55 h69 h70 h79) h30) (.mul (p113 h3 h7 h11 h35 h53 h69 h70 h79) h27)
include h3 h7 h11 h24 h28 h31 h35 h53 h55 h69 h70 h79 in
theorem p131 : M (k0_pay48 (F := Ideal) v3 v7 v11 v24 v28 v31 v35 v53 v55 v69 v70 v79) (val_main_v128 (F := Ideal) z0 z1 z2 z3 z4 z5 z6 z7 z8) :=
  .add (.mul (.mul h24 (p109 h3 h7 h11 h35 h55 h69 h70 h79)) h31) (.mul (M.mul h24 (p113 h3 h7 h11 h35 h53 h69 h70 h79)).neg h28)
include h21 h117 h131 in
theorem p137 : M (k0_pay1 (F := Ideal) v21 v117 v131) (val_main_v134 (F := Ideal) z0 z1 z2 z3 z4 z5 z6 z7 z8) := .add h117 (.mul h131 h21.rep)
include h24 h127 in
theorem p138 : M (k0_pay2 (F := Ideal) v24 v127) (val_main_v135 (F := Ideal) z0 z1 z2 z3 z4 z5 z6 z7 z8) := .mul h127 h24
include h20 h21 h24 h121 h127 in
theorem p147 : M (k0_pay4 (F := Ideal) v20 v21 v24 v121 v127) (val_main_v145 (F := Ideal) z0 z1 z2 z3 z4 z5 z6 z7 z8) :=
  .mul (.add h121 (.mul (p138 h24 h127) h21.rep)) h20
include h3 h11 h21 h24 h127 h131 in
theorem p146 : T (k0_pay3 (F := Ideal) v11 v21 v24 v127
      (multiReduction (F := Ideal) (φ := .f32) .add [2] S64x1 (mulf (F := Ideal) (φ := .f32) v3 v131) 0x00000000#32 reduces_S64x1x64_S64x1 (.inl rfl) rfl))
    (val_main_v144 (F := Ideal) z0 z1 z2 z3 z4 z5 z6 z7 z8) := fun g => by
  have e1 := (M.mul h3 h131).sum g
  have e2 := (M.mul h11 (p138 h24 h127)).sum g
  pointwise [k0_pay3, val_main_v144, val_main_v143, val_main_v139, val_main_v138, val_main_v137, val_main_v136, val_main_v131, val_main_v130, val_main_v129, val_main_cst_18, val_main_cst_17, val_main_cst_16] at e1 e2 ⊢
  rw [e1, e2, h21 g, Fin.sum_univ_one]
end Backward

section Out
variable {x0 x1 x5 x6 : Vec Ideal S64x1x64 .f32} {x2 : Vec Ideal S64x1x1 .f32} {x3 x4 x7 x8 : Vec Ideal S64x16x64 .f32}
variable {z0 z1 z5 z6 : Vec Ideal S64x64 .f32} {z2 : Vec Ideal S64 .f32} {z3 z4 : Vec Ideal ZohRefIdeal.S64x64x16 .f32}
variable {z7 z8 : Vec Ideal S64x16x64 .f32}

theorem M.ld (h : M x0 z0) : M (View.ld x0 r0_0) z0 := by rw [View.ld_unit_lit _ x0 (by decide)]; exact h
theorem T.ld (h : T x2 z2) : T (View.ld x2 r0_1) z2 := by rw [View.ld_unit_lit _ x2 (by decide)]; exact h
theorem B.ld (h : B x3 z3) : B (View.ld x3 r0_2) z3 := by rw [View.ld_unit_lit _ x3 (by decide)]; exact h

/-- What the kernel's body stores, result by result. -/
theorem outs (h0 : M x0 z0) (h1 : M x1 z1) (h2 : T x2 z2) (h3 : B x3 z3) (h4 : B x4 z4) (h5 : M x5 z5) (h6 : M x6 z6)
    (h7 : B x7 (val_main_v0 (F := Ideal) z7)) (h8 : B x8 (val_main_v1 (F := Ideal) z8)) :
    M (out0_9 x0 x1 x2 x3 x4 x5 x6 x7 x8) (val_main_v145 (F := Ideal) z0 z1 z2 z3 z4 z5 z6 z7 z8) ∧
    M (out0_10 x0 x1 x2 x3 x4 x5 x6 x7 x8) (val_main_v134 (F := Ideal) z0 z1 z2 z3 z4 z5 z6 z7 z8) ∧
    T (out0_11 x0 x1 x2 x3 x4 x5 x6 x7 x8) (val_main_v144 (F := Ideal) z0 z1 z2 z3 z4 z5 z6 z7 z8) ∧
    B (out0_12 x0 x1 x2 x3 x4 x5 x6 x7 x8) (val_main_v82 (F := Ideal) z0 z1 z2 z7 z8) ∧
    B (out0_13 x0 x1 x2 x3 x4 x5 x6 x7 x8) (val_main_v74 (F := Ideal) z0 z1 z2 z7 z8) := by
  have q3 := p3 h1.ld
  have q7 := p7 h3.ld
  have q9 := p7 h4.ld
  have q11 := p11 h0.ld
  have q24 := p24 h0.ld h2.ld
  have q26 := p26 h1.ld h2.ld
  have q32 := p32 h0.ld h1.ld h2.ld
  have q35 := p35 h0.ld h1.ld
  have q37 := p37 h0.ld h1.ld h2.ld
  have q40 := p40 q3 q11 q32 q37
  have q47 := p47 q3 q11 q32 q37
  have q53 := p3 h5.ld
  have q55 := p3 h6.ld
  have q69 := p69 q9 h8.ld
  have q70 := p7 h7.ld
  have q79 := p79 q7 q9 h7.ld h8.ld
  have q127 := p127 q3 q7 q11 q26.cos q26.sin q35 q53 q55 q69 q70 q79
  have q131 := p131 q3 q7 q11 q24 q26.sin q26.cos q35 q53 q55 q69 q70 q79
  refine ⟨?_, ?_, ?_, ?_, ?_⟩
  · unfold out0_9
    rw [View.canon_cons_unit_lit _ _ _ (by decide)]
    exact p147 (p20 h0.ld) (p21 h2.ld) q24 (p121 q7 q11 q32 q35 q37 q40 (p44 q35) q47 (p44 q35) q69 q70 q79) q127
  · unfold out0_10
    rw [View.canon_cons_unit_lit _ _ _ (by decide)]
    exact p137 (p21 h2.ld) (p117 q3 q7 q32 q35 q37 q40 (p44 q35) q47 (p44 q35) q69 q70 q79) q131
  · unfold out0_11
    rw [View.canon_cons_unit_lit _ _ _ (by decide)]
    exact p146 q3 q11 (p21 h2.ld) q24 q127 q131
  · unfold out0_12
    rw [View.canon_cons_unit_lit _ _ _ (by decide)]
    exact p82 (p41 q3 q11 q32 q35 q37) (p61 q3 q11 q32 q35 q37 h8.ld) q70
  · unfold out0_13
    rw [View.canon_cons_unit_lit _ _ _ (by decide)]
    exact p75 q3 q11 q32 q35 q37 h7.ld h8.ld

/-! The results in the kernel's layouts, as the reference stores them. -/

theorem M.out (h : M x0 z0) (y : S64x1x64.Idx) : x0 y = broadcastInDim S64x1x64 ![0, 2] ZohRefIdeal.Gen.bcast_S64x64_S64x1x64_0_2 z0 y := by
  idx_vars y
  pointwise
  rw [Subsingleton.elim y1 0]
  exact h y0 y2
theorem T.out (h : T x2 z2) (y : S64x1x1.Idx) : x2 y = broadcastInDim S64x1x1 ![0] ZohRefIdeal.Gen.bcast_S64_S64x1x1_0 z2 y := by
  idx_vars y
  pointwise
  rw [Subsingleton.elim y1 0, Subsingleton.elim y2 0]
  exact h y0
theorem B.out (h : B x3 z3) (y : S64x16x64.Idx) : x3 y = transpose S64x16x64 [0, 2, 1] z3 ZohRefIdeal.Gen.transposes_S64x64x16_S64x16x64_0_2_1 y := by
  idx_vars y
  pointwise
  exact h y0 y2 y1
end Out

/-! ## The kernel's blocks and its results -/

variable (m : (ℓ : Loc nD τ sig) → Buf (Elt Ideal) ℓ)

/-- One device's arguments. -/
abbrev a0 (c : Dev nD) : Vec Ideal S64x64 .f32 := m ((c : Thread nD τ).loc main_arg0)
abbrev a1 (c : Dev nD) : Vec Ideal S64x64 .f32 := m ((c : Thread nD τ).loc main_arg1)
abbrev a2 (c : Dev nD) : Vec Ideal S64 .f32 := m ((c : Thread nD τ).loc main_arg2)
abbrev a3 (c : Dev nD) : Vec Ideal S64x64x16 .f32 := m ((c : Thread nD τ).loc main_arg3)
abbrev a4 (c : Dev nD) : Vec Ideal S64x64x16 .f32 := m ((c : Thread nD τ).loc main_arg4)
abbrev a5 (c : Dev nD) : Vec Ideal S64x64 .f32 := m ((c : Thread nD τ).loc main_arg5)
abbrev a6 (c : Dev nD) : Vec Ideal S64x64 .f32 := m ((c : Thread nD τ).loc main_arg6)
abbrev a7 (c : Dev nD) : Vec Ideal S64x16x64 .f32 := m ((c : Thread nD τ).loc main_arg7)
abbrev a8 (c : Dev nD) : Vec Ideal S64x16x64 .f32 := m ((c : Thread nD τ).loc main_arg8)

theorem idx : ∀ t : Fin cfg0.N, win0_0.index t = ![0, 0, 0] ∧ win0_1.index t = ![0, 0, 0] ∧ win0_2.index t = ![0, 0, 0] ∧
    win0_3.index t = ![0, 0, 0] ∧ win0_4.index t = ![0, 0, 0] ∧ win0_5.index t = ![0, 0, 0] ∧ win0_6.index t = ![0, 0, 0] ∧
    win0_7.index t = ![0, 0, 0] ∧ win0_8.index t = ![0, 0, 0] ∧ win0_9.index t = ![0, 0, 0] ∧ win0_10.index t = ![0, 0, 0] ∧
    win0_11.index t = ![0, 0, 0] ∧ win0_12.index t = ![0, 0, 0] ∧ win0_13.index t = ![0, 0, 0] :=
  (by decide +kernel : ∀ t : Fin grid0.N, _)

section Blocks
variable (c : Dev nD) (t : Fin cfg0.N)
theorem b0 : M (iblk m c 0 t) (a0 m c) := fun g n => by blk_point [iblk, V, idx t]
theorem b1 : M (iblk m c 1 t) (a1 m c) := fun g n => by blk_point [iblk, V, idx t]
theorem b2 : T (iblk m c 2 t) (a2 m c) := fun g => by blk_point [iblk, V, idx t]
theorem b3 : B (iblk m c 3 t) (a3 m c) := fun g n i => by blk_point [iblk, V, idx t]
theorem b4 : B (iblk m c 4 t) (a4 m c) := fun g n i => by blk_point [iblk, V, idx t]
theorem b5 : M (iblk m c 5 t) (a5 m c) := fun g n => by blk_point [iblk, V, idx t]
theorem b6 : M (iblk m c 6 t) (a6 m c) := fun g n => by blk_point [iblk, V, idx t]
theorem b7 : B (iblk m c 7 t) (val_main_v0 (F := Ideal) (a7 m c)) := fun g n i => by
  pointwise [val_main_v0]; blk_point [iblk, V, idx t]
theorem b8 : B (iblk m c 8 t) (val_main_v1 (F := Ideal) (a8 m c)) := fun g n i => by
  pointwise [val_main_v1]; blk_point [iblk, V, idx t]
end Blocks

theorem final9 (c : Dev nD) : (dats m 0 c).arrAt 9 cfg0.N = val_main_v146 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  blk_simp
  rw [after0_9]
  have e : (win0_9.blk t).view.emb y = y := by blk_ext [idx t]
  rw [e]
  exact (outs (b0 m c t) (b1 m c t) (b2 m c t) (b3 m c t) (b4 m c t) (b5 m c t) (b6 m c t) (b7 m c t) (b8 m c t)).1.out y

theorem final10 (c : Dev nD) : (dats m 0 c).arrAt 10 cfg0.N = val_main_v147 (F := Ideal) (a0 m c) (a1 m c) (a2 m c) (a3 m c) (a4 m c) (a5 m c) (a6 m c) (a7 m c) (a8 m c) := by
  refine (dats m 0 c).arrAt_eq_of_covers 10 _ (by decide +kernel) fun t _ y => ?_
  blk_simp
  rw [after0_10]
  have e : (win0_10.blk t).view.emb y = y := by blk_ext [idx t]
  rw [e]
  exact (outs (b0 m c t) (b1 m c t) (b2 m c t) (b3 m c t) (b4 m c t) (b5 m c t) (b6 m c t) (b7 m c t) (b8 m c t)).2.1.out y

theorem final11 (c : Dev nD) : (dats m 0 c).arrAt 11 cfg0.N = val_main_v148 (F := Ideal) (a0 m c) (a1 m c) (a2 m c) (a3 m c) (a4 m c) (a5 m c) (a6 m c) (a7 m c) (a8 m c) := by
  refine (dats m 0 c).arrAt_eq_of_covers 11 _ (by decide +kernel) fun t _ y => ?_
  blk_simp
  rw [after0_11]
  have e : (win0_11.blk t).view.emb y = y := by blk_ext [idx t]
  rw [e]
  exact (outs (b0 m c t) (b1 m c t) (b2 m c t) (b3 m c t) (b4 m c t) (b5 m c t) (b6 m c t) (b7 m c t) (b8 m c t)).2.2.1.out y

theorem final12 (c : Dev nD) : (dats m 0 c).arrAt 12 cfg0.N = val_main_v149 (F := Ideal) (a0 m c) (a1 m c) (a2 m c) (a7 m c) (a8 m c) := by
  refine (dats m 0 c).arrAt_eq_of_covers 12 _ (by decide +kernel) fun t _ y => ?_
  blk_simp
  rw [after0_12]
  have e : (win0_12.blk t).view.emb y = y := by blk_ext [idx t]
  rw [e]
  exact (outs (b0 m c t) (b1 m c t) (b2 m c t) (b3 m c t) (b4 m c t) (b5 m c t) (b6 m c t) (b7 m c t) (b8 m c t)).2.2.2.1.out y

theorem final13 (c : Dev nD) : (dats m 0 c).arrAt 13 cfg0.N = val_main_v150 (F := Ideal) (a0 m c) (a1 m c) (a2 m c) (a7 m c) (a8 m c) := by
  refine (dats m 0 c).arrAt_eq_of_covers 13 _ (by decide +kernel) fun t _ y => ?_
  blk_simp
  rw [after0_13]
  have e : (win0_13.blk t).view.emb y = y := by blk_ext [idx t]
  rw [e]
  exact (outs (b0 m c t) (b1 m c t) (b2 m c t) (b3 m c t) (b4 m c t) (b5 m c t) (b6 m c t) (b7 m c t) (b8 m c t)).2.2.2.2.out y

/-- The reference's run, its results read stage by stage. -/
theorem ref_run (m' : (ℓ : Loc ZohRefIdeal.nD ZohRefIdeal.τ ZohRefIdeal.sig) → Buf (Elt Ideal) ℓ) (g' : Dev ZohRefIdeal.nD → PrngReg) :
    θ_run (ZohRefIdeal.defs (F := Ideal)) (onTc (τ := ZohRefIdeal.τ) (ZohRefIdeal.main (F := Ideal))) ⟨m', fun _ => 0, g'⟩ fun r => ∀ c : Dev ZohRefIdeal.nD,
      r.2.mem ((c.tc : Thread ZohRefIdeal.nD ZohRefIdeal.τ).loc ZohRefIdeal.main_v146) = val_main_v146 (F := Ideal) (m' ((c.tc : Thread ZohRefIdeal.nD ZohRefIdeal.τ).loc ZohRefIdeal.main_arg0)) (m' ((c.tc : Thread ZohRefIdeal.nD ZohRefIdeal.τ).loc ZohRefIdeal.main_arg1)) (m' ((c.tc : Thread ZohRefIdeal.nD ZohRefIdeal.τ).loc ZohRefIdeal.main_arg2)) (m' ((c.tc : Thread ZohRefIdeal.nD ZohRefIdeal.τ).loc ZohRefIdeal.main_arg3)) (m' ((c.tc : Thread ZohRefIdeal.nD ZohRefIdeal.τ).loc ZohRefIdeal.main_arg4)) (m' ((c.tc : Thread ZohRefIdeal.nD ZohRefIdeal.τ).loc ZohRefIdeal.main_arg5)) (m' ((c.tc : Thread ZohRefIdeal.nD ZohRefIdeal.τ).loc ZohRefIdeal.main_arg6)) (m' ((c.tc : Thread ZohRefIdeal.nD ZohRefIdeal.τ).loc ZohRefIdeal.main_arg7)) (m' ((c.tc : Thread ZohRefIdeal.nD ZohRefIdeal.τ).loc ZohRefIdeal.main_arg8))
      ∧ r.2.mem ((c.tc : Thread ZohRefIdeal.nD ZohRefIdeal.τ).loc ZohRefIdeal.main_v147) = val_main_v147 (F := Ideal) (m' ((c.tc : Thread ZohRefIdeal.nD ZohRefIdeal.τ).loc ZohRefIdeal.main_arg0)) (m' ((c.tc : Thread ZohRefIdeal.nD ZohRefIdeal.τ).loc ZohRefIdeal.main_arg1)) (m' ((c.tc : Thread ZohRefIdeal.nD ZohRefIdeal.τ).loc ZohRefIdeal.main_arg2)) (m' ((c.tc : Thread ZohRefIdeal.nD ZohRefIdeal.τ).loc ZohRefIdeal.main_arg3)) (m' ((c.tc : Thread ZohRefIdeal.nD ZohRefIdeal.τ).loc ZohRefIdeal.main_arg4)) (m' ((c.tc : Thread ZohRefIdeal.nD ZohRefIdeal.τ).loc ZohRefIdeal.main_arg5)) (m' ((c.tc : Thread ZohRefIdeal.nD ZohRefIdeal.τ).loc ZohRefIdeal.main_arg6)) (m' ((c.tc : Thread ZohRefIdeal.nD ZohRefIdeal.τ).loc ZohRefIdeal.main_arg7)) (m' ((c.tc : Thread ZohRefIdeal.nD ZohRefIdeal.τ).loc ZohRefIdeal.main_arg8))
      ∧ r.2.mem ((c.tc : Thread ZohRefIdeal.nD ZohRefIdeal.τ).loc ZohRefIdeal.main_v148) = val_main_v148 (F := Ideal) (m' ((c.tc : Thread ZohRefIdeal.nD ZohRefIdeal.τ).loc ZohRefIdeal.main_arg0)) (m' ((c.tc : Thread ZohRefIdeal.nD ZohRefIdeal.τ).loc ZohRefIdeal.main_arg1)) (m' ((c.tc : Thread ZohRefIdeal.nD ZohRefIdeal.τ).loc ZohRefIdeal.main_arg2)) (m' ((c.tc : Thread ZohRefIdeal.nD ZohRefIdeal.τ).loc ZohRefIdeal.main_arg3)) (m' ((c.tc : Thread ZohRefIdeal.nD ZohRefIdeal.τ).loc ZohRefIdeal.main_arg4)) (m' ((c.tc : Thread ZohRefIdeal.nD ZohRefIdeal.τ).loc ZohRefIdeal.main_arg5)) (m' ((c.tc : Thread ZohRefIdeal.nD ZohRefIdeal.τ).loc ZohRefIdeal.main_arg6)) (m' ((c.tc : Thread ZohRefIdeal.nD ZohRefIdeal.τ).loc ZohRefIdeal.main_arg7)) (m' ((c.tc : Thread ZohRefIdeal.nD ZohRefIdeal.τ).loc ZohRefIdeal.main_arg8))
      ∧ r.2.mem ((c.tc : Thread ZohRefIdeal.nD ZohRefIdeal.τ).loc ZohRefIdeal.main_v149) = val_main_v149 (F := Ideal) (m' ((c.tc : Thread ZohRefIdeal.nD ZohRefIdeal.τ).loc ZohRefIdeal.main_arg0)) (m' ((c.tc : Thread ZohRefIdeal.nD ZohRefIdeal.τ).loc ZohRefIdeal.main_arg1)) (m' ((c.tc : Thread ZohRefIdeal.nD ZohRefIdeal.τ).loc ZohRefIdeal.main_arg2)) (m' ((c.tc : Thread ZohRefIdeal.nD ZohRefIdeal.τ).loc ZohRefIdeal.main_arg7)) (m' ((c.tc : Thread ZohRefIdeal.nD ZohRefIdeal.τ).loc ZohRefIdeal.main_arg8))
      ∧ r.2.mem ((c.tc : Thread ZohRefIdeal.nD ZohRefIdeal.τ).loc ZohRefIdeal.main_v150) = val_main_v150 (F := Ideal) (m' ((c.tc : Thread ZohRefIdeal.nD ZohRefIdeal.τ).loc ZohRefIdeal.main_arg0)) (m' ((c.tc : Thread ZohRefIdeal.nD ZohRefIdeal.τ).loc ZohRefIdeal.main_arg1)) (m' ((c.tc : Thread ZohRefIdeal.nD ZohRefIdeal.τ).loc ZohRefIdeal.main_arg2)) (m' ((c.tc : Thread ZohRefIdeal.nD ZohRefIdeal.τ).loc ZohRefIdeal.main_arg7)) (m' ((c.tc : Thread ZohRefIdeal.nD ZohRefIdeal.τ).loc ZohRefIdeal.main_arg8))
      ∧ r.2.mem ((c.tc : Thread ZohRefIdeal.nD ZohRefIdeal.τ).loc ZohRefIdeal.main_arg0) = m' ((c.tc : Thread ZohRefIdeal.nD ZohRefIdeal.τ).loc ZohRefIdeal.main_arg0)
      ∧ r.2.mem ((c.tc : Thread ZohRefIdeal.nD ZohRefIdeal.τ).loc ZohRefIdeal.main_arg1) = m' ((c.tc : Thread ZohRefIdeal.nD ZohRefIdeal.τ).loc ZohRefIdeal.main_arg1)
      ∧ r.2.mem ((c.tc : Thread ZohRefIdeal.nD ZohRefIdeal.τ).loc ZohRefIdeal.main_arg2) = m' ((c.tc : Thread ZohRefIdeal.nD ZohRefIdeal.τ).loc ZohRefIdeal.main_arg2)
      ∧ r.2.mem ((c.tc : Thread ZohRefIdeal.nD ZohRefIdeal.τ).loc ZohRefIdeal.main_arg3) = m' ((c.tc : Thread ZohRefIdeal.nD ZohRefIdeal.τ).loc ZohRefIdeal.main_arg3)
      ∧ r.2.mem ((c.tc : Thread ZohRefIdeal.nD ZohRefIdeal.τ).loc ZohRefIdeal.main_arg4) = m' ((c.tc : Thread ZohRefIdeal.nD ZohRefIdeal.τ).loc ZohRefIdeal.main_arg4)
      ∧ r.2.mem ((c.tc : Thread ZohRefIdeal.nD ZohRefIdeal.τ).loc ZohRefIdeal.main_arg5) = m' ((c.tc : Thread ZohRefIdeal.nD ZohRefIdeal.τ).loc ZohRefIdeal.main_arg5)
      ∧ r.2.mem ((c.tc : Thread ZohRefIdeal.nD ZohRefIdeal.τ).loc ZohRefIdeal.main_arg6) = m' ((c.tc : Thread ZohRefIdeal.nD ZohRefIdeal.τ).loc ZohRefIdeal.main_arg6)
      ∧ r.2.mem ((c.tc : Thread ZohRefIdeal.nD ZohRefIdeal.τ).loc ZohRefIdeal.main_arg7) = m' ((c.tc : Thread ZohRefIdeal.nD ZohRefIdeal.τ).loc ZohRefIdeal.main_arg7)
      ∧ r.2.mem ((c.tc : Thread ZohRefIdeal.nD ZohRefIdeal.τ).loc ZohRefIdeal.main_arg8) = m' ((c.tc : Thread ZohRefIdeal.nD ZohRefIdeal.τ).loc ZohRefIdeal.main_arg8) :=
  (θ_run ZohRefIdeal.defs _ _).mono (fun _ h c => by
    obtain ⟨h0, h1, h2, h3, h4, h5⟩ := h c
    exact ⟨h0.trans (val_main_v146_eq m' c), h1.trans (val_main_v147_eq m' c), h2.trans (val_main_v148_eq m' c), h3.trans (val_main_v149_eq _ _ _ _ _), h4.trans (val_main_v150_eq _ _ _ _ _), h5⟩)
    (ZohRefIdeal.Value.run m' g')

theorem algebraic : Cert.algebraic_ZohIdeal_ZohRefIdeal := by
  intro m g m' g' hpre hagree
  refine ⟨fun c => val_main_v146 (F := Ideal) (a0 m c) (a1 m c) (a2 m c) (a3 m c) (a4 m c) (a5 m c) (a6 m c) (a7 m c) (a8 m c),
    fun c => val_main_v147 (F := Ideal) (a0 m c) (a1 m c) (a2 m c) (a3 m c) (a4 m c) (a5 m c) (a6 m c) (a7 m c) (a8 m c),
    fun c => val_main_v148 (F := Ideal) (a0 m c) (a1 m c) (a2 m c) (a3 m c) (a4 m c) (a5 m c) (a6 m c) (a7 m c) (a8 m c),
    fun c => val_main_v149 (F := Ideal) (a0 m c) (a1 m c) (a2 m c) (a7 m c) (a8 m c),
    fun c => val_main_v150 (F := Ideal) (a0 m c) (a1 m c) (a2 m c) (a7 m c) (a8 m c),
    (θ_run _ _ _).mono (fun r h c => ?_) (θ_run_and (unchanged m g) (run_main m g)), (θ_run _ _ _).mono (fun r h c => ?_) (ref_run m' g')⟩
  · exact ⟨((h.2 c).1 9).trans (final9 m c), ((h.2 c).1 10).trans (final10 m c), ((h.2 c).1 11).trans (final11 m c), ((h.2 c).1 12).trans (final12 m c), ((h.2 c).1 13).trans (final13 m c), h.1 c⟩
  · obtain ⟨h0, h1, h2, h3, h4, h5⟩ := h c
    obtain ⟨e0, e1, e2, e3, e4, e5, e6, e7, e8⟩ := hagree c
    rw [e0, e1, e2, e3, e4, e5, e6, e7, e8] at h0 h1 h2
    rw [e0, e1, e2, e7, e8] at h3 h4
    exact ⟨h0, h1, h2, h3, h4, h5⟩
end Cert.Proof.Zoh
end
-- ==== Proof.GlaFwdPay.lean ====
module
public import proofs.«01_k».proof.Proof.GlaPay
public import proofs.«01_k».proof.Proof.Gen.GlaFwdIdeal.Frame
public import proofs.«01_k».proof.Proof.Gen.GlaFwdRefIdeal.Read
@[expose] public section

/-! The gated-linear-attention forward kernel, one chunk: the state each head leaves and the output it writes, from the
chunk's blocks and the state before it. -/

set_option maxRecDepth 16384
noncomputable section
namespace Cert.Proof.GlaFwd
open Cert.GlaFwdIdeal Cert.GlaFwdIdeal.Gen Cert.GlaRefIdeal.Read Idealize.ShloMosaic Idealize.ShloMosaic.TcCoe Cert.Proof.Finite
open Cert.Proof.Gla (row kcol vcol Gate states decs kvs)
variable {x0 : (⟨GlaRefIdeal.S2048x6160, .f32⟩ : BufTy).Contents (Elt Ideal)} {x1 : (⟨GlaRefIdeal.S16x1024, .f32⟩ : BufTy).Contents (Elt Ideal)}
  {x2 : (⟨GlaRefIdeal.S1024, .f32⟩ : BufTy).Contents (Elt Ideal)} {x3 : (⟨GlaRefIdeal.S512, .f32⟩ : BufTy).Contents (Elt Ideal)}

/-! The state a head leaves: the state before it, decayed, and the chunk's outer products. -/

theorem next0_at (kd : FVec Ideal S64x1024 .f32) (dec : FVec Ideal S1x1024 .f32) (SP : Vec Ideal S1x512x256 .f32) (V : Vec Ideal S64x512 .f32) (v : Fin 512) (k : Fin 256) :
    k0_pay6 kd dec SP V (ix2 v k) = SP (ix3 0 v k) * dec (ix2 0 (kcol 0 k)) + ∑ s : Fin 64, V (ix2 s v) * kd (ix2 s (kcol 0 k)) := by
  rw [show kcol 0 k = ⟨k.val, by omega⟩ from Fin.ext (Gla.kcol_0 k)]
  pointwise [k0_pay6]
theorem next1_at (kd : FVec Ideal S64x1024 .f32) (dec : FVec Ideal S1x1024 .f32) (SP : Vec Ideal S1x512x256 .f32) (V : Vec Ideal S64x512 .f32) (v : Fin 512) (k : Fin 256) :
    k0_pay11 kd dec SP V (ix2 v k) = SP (ix3 0 v k) * dec (ix2 0 (kcol 1 k)) + ∑ s : Fin 64, V (ix2 s v) * kd (ix2 s (kcol 1 k)) := by
  rw [show kcol 1 k = ⟨256 + k.val, by omega⟩ from Fin.ext (Gla.kcol_1 k)]
  pointwise [k0_pay11]
theorem next2_at (kd : FVec Ideal S64x1024 .f32) (dec : FVec Ideal S1x1024 .f32) (SP : Vec Ideal S1x512x256 .f32) (V : Vec Ideal S64x512 .f32) (v : Fin 512) (k : Fin 256) :
    k0_pay17 kd dec SP V (ix2 v k) = SP (ix3 0 v k) * dec (ix2 0 (kcol 2 k)) + ∑ s : Fin 64, V (ix2 s v) * kd (ix2 s (kcol 2 k)) := by
  rw [show kcol 2 k = ⟨512 + k.val, by omega⟩ from Fin.ext (Gla.kcol_2 k)]
  pointwise [k0_pay17]
theorem next3_at (kd : FVec Ideal S64x1024 .f32) (dec : FVec Ideal S1x1024 .f32) (SP : Vec Ideal S1x512x256 .f32) (V : Vec Ideal S64x512 .f32) (v : Fin 512) (k : Fin 256) :
    k0_pay24 (k0_pay21 dec SP) (k0_pay22 V) (k0_pay23 kd) (ix2 v k) =
      SP (ix3 0 v k) * dec (ix2 0 (kcol 3 k)) + ∑ s : Fin 64, V (ix2 s v) * kd (ix2 s (kcol 3 k)) := by
  rw [show kcol 3 k = ⟨768 + k.val, by omega⟩ from Fin.ext (Gla.kcol_3 k)]
  pointwise [k0_pay24, k0_pay21, k0_pay22, k0_pay23]

variable (x0 x1 x2) in
/-- `St` is the state head `h` leaves after chunk `c`. -/
def IsState (c : Fin 32) (h : Fin 4) (St : FVec Ideal S512x256 .f32) : Prop :=
  ∀ (v : Fin 512) (k : Fin 256), St (ix2 v k) = states x0 x1 x2 c (ix4 0 h k v)

variable (x0 x1 x2) in
/-- What head `h` reads of chunk `c` for its state: the state before, which one step of the recurrence takes to the state after, and the values. -/
structure Prior (c : Fin 32) (h : Fin 4) (SP : Vec Ideal S1x512x256 .f32) (V : Vec Ideal S64x512 .f32) : Prop where
  hP : ∀ (v : Fin 512) (k : Fin 256), SP (ix3 0 v k) * val_main_v29 (F := Ideal) x0 x1 x2 (ix3 c h k) + val_main_v30 (F := Ideal) x0 x1 x2 (ix4 c h k v) =
    states x0 x1 x2 c (ix4 0 h k v)
  hV : ∀ (s : Fin 64) (v : Fin 512), V (ix2 s v) = x0 (ix2 (row c s) ⟨2048 + (vcol h v).val, by omega⟩)

section State
variable {c : Fin 32} {g : Vec Ideal S64x128 .f32} {w : Vec Ideal S128x1024 .bf16} {b : Vec Ideal S1x1024 .f32} {kk : Vec Ideal S64x1024 .f32}
  (G : Gate x0 x1 x2 c g w b kk) {SP : Vec Ideal S1x512x256 .f32} {V : Vec Ideal S64x512 .f32}
include G

theorem step {h : Fin 4} (P : Prior x0 x1 x2 c h SP V) (v : Fin 512) (k : Fin 256) :
    SP (ix3 0 v k) * k0_pay5 g w b (ix2 0 (kcol h k)) + ∑ s : Fin 64, V (ix2 s v) * k0_pay4 g w b kk (ix2 s (kcol h k)) =
      states x0 x1 x2 c (ix4 0 h k v) := by
  rw [← P.hP, Gla.v30_at]
  refine congrArg₂ (· + ·) (congrArg (_ * ·) (Gla.dec_at G h k)) (Finset.sum_congr rfl fun s _ => ?_)
  rw [P.hV, Gla.v19_at, mul_comm]
  exact congrArg (· * _) (Gla.kd_at G s h k)
theorem is0 (P : Prior x0 x1 x2 c 0 SP V) : IsState x0 x1 x2 c 0 (k0_pay6 (k0_pay4 g w b kk) (k0_pay5 g w b) SP V) :=
  fun v k => (next0_at _ _ _ _ v k).trans (step G P v k)
theorem is1 (P : Prior x0 x1 x2 c 1 SP V) : IsState x0 x1 x2 c 1 (k0_pay11 (k0_pay4 g w b kk) (k0_pay5 g w b) SP V) :=
  fun v k => (next1_at _ _ _ _ v k).trans (step G P v k)
theorem is2 (P : Prior x0 x1 x2 c 2 SP V) : IsState x0 x1 x2 c 2 (k0_pay17 (k0_pay4 g w b kk) (k0_pay5 g w b) SP V) :=
  fun v k => (next2_at _ _ _ _ v k).trans (step G P v k)
theorem is3 (P : Prior x0 x1 x2 c 3 SP V) : IsState x0 x1 x2 c 3 (k0_pay24 (k0_pay21 (k0_pay5 g w b) SP) (k0_pay22 V) (k0_pay23 (k0_pay4 g w b kk))) :=
  fun v k => (next3_at _ _ _ _ v k).trans (step G P v k)
end State

/-! How the body writes a state: into the scratch and into the block of states. -/
/-- A state as the scratch keeps it. -/
abbrev kept (St : FVec Ideal S512x256 .f32) : FVec Ideal S1x512x256 .f32 := shapeCast S1x512x256 St shapeCasts_S512x256_S1x512x256
/-- A state as the block of states keeps it. -/
abbrev saved (St : FVec Ideal S512x256 .f32) : FVec Ideal S1x1x512x256 .f32 := shapeCast S1x1x512x256 St shapeCasts_S512x256_S1x1x512x256
theorem kept_at (St : FVec Ideal S512x256 .f32) (v : Fin 512) (k : Fin 256) : kept St (ix3 0 v k) = St (ix2 v k) := by
  pointwise
theorem saved_at (St : FVec Ideal S512x256 .f32) (v : Fin 512) (k : Fin 256) : saved St (ix4 0 0 v k) = St (ix2 v k) := by
  pointwise

/-! The heads' outputs are one function of the state they leave. -/
theorem form_y0 (kd : FVec Ideal S64x1024 .f32) (dec : FVec Ideal S1x1024 .f32) (SP : Vec Ideal S1x512x256 .f32) (V : Vec Ideal S64x512 .f32)
    (q : Vec Ideal S64x256 .f32) (on : Vec Ideal S1x512 .f32) (r : Vec Ideal S64x512 .f32) :
    k0_pay10 (k0_pay9 kd dec SP V q) on r = k0_pay20 (k0_pay6 kd dec SP V) q on r := rfl
theorem form_y1 (kd : FVec Ideal S64x1024 .f32) (dec : FVec Ideal S1x1024 .f32) (SP : Vec Ideal S1x512x256 .f32) (V : Vec Ideal S64x512 .f32)
    (q : Vec Ideal S64x256 .f32) (on : Vec Ideal S1x512 .f32) (r : Vec Ideal S64x512 .f32) :
    k0_pay16 (k0_pay14 kd dec SP V q) (k0_pay15 kd dec SP V q) on r = k0_pay20 (k0_pay11 kd dec SP V) q on r := rfl
theorem form_y3 (a : FVec Ideal S512x256 .f32) (V : FVec Ideal S64x512 .bf16) (kd : FVec Ideal S64x256 .bf16)
    (q : Vec Ideal S64x256 .f32) (on : Vec Ideal S1x512 .f32) (r : Vec Ideal S64x512 .f32) :
    k0_pay27 a V kd q on r = k0_pay20 (k0_pay24 a V kd) q on r := rfl

/-! The reference's results. -/
theorem y_ref (c : Fin 32) (h : Fin 4) (s : Fin 64) (v : Fin 512) : GlaFwdRefIdeal.Read.val_main_v183 (F := Ideal) x0 x1 x2 x3 (ix2 (row c s) (vcol h v)) =
    val_main_v165 (F := Ideal) x0 x1 x2 (ix4 c h s v) * val_main_v173 (F := Ideal) x0 x1 x2 (ix4 c h s 0) * x3 (ix1 v) *
      (x0 (ix2 (row c s) ⟨4096 + (vcol h v).val, by omega⟩) * Ideal.logistic (x0 (ix2 (row c s) ⟨4096 + (vcol h v).val, by omega⟩))) := by
  have e165 : GlaFwdRefIdeal.Read.val_main_v165 (F := Ideal) x0 x1 x2 = val_main_v165 (F := Ideal) x0 x1 x2 := rfl
  have e173 : GlaFwdRefIdeal.Read.val_main_v173 (F := Ideal) x0 x1 x2 = val_main_v173 (F := Ideal) x0 x1 x2 := rfl
  pointwise [GlaFwdRefIdeal.Read.val_main_v183, GlaFwdRefIdeal.Read.val_main_v182, GlaFwdRefIdeal.Read.val_main_v181, GlaFwdRefIdeal.Read.val_main_v180,
    GlaFwdRefIdeal.Read.val_main_v179, GlaFwdRefIdeal.Read.val_main_v178, GlaFwdRefIdeal.Read.val_main_v177, GlaFwdRefIdeal.Read.val_main_v176,
    GlaFwdRefIdeal.Read.val_main_v175, GlaFwdRefIdeal.Read.val_main_v174, GlaFwdRefIdeal.Read.val_main_v3, GlaFwdRefIdeal.Read.val_main_call2_v0,
    GlaFwdRefIdeal.Read.val_main_call2_v1, GlaFwdRefIdeal.Read.val_main_call2_v2, GlaFwdRefIdeal.Read.val_main_call2_v3, GlaFwdRefIdeal.Read.val_main_call2_v4,
    GlaFwdRefIdeal.Read.val_main_call2_v5, GlaFwdRefIdeal.Read.val_main_call2_cst, GlaFwdRefIdeal.Read.val_main_call2_cst_0]
  simp only [Gla.row_div, Gla.row_mod, Gla.vcol_div, Gla.vcol_mod, e165, e173]
  rfl
theorem st_ref (c : Fin 32) (h : Fin 4) (v : Fin 512) (k : Fin 256) : GlaFwdRefIdeal.Read.val_main_v184 (F := Ideal) x0 x1 x2 (ix4 h c v k) =
    states x0 x1 x2 c (ix4 0 h k v) := by
  have e164 : GlaFwdRefIdeal.Read.val_main_v164 (F := Ideal) x0 x1 x2 = val_main_v164 (F := Ideal) x0 x1 x2 := rfl
  rw [← Gla.v164_at]
  pointwise [GlaFwdRefIdeal.Read.val_main_v184]
  rw [e164]

variable (x0 x3) in
/-- What head `h` reads of chunk `c` for its output: the queries, the norm's scale and the gate. -/
structure Out (c : Fin 32) (h : Fin 4) (q : Vec Ideal S64x256 .f32) (on : Vec Ideal S1x512 .f32) (r : Vec Ideal S64x512 .f32) : Prop where
  hq : ∀ (s : Fin 64) (k : Fin 256), q (ix2 s k) = x0 (ix2 (row c s) ⟨h.val * 256 + k.val, by omega⟩)
  hon : ∀ v : Fin 512, on (ix2 0 v) = x3 (ix1 v)
  hr : ∀ (s : Fin 64) (v : Fin 512), r (ix2 s v) = x0 (ix2 (row c s) ⟨4096 + (vcol h v).val, by omega⟩)

theorem out_at {c : Fin 32} {h : Fin 4} {q : Vec Ideal S64x256 .f32} {on : Vec Ideal S1x512 .f32} {r : Vec Ideal S64x512 .f32} {St : FVec Ideal S512x256 .f32}
    (O : Out x0 x3 c h q on r) (hS : IsState x0 x1 x2 c h St) (s : Fin 64) (v : Fin 512) :
    k0_pay20 St q on r (ix2 s v) = GlaFwdRefIdeal.Read.val_main_v183 (F := Ideal) x0 x1 x2 x3 (ix2 (row c s) (vcol h v)) := by
  have hq (k : Fin 256) : q (ix2 s k) * Ideal.ofBits .f32 0x3D800000#32 = val_main_v15 (F := Ideal) x0 (ix4 c h s k) := by rw [Gla.v15_at, O.hq]
  rw [y_ref, Gla.v173_at]
  simp only [Gla.v165_at, Gla.v164_at]
  pointwise [k0_pay20]
  simp only [hq, hS _ _, O.hon, O.hr]
end Cert.Proof.GlaFwd
end
-- ==== Proof.GlaFwdState.lean ====
module
public import proofs.«01_k».proof.Defs
public import proofs.«01_k».proof.Proof.GlaFwdPay
public import Idealize.ShloMosaic.Lib.Pipeline.ValueKit
public import Idealize.ShloMosaic.Lib.Pipeline.ReadBack
public import Idealize.ShloMosaic.Lib.StableHlo.RunRead
public import Idealize.ShloMosaic.Lib.Claim
@[expose] public section

/-! The gated-linear-attention forward kernel, point by point of its grid: the blocks it is given, the state it carries,
and what it writes. -/

set_option maxRecDepth 16384
noncomputable section
namespace Cert.Proof.GlaFwd
open Cert.GlaFwdIdeal Cert.GlaFwdIdeal.Gen Idealize.ShloMosaic Idealize.ShloMosaic.TcCoe Idealize.SL.Sem
open Cert.Proof.Finite
open Cert.Proof.Gla (row kcol vcol Gate states)
variable (m : (ℓ : Loc nD τ sig) → Buf (Elt Ideal) ℓ) (c : Dev nD)

/-- The arguments of the call on one device: the projections, -/
abbrev a0 : (⟨GlaRefIdeal.S2048x6160, .f32⟩ : BufTy).Contents (Elt Ideal) := m ((c : Thread nD τ).loc main_arg0)
/-- the decay's low-rank weight, -/
abbrev a1 : (⟨GlaRefIdeal.S16x1024, .f32⟩ : BufTy).Contents (Elt Ideal) := m ((c : Thread nD τ).loc main_arg1)
/-- the decay's bias -/
abbrev a2 : (⟨GlaRefIdeal.S1024, .f32⟩ : BufTy).Contents (Elt Ideal) := m ((c : Thread nD τ).loc main_arg2)
/-- and the output norm's scale. -/
abbrev a3 : (⟨GlaRefIdeal.S512, .f32⟩ : BufTy).Contents (Elt Ideal) := m ((c : Thread nD τ).loc main_arg3)

theorem proj_host (r : Fin 2048) (k : Fin 6272) : V m c main_v0 (ix2 r k) =
    if h : k.val < 6160 then a0 m c (ix2 r ⟨k.val, h⟩) else (0 : EReal) := by
  unfold V
  after_reads_simp
  change pad S2048x6272 ![0, 0] ![0, 112] ![0, 0] (a0 m c) (sitofp .f32 (constantI S_ 32 0#32) : FVec Ideal S_ .f32)
    pads_S2048x6160_S2048x6272_000_01120 h_S_ (ix2 r k) = _
  pointwise
  simp only [zero_int]
theorem wgu_host (i : Fin 128) (k : Fin 1024) : V m c main_v2 (ix2 i k) =
    if h : i.val < 16 then a1 m c (ix2 ⟨i.val, h⟩ k) else (0 : EReal) := by
  unfold V
  after_reads_simp
  change pad S128x1024 ![0, 0] ![112, 0] ![0, 0] (a1 m c) (sitofp .f32 (constantI S_ 32 0#32) : FVec Ideal S_ .f32)
    pads_S16x1024_S128x1024_01120_000 h_S_ (ix2 i k) = _
  pointwise
  simp only [zero_int]
theorem bg_host (k : Fin 1024) : V m c main_v3 (ix2 0 k) = a2 m c (ix1 k) := by
  unfold V
  after_reads_simp
  pointwise
theorem on_host (k : Fin 512) : V m c main_v4 (ix2 0 k) = a3 m c (ix1 k) := by
  unfold V
  after_reads_simp
  pointwise

theorem idx : ∀ t : Fin cfg0.N, win0_0.index t = ![t.val, 0] ∧ win0_1.index t = ![t.val, 1] ∧ win0_2.index t = ![t.val, 1] ∧
    win0_3.index t = ![t.val, 2] ∧ win0_4.index t = ![t.val, 48] ∧ win0_5.index t = ![0, 0] ∧ win0_6.index t = ![0, 0] ∧
    win0_7.index t = ![0, 0] ∧ win0_8.index t = ![t.val, 0] ∧ win0_9.index t = ![0, t.val, 0, 0] ∧ t.val < 32 :=
  (by decide +kernel : ∀ t : Fin grid0.N, _)
/-- The chunk that grid point `t` handles. -/
def ch (t : Fin cfg0.N) : Fin 32 := ⟨t.val, (idx t).2.2.2.2.2.2.2.2.2.2⟩

theorem q_blk (t : Fin cfg0.N) (s : Fin 64) (k : Fin 1024) : X0_0 m c t (ix2 s k) = a0 m c (ix2 (row (ch t) s) ⟨k.val, by omega⟩) := by
  unfold X0_0 Pipeline.Window.fill
  rw [dif_pos (moved0_0 t _)]
  blk_simp [iblk]
  refine (congrArg (V m c main_v0) (?_ : _ = ix2 (row (ch t) s) ⟨k.val, by omega⟩)).trans ?_
  · blk_ext [idx t, row, ch]
  · rw [proj_host]
    exact dif_pos _
theorem k_blk (t : Fin cfg0.N) (s : Fin 64) (k : Fin 1024) : X0_1 m c t (ix2 s k) = a0 m c (ix2 (row (ch t) s) ⟨1024 + k.val, by omega⟩) := by
  unfold X0_1 Pipeline.Window.fill
  rw [dif_pos (moved0_1 t _)]
  blk_simp [iblk]
  refine (congrArg (V m c main_v0) (?_ : _ = ix2 (row (ch t) s) ⟨1024 + k.val, by omega⟩)).trans ?_
  · blk_ext [idx t, row, ch]
  · rw [proj_host]
    exact dif_pos _
theorem v_blk (t : Fin cfg0.N) (s : Fin 64) (k : Fin 2048) : X0_2 m c t (ix2 s k) = a0 m c (ix2 (row (ch t) s) ⟨2048 + k.val, by omega⟩) := by
  unfold X0_2 Pipeline.Window.fill
  rw [dif_pos (moved0_2 t _)]
  blk_simp [iblk]
  refine (congrArg (V m c main_v0) (?_ : _ = ix2 (row (ch t) s) ⟨2048 + k.val, by omega⟩)).trans ?_
  · blk_ext [idx t, row, ch]
  · rw [proj_host]
    exact dif_pos _
theorem r_blk (t : Fin cfg0.N) (s : Fin 64) (k : Fin 2048) : X0_3 m c t (ix2 s k) = a0 m c (ix2 (row (ch t) s) ⟨4096 + k.val, by omega⟩) := by
  unfold X0_3 Pipeline.Window.fill
  rw [dif_pos (moved0_3 t _)]
  blk_simp [iblk]
  refine (congrArg (V m c main_v0) (?_ : _ = ix2 (row (ch t) s) ⟨4096 + k.val, by omega⟩)).trans ?_
  · blk_ext [idx t, row, ch]
  · rw [proj_host]
    exact dif_pos _
theorem g_blk (t : Fin cfg0.N) (s : Fin 64) (i : Fin 128) : iblk m c 4 t (ix2 s i) =
    if h : i.val < 16 then a0 m c (ix2 (row (ch t) s) ⟨6144 + i.val, by omega⟩) else 0 := by
  blk_simp [iblk]
  refine (congrArg (V m c main_v0) (?_ : _ = ix2 (row (ch t) s) ⟨6144 + i.val, by omega⟩)).trans ?_
  · blk_ext [idx t, row, ch]
  · rw [proj_host]
    by_cases h : i.val < 16
    · rw [dif_pos h, dif_pos (by dsimp only; omega)]
    · rw [dif_neg h, dif_neg (by dsimp only; omega)]
theorem w_blk (t : Fin cfg0.N) (i : Fin 128) (k : Fin 1024) : iblk m c 5 t (ix2 i k) = if h : i.val < 16 then a1 m c (ix2 ⟨i.val, h⟩ k) else 0 := by
  blk_simp [iblk]
  refine (congrArg (V m c main_v2) (?_ : _ = ix2 i k)).trans (wgu_host m c i k)
  blk_ext [idx t, row, ch]
theorem b_blk (t : Fin cfg0.N) (k : Fin 1024) : iblk m c 6 t (ix2 0 k) = a2 m c (ix1 k) := by
  blk_simp [iblk]
  refine (congrArg (V m c main_v3) (?_ : _ = ix2 0 k)).trans (bg_host m c k)
  blk_ext [idx t, row, ch]
theorem on_blk (t : Fin cfg0.N) (k : Fin 512) : iblk m c 7 t (ix2 0 k) = a3 m c (ix1 k) := by
  blk_simp [iblk]
  refine (congrArg (V m c main_v4) (?_ : _ = ix2 0 k)).trans (on_host m c k)
  blk_ext [idx t, row, ch]

theorem gate (t : Fin cfg0.N) : Gate (a0 m c) (a1 m c) (a2 m c) (ch t) (iblk m c 4 t) (iblk m c 5 t) (iblk m c 6 t) (X0_1 m c t) :=
  ⟨g_blk m c t, w_blk m c t, b_blk m c t, fun s k => k_blk m c t s k⟩

theorem out (t : Fin cfg0.N) (h : Fin 4) {oq ov : ℕ} (eq : oq = h.val * 256) (ev : ov = h.val * 512)
    (i1 : ∀ a, (![0, oq] : Fin 2 → ℕ) a + S64x256.size a ≤ S64x1024.size a)
    (i3 : ∀ a, (![0, ov] : Fin 2 → ℕ) a + S64x512.size a ≤ S64x2048.size a) :
    Out (a0 m c) (a3 m c) (ch t) h (View.ld (X0_0 m c t) (Rect.unit ![0, oq] ![64, 256] i1)) (iblk m c 7 t)
      (View.ld (X0_3 m c t) (Rect.unit ![0, ov] ![64, 512] i3)) := by
  subst eq ev
  refine ⟨fun s k => ?_, on_blk m c t, fun s v => ?_⟩
  · exact (View.ld_unit_apply_of _ _ _ _ _ (ix2 s (kcol h k)) fun a => by fin_cases a <;> simp [kcol]).trans (q_blk m c t s (kcol h k))
  · exact (View.ld_unit_apply_of _ _ _ _ _ (ix2 s (vcol h v)) fun a => by fin_cases a <;> simp [vcol]).trans (r_blk m c t s (vcol h v))

/-- What the scratch holds before grid point `t`: the states one step of the recurrence takes to this chunk's. -/
def Prev (t : Fin cfg0.N) (P : Vec Ideal S4x512x256 .f32) : Prop :=
  ∀ (h : Fin 4) (v : Fin 512) (k : Fin 256), P (ix3 h v k) * GlaRefIdeal.Read.val_main_v29 (F := Ideal) (a0 m c) (a1 m c) (a2 m c) (ix3 (ch t) h k) +
    GlaRefIdeal.Read.val_main_v30 (F := Ideal) (a0 m c) (a1 m c) (a2 m c) (ix4 (ch t) h k v) = states (a0 m c) (a1 m c) (a2 m c) (ch t) (ix4 0 h k v)
/-- The states a chunk leaves, as the scratch lays them out. -/
def carry (t : Fin cfg0.N) (y : S4x512x256.Idx) : EReal := states (a0 m c) (a1 m c) (a2 m c) (ch t) (ix4 0 (y 0) (y 2) (y 1))
/-- The reference's output on a chunk's rows. -/
def yRows (t : Fin cfg0.N) (y : S64x2048.Idx) : EReal :=
  GlaFwdRefIdeal.Read.val_main_v183 (F := Ideal) (a0 m c) (a1 m c) (a2 m c) (a3 m c) (ix2 (row (ch t) (y 0)) (y 1))
/-- The reference's states of a chunk. -/
def stRows (t : Fin cfg0.N) (y : S4x1x512x256.Idx) : EReal :=
  GlaFwdRefIdeal.Read.val_main_v184 (F := Ideal) (a0 m c) (a1 m c) (a2 m c) (ix4 (y 0) (ch t) (y 2) (y 3))
variable {m c}

theorem Prev.prior {t : Fin cfg0.N} {P : Vec Ideal S4x512x256 .f32} (hP : Prev m c t P) (h : Fin 4) {oh ov : ℕ}
    (eh : oh = h.val) (ev : ov = h.val * 512) (i1 : ∀ a, (![oh, 0, 0] : Fin 3 → ℕ) a + S1x512x256.size a ≤ S4x512x256.size a)
    (i3 : ∀ a, (![0, ov] : Fin 2 → ℕ) a + S64x512.size a ≤ S64x2048.size a) :
    Prior (a0 m c) (a1 m c) (a2 m c) (ch t) h (View.ld P (Rect.unit ![oh, 0, 0] ![1, 512, 256] i1))
      (View.ld (X0_2 m c t) (Rect.unit ![0, ov] ![64, 512] i3)) := by
  subst eh ev
  refine ⟨fun v k => (congrArg (fun z => z * _ + _) ?_).trans (hP h v k), fun s v => ?_⟩
  · exact View.ld_unit_apply_of _ _ _ _ _ (ix3 h v k) fun a => by fin_cases a <;> simp
  · exact (View.ld_unit_apply_of _ _ _ _ _ (ix2 s (vcol h v)) fun a => by fin_cases a <;> simp [vcol]).trans (v_blk m c t s (vcol h v))

theorem kept_out {t : Fin cfg0.N} {h : Fin 4} {St : FVec Ideal S512x256 .f32} (hS : IsState (a0 m c) (a1 m c) (a2 m c) (ch t) h St)
    (x : S1x512x256.Idx) (y : S4x512x256.Idx) (e0 : (y 0).val = h.val + (x 0).val) (e1 : (y 1).val = (x 1).val) (e2 : (y 2).val = (x 2).val) :
    kept St x = carry m c t y := by
  obtain ⟨z, v, k, rfl⟩ : ∃ (z : Fin 1) (v : Fin 512) (k : Fin 256), x = ix3 z v k := ⟨x 0, x 1, x 2, eq_ix3 x⟩
  obtain rfl : z = 0 := Subsingleton.elim _ _
  unfold carry
  rw [show y 0 = h from Fin.ext e0, show y 1 = v from Fin.ext e1, show y 2 = k from Fin.ext e2, kept_at, hS]

theorem saved_out {t : Fin cfg0.N} {h : Fin 4} {St : FVec Ideal S512x256 .f32} (hS : IsState (a0 m c) (a1 m c) (a2 m c) (ch t) h St)
    (x : S1x1x512x256.Idx) (y : S4x1x512x256.Idx) (e0 : (y 0).val = h.val + (x 0).val) (e2 : (y 2).val = (x 2).val) (e3 : (y 3).val = (x 3).val) :
    saved St x = stRows m c t y := by
  obtain ⟨z, w, v, k, rfl⟩ : ∃ (z : Fin 1) (w : Fin 1) (v : Fin 512) (k : Fin 256), x = ix4 z w v k := ⟨x 0, x 1, x 2, x 3, eq_ix4 x⟩
  obtain rfl : z = 0 := Subsingleton.elim _ _
  obtain rfl : w = 0 := Subsingleton.elim _ _
  unfold stRows
  rw [show y 0 = h from Fin.ext e0, show y 2 = v from Fin.ext e2, show y 3 = k from Fin.ext e3, saved_at, hS, st_ref]

theorem y_out {t : Fin cfg0.N} {h : Fin 4} {q : Vec Ideal S64x256 .f32} {on : Vec Ideal S1x512 .f32} {r : Vec Ideal S64x512 .f32} {St : FVec Ideal S512x256 .f32}
    (O : Out (a0 m c) (a3 m c) (ch t) h q on r) (hS : IsState (a0 m c) (a1 m c) (a2 m c) (ch t) h St)
    (x : S64x512.Idx) (y : S64x2048.Idx) (e0 : (y 0).val = (x 0).val) (e1 : (y 1).val = h.val * 512 + (x 1).val) :
    k0_pay20 St q on r x = yRows m c t y := by
  obtain ⟨s, v, rfl⟩ : ∃ (s : Fin 64) (v : Fin 512), x = ix2 s v := ⟨x 0, x 1, eq_ix2 x⟩
  unfold yRows
  rw [show y 0 = s from Fin.ext e0, show y 1 = vcol h v from Fin.ext e1]
  exact out_at O hS s v

theorem carry_A (t : Fin cfg0.N) (h0 : t.val % 32 = 0) (hP : Prev m c t (k0_pay1 (F := Ideal))) (y : S4x512x256.Idx) :
    (outsAt0 m c t.val t.isLt).2.2 y = carry m c t y := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (carry m c t) [_] [_, _, _, _] ⟨fun x => ?_, fun x => ?_, fun x => ?_, fun x => ?_, trivial⟩ y ?_
  · exact kept_out (is3 (gate m c t) (hP.prior 3 rfl rfl _ _)) x _ (congrArg (_ + ·) (one_mul _)) ((zero_add _).trans (one_mul _)) ((zero_add _).trans (one_mul _))
  · exact kept_out (is2 (gate m c t) (hP.prior 2 rfl rfl _ _)) x _ (congrArg (_ + ·) (one_mul _)) ((zero_add _).trans (one_mul _)) ((zero_add _).trans (one_mul _))
  · exact kept_out (is1 (gate m c t) (hP.prior 1 rfl rfl _ _)) x _ (congrArg (_ + ·) (one_mul _)) ((zero_add _).trans (one_mul _)) ((zero_add _).trans (one_mul _))
  · exact kept_out (is0 (gate m c t) (hP.prior 0 rfl rfl _ _)) x _ (congrArg (_ + ·) (one_mul _)) ((zero_add _).trans (one_mul _)) ((zero_add _).trans (one_mul _))
  · exact View.cover_of_tiledL _ ![1, 512, 256] (by sl_kernel_rfl) y

theorem carry_B (t : Fin cfg0.N) (h0 : ¬t.val % 32 = 0)
    (hP : Prev m c t (outsAt0 m c (t.val - 1) (Nat.lt_of_le_of_lt (Nat.sub_le _ _) t.isLt)).2.2) (y : S4x512x256.Idx) :
    (outsAt0 m c t.val t.isLt).2.2 y = carry m c t y := by
  rw [outsAt0_B m c t h0]
  frame_out
  simp only [read_unread_whole]
  canon_tiles x e
  · exact kept_out (is3 (gate m c t) (hP.prior 3 rfl rfl _ _)) x _ e0 e1 e2
  · exact kept_out (is2 (gate m c t) (hP.prior 2 rfl rfl _ _)) x _ e0 e1 e2
  · exact kept_out (is1 (gate m c t) (hP.prior 1 rfl rfl _ _)) x _ e0 e1 e2
  · exact kept_out (is0 (gate m c t) (hP.prior 0 rfl rfl _ _)) x _ (e0.trans (zero_add _).symm) e1 e2

theorem prev_A (t : Fin cfg0.N) (h0 : t.val % 32 = 0) : Prev m c t (k0_pay1 (F := Ideal)) := by
  intro h v k
  have ht := (idx t).2.2.2.2.2.2.2.2.2.2
  rw [show ch t = 0 from Fin.ext (by show t.val = 0; omega), Gla.states_zero, Gla.v33_zero, mul_zero, Gla.kvs_at]
  pointwise [k0_pay1]
  rw [zero_mul, zero_add]

theorem prev_B (t : Fin cfg0.N) (h0 : ¬t.val % 32 = 0)
    (ih : ∀ y, (outsAt0 m c (t.val - 1) (Nat.lt_of_le_of_lt (Nat.sub_le _ _) t.isLt)).2.2 y =
      carry m c ⟨t.val - 1, Nat.lt_of_le_of_lt (Nat.sub_le _ _) t.isLt⟩ y) :
    Prev m c t (outsAt0 m c (t.val - 1) (Nat.lt_of_le_of_lt (Nat.sub_le _ _) t.isLt)).2.2 := by
  intro h v k
  have ht := (idx t).2.2.2.2.2.2.2.2.2.2
  have hs : ch t = Fin.succ ⟨t.val - 1, by omega⟩ := Fin.ext (by show t.val = t.val - 1 + 1; omega)
  rw [ih, hs, Gla.states_succ, Gla.decs_at, Gla.kvs_at, mul_comm (GlaRefIdeal.Read.val_main_v29 _ _ _ _)]
  rfl

theorem carry_at : ∀ (n : ℕ) (hn : n < cfg0.N) (y : S4x512x256.Idx), (outsAt0 m c n hn).2.2 y = carry m c ⟨n, hn⟩ y
  | 0, hn, y => carry_A ⟨0, hn⟩ rfl (prev_A _ rfl) y
  | n + 1, hn, y => by
    have ht := (idx ⟨n + 1, hn⟩).2.2.2.2.2.2.2.2.2.2
    have h0 : ¬(⟨n + 1, hn⟩ : Fin cfg0.N).val % 32 = 0 := by dsimp only at ht ⊢; omega
    exact carry_B ⟨n + 1, hn⟩ h0 (prev_B _ h0 (carry_at n _)) y

/-- The output's block at grid point `t`. -/
theorem y_at (t : Fin cfg0.N) (y : S64x2048.Idx) : (outsAt0 m c t.val t.isLt).1 y = yRows m c t y := by
  by_cases h0 : t.val % 32 = 0
  · have hP : Prev m c t (k0_pay1 (F := Ideal)) := prev_A t h0
    rw [outsAt0_A m c t h0]
    frame_open
    simp (disch := decide) only [↓ View.readCov_skip, ↓ View.readCov_cons_toLoadRect, ↓ View.readCov_fill]
    frame_out
    canon_tiles x e
    · refine (congrFun (form_y3 _ _ _ _ _ _) x).trans ?_
      exact y_out (out m c t 3 rfl rfl _ _) (is3 (gate m c t) (hP.prior 3 rfl rfl _ _)) x _ e0 e1
    · exact y_out (out m c t 2 rfl rfl _ _) (is2 (gate m c t) (hP.prior 2 rfl rfl _ _)) x _ e0 e1
    · refine (congrFun (form_y1 _ _ _ _ _ _ _) x).trans ?_
      exact y_out (out m c t 1 rfl rfl _ _) (is1 (gate m c t) (hP.prior 1 rfl rfl _ _)) x _ e0 e1
    · refine (congrFun (form_y0 _ _ _ _ _ _ _) x).trans ?_
      exact y_out (out m c t 0 rfl rfl _ _) (is0 (gate m c t) (hP.prior 0 rfl rfl _ _)) x _ e0 (e1.trans (zero_add _).symm)
  · have hP := prev_B (m := m) (c := c) t h0 (carry_at _ _)
    rw [outsAt0_B m c t h0]
    frame_out
    simp only [read_unread_whole]
    canon_tiles x e
    · refine (congrFun (form_y3 _ _ _ _ _ _) x).trans ?_
      exact y_out (out m c t 3 rfl rfl _ _) (is3 (gate m c t) (hP.prior 3 rfl rfl _ _)) x _ e0 e1
    · exact y_out (out m c t 2 rfl rfl _ _) (is2 (gate m c t) (hP.prior 2 rfl rfl _ _)) x _ e0 e1
    · refine (congrFun (form_y1 _ _ _ _ _ _ _) x).trans ?_
      exact y_out (out m c t 1 rfl rfl _ _) (is1 (gate m c t) (hP.prior 1 rfl rfl _ _)) x _ e0 e1
    · refine (congrFun (form_y0 _ _ _ _ _ _ _) x).trans ?_
      exact y_out (out m c t 0 rfl rfl _ _) (is0 (gate m c t) (hP.prior 0 rfl rfl _ _)) x _ e0 (e1.trans (zero_add _).symm)

/-- The block of states at grid point `t`. -/
theorem st_at (t : Fin cfg0.N) (y : S4x1x512x256.Idx) : (outsAt0 m c t.val t.isLt).2.1 y = stRows m c t y := by
  by_cases h0 : t.val % 32 = 0
  · have hP : Prev m c t (k0_pay1 (F := Ideal)) := prev_A t h0
    rw [outsAt0_A m c t h0]
    frame_open
    simp (disch := decide) only [↓ View.readCov_skip, ↓ View.readCov_cons_toLoadRect, ↓ View.readCov_fill]
    frame_out
    canon_tiles x e
    · exact saved_out (is3 (gate m c t) (hP.prior 3 rfl rfl _ _)) x _ e0 e2 e3
    · exact saved_out (is2 (gate m c t) (hP.prior 2 rfl rfl _ _)) x _ e0 e2 e3
    · exact saved_out (is1 (gate m c t) (hP.prior 1 rfl rfl _ _)) x _ e0 e2 e3
    · exact saved_out (is0 (gate m c t) (hP.prior 0 rfl rfl _ _)) x _ (e0.trans (zero_add _).symm) e2 e3
  · have hP := prev_B (m := m) (c := c) t h0 (carry_at _ _)
    rw [outsAt0_B m c t h0]
    frame_out
    simp only [read_unread_whole]
    canon_tiles x e
    · exact saved_out (is3 (gate m c t) (hP.prior 3 rfl rfl _ _)) x _ e0 e2 e3
    · exact saved_out (is2 (gate m c t) (hP.prior 2 rfl rfl _ _)) x _ e0 e2 e3
    · exact saved_out (is1 (gate m c t) (hP.prior 1 rfl rfl _ _)) x _ e0 e2 e3
    · exact saved_out (is0 (gate m c t) (hP.prior 0 rfl rfl _ _)) x _ (e0.trans (zero_add _).symm) e2 e3
end Cert.Proof.GlaFwd
end
-- ==== Proof.GlaFwd.lean ====
module
public import proofs.«01_k».proof.Proof.GlaFwdState
public import proofs.«01_k».proof.Proof.Gen.GlaFwdIdeal.Value
public import proofs.«01_k».proof.Proof.Gen.GlaFwd.Frame
public import proofs.«01_k».proof.Proof.Gen.GlaFwdRefIdeal.Run
@[expose] public section

/-! The gated-linear-attention forward kernel computes the reference: its output and the states of its chunks. -/

set_option maxRecDepth 16384
noncomputable section
namespace Cert.Proof.GlaFwd
open Cert.GlaFwdIdeal Cert.GlaFwdIdeal.Gen Idealize.ShloMosaic Idealize.ShloMosaic.TcCoe Idealize.SL.Sem
open Cert.GlaFwdRefIdeal.Read
open Cert.Proof.Gla (row)
variable {m : (ℓ : Loc nD τ sig) → Buf (Elt Ideal) ℓ} {c : Dev nD}

theorem final_y : (dats m 0 c).arrAt 8 cfg0.N = val_main_v183 (F := Ideal) (a0 m c) (a1 m c) (a2 m c) (a3 m c) := by
  refine (dats m 0 c).arrAt_eq_of_covers 8 _ (by decide +kernel) fun t _ y => ?_
  blk_simp
  rw [after0_8, y_at, yRows]
  refine congrArg (val_main_v183 (F := Ideal) (a0 m c) (a1 m c) (a2 m c) (a3 m c)) ?_
  blk_ext [idx t, row, ch]

theorem final_st : (dats m 0 c).arrAt 9 cfg0.N = val_main_v184 (F := Ideal) (a0 m c) (a1 m c) (a2 m c) := by
  refine (dats m 0 c).arrAt_eq_of_covers 9 _ (by decide +kernel) fun t _ y => ?_
  blk_simp
  rw [after0_9, st_at, stRows]
  refine congrArg (val_main_v184 (F := Ideal) (a0 m c) (a1 m c) (a2 m c)) ?_
  blk_ext [idx t, ch]

/-- The kernel's run: the output and the states are the reference's, and the arguments end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v5_0) = val_main_v183 (F := Ideal) (a0 m c) (a1 m c) (a2 m c) (a3 m c)
      ∧ r.2.mem ((c.tc : Thread nD τ).loc main_v5_1) = val_main_v184 (F := Ideal) (a0 m c) (a1 m c) (a2 m c))
      ∧ r.2.mem ((c.tc : Thread nD τ).loc main_arg0) = a0 m c ∧ r.2.mem ((c.tc : Thread nD τ).loc main_arg1) = a1 m c
      ∧ r.2.mem ((c.tc : Thread nD τ).loc main_arg2) = a2 m c ∧ r.2.mem ((c.tc : Thread nD τ).loc main_arg3) = a3 m c :=
  (θ_run defs _ _).mono (fun _ h c => ⟨⟨((h.2 c).1 8).trans final_y, ((h.2 c).1 9).trans final_st⟩, h.1 c⟩)
    (θ_run_and (unchanged m g) (run_main m g))

/-- The reference's run, its results read stage by stage. -/
theorem ref_run (m' : (ℓ : Loc GlaFwdRefIdeal.nD GlaFwdRefIdeal.τ GlaFwdRefIdeal.sig) → Buf (Elt Ideal) ℓ) (g' : Dev GlaFwdRefIdeal.nD → PrngReg) :
    θ_run (GlaFwdRefIdeal.defs (F := Ideal)) (onTc (τ := GlaFwdRefIdeal.τ) (GlaFwdRefIdeal.main (F := Ideal))) ⟨m', fun _ => 0, g'⟩ fun r => ∀ c : Dev GlaFwdRefIdeal.nD,
      r.2.mem ((c.tc : Thread GlaFwdRefIdeal.nD GlaFwdRefIdeal.τ).loc GlaFwdRefIdeal.main_v183) = val_main_v183 (F := Ideal) (m' ((c.tc : Thread GlaFwdRefIdeal.nD GlaFwdRefIdeal.τ).loc GlaFwdRefIdeal.main_arg0)) (m' ((c.tc : Thread GlaFwdRefIdeal.nD GlaFwdRefIdeal.τ).loc GlaFwdRefIdeal.main_arg1)) (m' ((c.tc : Thread GlaFwdRefIdeal.nD GlaFwdRefIdeal.τ).loc GlaFwdRefIdeal.main_arg2)) (m' ((c.tc : Thread GlaFwdRefIdeal.nD GlaFwdRefIdeal.τ).loc GlaFwdRefIdeal.main_arg3))
      ∧ r.2.mem ((c.tc : Thread GlaFwdRefIdeal.nD GlaFwdRefIdeal.τ).loc GlaFwdRefIdeal.main_v184) = val_main_v184 (F := Ideal) (m' ((c.tc : Thread GlaFwdRefIdeal.nD GlaFwdRefIdeal.τ).loc GlaFwdRefIdeal.main_arg0)) (m' ((c.tc : Thread GlaFwdRefIdeal.nD GlaFwdRefIdeal.τ).loc GlaFwdRefIdeal.main_arg1)) (m' ((c.tc : Thread GlaFwdRefIdeal.nD GlaFwdRefIdeal.τ).loc GlaFwdRefIdeal.main_arg2))
      ∧ r.2.mem ((c.tc : Thread GlaFwdRefIdeal.nD GlaFwdRefIdeal.τ).loc GlaFwdRefIdeal.main_arg0) = m' ((c.tc : Thread GlaFwdRefIdeal.nD GlaFwdRefIdeal.τ).loc GlaFwdRefIdeal.main_arg0)
      ∧ r.2.mem ((c.tc : Thread GlaFwdRefIdeal.nD GlaFwdRefIdeal.τ).loc GlaFwdRefIdeal.main_arg1) = m' ((c.tc : Thread GlaFwdRefIdeal.nD GlaFwdRefIdeal.τ).loc GlaFwdRefIdeal.main_arg1)
      ∧ r.2.mem ((c.tc : Thread GlaFwdRefIdeal.nD GlaFwdRefIdeal.τ).loc GlaFwdRefIdeal.main_arg2) = m' ((c.tc : Thread GlaFwdRefIdeal.nD GlaFwdRefIdeal.τ).loc GlaFwdRefIdeal.main_arg2)
      ∧ r.2.mem ((c.tc : Thread GlaFwdRefIdeal.nD GlaFwdRefIdeal.τ).loc GlaFwdRefIdeal.main_arg3) = m' ((c.tc : Thread GlaFwdRefIdeal.nD GlaFwdRefIdeal.τ).loc GlaFwdRefIdeal.main_arg3) :=
  (θ_run GlaFwdRefIdeal.defs _ _).mono (fun _ h c => by
    obtain ⟨h0, h1, h2⟩ := h c
    exact ⟨h0.trans (val_main_v183_eq _), h1.trans (val_main_v184_eq _), h2⟩)
    (GlaFwdRefIdeal.Value.run m' g')

theorem algebraic : Cert.algebraic_GlaFwdIdeal_GlaFwdRefIdeal := by
  intro m g m' g' _ hagree
  refine ⟨fun c => val_main_v183 (F := Ideal) (a0 m c) (a1 m c) (a2 m c) (a3 m c), fun c => val_main_v184 (F := Ideal) (a0 m c) (a1 m c) (a2 m c),
    (θ_run _ _ _).mono (fun r h c => ?_) (kernel_run m g), (θ_run _ _ _).mono (fun r h c => ?_) (ref_run m' g')⟩
  · obtain ⟨⟨h0, h1⟩, h2⟩ := h c
    exact ⟨h0, h1, h2⟩
  · obtain ⟨h0, h1, h2⟩ := h c
    obtain ⟨e0, e1, e2, e3⟩ := hagree c
    rw [e0, e1, e2, e3] at h0
    rw [e0, e1, e2] at h1
    exact ⟨h0, h1, h2⟩
end Cert.Proof.GlaFwd
end
-- ==== Proof.RmsFwd.lean ====
/- Hand-written, untrusted: THE NORMALISED ROWS. Kernel and reference divide each row by the root of its mean square and scale it by the same formula. -/
module

public import proofs.«01_k».proof.Defs
public import proofs.«01_k».proof.Proof.Gen.RmsFwdIdeal.Frame
public import proofs.«01_k».proof.Proof.Gen.RmsFwdRefIdeal.Read
public import Idealize.ShloMosaic.Lib.Pipeline.ValueKit
public import Idealize.ShloMosaic.Lib.Claim

@[expose] public section

set_option maxRecDepth 16384

noncomputable section

namespace Cert.Proof.RmsFwd

open Cert.RmsFwdIdeal Cert.RmsFwdIdeal.Gen Idealize.ShloMosaic Idealize.ShloMosaic.TcCoe Idealize.SL.Sem
open Cert.RmsFwdRefIdeal.Read

variable (m : (ℓ : Loc nD τ sig) → Buf (Elt Ideal) ℓ)

/-- The windows' block indices: point `t` holds 256 rows of every array from row 256 `t`, and the scale whole. -/
theorem idx : ∀ t : Fin cfg0.N, win0_0.index t = ![t.val, 0] ∧ win0_1.index t = ![0, 0] ∧ win0_2.index t = ![t.val, 0] :=
  (by decide +kernel : ∀ t : Fin grid0.N, _)

/-- What the body stores at index `y` of point `t`'s block is the reference's term at the array index of `y`. -/
theorem point (c : Dev nD) (t : Fin cfg0.N) (y : S256x2048.Idx) (j : S2048x2048.Idx)
    (hj0 : (j 0 : ℕ) = t.val * 256 + (y 0 : ℕ)) (hj1 : (j 1 : ℕ) = (y 1 : ℕ)) :
    k0_pay1 (iblk m c 0 t) (iblk m c 1 t) y = val_main_v13 (F := Ideal) (m ((c : Thread nD τ).loc main_arg0)) (m ((c : Thread nD τ).loc main_arg1)) j := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

/-- The array after the run is the reference's term of the argument arrays. -/
theorem final (c : Dev nD) : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t]

/-- The kernel's run and the reference's end with equal results. -/
theorem algebraic : Cert.algebraic_RmsFwdIdeal_RmsFwdRefIdeal := by
  pair_intro
  · run_from Cert.RmsFwdIdeal.Gen.run_main m g
  · run_from Cert.RmsFwdRefIdeal.Value.run m' g'
    exact (final m c).symm

end Cert.Proof.RmsFwd

end
-- ==== Proof.ActFwd.lean ====
/- Hand-written, untrusted: THE S5 LAYER'S ACTIVATION. The skip is added to the recurrence's output and GELU applied by the same formula, the cube grouped otherwise. -/
module

public import proofs.«01_k».proof.Defs
public import proofs.«01_k».proof.Proof.Gen.ActFwdIdeal.Frame
public import proofs.«01_k».proof.Proof.Gen.ActFwdRefIdeal.Read
public import Idealize.ShloMosaic.Lib.Pipeline.ValueKit
public import Idealize.ShloMosaic.Lib.Claim

@[expose] public section

set_option maxRecDepth 16384

noncomputable section

namespace Cert.Proof.ActFwd

open Cert.ActFwdIdeal Cert.ActFwdIdeal.Gen Idealize.ShloMosaic Idealize.ShloMosaic.TcCoe Idealize.SL.Sem
open Cert.ActFwdRefIdeal.Read

variable (m : (ℓ : Loc nD τ sig) → Buf (Elt Ideal) ℓ)

/-- The windows' block indices: point `t` holds 256 rows of every array from row 256 `t`, and the scale whole. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] :=
  (by decide +kernel : ∀ t : Fin grid0.N, _)

/-- What the body stores at index `y` of point `t`'s block is the reference's term at the array index of `y`. -/
theorem point_pre (c : Dev nD) (t : Fin cfg0.N) (y : S256x1024.Idx) (j : S2048x1024.Idx)
    (hj0 : (j 0 : ℕ) = t.val * 256 + (y 0 : ℕ)) (hj1 : (j 1 : ℕ) = (y 1 : ℕ)) :
    k0_pay1 (iblk m c 0 t) (iblk m c 1 t) (iblk m c 2 t) y = val_main_v3 (F := Ideal) (m ((c : Thread nD τ).loc main_arg0)) (m ((c : Thread nD τ).loc main_arg1)) (m ((c : Thread nD τ).loc main_arg2)) j := by
  pointwise [k0_pay1, val_main_v0, val_main_v1, val_main_v2, val_main_v3]
  blk_point [iblk, V, idx t]

/-- The array after the run is the reference's term of the argument arrays. -/
theorem final_pre (c : Dev nD) : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine point_pre m c t y _ ?_ ?_ <;> blk_simp [idx t]

/-- What the body stores at index `y` of point `t`'s block is the reference's term at the array index of `y`. -/
theorem point (c : Dev nD) (t : Fin cfg0.N) (y : S256x1024.Idx) (j : S2048x1024.Idx)
    (hj0 : (j 0 : ℕ) = t.val * 256 + (y 0 : ℕ)) (hj1 : (j 1 : ℕ) = (y 1 : ℕ)) :
    k0_pay2 (iblk m c 0 t) (iblk m c 1 t) (iblk m c 2 t) y = val_main_v17 (F := Ideal) (m ((c : Thread nD τ).loc main_arg0)) (m ((c : Thread nD τ).loc main_arg1)) (m ((c : Thread nD τ).loc main_arg2)) j := by
  have h := point_pre m c t y j hj0 hj1
  pointwise [k0_pay2, val_main_v4, val_main_v5, val_main_cst, val_main_v6, val_main_v7, val_main_v8, val_main_cst_0, val_main_v9, val_main_v10, val_main_v11, val_main_cst_1, val_main_v12, val_main_v13, val_main_cst_2, val_main_v14, val_main_v15, val_main_v16, val_main_v17]
  rw [h]
  simp only [mul_assoc]

/-- The array after the run is the reference's term of the argument arrays. -/
theorem final (c : Dev nD) : (dats m 0 c).arrAt 4 cfg0.N = val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine point m c t y _ ?_ ?_ <;> blk_simp [idx t]

/-- The kernel's run and the reference's end with equal results. -/
theorem algebraic : Cert.algebraic_ActFwdIdeal_ActFwdRefIdeal := by
  pair_intro
  · run_from Cert.ActFwdIdeal.Gen.run_main m g
  · run_from Cert.ActFwdRefIdeal.Value.run m' g'
    · exact (final_pre m c).symm
    · exact (final m c).symm

end Cert.Proof.ActFwd

end
-- ==== Proof.GluFwd.lean ====
/- Hand-written, untrusted: THE GATED LINEAR UNIT. The kernel's logistic function is the reference's quotient. -/
module

public import proofs.«01_k».proof.Defs
public import proofs.«01_k».proof.Proof.Gen.GluFwdIdeal.Frame
public import proofs.«01_k».proof.Proof.Gen.GluFwdRefIdeal.Read
public import Idealize.ShloMosaic.Lib.Pipeline.ValueKit
public import Idealize.ShloMosaic.Lib.Claim

@[expose] public section

set_option maxRecDepth 16384

noncomputable section

namespace Cert.Proof.GluFwd

open Cert.GluFwdIdeal Cert.GluFwdIdeal.Gen Idealize.ShloMosaic Idealize.ShloMosaic.TcCoe Idealize.SL.Sem
open Cert.GluFwdRefIdeal.Read

variable (m : (ℓ : Loc nD τ sig) → Buf (Elt Ideal) ℓ)

/-- The windows' block indices: point `t` holds 128 rows of every array from row 128 `t`. -/
theorem idx : ∀ t : Fin cfg0.N, win0_0.index t = ![t.val, 0] ∧ win0_1.index t = ![t.val, 0] ∧ win0_2.index t = ![t.val, 0] :=
  (by decide +kernel : ∀ t : Fin grid0.N, _)

/-- What the body stores at index `y` of point `t`'s block is the reference's term at the array index of `y`. -/
theorem point (c : Dev nD) (t : Fin cfg0.N) (y : S128x2048.Idx) (j : S2048x2048.Idx)
    (hj0 : (j 0 : ℕ) = t.val * 128 + (y 0 : ℕ)) (hj1 : (j 1 : ℕ) = (y 1 : ℕ)) :
    k0_pay1 (iblk m c 0 t) (iblk m c 1 t) y = val_main_v9 (F := Ideal) (m ((c : Thread nD τ).loc main_arg0)) (m ((c : Thread nD τ).loc main_arg1)) j := by
  pointwise [k0_pay1, val_main_v0, val_main_v1, val_main_v2, val_main_v3, val_main_cst, val_main_v4, val_main_v5, val_main_cst_0, val_main_v6, val_main_v7, val_main_v8, val_main_v9, Ideal.logistic]
  blk_point [iblk, V, idx t]

/-- The array after the run is the reference's term of the argument arrays. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t]

/-- The kernel's run and the reference's end with equal results. -/
theorem algebraic : Cert.algebraic_GluFwdIdeal_GluFwdRefIdeal := by
  pair_intro
  · run_from Cert.GluFwdIdeal.Gen.run_main m g
  · run_from Cert.GluFwdRefIdeal.Value.run m' g'
    exact (final m c).symm

end Cert.Proof.GluFwd

end
-- ==== Proof.SqReluFwd.lean ====
/- Hand-written, untrusted: THE MLP'S FIRST HALF. The kernel contracts the normalised rows with the column block its weight part holds and stores both the product and the square of its positive part. -/
module

public import proofs.«01_k».proof.Defs
public import proofs.«01_k».proof.Proof.Gen.SqReluFwdIdeal.Frame
public import proofs.«01_k».proof.Proof.Gen.SqReluFwdRefIdeal.Read
public import Idealize.ShloMosaic.Lib.Pipeline.ValueKit
public import Idealize.ShloMosaic.Lib.Claim

@[expose] public section

set_option maxRecDepth 16384

noncomputable section

namespace Cert.Proof.SqReluFwd

open Cert.SqReluFwdIdeal Cert.SqReluFwdIdeal.Gen Idealize.ShloMosaic Idealize.ShloMosaic.TcCoe Idealize.SL.Sem
open Cert.SqReluFwdRefIdeal.Read

variable (m : (ℓ : Loc nD τ sig) → Buf (Elt Ideal) ℓ)

/-- The windows' block indices: the 16 points walk the 2 by 8 blocks of the results, row of blocks first; a column block is one part of the weight. -/
theorem idx : ∀ t : Fin cfg0.N, win0_0.index t = ![t.val / 8, 0] ∧ win0_1.index t = ![t.val % 8, 0, 0] ∧ win0_2.index t = ![t.val / 8, t.val % 8] ∧
    win0_3.index t = ![t.val / 8, t.val % 8] ∧ t.val < 16 :=
  (by decide +kernel : ∀ t : Fin grid0.N, _)

/-- What the body stores at index `y` of point `t`'s block is the reference's term at the array index of `y`. -/
theorem point_z (c : Dev nD) (t : Fin cfg0.N) (y : S1024x1024.Idx) (j : S2048x8192.Idx)
    (hj0 : (j 0 : ℕ) = t.val / 8 * 1024 + (y 0 : ℕ)) (hj1 : (j 1 : ℕ) = t.val % 8 * 1024 + (y 1 : ℕ)) :
    k0_pay1 (iblk m c 0 t) (iblk m c 1 t) y = val_main_v0 (F := Ideal) (m ((c : Thread nD τ).loc main_arg0)) (m ((c : Thread nD τ).loc main_arg1)) j := by
  pointwise [k0_pay1, val_main_v0]
  blk_point [iblk, V, idx t]

/-- The array after the run is the reference's term of the argument arrays. -/
theorem final_z (c : Dev nD) : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point_z m c t y _ ?_ ?_ <;> blk_simp [idx t]

/-- What the body stores at index `y` of point `t`'s block is the reference's term at the array index of `y`. -/
theorem point (c : Dev nD) (t : Fin cfg0.N) (y : S1024x1024.Idx) (j : S2048x8192.Idx)
    (hj0 : (j 0 : ℕ) = t.val / 8 * 1024 + (y 0 : ℕ)) (hj1 : (j 1 : ℕ) = t.val % 8 * 1024 + (y 1 : ℕ)) :
    k0_pay2 (iblk m c 0 t) (iblk m c 1 t) y = val_main_v3 (F := Ideal) (m ((c : Thread nD τ).loc main_arg0)) (m ((c : Thread nD τ).loc main_arg1)) j := by
  have h := point_z m c t y j hj0 hj1
  pointwise [k0_pay2, val_main_call0_cst, val_main_call0_v0, val_main_v1, val_main_v2, val_main_v3]
  rw [h]

/-- The array after the run is the reference's term of the argument arrays. -/
theorem final (c : Dev nD) : (dats m 0 c).arrAt 3 cfg0.N = val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  refine point m c t y _ ?_ ?_ <;> blk_simp [idx t]

/-- The kernel's run and the reference's end with equal results. -/
theorem algebraic : Cert.algebraic_SqReluFwdIdeal_SqReluFwdRefIdeal := by
  pair_intro
  · run_from Cert.SqReluFwdIdeal.Gen.run_main m g
  · run_from Cert.SqReluFwdRefIdeal.Value.run m' g'
    · exact (final_z m c).symm
    · exact (final m c).symm

end Cert.Proof.SqReluFwd

end
-- ==== Proof.ZohFwd.lean ====
module
public import proofs.«01_k».proof.Defs
public import proofs.«01_k».proof.Proof.Gen.ZohFwdIdeal.Frame
public import proofs.«01_k».proof.Proof.Gen.ZohFwdRefIdeal.Read
public import proofs.«01_k».proof.Proof.Finite
public import proofs.«01_k».proof.Proof.SqRelu
public import proofs.«01_k».proof.Proof.Zoh
public import Idealize.ShloMosaic.Lib.Pipeline.ValueKit
public import Idealize.ShloMosaic.Lib.Claim

/-! The S5 layer's discretisation. The kernel's first four results take the reference's steps in the kernel's layouts. The tables
of the transition's powers it computes as exponentials and angles of multiples, where the reference multiplies again and again. -/

@[expose] public section
set_option maxRecDepth 16384
noncomputable section
namespace Cert.Proof.ZohFwd
open Cert Cert.ZohFwdIdeal Cert.ZohFwdIdeal.Gen Idealize.ShloMosaic Idealize.ShloMosaic.TcCoe Idealize.SL.Sem
open Cert.ZohFwdRefIdeal.Read
open Cert.Proof.Zoh (M B T)

/-! ## Powers of one entry of the transition -/

/-- The real and the imaginary part of `exp (k (ρ + i θ))`. -/
def Re (ρ θ : EReal) (k : ℕ) : EReal := Ideal.exp (((k : ℝ) : EReal) * ρ) * Ideal.cos (((k : ℝ) : EReal) * θ)
def Im (ρ θ : EReal) (k : ℕ) : EReal := Ideal.exp (((k : ℝ) : EReal) * ρ) * Ideal.sin (((k : ℝ) : EReal) * θ)

/-- A rate and an angle whose powers multiply: both are finite, or the rate is −∞ and every power is zero. -/
def Tame (ρ θ : EReal) : Prop := ρ = ⊥ ∨ ∃ r t : ℝ, ρ = r ∧ θ = t

theorem re_zero (ρ θ : EReal) : Re ρ θ 0 = 1 := by
  simp only [Re, Nat.cast_zero, EReal.coe_zero, zero_mul]
  rw [← EReal.coe_zero, Ideal.exp_coe, Ideal.cos_coe]; simp
theorem im_zero (ρ θ : EReal) : Im ρ θ 0 = 0 := by
  simp only [Im, Nat.cast_zero, EReal.coe_zero, zero_mul]
  rw [← EReal.coe_zero, Ideal.exp_coe, Ideal.sin_coe]; simp
theorem re_one (ρ θ : EReal) : Re ρ θ 1 = Ideal.exp ρ * Ideal.cos θ := by simp [Re]
theorem im_one (ρ θ : EReal) : Im ρ θ 1 = Ideal.exp ρ * Ideal.sin θ := by simp [Im]

theorem bot_rate {θ : EReal} (k : ℕ) : Re ⊥ θ (k + 1) = 0 ∧ Im ⊥ θ (k + 1) = 0 := by
  have h : (((k + 1 : ℕ) : ℝ) : EReal) * ⊥ = ⊥ := EReal.coe_mul_bot_of_pos (by positivity)
  simp only [Re, Im, h, Ideal.exp_bot, zero_mul, and_self]

/-- One more multiplication by the transition. -/
theorem step {ρ θ : EReal} (h : Tame ρ θ) (k : ℕ) :
    Re ρ θ k * Re ρ θ 1 - Im ρ θ k * Im ρ θ 1 = Re ρ θ (k + 1) ∧ Re ρ θ k * Im ρ θ 1 + Im ρ θ k * Re ρ θ 1 = Im ρ θ (k + 1) := by
  obtain rfl | ⟨r, t, rfl, rfl⟩ := h
  · rw [(bot_rate k).1, (bot_rate k).2, (bot_rate 0).1, (bot_rate 0).2]; simp
  · simp only [Re, Im, ← EReal.coe_mul, Ideal.exp_coe, Ideal.cos_coe, Ideal.sin_coe, ← EReal.coe_sub, ← EReal.coe_add, EReal.coe_eq_coe_iff]
    push_cast
    simp only [one_mul, add_mul, Real.exp_add, Real.cos_add, Real.sin_add]
    constructor <;> ring_nf

/-! ## The reference's powers -/

section Reference
variable (z0 z1 : Vec Ideal S64x64 .f32) (z2 : Vec Ideal S64 .f32) (g n : Fin 64)

/-- The rate and the angle of one entry. -/
abbrev rate : EReal := val_main_v5 (F := Ideal) z0 z2 (ix2 g n)
abbrev turn : EReal := val_main_v8 (F := Ideal) z1 z2 (ix2 g n)

theorem clip_word : Ideal.ofBits .f32 0xB8D1B717#32 = ((-(13743895 / 2 ^ 37) : ℝ) : EReal) := by
  simp [Ideal.ofBits, Ideal.ieee, -EReal.coe_mul]; norm_num
theorem one_word : Ideal.ofBits .f32 0x3F800000#32 = 1 := by
  rw [← EReal.coe_one]; simp [Ideal.ofBits, Ideal.ieee, -EReal.coe_mul]; norm_num

/-- At a finite frequency the rate and the angle are tame: the rate is negative, so it is −∞ where the step is infinite. -/
theorem tame (h : ∃ t : ℝ, z1 (ix2 g n) = t) : Tame (rate z0 z2 g n) (turn z1 z2 g n) := by
  obtain ⟨t, ht⟩ := h
  have e1 : rate z0 z2 g n = min (z0 (ix2 g n)) ((-(13743895 / 2 ^ 37) : ℝ) : EReal) * Ideal.exp (z2 (ix1 g)) := by
    pointwise [rate, val_main_v5, val_main_v4, val_main_v3, val_main_v2, val_main_v1, val_main_v0, val_main_cst, clip_word]
  have e2 : turn z1 z2 g n = t * Ideal.exp (z2 (ix1 g)) := by
    pointwise [turn, val_main_v8, val_main_v7, val_main_v3, val_main_v2]
    rw [ht]
  have hneg : min (z0 (ix2 g n)) ((-(13743895 / 2 ^ 37) : ℝ) : EReal) < 0 :=
    lt_of_le_of_lt (min_le_right _ _) (EReal.coe_neg'.mpr (by norm_num))
  rw [e1, e2]
  generalize min (z0 (ix2 g n)) ((-(13743895 / 2 ^ 37) : ℝ) : EReal) = l at hneg
  generalize z2 (ix1 g) = s
  induction s using EReal.rec with
  | top => exact .inl (EReal.mul_top_of_neg hneg)
  | bot => exact .inr ⟨0, 0, by simp [Ideal.exp_bot], by simp [Ideal.exp_bot]⟩
  | coe s =>
    induction l using EReal.rec with
    | top => simp at hneg
    | bot => exact .inl (EReal.bot_mul_coe_of_pos (Real.exp_pos s))
    | coe l => exact .inr ⟨l * Real.exp s, t * Real.exp s, by rw [Ideal.exp_coe, EReal.coe_mul], by rw [Ideal.exp_coe, EReal.coe_mul]⟩

theorem re_base : val_main_v10 (F := Ideal) z0 z1 z2 (ix2 g n) = Re (rate z0 z2 g n) (turn z1 z2 g n) 1 := by
  rw [re_one]; pointwise [rate, turn, val_main_v10, val_main_v6, val_main_v9]
theorem im_base : val_main_v12 (F := Ideal) z0 z1 z2 (ix2 g n) = Im (rate z0 z2 g n) (turn z1 z2 g n) 1 := by
  rw [im_one]; pointwise [rate, turn, val_main_v12, val_main_v6, val_main_v11]

variable (h : Tame (rate z0 z2 g n) (turn z1 z2 g n))
include h
/-- Power `k` times the reference's transition is power `k + 1`. -/
theorem next {a b : EReal} {k : ℕ} (p : a = Re (rate z0 z2 g n) (turn z1 z2 g n) k ∧ b = Im (rate z0 z2 g n) (turn z1 z2 g n) k) :
    a * val_main_v10 (F := Ideal) z0 z1 z2 (ix2 g n) - b * val_main_v12 (F := Ideal) z0 z1 z2 (ix2 g n)
      = Re (rate z0 z2 g n) (turn z1 z2 g n) (k + 1) ∧
    a * val_main_v12 (F := Ideal) z0 z1 z2 (ix2 g n) + b * val_main_v10 (F := Ideal) z0 z1 z2 (ix2 g n)
      = Im (rate z0 z2 g n) (turn z1 z2 g n) (k + 1) := by
  rw [p.1, p.2, re_base, im_base]; exact step h k
theorem pow1 : val_main_v44 (F := Ideal) z0 z1 z2 (ix2 g n) = Re (rate z0 z2 g n) (turn z1 z2 g n) 1 ∧
    val_main_v47 (F := Ideal) z0 z1 z2 (ix2 g n) = Im (rate z0 z2 g n) (turn z1 z2 g n) 1 := by
  have s := next z0 z1 z2 g n h ⟨(re_zero _ _).symm, (im_zero _ _).symm⟩
  refine ⟨Eq.trans ?_ s.1, Eq.trans ?_ s.2⟩ <;>
    pointwise [val_main_v44, val_main_v42, val_main_v43, val_main_v40, val_main_v41, val_main_cst_1, val_main_cst_2, val_main_v47, val_main_v45, val_main_v46, one_word]
theorem pow2 : val_main_v50 (F := Ideal) z0 z1 z2 (ix2 g n) = Re (rate z0 z2 g n) (turn z1 z2 g n) 2 ∧
    val_main_v53 (F := Ideal) z0 z1 z2 (ix2 g n) = Im (rate z0 z2 g n) (turn z1 z2 g n) 2 := next z0 z1 z2 g n h (pow1 z0 z1 z2 g n h)
theorem pow3 : val_main_v56 (F := Ideal) z0 z1 z2 (ix2 g n) = Re (rate z0 z2 g n) (turn z1 z2 g n) 3 ∧
    val_main_v59 (F := Ideal) z0 z1 z2 (ix2 g n) = Im (rate z0 z2 g n) (turn z1 z2 g n) 3 := next z0 z1 z2 g n h (pow2 z0 z1 z2 g n h)
theorem pow4 : val_main_v62 (F := Ideal) z0 z1 z2 (ix2 g n) = Re (rate z0 z2 g n) (turn z1 z2 g n) 4 ∧
    val_main_v65 (F := Ideal) z0 z1 z2 (ix2 g n) = Im (rate z0 z2 g n) (turn z1 z2 g n) 4 := next z0 z1 z2 g n h (pow3 z0 z1 z2 g n h)
theorem pow5 : val_main_v68 (F := Ideal) z0 z1 z2 (ix2 g n) = Re (rate z0 z2 g n) (turn z1 z2 g n) 5 ∧
    val_main_v71 (F := Ideal) z0 z1 z2 (ix2 g n) = Im (rate z0 z2 g n) (turn z1 z2 g n) 5 := next z0 z1 z2 g n h (pow4 z0 z1 z2 g n h)
theorem pow6 : val_main_v74 (F := Ideal) z0 z1 z2 (ix2 g n) = Re (rate z0 z2 g n) (turn z1 z2 g n) 6 ∧
    val_main_v77 (F := Ideal) z0 z1 z2 (ix2 g n) = Im (rate z0 z2 g n) (turn z1 z2 g n) 6 := next z0 z1 z2 g n h (pow5 z0 z1 z2 g n h)
theorem pow7 : val_main_v80 (F := Ideal) z0 z1 z2 (ix2 g n) = Re (rate z0 z2 g n) (turn z1 z2 g n) 7 ∧
    val_main_v83 (F := Ideal) z0 z1 z2 (ix2 g n) = Im (rate z0 z2 g n) (turn z1 z2 g n) 7 := next z0 z1 z2 g n h (pow6 z0 z1 z2 g n h)
theorem pow8 : val_main_v86 (F := Ideal) z0 z1 z2 (ix2 g n) = Re (rate z0 z2 g n) (turn z1 z2 g n) 8 ∧
    val_main_v89 (F := Ideal) z0 z1 z2 (ix2 g n) = Im (rate z0 z2 g n) (turn z1 z2 g n) 8 := next z0 z1 z2 g n h (pow7 z0 z1 z2 g n h)
omit h
end Reference

/-! ## The kernel's steps -/

section Kernel
variable {x0 x1 : Vec Ideal S64x1x64 .f32} {x2 : Vec Ideal S64x1x1 .f32} {x3 x4 : Vec Ideal S64x16x64 .f32}
variable {z0 z1 : Vec Ideal S64x64 .f32} {z2 : Vec Ideal S64 .f32} {z3 z4 : Vec Ideal ZohFwdRefIdeal.S64x64x16 .f32}

theorem q1 (h : M x0 z0) : M (k0_pay1 (F := Ideal) x0) z0 := fun g n => by pointwise [k0_pay1]; exact h g n
theorem q2 (h : M x1 z1) : M (k0_pay2 (F := Ideal) x1) z1 := fun g n => by pointwise [k0_pay2]; exact h g n
theorem q3 (h : T x2 z2) : T (k0_pay3 (F := Ideal) x2) z2 := fun g => by pointwise [k0_pay3]; exact h g
theorem q4 (h : B x3 z3) : B (k0_pay4 (F := Ideal) x3) z3 := fun g n i => by pointwise [k0_pay4]; exact h g n i
theorem q5 (h : B x4 z4) : B (k0_pay5 (F := Ideal) x4) z4 := fun g n i => by pointwise [k0_pay5]; exact h g n i
theorem q20 (h : T x2 z2) : T (k0_pay20 (F := Ideal) x2) (val_main_v2 (F := Ideal) z2) := fun g => by
  pointwise [k0_pay20, val_main_v2]; rw [h g]
theorem q21 (h0 : M x0 z0) (h2 : T x2 z2) : M (k0_pay21 (F := Ideal) x0 x2) (val_main_v5 (F := Ideal) z0 z2) :=
  .mul (.minimum h0 (Zoh.const _)) (q20 h2).rep
theorem q22 (h1 : M x1 z1) (h2 : T x2 z2) : M (k0_pay22 (F := Ideal) x1 x2) (val_main_v8 (F := Ideal) z1 z2) := .mul h1 (q20 h2).rep
theorem q6 (h0 : M x0 z0) : M (k0_pay6 (F := Ideal) x0) (val_main_v1 (F := Ideal) z0) := .minimum (q1 h0) (Zoh.const _)
theorem q8 (h0 : M x0 z0) (h2 : T x2 z2) : M (k0_pay8 (F := Ideal) x0 x2) (val_main_v6 (F := Ideal) z0 z2) := .exp (q21 (q1 h0) (q3 h2))
theorem q9 (h1 : M x1 z1) (h2 : T x2 z2) : M (k0_pay9 (F := Ideal) x1 x2) (val_main_v8 (F := Ideal) z1 z2) := q22 (q2 h1) (q3 h2)
theorem q10 (h0 : M x0 z0) (h1 : M x1 z1) (h2 : T x2 z2) : M (k0_pay10 (F := Ideal) x0 x1 x2) (val_main_v10 (F := Ideal) z0 z1 z2) :=
  .mul (q8 h0 h2) (q9 h1 h2).cos
theorem q11 (h0 : M x0 z0) (h1 : M x1 z1) (h2 : T x2 z2) : M (k0_pay11 (F := Ideal) x0 x1 x2) (val_main_v12 (F := Ideal) z0 z1 z2) :=
  .mul (q8 h0 h2) (q9 h1 h2).sin
theorem q12 (h0 : M x0 z0) (h1 : M x1 z1) : M (k0_pay12 (F := Ideal) x0 x1) (val_main_v15 (F := Ideal) z0 z1) :=
  .add (.mul (q6 h0) (q6 h0)) (.mul (q2 h1) (q2 h1))
theorem q13 (h0 : M x0 z0) (h1 : M x1 z1) (h2 : T x2 z2) : M (k0_pay13 (F := Ideal) x0 x1 x2) (val_main_v17 (F := Ideal) z0 z1 z2) :=
  .sub (q10 h0 h1 h2) (Zoh.const _)
theorem q14 (h0 : M x0 z0) (h1 : M x1 z1) (h2 : T x2 z2) : M (k0_pay14 (F := Ideal) x0 x1 x2) (val_main_v21 (F := Ideal) z0 z1 z2) :=
  .div (.add (.mul (q13 h0 h1 h2) (q6 h0)) (.mul (q11 h0 h1 h2) (q2 h1))) (q12 h0 h1)
theorem q15 (h0 : M x0 z0) (h1 : M x1 z1) (h2 : T x2 z2) : M (k0_pay15 (F := Ideal) x0 x1 x2) (val_main_v25 (F := Ideal) z0 z1 z2) :=
  .div (.sub (.mul (q11 h0 h1 h2) (q6 h0)) (.mul (q13 h0 h1 h2) (q2 h1))) (q12 h0 h1)
theorem sub {d e : Vec Ideal S64x16x64 .f32} {d' e' : Vec Ideal ZohFwdRefIdeal.S64x64x16 .f32} (h : B d d') (k : B e e') :
    B (subf (F := Ideal) (φ := .f32) d e) (subf (F := Ideal) (φ := .f32) d' e') := fun g n i => by pointwise; rw [h g n i, k g n i]
theorem q16 (h0 : M x0 z0) (h1 : M x1 z1) (h2 : T x2 z2) (h3 : B x3 z3) (h4 : B x4 z4) :
    B (k0_pay16 (F := Ideal) x0 x1 x2 x3 x4) (val_main_v32 (F := Ideal) z0 z1 z2 z3 z4) :=
  sub (.mul (q14 h0 h1 h2).rep (q4 h3)) (.mul (q15 h0 h1 h2).rep (q5 h4))
theorem q19 (h0 : M x0 z0) (h1 : M x1 z1) (h2 : T x2 z2) (h3 : B x3 z3) (h4 : B x4 z4) :
    B (k0_pay19 (F := Ideal) (k0_pay4 x3) (k0_pay17 x0 x1 x2 x4) (k0_pay18 x0 x1 x2)) (val_main_v39 (F := Ideal) z0 z1 z2 z3 z4) :=
  .add (.mul (q14 h0 h1 h2).rep (q5 h4)) (.mul (q15 h0 h1 h2).rep (q4 h3))
end Kernel

/-! ## The tables of powers -/

section Tables
/-- The multiples of the three pairs of tables: the rows upwards, downwards, and the doubling steps with a row of ones. -/
def ups (r : Fin 8) : ℕ := r + 1
def downs (r : Fin 8) : ℕ := 8 - r
def twos : Fin 8 → ℕ := ![1, 1, 2, 2, 4, 4, 0, 0]

/-- A small integer as a float. -/
theorem float_nat {w : BitVec 32} (n : ℕ) (h : w.toInt = n) : (FloatOps.sitofp (F := Ideal) FTy.f32 w : EReal) = ((n : ℝ) : EReal) := by
  change (((w.toInt : ℤ) : ℝ) : EReal) = _
  rw [h, Int.cast_natCast]
theorem four_word : Ideal.ofBits .f32 0x40800000#32 = (4 : ℝ) := by
  simp [Ideal.ofBits, Ideal.ieee, -EReal.coe_mul]; norm_num

theorem ups_word (r : Fin 8) : k0_pay23 (F := Ideal) (ix3 0 r 0) = ((ups r : ℝ) : EReal) := by
  fin_cases r <;> pointwise [k0_pay23, ups] <;> exact float_nat _ (by decide)
theorem downs_word (r : Fin 8) : k0_pay28 (F := Ideal) (ix3 0 r 0) = ((downs r : ℝ) : EReal) := by
  fin_cases r <;> pointwise [k0_pay28, downs] <;> exact float_nat _ (by decide)
theorem twos_word (r : Fin 8) : k0_pay33 (F := Ideal) (iota .tc S1x8x1 32 [1] iota_S1x8x1_d1_w32) (ix3 0 r 0) = ((twos r : ℝ) : EReal) := by
  fin_cases r <;> pointwise [k0_pay33, twos, SqRelu.two_word, four_word] <;> simp [Scalar.select, IntOp.cmpi]

variable {x y : Vec Ideal S64x8x64 .f32} (g n : Fin 64) (r : Fin 8)
/-- Even rows take the real parts, odd rows the imaginary parts. -/
theorem rows38 : k0_pay38 (F := Ideal) (iota .tc S1x8x1 32 [1] iota_S1x8x1_d1_w32) x y (Scalar.select (Scalar.cmpi .eq 2#32 0#32) 1#32 2#32) (ix3 g r n)
    = if r.val % 2 = 0 then x (ix3 g r n) else y (ix3 g r n) := by
  fin_cases r <;> pointwise [k0_pay38] <;> rfl
theorem rows39 : k0_pay39 (F := Ideal) (iota .tc S1x8x1 32 [1] iota_S1x8x1_d1_w32) x y (ix3 g r n)
    = if r.val % 2 = 0 then x (ix3 g r n) else -y (ix3 g r n) := by
  fin_cases r <;> pointwise [k0_pay39] <;>
    first | rfl | exact (if_neg (by decide)).trans (zero_sub _)

variable {z0 z1 : Vec Ideal S64x64 .f32} {z2 : Vec Ideal S64 .f32} {ρ θ : Vec Ideal S64x1x64 .f32}
variable (hρ : M ρ (val_main_v5 (F := Ideal) z0 z2)) (hθ : M θ (val_main_v8 (F := Ideal) z1 z2))
include hρ hθ
theorem q31 : k0_pay31 (F := Ideal) ρ θ (k0_pay28 (F := Ideal)) (ix3 g r n) = Re (rate z0 z2 g n) (turn z1 z2 g n) (downs r) := by
  pointwise [k0_pay31, k0_pay29, k0_pay30]
  rw [downs_word, hρ g n, hθ g n]; rfl
theorem q32 : k0_pay32 (F := Ideal) ρ θ (k0_pay28 (F := Ideal)) (ix3 g r n) = -Im (rate z0 z2 g n) (turn z1 z2 g n) (downs r) := by
  pointwise [k0_pay32, k0_pay29, k0_pay30]
  rw [downs_word, hρ g n, hθ g n, zero_sub]; rfl
theorem q36 : k0_pay36 (F := Ideal) (iota .tc S1x8x1 32 [1] iota_S1x8x1_d1_w32) ρ θ (ix3 g r n) = Re (rate z0 z2 g n) (turn z1 z2 g n) (twos r) := by
  pointwise [k0_pay36, k0_pay34, k0_pay35]
  rw [twos_word, hρ g n, hθ g n]; rfl
theorem q37 : k0_pay37 (F := Ideal) (iota .tc S1x8x1 32 [1] iota_S1x8x1_d1_w32) ρ θ (ix3 g r n) = Im (rate z0 z2 g n) (turn z1 z2 g n) (twos r) := by
  pointwise [k0_pay37, k0_pay34, k0_pay35]
  rw [twos_word, hρ g n, hθ g n]; rfl
omit hρ hθ
variable {x0 x1 : Vec Ideal S64x1x64 .f32} {x2 : Vec Ideal S64x1x1 .f32} (h0 : M x0 z0) (h1 : M x1 z1) (h2 : T x2 z2)
include h0 h1 h2
theorem q26 : k0_pay26 (F := Ideal) x0 x1 x2 (ix3 g r n) = Re (rate z0 z2 g n) (turn z1 z2 g n) (ups r) := by
  pointwise [k0_pay26, k0_pay24, k0_pay25]
  rw [ups_word, q21 h0 h2 g n, q22 h1 h2 g n]; rfl
theorem q27 : k0_pay27 (F := Ideal) x0 x1 x2 (ix3 g r n) = Im (rate z0 z2 g n) (turn z1 z2 g n) (ups r) := by
  pointwise [k0_pay27, k0_pay24, k0_pay25]
  rw [ups_word, q21 h0 h2 g n, q22 h1 h2 g n]; rfl
end Tables

section Reference
variable (z0 z1 : Vec Ideal S64x64 .f32) (z2 : Vec Ideal S64 .f32) (g n : Fin 64) (r : Fin 8) (h : Tame (rate z0 z2 g n) (turn z1 z2 g n))
include h
theorem ref102 : val_main_v102 (F := Ideal) z0 z1 z2 (ix3 g r n) = Re (rate z0 z2 g n) (turn z1 z2 g n) (ups r) := by
  fin_cases r <;> pointwise [val_main_v102, val_main_v94, val_main_v95, val_main_v96, val_main_v97, val_main_v98, val_main_v99, val_main_v100, val_main_v101]
  exacts [(pow1 z0 z1 z2 g n h).1, (pow2 z0 z1 z2 g n h).1, (pow3 z0 z1 z2 g n h).1, (pow4 z0 z1 z2 g n h).1, (pow5 z0 z1 z2 g n h).1, (pow6 z0 z1 z2 g n h).1, (pow7 z0 z1 z2 g n h).1, (pow8 z0 z1 z2 g n h).1]
theorem ref111 : val_main_v111 (F := Ideal) z0 z1 z2 (ix3 g r n) = Im (rate z0 z2 g n) (turn z1 z2 g n) (ups r) := by
  fin_cases r <;> pointwise [val_main_v111, val_main_v103, val_main_v104, val_main_v105, val_main_v106, val_main_v107, val_main_v108, val_main_v109, val_main_v110]
  exacts [(pow1 z0 z1 z2 g n h).2, (pow2 z0 z1 z2 g n h).2, (pow3 z0 z1 z2 g n h).2, (pow4 z0 z1 z2 g n h).2, (pow5 z0 z1 z2 g n h).2, (pow6 z0 z1 z2 g n h).2, (pow7 z0 z1 z2 g n h).2, (pow8 z0 z1 z2 g n h).2]
theorem ref120 : val_main_v120 (F := Ideal) z0 z1 z2 (ix3 g r n) = if r.val % 2 = 0 then Re (rate z0 z2 g n) (turn z1 z2 g n) (twos r) else Im (rate z0 z2 g n) (turn z1 z2 g n) (twos r) := by
  fin_cases r <;> pointwise [val_main_v120, val_main_v112, val_main_v113, val_main_v114, val_main_v115, val_main_v116, val_main_v117, val_main_v118, val_main_v119, val_main_v40, val_main_v41, val_main_cst_1, val_main_cst_2]
  exacts [(pow1 z0 z1 z2 g n h).1, (pow1 z0 z1 z2 g n h).2, (pow2 z0 z1 z2 g n h).1, (pow2 z0 z1 z2 g n h).2, (pow4 z0 z1 z2 g n h).1, (pow4 z0 z1 z2 g n h).2, (re_zero _ _).symm, (im_zero _ _).symm]
theorem ref129 : val_main_v129 (F := Ideal) z0 z1 z2 (ix3 g r n) = Re (rate z0 z2 g n) (turn z1 z2 g n) (downs r) := by
  fin_cases r <;> pointwise [val_main_v129, val_main_v121, val_main_v122, val_main_v123, val_main_v124, val_main_v125, val_main_v126, val_main_v127, val_main_v128]
  exacts [(pow8 z0 z1 z2 g n h).1, (pow7 z0 z1 z2 g n h).1, (pow6 z0 z1 z2 g n h).1, (pow5 z0 z1 z2 g n h).1, (pow4 z0 z1 z2 g n h).1, (pow3 z0 z1 z2 g n h).1, (pow2 z0 z1 z2 g n h).1, (pow1 z0 z1 z2 g n h).1]
theorem ref146 : val_main_v146 (F := Ideal) z0 z1 z2 (ix3 g r n) = -Im (rate z0 z2 g n) (turn z1 z2 g n) (downs r) := by
  fin_cases r <;> pointwise [val_main_v146, val_main_v130, val_main_v131, val_main_v132, val_main_v133, val_main_v134, val_main_v135, val_main_v136, val_main_v137, val_main_v138, val_main_v139, val_main_v140, val_main_v141, val_main_v142, val_main_v143, val_main_v144, val_main_v145]
  exacts [congrArg Neg.neg (pow8 z0 z1 z2 g n h).2, congrArg Neg.neg (pow7 z0 z1 z2 g n h).2, congrArg Neg.neg (pow6 z0 z1 z2 g n h).2, congrArg Neg.neg (pow5 z0 z1 z2 g n h).2, congrArg Neg.neg (pow4 z0 z1 z2 g n h).2, congrArg Neg.neg (pow3 z0 z1 z2 g n h).2, congrArg Neg.neg (pow2 z0 z1 z2 g n h).2, congrArg Neg.neg (pow1 z0 z1 z2 g n h).2]
theorem ref159 : val_main_v159 (F := Ideal) z0 z1 z2 (ix3 g r n) = if r.val % 2 = 0 then Re (rate z0 z2 g n) (turn z1 z2 g n) (twos r) else -Im (rate z0 z2 g n) (turn z1 z2 g n) (twos r) := by
  fin_cases r <;> pointwise [val_main_v159, val_main_v147, val_main_v148, val_main_v149, val_main_v150, val_main_v151, val_main_v152, val_main_v153, val_main_v154, val_main_v155, val_main_v156, val_main_v157, val_main_v158, val_main_v40, val_main_v41, val_main_cst_1, val_main_cst_2]
  exacts [(pow1 z0 z1 z2 g n h).1, congrArg Neg.neg (pow1 z0 z1 z2 g n h).2, (pow2 z0 z1 z2 g n h).1, congrArg Neg.neg (pow2 z0 z1 z2 g n h).2, (pow4 z0 z1 z2 g n h).1, congrArg Neg.neg (pow4 z0 z1 z2 g n h).2, (re_zero _ _).symm, congrArg Neg.neg (im_zero _ _).symm]
end Reference

/-! ## The kernel's ten outputs -/

section Out
variable {x0 x1 : Vec Ideal S64x1x64 .f32} {x2 : Vec Ideal S64x1x1 .f32} {x3 x4 : Vec Ideal S64x16x64 .f32}
variable {z0 z1 : Vec Ideal S64x64 .f32} {z2 : Vec Ideal S64 .f32} {z3 z4 : Vec Ideal ZohFwdRefIdeal.S64x64x16 .f32}
variable (h0 : M x0 z0) (h1 : M x1 z1) (h2 : T x2 z2) (h3 : B x3 z3) (h4 : B x4 z4) (hz : ∀ g n : Fin 64, ∃ t : ℝ, z1 (ix2 g n) = t)
include h0 h1 h2 h3 h4

theorem o5 : M (out0_5 x0 x1 x2 x3 x4) (val_main_v10 (F := Ideal) z0 z1 z2) := by
  unfold out0_5; rw [View.canon_cons_unit_lit _ _ _ (by decide)]; exact q10 h0.ld h1.ld h2.ld
theorem o6 : M (out0_6 x0 x1 x2 x3 x4) (val_main_v12 (F := Ideal) z0 z1 z2) := by
  unfold out0_6; rw [View.canon_cons_unit_lit _ _ _ (by decide)]; exact q11 h0.ld h1.ld h2.ld
theorem o7 : B (out0_7 x0 x1 x2 x3 x4) (val_main_v32 (F := Ideal) z0 z1 z2 z3 z4) := by
  unfold out0_7; rw [View.canon_cons_unit_lit _ _ _ (by decide)]; exact q16 h0.ld h1.ld h2.ld h3.ld h4.ld
theorem o8 : B (out0_8 x0 x1 x2 x3 x4) (val_main_v39 (F := Ideal) z0 z1 z2 z3 z4) := by
  unfold out0_8; rw [View.canon_cons_unit_lit _ _ _ (by decide)]; exact q19 h0.ld h1.ld h2.ld h3.ld h4.ld
theorem q44 : M (k0_pay44 (F := Ideal) x0 x1 x2 x3 x4) (val_main_v5 (F := Ideal) z0 z2) := q21 (q1 h0.ld) (q3 h2.ld)
theorem q45 : M (k0_pay45 (F := Ideal) x0 x1 x2 x3 x4) (val_main_v8 (F := Ideal) z1 z2) := q22 (q2 h1.ld) (q3 h2.ld)
include hz
variable (y : S64x8x64.Idx)
theorem o9 : out0_9 x0 x1 x2 x3 x4 y = val_main_v102 (F := Ideal) z0 z1 z2 y := by
  obtain ⟨g, r, n, rfl⟩ : ∃ (g : Fin 64) (r : Fin 8) (n : Fin 64), y = ix3 g r n := ⟨y 0, y 1, y 2, eq_ix3 y⟩
  rw [ref102 z0 z1 z2 g n r (tame z0 z1 z2 g n (hz g n))]
  unfold out0_9; rw [View.canon_cons_unit_lit _ _ _ (by decide)]
  exact q26 g n r (q1 h0.ld) (q2 h1.ld) (q3 h2.ld)
theorem o10 : out0_10 x0 x1 x2 x3 x4 y = val_main_v111 (F := Ideal) z0 z1 z2 y := by
  obtain ⟨g, r, n, rfl⟩ : ∃ (g : Fin 64) (r : Fin 8) (n : Fin 64), y = ix3 g r n := ⟨y 0, y 1, y 2, eq_ix3 y⟩
  rw [ref111 z0 z1 z2 g n r (tame z0 z1 z2 g n (hz g n))]
  unfold out0_10; rw [View.canon_cons_unit_lit _ _ _ (by decide)]
  exact q27 g n r (q1 h0.ld) (q2 h1.ld) (q3 h2.ld)
theorem o11 : out0_11 x0 x1 x2 x3 x4 y = val_main_v120 (F := Ideal) z0 z1 z2 y := by
  obtain ⟨g, r, n, rfl⟩ : ∃ (g : Fin 64) (r : Fin 8) (n : Fin 64), y = ix3 g r n := ⟨y 0, y 1, y 2, eq_ix3 y⟩
  rw [ref120 z0 z1 z2 g n r (tame z0 z1 z2 g n (hz g n))]
  unfold out0_11; rw [View.canon_cons_unit_lit _ _ _ (by decide)]
  refine (rows38 g n r).trans ?_
  rw [← (q36 g n r (q44 h0 h1 h2 h3 h4) (q45 h0 h1 h2 h3 h4)), ← (q37 g n r (q44 h0 h1 h2 h3 h4) (q45 h0 h1 h2 h3 h4))]; rfl
theorem o12 : out0_12 x0 x1 x2 x3 x4 y = val_main_v129 (F := Ideal) z0 z1 z2 y := by
  obtain ⟨g, r, n, rfl⟩ : ∃ (g : Fin 64) (r : Fin 8) (n : Fin 64), y = ix3 g r n := ⟨y 0, y 1, y 2, eq_ix3 y⟩
  rw [ref129 z0 z1 z2 g n r (tame z0 z1 z2 g n (hz g n))]
  unfold out0_12; rw [View.canon_cons_unit_lit _ _ _ (by decide)]
  exact (q31 g n r (q44 h0 h1 h2 h3 h4) (q45 h0 h1 h2 h3 h4))
theorem o13 : out0_13 x0 x1 x2 x3 x4 y = val_main_v146 (F := Ideal) z0 z1 z2 y := by
  obtain ⟨g, r, n, rfl⟩ : ∃ (g : Fin 64) (r : Fin 8) (n : Fin 64), y = ix3 g r n := ⟨y 0, y 1, y 2, eq_ix3 y⟩
  rw [ref146 z0 z1 z2 g n r (tame z0 z1 z2 g n (hz g n))]
  unfold out0_13; rw [View.canon_cons_unit_lit _ _ _ (by decide)]
  exact (q32 g n r (q44 h0 h1 h2 h3 h4) (q45 h0 h1 h2 h3 h4))
theorem o14 : out0_14 x0 x1 x2 x3 x4 y = val_main_v159 (F := Ideal) z0 z1 z2 y := by
  obtain ⟨g, r, n, rfl⟩ : ∃ (g : Fin 64) (r : Fin 8) (n : Fin 64), y = ix3 g r n := ⟨y 0, y 1, y 2, eq_ix3 y⟩
  rw [ref159 z0 z1 z2 g n r (tame z0 z1 z2 g n (hz g n))]
  unfold out0_14; rw [View.canon_cons_unit_lit _ _ _ (by decide)]
  refine (rows39 g n r).trans ?_
  rw [← (q36 g n r (q44 h0 h1 h2 h3 h4) (q45 h0 h1 h2 h3 h4)), ← (q37 g n r (q44 h0 h1 h2 h3 h4) (q45 h0 h1 h2 h3 h4))]; rfl
end Out

/-! ## The kernel's blocks and its results -/

variable (m : (ℓ : Loc nD τ sig) → Buf (Elt Ideal) ℓ)

/-- One device's arguments. -/
abbrev a0 (c : Dev nD) : Vec Ideal S64x64 .f32 := m ((c : Thread nD τ).loc main_arg0)
abbrev a1 (c : Dev nD) : Vec Ideal S64x64 .f32 := m ((c : Thread nD τ).loc main_arg1)
abbrev a2 (c : Dev nD) : Vec Ideal S64 .f32 := m ((c : Thread nD τ).loc main_arg2)
abbrev a3 (c : Dev nD) : Vec Ideal S64x64x16 .f32 := m ((c : Thread nD τ).loc main_arg3)
abbrev a4 (c : Dev nD) : Vec Ideal S64x64x16 .f32 := m ((c : Thread nD τ).loc main_arg4)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![0, 0, 0] :=
  (by decide +kernel : ∀ t : Fin grid0.N, _)

section Blocks
variable (c : Dev nD) (t : Fin cfg0.N)
theorem b0 : M (iblk m c 0 t) (a0 m c) := fun g n => by blk_point [iblk, V, idx t]
theorem b1 : M (iblk m c 1 t) (a1 m c) := fun g n => by blk_point [iblk, V, idx t]
theorem b2 : T (iblk m c 2 t) (a2 m c) := fun g => by blk_point [iblk, V, idx t]
theorem b3 : B (iblk m c 3 t) (a3 m c) := fun g n i => by blk_point [iblk, V, idx t]
theorem b4 : B (iblk m c 4 t) (a4 m c) := fun g n i => by blk_point [iblk, V, idx t]
end Blocks

/-- The imaginary parts, finite by the precondition, are real numbers. -/
theorem reals [Cert.Pre_finite_zohfwd.Facts] (hpre : Cert.Pre_ZohFwdIdeal_finite_zohfwd m) (c : Dev nD) (g n : Fin 64) :
    ∃ t : ℝ, a1 m c (ix2 g n) = t := by
  obtain ⟨a, ha⟩ := Finite.of_lt_top _ _ (fun _ => Finite.inf_word) (hpre c)
  exact ⟨a (ix2 g n), congrFun ha _⟩

theorem final5 (c : Dev nD) : (dats m 0 c).arrAt 5 cfg0.N = val_main_v90 (F := Ideal) (a0 m c) (a1 m c) (a2 m c) := by
  refine (dats m 0 c).arrAt_eq_of_covers 5 _ (by decide +kernel) fun t _ y => ?_
  blk_simp
  rw [after0_5]
  have e : (win0_5.blk t).view.emb y = y := by blk_ext [idx t]
  rw [e]
  exact (o5 (b0 m c t) (b1 m c t) (b2 m c t) (b3 m c t) (b4 m c t)).out y

theorem final6 (c : Dev nD) : (dats m 0 c).arrAt 6 cfg0.N = val_main_v91 (F := Ideal) (a0 m c) (a1 m c) (a2 m c) := by
  refine (dats m 0 c).arrAt_eq_of_covers 6 _ (by decide +kernel) fun t _ y => ?_
  blk_simp
  rw [after0_6]
  have e : (win0_6.blk t).view.emb y = y := by blk_ext [idx t]
  rw [e]
  exact (o6 (b0 m c t) (b1 m c t) (b2 m c t) (b3 m c t) (b4 m c t)).out y

theorem final7 (c : Dev nD) : (dats m 0 c).arrAt 7 cfg0.N = val_main_v92 (F := Ideal) (a0 m c) (a1 m c) (a2 m c) (a3 m c) (a4 m c) := by
  refine (dats m 0 c).arrAt_eq_of_covers 7 _ (by decide +kernel) fun t _ y => ?_
  blk_simp
  rw [after0_7]
  have e : (win0_7.blk t).view.emb y = y := by blk_ext [idx t]
  rw [e]
  exact (o7 (b0 m c t) (b1 m c t) (b2 m c t) (b3 m c t) (b4 m c t)).out y

theorem final8 (c : Dev nD) : (dats m 0 c).arrAt 8 cfg0.N = val_main_v93 (F := Ideal) (a0 m c) (a1 m c) (a2 m c) (a3 m c) (a4 m c) := by
  refine (dats m 0 c).arrAt_eq_of_covers 8 _ (by decide +kernel) fun t _ y => ?_
  blk_simp
  rw [after0_8]
  have e : (win0_8.blk t).view.emb y = y := by blk_ext [idx t]
  rw [e]
  exact (o8 (b0 m c t) (b1 m c t) (b2 m c t) (b3 m c t) (b4 m c t)).out y

theorem final9 [Cert.Pre_finite_zohfwd.Facts] (hpre : Cert.Pre_ZohFwdIdeal_finite_zohfwd m) (c : Dev nD) : (dats m 0 c).arrAt 9 cfg0.N = val_main_v102 (F := Ideal) (a0 m c) (a1 m c) (a2 m c) := by
  refine (dats m 0 c).arrAt_eq_of_covers 9 _ (by decide +kernel) fun t _ y => ?_
  blk_simp
  rw [after0_9]
  have e : (win0_9.blk t).view.emb y = y := by blk_ext [idx t]
  rw [e]
  exact o9 (b0 m c t) (b1 m c t) (b2 m c t) (b3 m c t) (b4 m c t) (reals m hpre c) y

theorem final10 [Cert.Pre_finite_zohfwd.Facts] (hpre : Cert.Pre_ZohFwdIdeal_finite_zohfwd m) (c : Dev nD) : (dats m 0 c).arrAt 10 cfg0.N = val_main_v111 (F := Ideal) (a0 m c) (a1 m c) (a2 m c) := by
  refine (dats m 0 c).arrAt_eq_of_covers 10 _ (by decide +kernel) fun t _ y => ?_
  blk_simp
  rw [after0_10]
  have e : (win0_10.blk t).view.emb y = y := by blk_ext [idx t]
  rw [e]
  exact o10 (b0 m c t) (b1 m c t) (b2 m c t) (b3 m c t) (b4 m c t) (reals m hpre c) y

theorem final11 [Cert.Pre_finite_zohfwd.Facts] (hpre : Cert.Pre_ZohFwdIdeal_finite_zohfwd m) (c : Dev nD) : (dats m 0 c).arrAt 11 cfg0.N = val_main_v120 (F := Ideal) (a0 m c) (a1 m c) (a2 m c) := by
  refine (dats m 0 c).arrAt_eq_of_covers 11 _ (by decide +kernel) fun t _ y => ?_
  blk_simp
  rw [after0_11]
  have e : (win0_11.blk t).view.emb y = y := by blk_ext [idx t]
  rw [e]
  exact o11 (b0 m c t) (b1 m c t) (b2 m c t) (b3 m c t) (b4 m c t) (reals m hpre c) y

theorem final12 [Cert.Pre_finite_zohfwd.Facts] (hpre : Cert.Pre_ZohFwdIdeal_finite_zohfwd m) (c : Dev nD) : (dats m 0 c).arrAt 12 cfg0.N = val_main_v129 (F := Ideal) (a0 m c) (a1 m c) (a2 m c) := by
  refine (dats m 0 c).arrAt_eq_of_covers 12 _ (by decide +kernel) fun t _ y => ?_
  blk_simp
  rw [after0_12]
  have e : (win0_12.blk t).view.emb y = y := by blk_ext [idx t]
  rw [e]
  exact o12 (b0 m c t) (b1 m c t) (b2 m c t) (b3 m c t) (b4 m c t) (reals m hpre c) y

theorem final13 [Cert.Pre_finite_zohfwd.Facts] (hpre : Cert.Pre_ZohFwdIdeal_finite_zohfwd m) (c : Dev nD) : (dats m 0 c).arrAt 13 cfg0.N = val_main_v146 (F := Ideal) (a0 m c) (a1 m c) (a2 m c) := by
  refine (dats m 0 c).arrAt_eq_of_covers 13 _ (by decide +kernel) fun t _ y => ?_
  blk_simp
  rw [after0_13]
  have e : (win0_13.blk t).view.emb y = y := by blk_ext [idx t]
  rw [e]
  exact o13 (b0 m c t) (b1 m c t) (b2 m c t) (b3 m c t) (b4 m c t) (reals m hpre c) y

theorem final14 [Cert.Pre_finite_zohfwd.Facts] (hpre : Cert.Pre_ZohFwdIdeal_finite_zohfwd m) (c : Dev nD) : (dats m 0 c).arrAt 14 cfg0.N = val_main_v159 (F := Ideal) (a0 m c) (a1 m c) (a2 m c) := by
  refine (dats m 0 c).arrAt_eq_of_covers 14 _ (by decide +kernel) fun t _ y => ?_
  blk_simp
  rw [after0_14]
  have e : (win0_14.blk t).view.emb y = y := by blk_ext [idx t]
  rw [e]
  exact o14 (b0 m c t) (b1 m c t) (b2 m c t) (b3 m c t) (b4 m c t) (reals m hpre c) y

instance : Cert.Pre_finite_zohfwd.Facts where
  bcast_S_S64x64 := by decide

/-- One device's arguments of the reference. -/
abbrev r0 (m' : (ℓ : Loc ZohFwdRefIdeal.nD ZohFwdRefIdeal.τ ZohFwdRefIdeal.sig) → Buf (Elt Ideal) ℓ) (c : Dev ZohFwdRefIdeal.nD) : Vec Ideal ZohFwdRefIdeal.S64x64 .f32 :=
  m' ((c.tc : Thread ZohFwdRefIdeal.nD ZohFwdRefIdeal.τ).loc ZohFwdRefIdeal.main_arg0)
abbrev r1 (m' : (ℓ : Loc ZohFwdRefIdeal.nD ZohFwdRefIdeal.τ ZohFwdRefIdeal.sig) → Buf (Elt Ideal) ℓ) (c : Dev ZohFwdRefIdeal.nD) : Vec Ideal ZohFwdRefIdeal.S64x64 .f32 :=
  m' ((c.tc : Thread ZohFwdRefIdeal.nD ZohFwdRefIdeal.τ).loc ZohFwdRefIdeal.main_arg1)
abbrev r2 (m' : (ℓ : Loc ZohFwdRefIdeal.nD ZohFwdRefIdeal.τ ZohFwdRefIdeal.sig) → Buf (Elt Ideal) ℓ) (c : Dev ZohFwdRefIdeal.nD) : Vec Ideal ZohFwdRefIdeal.S64 .f32 :=
  m' ((c.tc : Thread ZohFwdRefIdeal.nD ZohFwdRefIdeal.τ).loc ZohFwdRefIdeal.main_arg2)
abbrev r3 (m' : (ℓ : Loc ZohFwdRefIdeal.nD ZohFwdRefIdeal.τ ZohFwdRefIdeal.sig) → Buf (Elt Ideal) ℓ) (c : Dev ZohFwdRefIdeal.nD) : Vec Ideal ZohFwdRefIdeal.S64x64x16 .f32 :=
  m' ((c.tc : Thread ZohFwdRefIdeal.nD ZohFwdRefIdeal.τ).loc ZohFwdRefIdeal.main_arg3)
abbrev r4 (m' : (ℓ : Loc ZohFwdRefIdeal.nD ZohFwdRefIdeal.τ ZohFwdRefIdeal.sig) → Buf (Elt Ideal) ℓ) (c : Dev ZohFwdRefIdeal.nD) : Vec Ideal ZohFwdRefIdeal.S64x64x16 .f32 :=
  m' ((c.tc : Thread ZohFwdRefIdeal.nD ZohFwdRefIdeal.τ).loc ZohFwdRefIdeal.main_arg4)

/-- The reference's run, its results read stage by stage. -/
theorem ref_run (m' : (ℓ : Loc ZohFwdRefIdeal.nD ZohFwdRefIdeal.τ ZohFwdRefIdeal.sig) → Buf (Elt Ideal) ℓ) (g' : Dev ZohFwdRefIdeal.nD → PrngReg) :
    θ_run (ZohFwdRefIdeal.defs (F := Ideal)) (onTc (τ := ZohFwdRefIdeal.τ) (ZohFwdRefIdeal.main (F := Ideal))) ⟨m', fun _ => 0, g'⟩ fun r => ∀ c : Dev ZohFwdRefIdeal.nD,
      r.2.mem ((c.tc : Thread ZohFwdRefIdeal.nD ZohFwdRefIdeal.τ).loc ZohFwdRefIdeal.main_v90) = val_main_v90 (F := Ideal) (r0 m' c) (r1 m' c) (r2 m' c)
      ∧ r.2.mem ((c.tc : Thread ZohFwdRefIdeal.nD ZohFwdRefIdeal.τ).loc ZohFwdRefIdeal.main_v91) = val_main_v91 (F := Ideal) (r0 m' c) (r1 m' c) (r2 m' c)
      ∧ r.2.mem ((c.tc : Thread ZohFwdRefIdeal.nD ZohFwdRefIdeal.τ).loc ZohFwdRefIdeal.main_v92) = val_main_v92 (F := Ideal) (r0 m' c) (r1 m' c) (r2 m' c) (r3 m' c) (r4 m' c)
      ∧ r.2.mem ((c.tc : Thread ZohFwdRefIdeal.nD ZohFwdRefIdeal.τ).loc ZohFwdRefIdeal.main_v93) = val_main_v93 (F := Ideal) (r0 m' c) (r1 m' c) (r2 m' c) (r3 m' c) (r4 m' c)
      ∧ r.2.mem ((c.tc : Thread ZohFwdRefIdeal.nD ZohFwdRefIdeal.τ).loc ZohFwdRefIdeal.main_v102) = val_main_v102 (F := Ideal) (r0 m' c) (r1 m' c) (r2 m' c)
      ∧ r.2.mem ((c.tc : Thread ZohFwdRefIdeal.nD ZohFwdRefIdeal.τ).loc ZohFwdRefIdeal.main_v111) = val_main_v111 (F := Ideal) (r0 m' c) (r1 m' c) (r2 m' c)
      ∧ r.2.mem ((c.tc : Thread ZohFwdRefIdeal.nD ZohFwdRefIdeal.τ).loc ZohFwdRefIdeal.main_v120) = val_main_v120 (F := Ideal) (r0 m' c) (r1 m' c) (r2 m' c)
      ∧ r.2.mem ((c.tc : Thread ZohFwdRefIdeal.nD ZohFwdRefIdeal.τ).loc ZohFwdRefIdeal.main_v129) = val_main_v129 (F := Ideal) (r0 m' c) (r1 m' c) (r2 m' c)
      ∧ r.2.mem ((c.tc : Thread ZohFwdRefIdeal.nD ZohFwdRefIdeal.τ).loc ZohFwdRefIdeal.main_v146) = val_main_v146 (F := Ideal) (r0 m' c) (r1 m' c) (r2 m' c)
      ∧ r.2.mem ((c.tc : Thread ZohFwdRefIdeal.nD ZohFwdRefIdeal.τ).loc ZohFwdRefIdeal.main_v159) = val_main_v159 (F := Ideal) (r0 m' c) (r1 m' c) (r2 m' c)
      ∧ r.2.mem ((c.tc : Thread ZohFwdRefIdeal.nD ZohFwdRefIdeal.τ).loc ZohFwdRefIdeal.main_arg0) = r0 m' c
      ∧ r.2.mem ((c.tc : Thread ZohFwdRefIdeal.nD ZohFwdRefIdeal.τ).loc ZohFwdRefIdeal.main_arg1) = r1 m' c
      ∧ r.2.mem ((c.tc : Thread ZohFwdRefIdeal.nD ZohFwdRefIdeal.τ).loc ZohFwdRefIdeal.main_arg2) = r2 m' c
      ∧ r.2.mem ((c.tc : Thread ZohFwdRefIdeal.nD ZohFwdRefIdeal.τ).loc ZohFwdRefIdeal.main_arg3) = r3 m' c
      ∧ r.2.mem ((c.tc : Thread ZohFwdRefIdeal.nD ZohFwdRefIdeal.τ).loc ZohFwdRefIdeal.main_arg4) = r4 m' c :=
  (θ_run ZohFwdRefIdeal.defs _ _).mono (fun _ h c => by
    obtain ⟨h0, h1, h2, h3, h4, h5, h6, h7, h8, h9, h10⟩ := h c
    exact ⟨h0.trans (val_main_v90_eq _), h1.trans (val_main_v91_eq _), h2.trans (val_main_v92_eq _), h3.trans (val_main_v93_eq _), h4.trans (val_main_v102_eq _), h5.trans (val_main_v111_eq _), h6.trans (val_main_v120_eq _), h7.trans (val_main_v129_eq _), h8.trans (val_main_v146_eq _), h9.trans (val_main_v159_eq _), h10⟩)
    (ZohFwdRefIdeal.Value.run m' g')

theorem algebraic : Cert.algebraic_ZohFwdIdeal_ZohFwdRefIdeal_pre_finite_zohfwd := by
  intro m g m' g' hpre hagree
  refine ⟨fun c => val_main_v90 (F := Ideal) (a0 m c) (a1 m c) (a2 m c),
    fun c => val_main_v91 (F := Ideal) (a0 m c) (a1 m c) (a2 m c),
    fun c => val_main_v92 (F := Ideal) (a0 m c) (a1 m c) (a2 m c) (a3 m c) (a4 m c),
    fun c => val_main_v93 (F := Ideal) (a0 m c) (a1 m c) (a2 m c) (a3 m c) (a4 m c),
    fun c => val_main_v102 (F := Ideal) (a0 m c) (a1 m c) (a2 m c),
    fun c => val_main_v111 (F := Ideal) (a0 m c) (a1 m c) (a2 m c),
    fun c => val_main_v120 (F := Ideal) (a0 m c) (a1 m c) (a2 m c),
    fun c => val_main_v129 (F := Ideal) (a0 m c) (a1 m c) (a2 m c),
    fun c => val_main_v146 (F := Ideal) (a0 m c) (a1 m c) (a2 m c),
    fun c => val_main_v159 (F := Ideal) (a0 m c) (a1 m c) (a2 m c),
    (θ_run _ _ _).mono (fun r h c => ?_) (θ_run_and (unchanged m g) (run_main m g)), (θ_run _ _ _).mono (fun r h c => ?_) (ref_run m' g')⟩
  · exact ⟨((h.2 c).1 5).trans (final5 m c), ((h.2 c).1 6).trans (final6 m c), ((h.2 c).1 7).trans (final7 m c), ((h.2 c).1 8).trans (final8 m c), ((h.2 c).1 9).trans (final9 m hpre c), ((h.2 c).1 10).trans (final10 m hpre c), ((h.2 c).1 11).trans (final11 m hpre c), ((h.2 c).1 12).trans (final12 m hpre c), ((h.2 c).1 13).trans (final13 m hpre c), ((h.2 c).1 14).trans (final14 m hpre c), h.1 c⟩
  · obtain ⟨h0, h1, h2, h3, h4, h5, h6, h7, h8, h9, h10⟩ := h c
    obtain ⟨(e0 : r0 m' c = a0 m c), (e1 : r1 m' c = a1 m c), (e2 : r2 m' c = a2 m c), (e3 : r3 m' c = a3 m c), (e4 : r4 m' c = a4 m c)⟩ := hagree c
    rw [e0, e1, e2] at h0 h1 h4 h5 h6 h7 h8 h9
    rw [e0, e1, e2, e3, e4] at h2 h3
    exact ⟨h0, h1, h2, h3, h4, h5, h6, h7, h8, h9, h10⟩

end Cert.Proof.ZohFwd
end
-- ==== Proof.MmRes.lean ====
/- Hand-written, untrusted: THE DOWN PROJECTION WITH ITS RESIDUAL. The kernel adds up the four stretches of the contracted axis in a scratch and adds the residual's block to the last sum. -/
module

public import proofs.«01_k».proof.Defs
public import proofs.«01_k».proof.Proof.Gen.MmResIdeal.Frame
public import proofs.«01_k».proof.Proof.Gen.MmResRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.MmRes

open Cert.MmResIdeal Cert.MmResIdeal.Gen Idealize.ShloMosaic Idealize.ShloMosaic.TcCoe Idealize.SL.Sem
open Cert.MmResRefIdeal.Read

variable (m : (ℓ : Loc nD τ sig) → Buf (Elt Ideal) ℓ)

/-- The windows' block indices: the 16 points walk the 2 by 2 blocks of the result, and within one the 4 stretches of the contracted axis. -/
theorem idx : ∀ t : Fin cfg0.N, win0_0.index t = ![t.val / 8, t.val % 4] ∧ win0_1.index t = ![t.val % 4, t.val / 4 % 2] ∧
    win0_2.index t = ![t.val / 8, t.val / 4 % 2] ∧ win0_3.index t = ![t.val / 8, t.val / 4 % 2] ∧ t.val < 16 :=
  (by decide +kernel : ∀ t : Fin grid0.N, _)

/-- One stretch's product. -/
theorem prod (x0 : Vec Ideal S1024x2048 .bf16) (x1 : Vec Ideal S2048x1024 .bf16) (y : S1024x1024.Idx) :
    k0_pay1 x0 x1 y = ∑ k : Fin 2048, x0 (ix2 (y 0) k) * x1 (ix2 k (y 1)) := by
  pointwise [k0_pay1]

/-- The result's block at a tile's last point: the sum of the four stretches' products. -/
theorem point (c : Dev nD) (t : Fin cfg0.N) (h3 : t.val % 4 = 3) (y : S1024x1024.Idx) (j : S2048x2048.Idx)
    (hj0 : (j 0).val = t.val / 8 * 1024 + (y 0).val) (hj1 : (j 1).val = t.val / 4 % 2 * 1024 + (y 1).val) :
    (outsAt0 m c t.val t.isLt).1 y = val_main_v1 (F := Ideal) (m ((c : Thread nD τ).loc main_arg0)) (m ((c : Thread nD τ).loc main_arg1)) (m ((c : Thread nD τ).loc main_arg2)) j := by
  have hA := outsAt0_A m c ⟨t.val - 1 - 1 - 1, by omega⟩ (by dsimp only; omega) (by dsimp only; omega) (by dsimp only; omega)
  have hB := outsAt0_B m c ⟨t.val - 1 - 1, by omega⟩ (by dsimp only; omega) (by dsimp only; omega) (by dsimp only; omega)
  have hC := outsAt0_B m c ⟨t.val - 1, by omega⟩ (by dsimp only; omega) (by dsimp only; omega) (by dsimp only; omega)
  dsimp only at hA hB hC
  rw [outsAt0_C m c t (by omega) (by omega) h3]; frame_out
  rw [hC]; frame_out
  rw [hB]; frame_out
  rw [hA]; frame_out
  clear hA hB hC
  simp only [read_unread_whole]
  pointwise [k0_pay4, k0_pay3, k0_pay2, val_main_v1, val_main_v0]
  rw [prod, prod, prod, prod, Fin.sum_univ_two_halves 6144 2048 rfl, Fin.sum_univ_two_halves 4096 2048 rfl, Fin.sum_univ_two_halves 2048 2048 rfl]
  refine Eq.trans (add_comm _ _) (Ideal.add_congr ?_ (Ideal.add_congr (Ideal.add_congr (Ideal.add_congr ?_ ?_) ?_) ?_))
  · blk_point [iblk, V, idx t]
  all_goals
    refine Finset.sum_congr rfl fun k _ => Ideal.mul_congr ?_ ?_
    all_goals
    blk_point [iblk, V, idx t, idx ⟨t.val - 1, by omega⟩, idx ⟨t.val - 1 - 1, by omega⟩, idx ⟨t.val - 1 - 1 - 1, by omega⟩]

/-- The array after the run is the reference's term of the argument arrays. -/
theorem final (c : Dev nD) : (dats m 0 c).arrAt 3 cfg0.N = val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t ((flush0_3 t).mp hf) y _ ?_ ?_ <;> blk_simp [idx t]

/-- The kernel's run and the reference's end with equal results. -/
theorem algebraic : Cert.algebraic_MmResIdeal_MmResRefIdeal := by
  pair_intro
  · run_from Cert.MmResIdeal.Gen.run_main m g
  · run_from Cert.MmResRefIdeal.Value.run m' g'
    exact (final m c).symm

end Cert.Proof.MmRes

end
-- ==== Proof.MmNtCb.lean ====
/- Hand-written, untrusted: THE GRADIENT OF THE MLP'S INPUT. The weight is kept in eight column parts; a point contracts two of them one after the other, and the kernel adds up the four pairs in a scratch. -/
module

public import proofs.«01_k».proof.Defs
public import proofs.«01_k».proof.Proof.Gen.MmNtCbIdeal.Frame
public import proofs.«01_k».proof.Proof.Gen.MmNtCbRefIdeal.Read
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384

noncomputable section

namespace Cert.Proof.MmNtCb

open Cert.MmNtCbIdeal Cert.MmNtCbIdeal.Gen Idealize.ShloMosaic Idealize.ShloMosaic.TcCoe Idealize.SL.Sem
open Cert.MmNtCbRefIdeal.Read

variable (m : (ℓ : Loc nD τ sig) → Buf (Elt Ideal) ℓ)

/-- The windows' block indices: the 16 points walk the 2 by 2 blocks of the result, and within one the 4 stretches of the contracted axis. -/
theorem idx : ∀ t : Fin cfg0.N, win0_0.index t = ![t.val / 8, t.val % 4] ∧ win0_1.index t = ![t.val % 4, t.val / 4 % 2, 0] ∧
    win0_2.index t = ![t.val / 8, t.val / 4 % 2] ∧ t.val < 16 :=
  (by decide +kernel : ∀ t : Fin grid0.N, _)

/-- One point's pair of parts: the two products' sum. -/
theorem prod (x0 : Vec Ideal S1024x2048 .bf16) (x1 : Vec Ideal S2x1024x1024 .bf16) (y : S1024x1024.Idx) :
    k0_pay1 (View.ld x0 (Rect.unit ![0, 0] ![1024, 1024] inb_S1024x2048_S1024x1024_0_0))
      (View.ld x1 (Rect.unit ![0, 0, 0] ![1, 1024, 1024] inb_S2x1024x1024_S1x1024x1024_0_0_0))
      (View.ld x0 (Rect.unit ![0, 1024] ![1024, 1024] inb_S1024x2048_S1024x1024_0_1024))
      (View.ld x1 (Rect.unit ![1, 0, 0] ![1, 1024, 1024] inb_S2x1024x1024_S1x1024x1024_1_0_0)) y =
    (∑ k : Fin 1024, x0 (ix2 (y 0) ⟨k.val, by omega⟩) * x1 (ix3 0 (y 1) k)) +
      ∑ k : Fin 1024, x0 (ix2 (y 0) ⟨1024 + k.val, by omega⟩) * x1 (ix3 1 (y 1) k) := by
  pointwise [k0_pay1]

/-- The weight the kernel is given: its column parts one after the other. -/
theorem weight (c : Dev nD) (p : Fin 8) (a : Fin 2048) (k : Fin 1024) : V m c main_v2 (ix3 p a k) =
    m ((c : Thread nD τ).loc main_arg1) (ix2 a ⟨p.val * 1024 + k.val, by omega⟩) := by
  unfold V
  after_reads_simp
  pointwise []

/-- The weight's block: two column parts of a row block. -/
theorem part (c : Dev nD) (t : Fin cfg0.N) (q : Fin 2) (a k : Fin 1024) (j : S2048x8192.Idx)
    (hj0 : (j 0).val = t.val / 4 % 2 * 1024 + a.val) (hj1 : (j 1).val = t.val % 4 * 2048 + q.val * 1024 + k.val) :
    iblk m c 1 t (ix3 q a k) = m ((c : Thread nD τ).loc main_arg1) j := by
  refine Eq.trans ?_ ((weight m c ⟨t.val % 4 * 2 + q.val, by omega⟩ ⟨t.val / 4 % 2 * 1024 + a.val, by omega⟩ k).trans ?_)
  · exact congrArg (V m c main_v2) (by blk_ext [idx t])
  · exact congrArg _ (by blk_ext [idx t])

/-- The rows' block. -/
theorem rows (c : Dev nD) (t : Fin cfg0.N) (a : Fin 1024) (k : Fin 2048) (j : S2048x8192.Idx)
    (hj0 : (j 0).val = t.val / 8 * 1024 + a.val) (hj1 : (j 1).val = t.val % 4 * 2048 + k.val) :
    iblk m c 0 t (ix2 a k) = m ((c : Thread nD τ).loc main_arg0) j := by
  blk_point [iblk, V, idx t]

/-- The gradient of the first product. -/
abbrev a0 (c : Dev nD) : (⟨S2048x8192, .f32⟩ : BufTy).Contents (Elt Ideal) := m ((c : Thread nD τ).loc main_arg0)

/-- The weight. -/
abbrev a1 (c : Dev nD) : (⟨S2048x8192, .f32⟩ : BufTy).Contents (Elt Ideal) := m ((c : Thread nD τ).loc main_arg1)

/-- One point's part of the sum. -/
theorem stretch (c : Dev nD) (s : ℕ) (hs : s < cfg0.N) (y : S1024x1024.Idx) (a b : Fin 2048) (n : Fin 2048 → Fin 8192)
    (ha : a.val = s / 8 * 1024 + (y 0).val) (hb : b.val = s / 4 % 2 * 1024 + (y 1).val) (hn : ∀ k, (n k).val = s % 4 * 2048 + k.val) :
    k0_pay1 (View.ld (iblk m c 0 ⟨s, hs⟩) (Rect.unit ![0, 0] ![1024, 1024] inb_S1024x2048_S1024x1024_0_0))
      (View.ld (iblk m c 1 ⟨s, hs⟩) (Rect.unit ![0, 0, 0] ![1, 1024, 1024] inb_S2x1024x1024_S1x1024x1024_0_0_0))
      (View.ld (iblk m c 0 ⟨s, hs⟩) (Rect.unit ![0, 1024] ![1024, 1024] inb_S1024x2048_S1024x1024_0_1024))
      (View.ld (iblk m c 1 ⟨s, hs⟩) (Rect.unit ![1, 0, 0] ![1, 1024, 1024] inb_S2x1024x1024_S1x1024x1024_1_0_0)) y =
    ∑ k : Fin 2048, a0 m c (ix2 a (n k)) * a1 m c (ix2 b (n k)) := by
  refine (prod (iblk m c 0 ⟨s, hs⟩) (iblk m c 1 ⟨s, hs⟩) y).trans ?_
  rw [Fin.sum_univ_two_halves 1024 1024 rfl]
  refine Ideal.add_congr (Finset.sum_congr rfl fun k _ => Ideal.mul_congr ?_ ?_) (Finset.sum_congr rfl fun k _ => Ideal.mul_congr ?_ ?_)
  · exact rows m c ⟨s, hs⟩ _ _ _ ha (hn _)
  · exact part m c ⟨s, hs⟩ _ _ _ _ hb ((hn _).trans (by simp))
  · exact rows m c ⟨s, hs⟩ _ _ _ ha (hn _)
  · exact part m c ⟨s, hs⟩ _ _ _ _ hb ((hn _).trans (by simp [Nat.add_assoc]))

/-- The result's block at a tile's last point: the sum of the four stretches' products. -/
theorem point (c : Dev nD) (t : Fin cfg0.N) (h3 : t.val % 4 = 3) (y : S1024x1024.Idx) (j : S2048x2048.Idx)
    (hj0 : (j 0).val = t.val / 8 * 1024 + (y 0).val) (hj1 : (j 1).val = t.val / 4 % 2 * 1024 + (y 1).val) :
    (outsAt0 m c t.val t.isLt).1 y = val_main_v1 (F := Ideal) (m ((c : Thread nD τ).loc main_arg0)) (m ((c : Thread nD τ).loc main_arg1)) j := by
  have hA := outsAt0_A m c ⟨t.val - 1 - 1 - 1, by omega⟩ (by dsimp only; omega) (by dsimp only; omega) (by dsimp only; omega)
  have hB := outsAt0_B m c ⟨t.val - 1 - 1, by omega⟩ (by dsimp only; omega) (by dsimp only; omega) (by dsimp only; omega)
  have hC := outsAt0_B m c ⟨t.val - 1, by omega⟩ (by dsimp only; omega) (by dsimp only; omega) (by dsimp only; omega)
  dsimp only at hA hB hC
  rw [outsAt0_C m c t (by omega) (by omega) h3]; frame_out
  rw [hC]; frame_out
  rw [hB]; frame_out
  rw [hA]; frame_out
  clear hA hB hC
  simp only [read_unread_whole]
  pointwise [k0_pay4, k0_pay3, k0_pay2, val_main_v1, val_main_v0]
  rw [Fin.sum_univ_two_halves 6144 2048 rfl, Fin.sum_univ_two_halves 4096 2048 rfl, Fin.sum_univ_two_halves 2048 2048 rfl]
  refine Ideal.add_congr (Ideal.add_congr (Ideal.add_congr ?_ ?_) ?_) ?_
  · exact stretch m c (t.val - 1 - 1 - 1) (by omega) y (j 0) (j 1) _ (by omega) (by omega) fun k => by dsimp only; omega
  · exact stretch m c (t.val - 1 - 1) (by omega) y (j 0) (j 1) _ (by omega) (by omega) fun k => by dsimp only; omega
  · exact stretch m c (t.val - 1) (by omega) y (j 0) (j 1) _ (by omega) (by omega) fun k => by dsimp only; omega
  · exact stretch m c (t.val) (by omega) y (j 0) (j 1) _ (by omega) (by omega) fun k => by dsimp only; omega

/-- The array after the run is the reference's term of the argument arrays. -/
theorem final (c : Dev nD) : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> blk_simp [idx t]

/-- The kernel's run and the reference's end with equal results. -/
theorem algebraic : Cert.algebraic_MmNtCbIdeal_MmNtCbRefIdeal := by
  pair_intro
  · run_from Cert.MmNtCbIdeal.Gen.run_main m g
  · run_from Cert.MmNtCbRefIdeal.Value.run m' g'
    exact (final m c).symm

end Cert.Proof.MmNtCb

end
-- ==== Proof.MmTnCb.lean ====
/- Hand-written, untrusted: A WEIGHT'S GRADIENT, THE UP PROJECTION'S, WRITTEN AS ONE PART A DEVICE. The kernel contracts the rows at once and writes each column block into the part that holds it. -/
module

public import proofs.«01_k».proof.Defs
public import proofs.«01_k».proof.Proof.Gen.MmTnCbIdeal.Frame
public import proofs.«01_k».proof.Proof.Gen.MmTnCbRefIdeal.Read
public import Idealize.ShloMosaic.Lib.Pipeline.ValueKit
public import Idealize.ShloMosaic.Lib.Claim

@[expose] public section

set_option maxRecDepth 16384

noncomputable section

namespace Cert.Proof.MmTnCb

open Cert.MmTnCbIdeal Cert.MmTnCbIdeal.Gen Idealize.ShloMosaic Idealize.ShloMosaic.TcCoe Idealize.SL.Sem
open Cert.MmTnCbRefIdeal.Read

variable (m : (ℓ : Loc nD τ sig) → Buf (Elt Ideal) ℓ)

/-- The windows' block indices: the 16 points walk the 2 row blocks and, within one, the 8 parts. -/
theorem idx : ∀ t : Fin cfg0.N, win0_0.index t = ![0, t.val / 8] ∧ win0_1.index t = ![0, t.val % 8] ∧ win0_2.index t = ![t.val % 8, t.val / 8, 0] ∧
    t.val < 16 :=
  (by decide +kernel : ∀ t : Fin grid0.N, _)

/-- What the body stores at index `y` of point `t`'s block is the reference's term at the array index of `y`. -/
theorem point (c : Dev nD) (t : Fin cfg0.N) (y : S1x1024x1024.Idx) (j : S8x2048x1024.Idx) (hj0 : (j 0 : ℕ) = t.val % 8)
    (hj1 : (j 1 : ℕ) = t.val / 8 * 1024 + (y 1 : ℕ)) (hj2 : (j 2 : ℕ) = (y 2 : ℕ)) :
    k0_pay1 (iblk m c 0 t) (iblk m c 1 t) y = val_main_v4 (F := Ideal) (m ((c : Thread nD τ).loc main_arg0)) (m ((c : Thread nD τ).loc main_arg1)) j := by
  have h1 := (y 1).isLt
  have h2 := (y 2).isLt
  pointwise [k0_pay1, val_main_v4, val_main_v3, val_main_v2, val_main_v1, val_main_v0]
  blk_point [iblk, V, idx t]

/-- The array after the run is the reference's term of the argument arrays. -/
theorem final (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ ?_ <;> blk_simp [idx t]

/-- The kernel's run and the reference's end with equal results. -/
theorem algebraic : Cert.algebraic_MmTnCbIdeal_MmTnCbRefIdeal := by
  pair_intro
  · run_from Cert.MmTnCbIdeal.Gen.run_main m g
  · run_from Cert.MmTnCbRefIdeal.Value.run m' g'
    exact (final m c).symm

end Cert.Proof.MmTnCb

end
-- ==== Proof.Adamw.lean ====
/- Hand-written, untrusted: THE OPTIMISER'S STEP ON ONE STACK OF PACKED WEIGHTS. The kernel adds up the parts' gradients and writes them with the step and the two new moments. -/
module

public import proofs.«01_k».proof.Defs
public import proofs.«01_k».proof.Proof.Gen.AdamwIdeal.Frame
public import proofs.«01_k».proof.Proof.Gen.AdamwRefIdeal.Read
public import Idealize.ShloMosaic.Lib.Pipeline.ValueKit
public import Idealize.ShloMosaic.Lib.Claim

@[expose] public section

set_option maxRecDepth 16384

noncomputable section

namespace Cert.Proof.Adamw

open Cert.AdamwIdeal Cert.AdamwIdeal.Gen Idealize.ShloMosaic Idealize.ShloMosaic.TcCoe Idealize.SL.Sem
open Cert.AdamwRefIdeal.Read

variable (m : (ℓ : Loc nD τ sig) → Buf (Elt Ideal) ℓ)

/-- The windows' block indices: point `t` holds row block `t` of every array. -/
theorem idx : ∀ t : Fin cfg0.N, win0_0.index t = ![0, t.val, 0] ∧ win0_1.index t = ![0, t.val, 0] ∧ win0_2.index t = ![0, t.val, 0] ∧
    win0_3.index t = ![0, t.val, 0] ∧ win0_4.index t = ![0, t.val, 0] ∧ win0_5.index t = ![0, t.val, 0] ∧ win0_6.index t = ![0, t.val, 0] ∧
    win0_7.index t = ![0, t.val, 0] ∧ t.val < 23 :=
  (by decide +kernel : ∀ t : Fin grid0.N, _)

/-- The parts' sum at a row and a lane. -/
theorem grad (c : Dev nD) (t : Fin cfg0.N) (a : Fin 184) (b : Fin 128) (j : S1x4232x128.Idx) (hj1 : (j 1).val = t.val * 184 + a.val)
    (hj2 : (j 2).val = b.val) : k0_pay10 (iblk m c 0 t) (iblk m c 1 t) (iblk m c 2 t) (iblk m c 3 t) (ix2 a b) = val_main_v1 (F := Ideal) (m ((c : Thread nD τ).loc main_arg3)) j := by
  pointwise [k0_pay10, k0_pay2, val_main_v1, val_main_v0]
  rw [show val_main_cst (F := Ideal) (Shape.Idx.first AdamwRefIdeal.Gen.h_S_) = 0 from Ideal.ofBits_zero_f32, zero_add, Fin.sum_univ_eight]
  blk_point [iblk, V, idx t]

/-- The weights' block. -/
theorem weights (c : Dev nD) (t : Fin cfg0.N) (y : S1x184x128.Idx) (j : S1x4232x128.Idx) (hj1 : (j 1).val = t.val * 184 + (y 1).val)
    (hj2 : (j 2).val = (y 2).val) : iblk m c 0 t y = m ((c : Thread nD τ).loc main_arg0) j := by
  blk_point [iblk, V, idx t]

/-- The first moment's block. -/
theorem means (c : Dev nD) (t : Fin cfg0.N) (y : S1x184x128.Idx) (j : S1x4232x128.Idx) (hj1 : (j 1).val = t.val * 184 + (y 1).val)
    (hj2 : (j 2).val = (y 2).val) : iblk m c 1 t y = m ((c : Thread nD τ).loc main_arg1) j := by
  blk_point [iblk, V, idx t]

/-- The second moment's block. -/
theorem squares (c : Dev nD) (t : Fin cfg0.N) (y : S1x184x128.Idx) (j : S1x4232x128.Idx) (hj1 : (j 1).val = t.val * 184 + (y 1).val)
    (hj2 : (j 2).val = (y 2).val) : iblk m c 2 t y = m ((c : Thread nD τ).loc main_arg2) j := by
  blk_point [iblk, V, idx t]

/-- What the body stores at index `y` of point `t`'s blocks is the reference's terms at the array index of `y`. -/
theorem point (c : Dev nD) (t : Fin cfg0.N) (y : S1x184x128.Idx) (j : S1x4232x128.Idx) (hj1 : (j 1).val = t.val * 184 + (y 1).val)
    (hj2 : (j 2).val = (y 2).val) :
    k0_pay7 (k0_pay10 (iblk m c 0 t) (iblk m c 1 t) (iblk m c 2 t) (iblk m c 3 t)) y = val_main_v1 (F := Ideal) (m ((c : Thread nD τ).loc main_arg3)) j ∧
    k0_pay9 (k0_pay10 (iblk m c 0 t) (iblk m c 1 t) (iblk m c 2 t) (iblk m c 3 t)) (k0_pay11 (iblk m c 0 t) (iblk m c 1 t) (iblk m c 2 t) (iblk m c 3 t)) y =
      val_main_v6 (F := Ideal) (m ((c : Thread nD τ).loc main_arg1)) (m ((c : Thread nD τ).loc main_arg3)) j ∧
    k0_pay1 (k0_pay6 (k0_pay10 (iblk m c 0 t) (iblk m c 1 t) (iblk m c 2 t) (iblk m c 3 t)) (iblk m c 2 t)) y = val_main_v12 (F := Ideal) (m ((c : Thread nD τ).loc main_arg2)) (m ((c : Thread nD τ).loc main_arg3)) j ∧
    k0_pay8 (k0_pay10 (iblk m c 0 t) (iblk m c 1 t) (iblk m c 2 t) (iblk m c 3 t)) (k0_pay3 (iblk m c 0 t))
      (k0_pay11 (iblk m c 0 t) (iblk m c 1 t) (iblk m c 2 t) (iblk m c 3 t)) (iblk m c 2 t) y = val_main_v25 (F := Ideal) (m ((c : Thread nD τ).loc main_arg0)) (m ((c : Thread nD τ).loc main_arg1)) (m ((c : Thread nD τ).loc main_arg2)) (m ((c : Thread nD τ).loc main_arg3)) j := by
  have g := grad m c t (y 1) (y 2) j hj1 hj2
  have e1 := means m c t (ix3 0 (y 1) (y 2)) j hj1 hj2
  refine ⟨?_, ?_, ?_, ?_⟩
  · pointwise [k0_pay7]
    exact g
  · pointwise [k0_pay9, k0_pay5, k0_pay11, k0_pay4, val_main_v6, val_main_v5, val_main_v4, val_main_v3, val_main_v2, val_main_cst_0, val_main_cst_1]
    rw [g, e1]
  · pointwise [k0_pay1, k0_pay6, val_main_v12, val_main_v11, val_main_v10, val_main_v9, val_main_v8, val_main_v7, val_main_cst_2, val_main_cst_3]
    rw [g, squares m c t _ j hj1 hj2]
  · pointwise [k0_pay8, k0_pay5, k0_pay6, k0_pay3, k0_pay11, k0_pay4, val_main_v25, val_main_v24, val_main_v23, val_main_v22, val_main_v21, val_main_v20, val_main_v19,
      val_main_v18, val_main_v17, val_main_v16, val_main_v15, val_main_v14, val_main_v13, val_main_v12, val_main_v11, val_main_v10, val_main_v9, val_main_v8,
      val_main_v7, val_main_v6, val_main_v5, val_main_v4, val_main_v3, val_main_v2, val_main_cst_0, val_main_cst_1, val_main_cst_2, val_main_cst_3,
      val_main_cst_4, val_main_cst_5, val_main_cst_6, val_main_cst_7, val_main_cst_8]
    rw [g, weights m c t _ j hj1 hj2, e1, squares m c t _ j hj1 hj2]

/-- The array after the run is the reference's term of the argument arrays. -/
theorem final_g (c : Dev nD) : (dats m 0 c).arrAt 4 cfg0.N = val_main_v1 (F := Ideal) (m ((c : Thread nD τ).loc main_arg3)) := by
  refine (dats m 0 c).arrAt_eq_of_covers 4 _ (by decide +kernel) fun t _ y => ?_
  blk_simp
  rw [after0_4]; frame_out
  refine (point m c t y _ ?_ ?_).1 <;> blk_simp [idx t]

/-- The array after the run is the reference's term of the argument arrays. -/
theorem final_step (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (point m c t y _ ?_ ?_).2.2.2 <;> blk_simp [idx t]

/-- The array after the run is the reference's term of the argument arrays. -/
theorem final_mean (c : Dev nD) : (dats m 0 c).arrAt 6 cfg0.N = val_main_v6 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  refine (point m c t y _ ?_ ?_).2.1 <;> blk_simp [idx t]

/-- The array after the run is the reference's term of the argument arrays. -/
theorem final_square (c : Dev nD) : (dats m 0 c).arrAt 7 cfg0.N = val_main_v12 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  refine (point m c t y _ ?_ ?_).2.2.1 <;> blk_simp [idx t]

/-- The kernel's argument 0. -/
abbrev a0 (c : Dev nD) : (⟨S1x4232x128, .f32⟩ : BufTy).Contents (Elt Ideal) := m ((c : Thread nD τ).loc main_arg0)

/-- The reference's argument 0. -/
abbrev r0 (m' : (ℓ : Loc AdamwRefIdeal.nD AdamwRefIdeal.τ AdamwRefIdeal.sig) → Buf (Elt Ideal) ℓ) (c : Dev AdamwRefIdeal.nD) : (⟨S1x4232x128, .f32⟩ : BufTy).Contents (Elt Ideal) :=
  m' ((c.tc : Thread AdamwRefIdeal.nD AdamwRefIdeal.τ).loc AdamwRefIdeal.main_arg0)

/-- The kernel's argument 1. -/
abbrev a1 (c : Dev nD) : (⟨S1x4232x128, .f32⟩ : BufTy).Contents (Elt Ideal) := m ((c : Thread nD τ).loc main_arg1)

/-- The reference's argument 1. -/
abbrev r1 (m' : (ℓ : Loc AdamwRefIdeal.nD AdamwRefIdeal.τ AdamwRefIdeal.sig) → Buf (Elt Ideal) ℓ) (c : Dev AdamwRefIdeal.nD) : (⟨S1x4232x128, .f32⟩ : BufTy).Contents (Elt Ideal) :=
  m' ((c.tc : Thread AdamwRefIdeal.nD AdamwRefIdeal.τ).loc AdamwRefIdeal.main_arg1)

/-- The kernel's argument 2. -/
abbrev a2 (c : Dev nD) : (⟨S1x4232x128, .f32⟩ : BufTy).Contents (Elt Ideal) := m ((c : Thread nD τ).loc main_arg2)

/-- The reference's argument 2. -/
abbrev r2 (m' : (ℓ : Loc AdamwRefIdeal.nD AdamwRefIdeal.τ AdamwRefIdeal.sig) → Buf (Elt Ideal) ℓ) (c : Dev AdamwRefIdeal.nD) : (⟨S1x4232x128, .f32⟩ : BufTy).Contents (Elt Ideal) :=
  m' ((c.tc : Thread AdamwRefIdeal.nD AdamwRefIdeal.τ).loc AdamwRefIdeal.main_arg2)

/-- The kernel's argument 3. -/
abbrev a3 (c : Dev nD) : (⟨S8x4232x128, .f32⟩ : BufTy).Contents (Elt Ideal) := m ((c : Thread nD τ).loc main_arg3)

/-- The reference's argument 3. -/
abbrev r3 (m' : (ℓ : Loc AdamwRefIdeal.nD AdamwRefIdeal.τ AdamwRefIdeal.sig) → Buf (Elt Ideal) ℓ) (c : Dev AdamwRefIdeal.nD) : (⟨S8x4232x128, .f32⟩ : BufTy).Contents (Elt Ideal) :=
  m' ((c.tc : Thread AdamwRefIdeal.nD AdamwRefIdeal.τ).loc AdamwRefIdeal.main_arg3)

/-- The reference's run, its results read stage by stage. -/
theorem ref_run (m' : (ℓ : Loc AdamwRefIdeal.nD AdamwRefIdeal.τ AdamwRefIdeal.sig) → Buf (Elt Ideal) ℓ) (g' : Dev AdamwRefIdeal.nD → PrngReg) :
    θ_run (AdamwRefIdeal.defs (F := Ideal)) (onTc (τ := AdamwRefIdeal.τ) (AdamwRefIdeal.main (F := Ideal))) ⟨m', fun _ => 0, g'⟩ fun r => ∀ c : Dev AdamwRefIdeal.nD,
      r.2.mem ((c.tc : Thread AdamwRefIdeal.nD AdamwRefIdeal.τ).loc AdamwRefIdeal.main_v1) = val_main_v1 (F := Ideal) (r3 m' c)
      ∧ r.2.mem ((c.tc : Thread AdamwRefIdeal.nD AdamwRefIdeal.τ).loc AdamwRefIdeal.main_v25) = val_main_v25 (F := Ideal) (r0 m' c) (r1 m' c) (r2 m' c) (r3 m' c)
      ∧ r.2.mem ((c.tc : Thread AdamwRefIdeal.nD AdamwRefIdeal.τ).loc AdamwRefIdeal.main_v6) = val_main_v6 (F := Ideal) (r1 m' c) (r3 m' c)
      ∧ r.2.mem ((c.tc : Thread AdamwRefIdeal.nD AdamwRefIdeal.τ).loc AdamwRefIdeal.main_v12) = val_main_v12 (F := Ideal) (r2 m' c) (r3 m' c)
      ∧ r.2.mem ((c.tc : Thread AdamwRefIdeal.nD AdamwRefIdeal.τ).loc AdamwRefIdeal.main_arg0) = r0 m' c
      ∧ r.2.mem ((c.tc : Thread AdamwRefIdeal.nD AdamwRefIdeal.τ).loc AdamwRefIdeal.main_arg1) = r1 m' c
      ∧ r.2.mem ((c.tc : Thread AdamwRefIdeal.nD AdamwRefIdeal.τ).loc AdamwRefIdeal.main_arg2) = r2 m' c
      ∧ r.2.mem ((c.tc : Thread AdamwRefIdeal.nD AdamwRefIdeal.τ).loc AdamwRefIdeal.main_arg3) = r3 m' c :=
  (θ_run AdamwRefIdeal.defs _ _).mono (fun _ h c => by
    obtain ⟨h0, h1, h2, h3, h4⟩ := h c
    exact ⟨h0.trans (val_main_v1_eq _), h1.trans (val_main_v25_eq _ _ _ _), h2.trans (val_main_v6_eq _ _), h3.trans (val_main_v12_eq _ _), h4⟩)
    (AdamwRefIdeal.Value.run m' g')

/-- The kernel's run and the reference's end with equal results. -/
theorem algebraic : Cert.algebraic_AdamwIdeal_AdamwRefIdeal := by
  intro m g m' g' hpre hagree
  refine ⟨fun c => val_main_v1 (F := Ideal) (a3 m c), fun c => val_main_v25 (F := Ideal) (a0 m c) (a1 m c) (a2 m c) (a3 m c),
    fun c => val_main_v6 (F := Ideal) (a1 m c) (a3 m c), fun c => val_main_v12 (F := Ideal) (a2 m c) (a3 m c),
    (θ_run _ _ _).mono (fun r h c => ?_) (θ_run_and (unchanged m g) (run_main m g)), (θ_run _ _ _).mono (fun r h c => ?_) (ref_run m' g')⟩
  · exact ⟨((h.2 c).1 4).trans (final_g m c), ((h.2 c).1 5).trans (final_step m c), ((h.2 c).1 6).trans (final_mean m c),
      ((h.2 c).1 7).trans (final_square m c), h.1 c⟩
  · obtain ⟨h0, h1, h2, h3, h4⟩ := h c
    obtain ⟨(e0 : r0 m' c = a0 m c), (e1 : r1 m' c = a1 m c), (e2 : r2 m' c = a2 m c), (e3 : r3 m' c = a3 m c)⟩ := hagree c
    rw [e3] at h0
    rw [e0, e1, e2, e3] at h1
    rw [e1, e3] at h2
    rw [e2, e3] at h3
    exact ⟨h0, h1, h2, h3, h4⟩

end Cert.Proof.Adamw

end
-- ==== Proof.BdAll.lean ====
/- Hand-written, untrusted: THE BLOCK-DIAGONAL MATRICES OF THE S5 LAYERS. The kernel spreads the columns of sixteen blocks over all lanes by a
product with a matrix of zeros and ones, then keeps in each row only its own block; the reference lays the blocks out by broadcast and choice. -/
module
public import proofs.«01_k».proof.Proof.BlockDiag
public import proofs.«01_k».proof.Proof.Gen.BdAllIdeal.Frame
public import proofs.«01_k».proof.Proof.Gen.BdAllRefIdeal.Read
public import proofs.«01_k».proof.Defs
public import proofs.«01_k».proof.Proof.Gen.BdAllRefIdeal.Run
public import Idealize.ShloMosaic.Lib.Pipeline.ValueKit
public import Idealize.ShloMosaic.Lib.Claim
@[expose] public section
set_option maxRecDepth 16384
noncomputable section
namespace Cert.Proof.BdAll
open Cert.BdAllIdeal Cert.BdAllIdeal.Gen Idealize.ShloMosaic Idealize.ShloMosaic.TcCoe Idealize.SL.Sem
open Cert.BdAllRefIdeal.Read

/-- The rows and lanes of one block, and the matrices that repeat the columns of a block; wide blocks are 16 by 64, tall ones 64 by 16. -/
abbrev maskW : IVec S256x1024 1 := k0_pay6 k0_pay4 k0_pay5 1#32
abbrev maskT : IVec S1024x256 1 := k0_pay29 k0_pay26 (iota .tc S1024x256 32 [1] iota_S1024x256_d1_w32) 16#32 k0_pay27 k0_pay28
abbrev tileW : FVec Ideal S64x1024 .bf16 := k0_pay3
abbrev tileT : FVec Ideal S16x256 .bf16 := k0_pay35 (F := Ideal) k0_pay34 (iota .tc S16x256 32 [0] iota_S16x256_d0_w32)

/-- The stores of a result all have one form, and the second result of a shape is the first at the other argument. -/
theorem out4 (x0 x1 : Vec Ideal S64x16x64 .f32) (x2 x3 : Vec Ideal S64x64x16 .f32) : out0_4 x0 x1 x2 x3 =
    View.canon [⟨r0_7, k0_pay11 tileW maskW (View.ld x0 r0_6)⟩, ⟨r0_5, k0_pay11 tileW maskW (View.ld x0 r0_4)⟩,
      ⟨r0_3, k0_pay11 tileW maskW (View.ld x0 r0_2)⟩, ⟨r0_1, k0_pay11 tileW maskW (View.ld x0 r0_0)⟩] := rfl
theorem out5 (x0 x1 : Vec Ideal S64x16x64 .f32) (x2 x3 : Vec Ideal S64x64x16 .f32) : out0_5 x0 x1 x2 x3 = out0_4 x1 x0 x2 x3 := rfl
theorem out6 (x0 x1 : Vec Ideal S64x16x64 .f32) (x2 x3 : Vec Ideal S64x64x16 .f32) : out0_6 x0 x1 x2 x3 =
    View.canon [⟨r0_15, k0_pay33 tileT maskT (View.ld x2 r0_14)⟩, ⟨r0_13, k0_pay33 tileT maskT (View.ld x2 r0_12)⟩,
      ⟨r0_11, k0_pay33 tileT maskT (View.ld x2 r0_10)⟩, ⟨r0_9, k0_pay33 tileT maskT (View.ld x2 r0_8)⟩] := rfl
theorem out7 (x0 x1 : Vec Ideal S64x16x64 .f32) (x2 x3 : Vec Ideal S64x64x16 .f32) : out0_7 x0 x1 x2 x3 = out0_6 x0 x1 x3 x2 := rfl

open BlockDiag

theorem lane_state16 (n : Nat) (h : n < 256) :
    floorMod (BitVec.ofNat 32 n) (Scalar.select (Scalar.cmpi .eq 16#32 0#32) 1#32 16#32) = BitVec.ofNat 32 (n % 16) :=
  (by decide +kernel : ∀ r : Fin 256, floorMod (BitVec.ofNat 32 r.val)
    (Scalar.select (Scalar.cmpi .eq 16#32 0#32) 1#32 16#32) = BitVec.ofNat 32 (r.val % 16)) ⟨n, h⟩

theorem maskW_apply (y : S256x1024.Idx) : maskW y = IntOp.cmpi .eq (floorDiv (BitVec.ofNat 32 (y 0).val) 16#32) (floorDiv (BitVec.ofNat 32 (y 1).val) 64#32) := by
  pointwise [maskW, k0_pay6, k0_pay4, k0_pay5, floorDiv]
theorem maskT_apply (y : S1024x256.Idx) : maskT y = IntOp.cmpi .eq (floorDiv (BitVec.ofNat 32 (y 0).val) 64#32) (floorDiv (BitVec.ofNat 32 (y 1).val) 16#32) := by
  pointwise [maskT, k0_pay29, k0_pay26, k0_pay27, k0_pay28, floorDiv]
theorem tileW_apply (y : S64x1024.Idx) : tileW y = Scalar.select (IntOp.cmpi .eq (floorMod (BitVec.ofNat 32 (y 1).val) (Scalar.select (Scalar.cmpi .eq 64#32 0#32) 1#32 64#32)) (BitVec.ofNat 32 (y 0).val)) (1 : EReal) 0 := by
  pointwise [tileW, k0_pay3, floorMod]
theorem tileT_apply (y : S16x256.Idx) : tileT y = Scalar.select (IntOp.cmpi .eq (floorMod (BitVec.ofNat 32 (y 1).val) (Scalar.select (Scalar.cmpi .eq 16#32 0#32) 1#32 16#32)) (BitVec.ofNat 32 (y 0).val)) (1 : EReal) 0 := by
  pointwise [tileT, k0_pay34, k0_pay35, floorMod]

/-- The layer's blocks of 16 by 64 on the diagonals of four matrices. -/
def wide (x : Vec Ideal S64x16x64 .f32) (j : S4x256x1024.Idx) : EReal :=
  if (j 1).val / 16 = (j 2).val / 64 then
    x (ix3 ⟨(j 0).val * 16 + (j 1).val / 16, by have h0 : (j 0).val < 4 := (j 0).isLt; have h1 : (j 1).val < 256 := (j 1).isLt; show _ < 64; omega⟩
      ⟨(j 1).val % 16, Nat.mod_lt _ (by decide)⟩ ⟨(j 2).val % 64, Nat.mod_lt _ (by decide)⟩)
  else 0

/-- A choice by the equality of two small words is the choice by the equality of the numbers. -/
theorem choice (a b : ℕ) (ha : a < 4294967296) (hb : b < 4294967296) (p q : EReal) :
    Scalar.select (IntOp.cmpi .eq (BitVec.ofNat 32 a) (BitVec.ofNat 32 b)) p q = if a = b then p else q := by
  simp (disch := omega) only [hlo_ix]

/-- One store: the blocks of `x` on the diagonal. -/
theorem piece_wide (x : Vec Ideal S16x16x64 .f32) (y : S1x256x1024.Idx) (g k : Fin 16) (n : Fin 64)
    (hg : g.val = (y 1).val / 16) (hk : k.val = (y 1).val % 16) (hn : n.val = (y 2).val % 64) :
    k0_pay11 tileW maskW x y = if (y 1).val / 16 = (y 2).val / 64 then x (ix3 g k n) else 0 := by
  have h1 : (y 1).val < 256 := (y 1).isLt
  have h2 : (y 2).val < 1024 := (y 2).isLt
  have e : k0_pay11 tileW maskW x y = Scalar.select (maskW (ix2 (y 1) (y 2)))
      (∑ l : Fin 64, x (ix3 g k l) * tileW (ix2 l (y 2))) 0 := by
    have b1 : (y 1).val / 16 < 16 := by clear hg hk hn; omega
    have b2 : (y 1).val % 16 < 16 := by clear hg hk hn; omega
    obtain rfl : g = ⟨(y 1).val / 16, b1⟩ := Fin.ext hg
    obtain rfl : k = ⟨(y 1).val % 16, b2⟩ := Fin.ext hk
    generalize maskW = M
    generalize tileW = T
    pointwise [k0_pay11]
  rw [e, maskW_apply, Finset.sum_eq_single n]
  · rw [tileW_apply]
    dsimp only [ix2]
    rw [row_group _ h1, lane_group _ h2, lane_state _ h2, hn, choice _ _ (by omega) (by omega), choice _ _ (by omega) (by omega), if_pos rfl, mul_one]
  · intro l _ hl
    have := l.isLt
    have hl : ¬l.val = n.val := fun h => hl (Fin.ext h)
    rw [tileW_apply]
    dsimp only [ix2]
    rw [lane_state _ h2, choice _ _ (by omega) (by omega), if_neg (by omega), mul_zero]
  · simp

/-- The layer's blocks of 64 by 16 on the diagonals of four matrices. -/
def tall (x : Vec Ideal S64x64x16 .f32) (j : S4x1024x256.Idx) : EReal :=
  if (j 1).val / 64 = (j 2).val / 16 then
    x (ix3 ⟨(j 0).val * 16 + (j 1).val / 64, by have h0 : (j 0).val < 4 := (j 0).isLt; have h1 : (j 1).val < 1024 := (j 1).isLt; show _ < 64; omega⟩
      ⟨(j 1).val % 64, Nat.mod_lt _ (by decide)⟩ ⟨(j 2).val % 16, Nat.mod_lt _ (by decide)⟩)
  else 0

/-- One store: the blocks of `x` on the diagonal. -/
theorem piece_tall (x : Vec Ideal S16x64x16 .f32) (y : S1x1024x256.Idx) (g : Fin 16) (k : Fin 64) (n : Fin 16)
    (hg : g.val = (y 1).val / 64) (hk : k.val = (y 1).val % 64) (hn : n.val = (y 2).val % 16) :
    k0_pay33 tileT maskT x y = if (y 1).val / 64 = (y 2).val / 16 then x (ix3 g k n) else 0 := by
  have h1 : (y 1).val < 1024 := (y 1).isLt
  have h2 : (y 2).val < 256 := (y 2).isLt
  have e : k0_pay33 tileT maskT x y = Scalar.select (maskT (ix2 (y 1) (y 2)))
      (∑ l : Fin 16, x (ix3 g k l) * tileT (ix2 l (y 2))) 0 := by
    have b1 : (y 1).val / 64 < 16 := by clear hg hk hn; omega
    have b2 : (y 1).val % 64 < 64 := by clear hg hk hn; omega
    obtain rfl : g = ⟨(y 1).val / 64, b1⟩ := Fin.ext hg
    obtain rfl : k = ⟨(y 1).val % 64, b2⟩ := Fin.ext hk
    generalize maskT = M
    generalize tileT = T
    pointwise [k0_pay33]
  rw [e, maskT_apply, Finset.sum_eq_single n]
  · rw [tileT_apply]
    dsimp only [ix2]
    rw [lane_group _ h1, row_group _ h2, lane_state16 _ h2, hn, choice _ _ (by omega) (by omega), choice _ _ (by omega) (by omega), if_pos rfl, mul_one]
  · intro l _ hl
    have := l.isLt
    have hl : ¬l.val = n.val := fun h => hl (Fin.ext h)
    rw [tileT_apply]
    dsimp only [ix2]
    rw [lane_state16 _ h2, choice _ _ (by omega) (by omega), if_neg (by omega), mul_zero]
  · simp

/-- What the kernel leaves in wide result: the four matrices, one after the other. -/
theorem wide_out (x0 x1 : Vec Ideal S64x16x64 .f32) (x2 x3 : Vec Ideal S64x64x16 .f32) (y : S4x256x1024.Idx) : out0_4 x0 x1 x2 x3 y = wide x0 y := by
  rw [out4]
  canon_tiles x e
  all_goals
    have h1 : (x 1).val < 256 := (x 1).isLt
    have h2 : (x 2).val < 1024 := (x 2).isLt
    refine (piece_wide _ x ⟨(x 1).val / 16, by omega⟩ ⟨(x 1).val % 16, Nat.mod_lt _ (by decide)⟩ ⟨(x 2).val % 64, Nat.mod_lt _ (by decide)⟩ rfl rfl rfl).trans ?_
    unfold wide
    refine ite_congr (by rw [e1, e2]) (fun _ => congrArg x0 ?_) fun _ => rfl
    ext a
    fin_cases a
    · simp [Rect.unit, ix3]; omega
    · simp [Rect.unit, ix3]; omega
    · simp [Rect.unit, ix3]; omega

/-- What the kernel leaves in tall result: the four matrices, one after the other. -/
theorem tall_out (x0 x1 : Vec Ideal S64x16x64 .f32) (x2 x3 : Vec Ideal S64x64x16 .f32) (y : S4x1024x256.Idx) : out0_6 x0 x1 x2 x3 y = tall x2 y := by
  rw [out6]
  canon_tiles x e
  all_goals
    have h1 : (x 1).val < 1024 := (x 1).isLt
    have h2 : (x 2).val < 256 := (x 2).isLt
    refine (piece_tall _ x ⟨(x 1).val / 64, by omega⟩ ⟨(x 1).val % 64, Nat.mod_lt _ (by decide)⟩ ⟨(x 2).val % 16, Nat.mod_lt _ (by decide)⟩ rfl rfl rfl).trans ?_
    unfold tall
    refine ite_congr (by rw [e1, e2]) (fun _ => congrArg x2 ?_) fun _ => rfl
    ext a
    fin_cases a
    · simp [Rect.unit, ix3]; omega
    · simp [Rect.unit, ix3]; omega
    · simp [Rect.unit, ix3]; omega

theorem no_word (a : ℕ) : IntOp.addi (BitVec.ofNat 32 a) 0#32 = BitVec.ofNat 32 a := BitVec.add_zero _

theorem none_left : id (constant (F := Ideal) BdAllRefIdeal.S_ .f32 0x00000000#32) ix0 = (0 : EReal) := by
  rw [id]; pointwise []

/-- The reference's results are the same matrices. -/
theorem ref9 (x : Vec Ideal S64x16x64 .f32) : val_main_v9 (F := Ideal) x = wide x := by
  funext j
  have h1 : (j 1).val < 256 := (j 1).isLt
  have h2 : (j 2).val < 1024 := (j 2).isLt
  pointwise [val_main_v9, val_main_v8, val_main_v7, val_main_call0_v1, val_main_v5, val_main_v4, val_main_v3, val_main_v2, val_main_v1, val_main_v0, val_main_c, val_main_call0_v2, val_main_v6, val_main_call0_v3, val_main_call0_v0, val_main_cst, wide]
  rw [no_word, choice _ _ (by omega) (by omega), none_left]
theorem ref19 (x : Vec Ideal S64x16x64 .f32) : val_main_v19 (F := Ideal) x = wide x := ref9 x
theorem ref29 (x : Vec Ideal S64x64x16 .f32) : val_main_v29 (F := Ideal) x = tall x := by
  funext j
  have h1 : (j 1).val < 1024 := (j 1).isLt
  have h2 : (j 2).val < 256 := (j 2).isLt
  simp only [← val_main_v29_eq]
  pointwise [tall]
  rw [no_word, choice _ _ (by omega) (by omega), none_left]
theorem ref39 (x : Vec Ideal S64x64x16 .f32) : val_main_v39 (F := Ideal) x = tall x := ref29 x

variable (m : (ℓ : Loc nD τ sig) → Buf (Elt Ideal) ℓ)

/-- There is one point, and every window is its whole array. -/
theorem idx : ∀ t : Fin cfg0.N, win0_0.index t = ![0, 0, 0] ∧ win0_1.index t = ![0, 0, 0] ∧ win0_2.index t = ![0, 0, 0] ∧ win0_3.index t = ![0, 0, 0] ∧
    win0_4.index t = ![0, 0, 0] ∧ win0_5.index t = ![0, 0, 0] ∧ win0_6.index t = ![0, 0, 0] ∧ win0_7.index t = ![0, 0, 0] ∧ t.val < 1 :=
  (by decide +kernel : ∀ t : Fin grid0.N, _)

abbrev a0 (c : Dev nD) : Vec Ideal S64x16x64 .f32 := m ((c : Thread nD τ).loc main_arg0)
abbrev a1 (c : Dev nD) : Vec Ideal S64x16x64 .f32 := m ((c : Thread nD τ).loc main_arg1)
abbrev a2 (c : Dev nD) : Vec Ideal S64x64x16 .f32 := m ((c : Thread nD τ).loc main_arg2)
abbrev a3 (c : Dev nD) : Vec Ideal S64x64x16 .f32 := m ((c : Thread nD τ).loc main_arg3)

theorem blk0 (c : Dev nD) (t : Fin cfg0.N) (p : Fin 64) (q : Fin 16) (r : Fin 64) : iblk m c 0 t (ix3 p q r) = a0 m c (ix3 p q r) := by
  blk_point [iblk, V, idx t]
theorem blk1 (c : Dev nD) (t : Fin cfg0.N) (p : Fin 64) (q : Fin 16) (r : Fin 64) : iblk m c 1 t (ix3 p q r) = a1 m c (ix3 p q r) := by
  blk_point [iblk, V, idx t]
theorem blk2 (c : Dev nD) (t : Fin cfg0.N) (p q : Fin 64) (r : Fin 16) : iblk m c 2 t (ix3 p q r) = a2 m c (ix3 p q r) := by
  blk_point [iblk, V, idx t]
theorem blk3 (c : Dev nD) (t : Fin cfg0.N) (p q : Fin 64) (r : Fin 16) : iblk m c 3 t (ix3 p q r) = a3 m c (ix3 p q r) := by
  blk_point [iblk, V, idx t]

theorem wide_congr {x z : Vec Ideal S64x16x64 .f32} (h : ∀ p q r, x (ix3 p q r) = z (ix3 p q r)) {y j : S4x256x1024.Idx}
    (h0 : (j 0).val = (y 0).val) (h1 : (j 1).val = (y 1).val) (h2 : (j 2).val = (y 2).val) : wide x y = wide z j := by
  obtain rfl : j = y := by
    funext a
    fin_cases a
    · exact Fin.ext h0
    · exact Fin.ext h1
    · exact Fin.ext h2
  unfold wide
  rw [h]
theorem tall_congr {x z : Vec Ideal S64x64x16 .f32} (h : ∀ p q r, x (ix3 p q r) = z (ix3 p q r)) {y j : S4x1024x256.Idx}
    (h0 : (j 0).val = (y 0).val) (h1 : (j 1).val = (y 1).val) (h2 : (j 2).val = (y 2).val) : tall x y = tall z j := by
  obtain rfl : j = y := by
    funext a
    fin_cases a
    · exact Fin.ext h0
    · exact Fin.ext h1
    · exact Fin.ext h2
  unfold tall
  rw [h]

/-- The arrays after the run are the reference's results. -/
theorem final4 (c : Dev nD) : (dats m 0 c).arrAt 4 cfg0.N = val_main_v9 (F := Ideal) (m ((c : Thread nD τ).loc main_arg0)) := by
  refine (dats m 0 c).arrAt_eq_of_covers 4 _ (by decide +kernel) fun t _ y => ?_
  blk_simp
  rw [after0_4, ref9, wide_out]
  refine wide_congr (blk0 m c t) ?_ ?_ ?_ <;> blk_simp [idx t]

theorem final5 (c : Dev nD) : (dats m 0 c).arrAt 5 cfg0.N = val_main_v19 (F := Ideal) (m ((c : Thread nD τ).loc main_arg1)) := by
  refine (dats m 0 c).arrAt_eq_of_covers 5 _ (by decide +kernel) fun t _ y => ?_
  blk_simp
  rw [after0_5, ref19, out5, wide_out]
  refine wide_congr (blk1 m c t) ?_ ?_ ?_ <;> blk_simp [idx t]

theorem final6 (c : Dev nD) : (dats m 0 c).arrAt 6 cfg0.N = val_main_v29 (F := Ideal) (m ((c : Thread nD τ).loc main_arg2)) := by
  refine (dats m 0 c).arrAt_eq_of_covers 6 _ (by decide +kernel) fun t _ y => ?_
  blk_simp
  rw [after0_6, ref29, tall_out]
  refine tall_congr (blk2 m c t) ?_ ?_ ?_ <;> blk_simp [idx t]

theorem final7 (c : Dev nD) : (dats m 0 c).arrAt 7 cfg0.N = val_main_v39 (F := Ideal) (m ((c : Thread nD τ).loc main_arg3)) := by
  refine (dats m 0 c).arrAt_eq_of_covers 7 _ (by decide +kernel) fun t _ y => ?_
  blk_simp
  rw [after0_7, ref39, out7, tall_out]
  refine tall_congr (blk3 m c t) ?_ ?_ ?_ <;> blk_simp [idx t]

/-- The kernel's run and the reference's end with equal results. -/
theorem algebraic : Cert.algebraic_BdAllIdeal_BdAllRefIdeal := by
  pair_intro
  · run_from Cert.BdAllIdeal.Gen.run_main m g
  · run_from Cert.BdAllRefIdeal.Value.run m' g'
    · exact (final4 m c).symm
    · exact (final5 m c).symm
    · exact (final6 m c).symm
    · exact (final7 m c).symm

end Cert.Proof.BdAll
end
-- ==== Proof.ToSlot.lean ====
/- Hand-written, untrusted: THE WRITE INTO A PIECE'S SLOT. The kernel rounds one layer of a stacked weight to bf16 and writes it into the slot
a table of two words names; the table holds constants, so that slot is number five of the eight, counted from zero. -/
module

public import proofs.«01_k».proof.Defs
public import proofs.«01_k».proof.Proof.Gen.ToSlot.Frame
public import proofs.«01_k».proof.Proof.Gen.ToSlotIdeal.Frame
public import proofs.«01_k».proof.Proof.Gen.ToSlotRefIdeal.Read
public import proofs.«01_k».proof.Proof.Gen.ToSlotRefIdeal.Run
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.ToSlot

open Idealize.ShloMosaic Idealize.ShloMosaic.TcCoe Idealize.SL.Sem

section any
open Cert.ToSlotIdeal Cert.ToSlotIdeal.Gen
variable {F : FTy → Type} [FloatOps F] (m : (ℓ : Loc nD τ sig) → Buf (Elt F) ℓ)

/-- The table's two words are the constants one and two. -/
theorem word1 : (tbl m).at 0 (Rect.unit (s := S2) ![1] S1.size Facts₀.inb_S2_S1_1) Facts₀.numel1_S1 = 2#32 := rfl
theorem word0 : (tbl m).at 0 (Rect.unit (s := S2) ![0] S1.size Facts₀.inb_S2_S1_0) Facts₀.numel1_S1 = 1#32 := rfl

/-- So the result's blocks lie in slot five, one point after the other. -/
theorem map1 (i : grid0.Coords) : ix0 (tbl m) 1 i = ![5, (i 0).val, 0] := by
  have h : (i 0).val < 4 := (i 0).isLt
  show cc0_transform_1 _ _ _ (tbl m) i = _
  unfold cc0_transform_1
  rw [word1, word0]
  funext a
  fin_cases a <;> simp [Scalar.addi, Scalar.muli, IntOp.addi, IntOp.muli, BitVec.toNat_ofNat] <;> omega

theorem words (k : Fin 4) (h : ∀ a, (![5, k.val, 0] a + 1) * S1x512x1024.size a ≤ S8x2048x1024.size a) :
    (Rect.block (s := S8x2048x1024) S1x512x1024.size ![5, k.val, 0] h).WholeWords (EltTy.packing .bf16) := by
  fin_cases k <;> decide +revert

/-- Every block lies inside the result and is whole words. -/
theorem ok : Ok m := by
  intro i
  have h : (i 0).val < 4 := (i 0).isLt
  have e : cc0_transform_1 Facts₀.inb_S2_S1_1 Facts₀.numel1_S1 Facts₀.inb_S2_S1_0 (tbl m) i = ![5, (i 0).val, 0] := map1 m i
  rw [e]
  refine ⟨fun a => ?_, Or.inr (words ⟨_, h⟩ _)⟩
  fin_cases a <;> simp [S1x512x1024, S8x2048x1024] <;> omega
end any

/-- The same of the program at the machine's floats, whose table and maps are the same. -/
theorem ok_bits (m : (ℓ : Loc Cert.ToSlot.nD Cert.ToSlot.τ Cert.ToSlot.sig) → Buf (Elt Bits) ℓ) : Cert.ToSlot.Gen.Ok m :=
  ok (F := Bits) m

section ideal
open Cert.ToSlotIdeal Cert.ToSlotIdeal.Gen
open Cert.ToSlotRefIdeal.Read
variable (m : (ℓ : Loc nD τ sig) → Buf (Elt Ideal) ℓ)

/-- The windows' block indices. -/
theorem row : ∀ t : Fin grid0.N, (grid0.coords t 0).val = t.val ∧ t.val < 4 := by decide +kernel

theorem idx1 (hO : Ok m) (t : Fin (cfgM m hO).N) : ((cfgM m hO).win 1).index t = ![5, t.val, 0] := by
  rw [← (row t).1]; exact map1 m (grid0.coords t)

theorem idx0 (hO : Ok m) (t : Fin (cfgM m hO).N) : ((cfgM m hO).win 0).index t = ![1, t.val, 0] := by
  have h := (row t).2
  show cc0_transform_0 (grid0.coords t) = _
  unfold cc0_transform_0
  rw [(row t).1]
  funext a
  fin_cases a <;> simp [BitVec.toNat_ofNat] <;> omega

/-- The weight's second layer, in every slot. -/
def G (c : Dev nD) (i : S8x2048x1024.Idx) : EReal :=
  m ((c : Thread nD τ).loc main_arg0) (ix3 (1 : Fin 4) (i 1) (i 2))

/-- What the body stores at index `y` of point `t`'s block is the layer's entry there. -/
theorem point (hO : Ok m) (c : Dev nD) (t : Fin (cfgM m hO).N) (y : S1x512x1024.Idx) (j : S8x2048x1024.Idx)
    (h1 : (j 1 : ℕ) = t.val * 512 + (y 1 : ℕ)) (h2 : (j 2 : ℕ) = (y 2 : ℕ)) :
    k0_pay1 (iblk m hO c 0 t) y = G m c j := by
  pointwise [k0_pay1, G]
  have e : (pcfg0.win (adm m hO) 0).index t = ![1, t.val, 0] := idx0 m hO t
  blk_point [iblk, V]
  · exact congrFun e 0
  · exact (congrArg (· * 512 + (y 1 : ℕ)) (congrFun e 1)).trans h1.symm
  · exact (congrArg (· * 1024 + (y 2 : ℕ)) (congrFun e 2)).trans (by rw [h2]; simp)

/-- The body's one store holds the rounded block. -/
theorem out (c : Dev nD) (i : grid0.Coords) (arg2 : Memref sig .tc .vmem S1x512x1024 .f32) (harg2 : arg2.IsWhole)
    (arg3 : Memref sig .tc .vmem S1x512x1024 .bf16) (harg3 : arg3.IsWhole) (x0 : Vec Ideal S1x512x1024 .f32)
    (xt0 : TbBuf0 (F := Ideal) c tbM0_0) : out0_A_1 c i arg2 harg2 arg3 harg3 x0 xt0 = k0_pay1 x0 := by
  frame_out

/-- Point `t` writes its rows of slot five. -/
theorem place (hO : Ok m) (t : Fin (cfgM m hO).N) (y : S1x512x1024.Idx) (e : S8x2048x1024.Idx)
    (he : e = (((cfgM m hO).win 1).blk t).view.emb y) :
    (e 0).val = 5 ∧ (e 1).val = t.val * 512 + (y 1).val ∧ (e 2).val = (y 2).val := by
  subst he
  have h := idx1 m hO t
  have h0 : (y 0).val < 1 := (y 0).isLt
  refine ⟨?_, ?_, ?_⟩ <;> blk_simp
  · exact congrFun h (0 : Fin 3)
  · exact congrArg (· * 512 + (y 1).val) (congrFun h (1 : Fin 3))
  · have e : ((cfgM m hO).win 1).index t (2 : Fin 3) = 0 := congrFun h (2 : Fin 3)
    refine (congrArg (· * 1024 + (y 2).val) e).trans ?_
    show 0 * 1024 + (y 2).val = (y 2).val
    omega

/-- After the run, slot five holds the layer. -/
theorem slot (hO : Ok m) (c : Dev nD) (i : S8x2048x1024.Idx) (hi : (i 0).val = 5) :
    (dats m hO 0 c).arrAt 1 (cfgM m hO).N i = G m c i := by
  have h1 : (i 1).val < 2048 := (i 1).isLt
  have h2 : (i 2).val < 1024 := (i 2).isLt
  obtain ⟨t, ht⟩ : ∃ t : Fin (cfgM m hO).N, t.val = (i 1).val / 512 := ⟨(⟨(i 1).val / 512, by show _ < 4; omega⟩ : Fin grid0.N), rfl⟩
  refine (dats m hO 0 c).arrAt_forall_of_flushed 1 (fun i v => v = G m c i) (fun t _ y => ?_) _ t i t.isLt ?_ ?_
  · blk_simp
    rw [after0_1]; unfold outsAt0
    refine (congrFun (out c _ _ _ _ _ _ _) y).trans (point m hO c t y _ (place m hO t y _ rfl).2.1 (place m hO t y _ rfl).2.2)
  · unfold Pipeline.Window.flush
    rw [Bool.and_eq_true]
    refine ⟨rfl, ?_⟩
    rw [Bool.or_eq_true, decide_eq_true_eq, decide_eq_true_eq]
    by_cases h : t.val + 1 = 4
    · exact Or.inl h
    · refine Or.inr ⟨by show _ < 4; omega, fun e => ?_⟩
      rw [idx1, idx1] at e
      have := congrFun e 1
      simp at this
  · obtain ⟨y, hy⟩ : ∃ y : S1x512x1024.Idx, y = ix3 (0 : Fin 1) (⟨(i 1).val % 512, Nat.mod_lt _ (by decide)⟩ : Fin 512) (i 2) := ⟨_, rfl⟩
    have hm := View.emb_mem_set (((cfgM m hO).win 1).blk t).view y
    obtain ⟨p0, p1, p2⟩ := place m hO t y _ rfl
    have e : (((cfgM m hO).win 1).blk t).view.emb y = i := by
      funext a
      apply Fin.ext
      match a with
      | ⟨0, _⟩ => exact p0.trans hi.symm
      | ⟨1, _⟩ => exact p1.trans (by rw [ht, hy]; exact Nat.div_add_mod' (i 1).val 512)
      | ⟨2, _⟩ => exact p2.trans (by rw [hy]; rfl)
    exact e ▸ hm

/-- The piece the slice and the reshape take is slot five. -/
theorem piece (w : FVec Ideal S8x2048x1024 .bf16) (i : S2048x1024.Idx) :
    shapeCast S2048x1024 (extractStridedSlice S1x2048x1024 ![5, 0, 0] w slices_S8x2048x1024_S1x2048x1024_5_0_0)
      shapeCasts_S1x2048x1024_S2048x1024 i = w (ix3 (5 : Fin 8) (i 0) (i 1)) := by
  refine (shapeCast_apply _ shapeCasts_S1x2048x1024_S2048x1024 i (ix3 (0 : Fin 1) (i 0) (i 1))
    (by rewrite [Shape.rowMajor_val_three, Shape.rowMajor_val_two]; show (0 * 2048 + (i 0).val) * 1024 + (i 1).val = (i 0).val * 1024 + (i 1).val; omega)).trans ?_
  exact extractStridedSlice_apply ![5, 0, 0] w slices_S8x2048x1024_S1x2048x1024_5_0_0 (ix3 (0 : Fin 1) (i 0) (i 1))
    (ix3 (5 : Fin 8) (i 0) (i 1)) (fun a => match a with
      | ⟨0, _⟩ => rfl
      | ⟨1, _⟩ => (Nat.zero_add _).symm
      | ⟨2, _⟩ => (Nat.zero_add _).symm)

/-- The reference takes the second layer. -/
theorem layer (c : Dev nD) (i : S2048x1024.Idx) :
    G m c (ix3 (5 : Fin 8) (i 0) (i 1)) = val_main_v2 (F := Ideal) (m ((c : Thread nD τ).loc main_arg0)) i := by
  have h0 : (i 0).val < 2048 := (i 0).isLt
  have h1 : (i 1).val < 1024 := (i 1).isLt
  unfold G
  rw [val_main_v2_apply, val_main_v1_apply, val_main_v0_apply]
  refine congrArg (m ((c : Thread nD τ).loc main_arg0)) (funext fun a => Fin.ext ?_)
  match a with
  | ⟨0, _⟩ => rfl
  | ⟨1, _⟩ => show (i 0).val = ((i 0).val * 1024 + (i 1).val) / 1024 % 2048; omega
  | ⟨2, _⟩ => show (i 1).val = ((i 0).val * 1024 + (i 1).val) % 1024; omega

/-- The result the host reads out of the eight slots is the reference's. -/
theorem tail (hO : Ok m) (c : Dev nD) : Pipeline.afterTail pcfgs (fun _ => adm m hO) (dats m hO) 0 (V0 m) [hostOps1] c main_v2 =
    val_main_v2 (F := Ideal) (m ((c : Thread nD τ).loc main_arg0)) := by
  unfold Pipeline.afterTail
  rw [List.flatten_cons, List.flatten_nil, List.append_nil]
  unfold hostOps1
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v0) =
      (dats m hO 0 c).arrAt 1 (cfgM m hO).N := Pipeline.withArrays_arr spec0 winFacts0.arr_inj c _ _ 1
  rw [hw]
  funext i
  exact (piece ((dats m hO 0 c).arrAt 1 (cfgM m hO).N) i).trans ((slot m hO c _ rfl).trans (layer m c i))

/-- The kernel's run ends with the reference's result. -/
theorem run (g : Dev nD → PrngReg) : θ_run defs (onTc (τ := τ) (main (F := Ideal))) ⟨m, fun _ => 0, g⟩ (fun r => ∀ c : Dev nD,
    r.2.mem ((c.tc : Thread nD τ).loc main_v2) = val_main_v2 (F := Ideal) (m ((c : Thread nD τ).loc main_arg0)) ∧
    r.2.mem ((c.tc : Thread nD τ).loc main_arg0) = m ((c.tc : Thread nD τ).loc main_arg0)) := by
  refine θ_run_mono (θ_run_and (Cert.ToSlotIdeal.Gen.run_main m g (ok m)) (Cert.ToSlotIdeal.Gen.frame m g (ok m))) fun r h c => ?_
  exact ⟨((h.1 c).2 main_v2 (show main_v2 ∈ Pipeline.restRefs sig spec0 by decide)).trans (tail m (ok m) c), h.2.1 c⟩

/-- The kernel's run and the reference's end with equal results. -/
theorem algebraic : Cert.algebraic_ToSlotIdeal_ToSlotRefIdeal := by
  pair_intro
  · exact run m g
  · run_from Cert.ToSlotRefIdeal.Value.run m' g'
    exact val_main_v2_eq _
end ideal

end Cert.Proof.ToSlot

end
-- ==== Proof.lean ====
module

public import proofs.«01_k».proof.Defs
public import proofs.«01_k».proof.Proof.Gen.Glu.Frame
public import proofs.«01_k».proof.Proof.Glu
public import proofs.«01_k».proof.Proof.Gen.GluRefIdeal.Run
public import proofs.«01_k».proof.Proof.Gen.SqRelu.Frame
public import proofs.«01_k».proof.Proof.SqRelu
public import proofs.«01_k».proof.Proof.Gen.SqReluRefIdeal.Run
public import proofs.«01_k».proof.Proof.Gen.BlockDiag.Frame
public import proofs.«01_k».proof.Proof.BlockDiag
public import proofs.«01_k».proof.Proof.Gen.BlockDiagRefIdeal.Run
public import proofs.«01_k».proof.Proof.Gen.Rms.Frame
public import proofs.«01_k».proof.Proof.Rms
public import proofs.«01_k».proof.Proof.Gen.RmsRefIdeal.Run
public import proofs.«01_k».proof.Proof.Gen.Loss.Frame
public import proofs.«01_k».proof.Proof.Loss
public import proofs.«01_k».proof.Proof.Gen.LossRefIdeal.Run
public import proofs.«01_k».proof.Proof.Gen.Gla.Frame
public import proofs.«01_k».proof.Proof.Gla
public import proofs.«01_k».proof.Proof.Gen.GlaRefIdeal.Run
public import proofs.«01_k».proof.Proof.Gen.Act.Frame
public import proofs.«01_k».proof.Proof.Act
public import proofs.«01_k».proof.Proof.Gen.ActRefIdeal.Run
public import proofs.«01_k».proof.Proof.Gen.Zoh.Frame
public import proofs.«01_k».proof.Proof.Zoh
public import proofs.«01_k».proof.Proof.Gen.ZohRefIdeal.Run
public import proofs.«01_k».proof.Proof.Gen.GlaFwd.Frame
public import proofs.«01_k».proof.Proof.GlaFwd
public import proofs.«01_k».proof.Proof.Gen.GlaFwdRefIdeal.Run
public import proofs.«01_k».proof.Proof.Gen.RmsFwd.Frame
public import proofs.«01_k».proof.Proof.RmsFwd
public import proofs.«01_k».proof.Proof.Gen.RmsFwdRefIdeal.Run
public import proofs.«01_k».proof.Proof.Gen.ActFwd.Frame
public import proofs.«01_k».proof.Proof.ActFwd
public import proofs.«01_k».proof.Proof.Gen.ActFwdRefIdeal.Run
public import proofs.«01_k».proof.Proof.Gen.GluFwd.Frame
public import proofs.«01_k».proof.Proof.GluFwd
public import proofs.«01_k».proof.Proof.Gen.GluFwdRefIdeal.Run
public import proofs.«01_k».proof.Proof.Gen.SqReluFwd.Frame
public import proofs.«01_k».proof.Proof.SqReluFwd
public import proofs.«01_k».proof.Proof.Gen.SqReluFwdRefIdeal.Run
public import proofs.«01_k».proof.Proof.Gen.ZohFwd.Frame
public import proofs.«01_k».proof.Proof.ZohFwd
public import proofs.«01_k».proof.Proof.Gen.ZohFwdRefIdeal.Run
public import proofs.«01_k».proof.Proof.Gen.MmRes.Frame
public import proofs.«01_k».proof.Proof.MmRes
public import proofs.«01_k».proof.Proof.Gen.MmResRefIdeal.Run
public import proofs.«01_k».proof.Proof.Gen.MmNtCb.Frame
public import proofs.«01_k».proof.Proof.MmNtCb
public import proofs.«01_k».proof.Proof.Gen.MmNtCbRefIdeal.Run
public import proofs.«01_k».proof.Proof.Gen.MmTnCb.Frame
public import proofs.«01_k».proof.Proof.MmTnCb
public import proofs.«01_k».proof.Proof.Gen.MmTnCbRefIdeal.Run
public import proofs.«01_k».proof.Proof.Gen.Adamw.Frame
public import proofs.«01_k».proof.Proof.Adamw
public import proofs.«01_k».proof.Proof.Gen.AdamwRefIdeal.Run
public import proofs.«01_k».proof.Proof.Gen.BdAll.Frame
public import proofs.«01_k».proof.Proof.BdAll
public import proofs.«01_k».proof.Proof.Gen.BdAllRefIdeal.Run
public import proofs.«01_k».proof.Proof.Gen.ToSlot.Frame
public import proofs.«01_k».proof.Proof.ToSlot
public import proofs.«01_k».proof.Proof.Gen.ToSlotRefIdeal.Run
public import proofs.«01_k».proof.Proof.Gen.Scan.Frame
public import proofs.«01_k».proof.Proof.Gen.ScanIdeal.Frame
public import proofs.«01_k».proof.Proof.Gen.ScanFwd.Frame
public import proofs.«01_k».proof.Proof.Gen.ScanFwdIdeal.Frame

@[expose] public section

noncomputable section

namespace Cert.Proof

open Idealize.ShloMosaic Idealize.SL.Sem Idealize.ShloMosaic.TcCoe

/-- `GluRefIdeal` terminates with its arguments unchanged and every counter at zero. -/
theorem frame_GluRef : Cert.quiescent_GluRefIdeal := by
  intro m g _
  exact (θ_run Cert.GluRefIdeal.defs _ _).mono
    (fun r h => ⟨fun c => (h c).2, sem_eq_zero_of_no_sems (by decide) r.2⟩)
    (Cert.GluRefIdeal.Value.run (F := Ideal) m g)

/-- `SqReluRefIdeal` terminates with its arguments unchanged and every counter at zero. -/
theorem frame_SqReluRef : Cert.quiescent_SqReluRefIdeal := by
  intro m g _
  exact (θ_run Cert.SqReluRefIdeal.defs _ _).mono
    (fun r h => ⟨fun c => (h c).2, sem_eq_zero_of_no_sems (by decide) r.2⟩)
    (Cert.SqReluRefIdeal.Value.run (F := Ideal) m g)

/-- `BlockDiagRefIdeal` terminates with its arguments unchanged and every counter at zero. -/
theorem frame_BlockDiagRef : Cert.quiescent_BlockDiagRefIdeal := by
  intro m g _
  exact (θ_run Cert.BlockDiagRefIdeal.defs _ _).mono
    (fun r h => ⟨fun c => (h c).2, sem_eq_zero_of_no_sems (by decide) r.2⟩)
    (Cert.BlockDiagRefIdeal.Value.run (F := Ideal) m g)

/-- `RmsRefIdeal` terminates with its arguments unchanged and every counter at zero. -/
theorem frame_RmsRef : Cert.quiescent_RmsRefIdeal := by
  intro m g _
  exact (θ_run Cert.RmsRefIdeal.defs _ _).mono
    (fun r h => ⟨fun c => (h c).2.2.2, sem_eq_zero_of_no_sems (by decide) r.2⟩)
    (Cert.RmsRefIdeal.Value.run (F := Ideal) m g)

/-- `LossRefIdeal` terminates with its arguments unchanged and every counter at zero. -/
theorem frame_LossRef : Cert.quiescent_LossRefIdeal := by
  intro m g _
  exact (θ_run Cert.LossRefIdeal.defs _ _).mono
    (fun r h => ⟨fun c => (h c).2.2.2.2, sem_eq_zero_of_no_sems (by decide) r.2⟩)
    (Cert.LossRefIdeal.Value.run (F := Ideal) m g)

/-- `GlaRefIdeal` terminates with its arguments unchanged and every counter at zero. -/
theorem frame_GlaRef : Cert.quiescent_GlaRefIdeal := by
  intro m g _
  exact (θ_run Cert.GlaRefIdeal.defs _ _).mono
    (fun r h => ⟨fun c => (h c).2.2.2.2, sem_eq_zero_of_no_sems (by decide) r.2⟩)
    (Cert.GlaRefIdeal.Value.run (F := Ideal) m g)

/-- `ActRefIdeal` terminates with its arguments unchanged and every counter at zero. -/
theorem frame_ActRef : Cert.quiescent_ActRefIdeal := by
  intro m g _
  exact (θ_run Cert.ActRefIdeal.defs _ _).mono
    (fun r h => ⟨fun c => (h c).2.2.2, sem_eq_zero_of_no_sems (by decide) r.2⟩)
    (Cert.ActRefIdeal.Value.run (F := Ideal) m g)

/-- `ZohRefIdeal` terminates with its arguments unchanged and every counter at zero. -/
theorem frame_ZohRef : Cert.quiescent_ZohRefIdeal := by
  intro m g _
  exact (θ_run Cert.ZohRefIdeal.defs _ _).mono
    (fun r h => ⟨fun c => (h c).2.2.2.2.2, sem_eq_zero_of_no_sems (by decide) r.2⟩)
    (Cert.ZohRefIdeal.Value.run (F := Ideal) m g)

/-- `GlaFwdRefIdeal` terminates with its arguments unchanged and every counter at zero. -/
theorem frame_GlaFwdRef : Cert.quiescent_GlaFwdRefIdeal := by
  intro m g _
  exact (θ_run Cert.GlaFwdRefIdeal.defs _ _).mono
    (fun r h => ⟨fun c => (h c).2.2, sem_eq_zero_of_no_sems (by decide) r.2⟩)
    (Cert.GlaFwdRefIdeal.Value.run (F := Ideal) m g)

/-- `RmsFwdRefIdeal` terminates with its arguments unchanged and every counter at zero. -/
theorem frame_RmsFwdRef : Cert.quiescent_RmsFwdRefIdeal := by
  intro m g _
  exact (θ_run Cert.RmsFwdRefIdeal.defs _ _).mono
    (fun r h => ⟨fun c => (h c).2, sem_eq_zero_of_no_sems (by decide) r.2⟩)
    (Cert.RmsFwdRefIdeal.Value.run (F := Ideal) m g)

/-- `ActFwdRefIdeal` terminates with its arguments unchanged and every counter at zero. -/
theorem frame_ActFwdRef : Cert.quiescent_ActFwdRefIdeal := by
  intro m g _
  exact (θ_run Cert.ActFwdRefIdeal.defs _ _).mono
    (fun r h => ⟨fun c => (h c).2.2, sem_eq_zero_of_no_sems (by decide) r.2⟩)
    (Cert.ActFwdRefIdeal.Value.run (F := Ideal) m g)

/-- `GluFwdRefIdeal` terminates with its arguments unchanged and every counter at zero. -/
theorem frame_GluFwdRef : Cert.quiescent_GluFwdRefIdeal := by
  intro m g _
  exact (θ_run Cert.GluFwdRefIdeal.defs _ _).mono
    (fun r h => ⟨fun c => (h c).2, sem_eq_zero_of_no_sems (by decide) r.2⟩)
    (Cert.GluFwdRefIdeal.Value.run (F := Ideal) m g)

/-- `SqReluFwdRefIdeal` terminates with its arguments unchanged and every counter at zero. -/
theorem frame_SqReluFwdRef : Cert.quiescent_SqReluFwdRefIdeal := by
  intro m g _
  exact (θ_run Cert.SqReluFwdRefIdeal.defs _ _).mono
    (fun r h => ⟨fun c => (h c).2.2, sem_eq_zero_of_no_sems (by decide) r.2⟩)
    (Cert.SqReluFwdRefIdeal.Value.run (F := Ideal) m g)

/-- `ZohFwdRefIdeal` terminates with its arguments unchanged and every counter at zero. -/
theorem frame_ZohFwdRef : Cert.quiescent_ZohFwdRefIdeal := by
  intro m g _
  exact (θ_run Cert.ZohFwdRefIdeal.defs _ _).mono
    (fun r h => ⟨fun c => (h c).2.2.2.2.2.2.2.2.2.2, sem_eq_zero_of_no_sems (by decide) r.2⟩)
    (Cert.ZohFwdRefIdeal.Value.run (F := Ideal) m g)

/-- `MmResRefIdeal` terminates with its arguments unchanged and every counter at zero. -/
theorem frame_MmResRef : Cert.quiescent_MmResRefIdeal := by
  intro m g _
  exact (θ_run Cert.MmResRefIdeal.defs _ _).mono
    (fun r h => ⟨fun c => (h c).2, sem_eq_zero_of_no_sems (by decide) r.2⟩)
    (Cert.MmResRefIdeal.Value.run (F := Ideal) m g)

/-- `MmNtCbRefIdeal` terminates with its arguments unchanged and every counter at zero. -/
theorem frame_MmNtCbRef : Cert.quiescent_MmNtCbRefIdeal := by
  intro m g _
  exact (θ_run Cert.MmNtCbRefIdeal.defs _ _).mono
    (fun r h => ⟨fun c => (h c).2, sem_eq_zero_of_no_sems (by decide) r.2⟩)
    (Cert.MmNtCbRefIdeal.Value.run (F := Ideal) m g)

/-- `MmTnCbRefIdeal` terminates with its arguments unchanged and every counter at zero. -/
theorem frame_MmTnCbRef : Cert.quiescent_MmTnCbRefIdeal := by
  intro m g _
  exact (θ_run Cert.MmTnCbRefIdeal.defs _ _).mono
    (fun r h => ⟨fun c => (h c).2, sem_eq_zero_of_no_sems (by decide) r.2⟩)
    (Cert.MmTnCbRefIdeal.Value.run (F := Ideal) m g)

/-- `AdamwRefIdeal` terminates with its arguments unchanged and every counter at zero. -/
theorem frame_AdamwRef : Cert.quiescent_AdamwRefIdeal := by
  intro m g _
  exact (θ_run Cert.AdamwRefIdeal.defs _ _).mono
    (fun r h => ⟨fun c => (h c).2.2.2.2, sem_eq_zero_of_no_sems (by decide) r.2⟩)
    (Cert.AdamwRefIdeal.Value.run (F := Ideal) m g)

/-- `BdAllRefIdeal` terminates with its arguments unchanged and every counter at zero. -/
theorem frame_BdAllRef : Cert.quiescent_BdAllRefIdeal := by
  intro m g _
  exact (θ_run Cert.BdAllRefIdeal.defs _ _).mono
    (fun r h => ⟨fun c => (h c).2.2.2.2, sem_eq_zero_of_no_sems (by decide) r.2⟩)
    (Cert.BdAllRefIdeal.Value.run (F := Ideal) m g)

/-- `ToSlotRefIdeal` terminates with its arguments unchanged and every counter at zero. -/
theorem frame_ToSlotRef : Cert.quiescent_ToSlotRefIdeal := by
  intro m g _
  exact (θ_run Cert.ToSlotRefIdeal.defs _ _).mono
    (fun r h => ⟨fun c => (h c).2, sem_eq_zero_of_no_sems (by decide) r.2⟩)
    (Cert.ToSlotRefIdeal.Value.run (F := Ideal) m g)

theorem claim : Cert.Claim :=
  ⟨Cert.Glu.Gen.facts, Cert.GluIdeal.Gen.facts, Cert.GluRefIdeal.Gen.facts,
    Cert.SqRelu.Gen.facts, Cert.SqReluIdeal.Gen.facts, Cert.SqReluRefIdeal.Gen.facts,
    Cert.BlockDiag.Gen.facts, Cert.BlockDiagIdeal.Gen.facts, Cert.BlockDiagRefIdeal.Gen.facts,
    Cert.Rms.Gen.facts, Cert.RmsIdeal.Gen.facts, Cert.RmsRefIdeal.Gen.facts,
    Cert.Loss.Gen.facts, Cert.LossIdeal.Gen.facts, Cert.LossRefIdeal.Gen.facts,
    Cert.Gla.Gen.facts, Cert.GlaIdeal.Gen.facts, Cert.GlaRefIdeal.Gen.facts,
    Cert.Act.Gen.facts, Cert.ActIdeal.Gen.facts, Cert.ActRefIdeal.Gen.facts,
    Cert.Zoh.Gen.facts, Cert.ZohIdeal.Gen.facts, Cert.ZohRefIdeal.Gen.facts,
    Cert.Scan.Gen.facts, Cert.ScanIdeal.Gen.facts, Cert.GlaFwd.Gen.facts,
    Cert.GlaFwdIdeal.Gen.facts, Cert.GlaFwdRefIdeal.Gen.facts, Cert.RmsFwd.Gen.facts,
    Cert.RmsFwdIdeal.Gen.facts, Cert.RmsFwdRefIdeal.Gen.facts, Cert.ActFwd.Gen.facts,
    Cert.ActFwdIdeal.Gen.facts, Cert.ActFwdRefIdeal.Gen.facts, Cert.GluFwd.Gen.facts,
    Cert.GluFwdIdeal.Gen.facts, Cert.GluFwdRefIdeal.Gen.facts, Cert.SqReluFwd.Gen.facts,
    Cert.SqReluFwdIdeal.Gen.facts, Cert.SqReluFwdRefIdeal.Gen.facts, Cert.ZohFwd.Gen.facts,
    Cert.ZohFwdIdeal.Gen.facts, Cert.ZohFwdRefIdeal.Gen.facts, Cert.MmRes.Gen.facts,
    Cert.MmResIdeal.Gen.facts, Cert.MmResRefIdeal.Gen.facts, Cert.MmNtCb.Gen.facts,
    Cert.MmNtCbIdeal.Gen.facts, Cert.MmNtCbRefIdeal.Gen.facts, Cert.MmTnCb.Gen.facts,
    Cert.MmTnCbIdeal.Gen.facts, Cert.MmTnCbRefIdeal.Gen.facts, Cert.Adamw.Gen.facts,
    Cert.AdamwIdeal.Gen.facts, Cert.AdamwRefIdeal.Gen.facts, Cert.ScanFwd.Gen.facts,
    Cert.ScanFwdIdeal.Gen.facts, Cert.BdAll.Gen.facts, Cert.BdAllIdeal.Gen.facts,
    Cert.BdAllRefIdeal.Gen.facts, Cert.ToSlot.Gen.facts, Cert.ToSlotIdeal.Gen.facts,
    Cert.ToSlotRefIdeal.Gen.facts, inferInstance, inferInstance,
    inferInstance, inferInstance,
    fun m ρ _ => Cert.Glu.Gen.frame m ρ, fun m ρ _ => Cert.GluIdeal.Gen.frame m ρ, frame_GluRef,
    fun m ρ _ => Cert.SqRelu.Gen.frame m ρ, fun m ρ _ => Cert.SqReluIdeal.Gen.frame m ρ, frame_SqReluRef,
    fun m ρ _ => Cert.BlockDiag.Gen.frame m ρ, fun m ρ _ => Cert.BlockDiagIdeal.Gen.frame m ρ, frame_BlockDiagRef,
    fun m ρ _ => Cert.Rms.Gen.frame m ρ, fun m ρ _ => Cert.RmsIdeal.Gen.frame m ρ, fun m ρ _ => Cert.RmsIdeal.Gen.frame m ρ,
    frame_RmsRef, fun m ρ _ => frame_RmsRef m ρ trivial, fun m ρ _ => Cert.Loss.Gen.frame m ρ,
    fun m ρ _ => Cert.LossIdeal.Gen.frame m ρ, fun m ρ _ => Cert.LossIdeal.Gen.frame m ρ, frame_LossRef,
    fun m ρ _ => frame_LossRef m ρ trivial, fun m ρ _ => Cert.Gla.Gen.frame m ρ, fun m ρ _ => Cert.GlaIdeal.Gen.frame m ρ,
    fun m ρ _ => Cert.GlaIdeal.Gen.frame m ρ, frame_GlaRef, fun m ρ _ => frame_GlaRef m ρ trivial,
    fun m ρ _ => Cert.Act.Gen.frame m ρ, fun m ρ _ => Cert.ActIdeal.Gen.frame m ρ, frame_ActRef,
    fun m ρ _ => Cert.Zoh.Gen.frame m ρ, fun m ρ _ => Cert.ZohIdeal.Gen.frame m ρ, frame_ZohRef,
    fun m ρ _ => Cert.Scan.Gen.frame m ρ, fun m ρ _ => Cert.ScanIdeal.Gen.frame m ρ, fun m ρ _ => Cert.GlaFwd.Gen.frame m ρ,
    fun m ρ _ => Cert.GlaFwdIdeal.Gen.frame m ρ, frame_GlaFwdRef, fun m ρ _ => Cert.RmsFwd.Gen.frame m ρ,
    fun m ρ _ => Cert.RmsFwdIdeal.Gen.frame m ρ, frame_RmsFwdRef, fun m ρ _ => Cert.ActFwd.Gen.frame m ρ,
    fun m ρ _ => Cert.ActFwdIdeal.Gen.frame m ρ, frame_ActFwdRef, fun m ρ _ => Cert.GluFwd.Gen.frame m ρ,
    fun m ρ _ => Cert.GluFwdIdeal.Gen.frame m ρ, frame_GluFwdRef, fun m ρ _ => Cert.SqReluFwd.Gen.frame m ρ,
    fun m ρ _ => Cert.SqReluFwdIdeal.Gen.frame m ρ, frame_SqReluFwdRef, fun m ρ _ => Cert.ZohFwd.Gen.frame m ρ,
    fun m ρ _ => Cert.ZohFwdIdeal.Gen.frame m ρ, fun m ρ _ => Cert.ZohFwdIdeal.Gen.frame m ρ, frame_ZohFwdRef,
    fun m ρ _ => frame_ZohFwdRef m ρ trivial, fun m ρ _ => Cert.MmRes.Gen.frame m ρ, fun m ρ _ => Cert.MmResIdeal.Gen.frame m ρ,
    frame_MmResRef, fun m ρ _ => Cert.MmNtCb.Gen.frame m ρ, fun m ρ _ => Cert.MmNtCbIdeal.Gen.frame m ρ,
    frame_MmNtCbRef, fun m ρ _ => Cert.MmTnCb.Gen.frame m ρ, fun m ρ _ => Cert.MmTnCbIdeal.Gen.frame m ρ,
    frame_MmTnCbRef, fun m ρ _ => Cert.Adamw.Gen.frame m ρ, fun m ρ _ => Cert.AdamwIdeal.Gen.frame m ρ,
    frame_AdamwRef, fun m ρ _ => Cert.ScanFwd.Gen.frame m ρ, fun m ρ _ => Cert.ScanFwdIdeal.Gen.frame m ρ,
    fun m ρ _ => Cert.BdAll.Gen.frame m ρ, fun m ρ _ => Cert.BdAllIdeal.Gen.frame m ρ, frame_BdAllRef,
    fun m ρ _ => Cert.ToSlot.Gen.frame m ρ (ToSlot.ok_bits m), fun m ρ _ => Cert.ToSlotIdeal.Gen.frame m ρ (ToSlot.ok m), frame_ToSlotRef,
    trivial, Glu.algebraic, trivial,
    SqRelu.algebraic, trivial, BlockDiag.algebraic,
    trivial, Rms.algebraic, trivial,
    Loss.algebraic, trivial, Gla.algebraic,
    trivial, Act.algebraic, trivial,
    Zoh.algebraic, trivial, trivial,
    GlaFwd.algebraic, trivial, RmsFwd.algebraic,
    trivial, ActFwd.algebraic, trivial,
    GluFwd.algebraic, trivial, SqReluFwd.algebraic,
    trivial, ZohFwd.algebraic, trivial,
    MmRes.algebraic, trivial, MmNtCb.algebraic,
    trivial, MmTnCb.algebraic, trivial,
    Adamw.algebraic, trivial, trivial,
    BdAll.algebraic, trivial, ToSlot.algebraic⟩

end Cert.Proof

end
